-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Gwgm (m : (ℓ : Loc Cert.Gwgm.nD Cert.Gwgm.τ Cert.Gwgm.sig) → Buf (Elt Bits) ℓ) : Prop :=
  True

def Pre_GwgmIdeal (m : (ℓ : Loc Cert.GwgmIdeal.nD Cert.GwgmIdeal.τ Cert.GwgmIdeal.sig) → Buf (Elt Ideal) ℓ) : Prop :=
  True

def Pre_GwgmRefIdeal (m : (ℓ : Loc Cert.GwgmRefIdeal.nD Cert.GwgmRefIdeal.τ Cert.GwgmRefIdeal.sig) → Buf (Elt Ideal) ℓ) : Prop :=
  True

def Pre_Dz (m : (ℓ : Loc Cert.Dz.nD Cert.Dz.τ Cert.Dz.sig) → Buf (Elt Bits) ℓ) : Prop :=
  True

def Pre_DzIdeal (m : (ℓ : Loc Cert.DzIdeal.nD Cert.DzIdeal.τ Cert.DzIdeal.sig) → Buf (Elt Ideal) ℓ) : Prop :=
  True

def Pre_DzRefIdeal (m : (ℓ : Loc Cert.DzRefIdeal.nD Cert.DzRefIdeal.τ Cert.DzRefIdeal.sig) → Buf (Elt Ideal) ℓ) : Prop :=
  True

def Pre_Dh1 (m : (ℓ : Loc Cert.Dh1.nD Cert.Dh1.τ Cert.Dh1.sig) → Buf (Elt Bits) ℓ) : Prop :=
  True

def Pre_Dh1Ideal (m : (ℓ : Loc Cert.Dh1Ideal.nD Cert.Dh1Ideal.τ Cert.Dh1Ideal.sig) → Buf (Elt Ideal) ℓ) : Prop :=
  True

def Pre_Dh1RefIdeal (m : (ℓ : Loc Cert.Dh1RefIdeal.nD Cert.Dh1RefIdeal.τ Cert.Dh1RefIdeal.sig) → Buf (Elt Ideal) ℓ) : Prop :=
  True

def Pre_Gwin (m : (ℓ : Loc Cert.Gwin.nD Cert.Gwin.τ Cert.Gwin.sig) → Buf (Elt Bits) ℓ) : Prop :=
  True

def Pre_GwinIdeal (m : (ℓ : Loc Cert.GwinIdeal.nD Cert.GwinIdeal.τ Cert.GwinIdeal.sig) → Buf (Elt Ideal) ℓ) : Prop :=
  True

def Pre_GwinRefIdeal (m : (ℓ : Loc Cert.GwinRefIdeal.nD Cert.GwinRefIdeal.τ Cert.GwinRefIdeal.sig) → Buf (Elt Ideal) ℓ) : Prop :=
  True

def Pre_Dh2 (m : (ℓ : Loc Cert.Dh2.nD Cert.Dh2.τ Cert.Dh2.sig) → Buf (Elt Bits) ℓ) : Prop :=
  True

def Pre_Dh2Ideal (m : (ℓ : Loc Cert.Dh2Ideal.nD Cert.Dh2Ideal.τ Cert.Dh2Ideal.sig) → Buf (Elt Ideal) ℓ) : Prop :=
  True

def Pre_Dh2RefIdeal (m : (ℓ : Loc Cert.Dh2RefIdeal.nD Cert.Dh2RefIdeal.τ Cert.Dh2RefIdeal.sig) → Buf (Elt Ideal) ℓ) : Prop :=
  True

def Pre_Gwout (m : (ℓ : Loc Cert.Gwout.nD Cert.Gwout.τ Cert.Gwout.sig) → Buf (Elt Bits) ℓ) : Prop :=
  True

def Pre_GwoutIdeal (m : (ℓ : Loc Cert.GwoutIdeal.nD Cert.GwoutIdeal.τ Cert.GwoutIdeal.sig) → Buf (Elt Ideal) ℓ) : Prop :=
  True

def Pre_GwoutRefIdeal (m : (ℓ : Loc Cert.GwoutRefIdeal.nD Cert.GwoutRefIdeal.τ Cert.GwoutRefIdeal.sig) → Buf (Elt Ideal) ℓ) : Prop :=
  True

def Pre_Dbr (m : (ℓ : Loc Cert.Dbr.nD Cert.Dbr.τ Cert.Dbr.sig) → Buf (Elt Bits) ℓ) : Prop :=
  True

def Pre_DbrIdeal (m : (ℓ : Loc Cert.DbrIdeal.nD Cert.DbrIdeal.τ Cert.DbrIdeal.sig) → Buf (Elt Ideal) ℓ) : Prop :=
  True

def Pre_DbrRefIdeal (m : (ℓ : Loc Cert.DbrRefIdeal.nD Cert.DbrRefIdeal.τ Cert.DbrRefIdeal.sig) → Buf (Elt Ideal) ℓ) : Prop :=
  True

def Pre_Gwb (m : (ℓ : Loc Cert.Gwb.nD Cert.Gwb.τ Cert.Gwb.sig) → Buf (Elt Bits) ℓ) : Prop :=
  True

def Pre_GwbIdeal (m : (ℓ : Loc Cert.GwbIdeal.nD Cert.GwbIdeal.τ Cert.GwbIdeal.sig) → Buf (Elt Ideal) ℓ) : Prop :=
  True

def Pre_GwbRefIdeal (m : (ℓ : Loc Cert.GwbRefIdeal.nD Cert.GwbRefIdeal.τ Cert.GwbRefIdeal.sig) → Buf (Elt Ideal) ℓ) : Prop :=
  True

def Pre_OutBwd (m : (ℓ : Loc Cert.OutBwd.nD Cert.OutBwd.τ Cert.OutBwd.sig) → Buf (Elt Bits) ℓ) : Prop :=
  True

def Pre_OutBwdIdeal (m : (ℓ : Loc Cert.OutBwdIdeal.nD Cert.OutBwdIdeal.τ Cert.OutBwdIdeal.sig) → Buf (Elt Ideal) ℓ) : Prop :=
  True

def Pre_OutBwdRefIdeal (m : (ℓ : Loc Cert.OutBwdRefIdeal.nD Cert.OutBwdRefIdeal.τ Cert.OutBwdRefIdeal.sig) → Buf (Elt Ideal) ℓ) : Prop :=
  True

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdRefIdeal (m : (ℓ : Loc Cert.MergeBwdRefIdeal.nD Cert.MergeBwdRefIdeal.τ Cert.MergeBwdRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdIdeal_attn_finite [hPre_attn_finite : Cert.Pre_attn_finite.Facts] (m : (ℓ : Loc Cert.FwdIdeal.nD Cert.FwdIdeal.τ Cert.FwdIdeal.sig) → Buf (Elt Ideal) ℓ) : Prop :=
  ∀ c : Dev Cert.FwdIdeal.nD,
    (Cert.Pre_attn_finite.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2)) (m ((c.tc : Thread Cert.FwdIdeal.nD Cert.FwdIdeal.τ).loc Cert.FwdIdeal.main_arg3))).1 = (fun _ => 1#1)
    ∧ (Cert.Pre_attn_finite.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2)) (m ((c.tc : Thread Cert.FwdIdeal.nD Cert.FwdIdeal.τ).loc Cert.FwdIdeal.main_arg3))).2.1 = (fun _ => 1#1)
    ∧ (Cert.Pre_attn_finite.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2)) (m ((c.tc : Thread Cert.FwdIdeal.nD Cert.FwdIdeal.τ).loc Cert.FwdIdeal.main_arg3))).2.2 = (fun _ => 1#1)

def Pre_FwdRefIdeal (m : (ℓ : Loc Cert.FwdRefIdeal.nD Cert.FwdRefIdeal.τ Cert.FwdRefIdeal.sig) → Buf (Elt Ideal) ℓ) : Prop :=
  True

def Pre_FwdRefIdeal_attn_finite [hPre_attn_finite : Cert.Pre_attn_finite.Facts] (m : (ℓ : Loc Cert.FwdRefIdeal.nD Cert.FwdRefIdeal.τ Cert.FwdRefIdeal.sig) → Buf (Elt Ideal) ℓ) : Prop :=
  ∀ c : Dev Cert.FwdRefIdeal.nD,
    (Cert.Pre_attn_finite.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2)) (m ((c.tc : Thread Cert.FwdRefIdeal.nD Cert.FwdRefIdeal.τ).loc Cert.FwdRefIdeal.main_arg3))).1 = (fun _ => 1#1)
    ∧ (Cert.Pre_attn_finite.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2)) (m ((c.tc : Thread Cert.FwdRefIdeal.nD Cert.FwdRefIdeal.τ).loc Cert.FwdRefIdeal.main_arg3))).2.1 = (fun _ => 1#1)
    ∧ (Cert.Pre_attn_finite.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2)) (m ((c.tc : Thread Cert.FwdRefIdeal.nD Cert.FwdRefIdeal.τ).loc Cert.FwdRefIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Gwgm [hGwgm : Cert.Gwgm.Facts] : Prop :=
  ∀ (m : (ℓ : Loc Cert.Gwgm.nD Cert.Gwgm.τ Cert.Gwgm.sig) → Buf (Elt Bits) ℓ) (g : Dev Cert.Gwgm.nD → PrngReg), Pre_Gwgm m →
    θ_run (Cert.Gwgm.defs (F := Bits)) (onTc (τ := Cert.Gwgm.τ) (Cert.Gwgm.main (F := Bits))) ⟨m, fun _ => 0, g⟩ (fun r => (∀ c : Dev Cert.Gwgm.nD,
      r.2.mem ((c.tc : Thread Cert.Gwgm.nD Cert.Gwgm.τ).loc Cert.Gwgm.main_arg0) = m ((c.tc : Thread Cert.Gwgm.nD Cert.Gwgm.τ).loc Cert.Gwgm.main_arg0)
      ∧ r.2.mem ((c.tc : Thread Cert.Gwgm.nD Cert.Gwgm.τ).loc Cert.Gwgm.main_arg1) = m ((c.tc : Thread Cert.Gwgm.nD Cert.Gwgm.τ).loc Cert.Gwgm.main_arg1))
      ∧ r.2.sem = fun _ => 0)

def quiescent_GwgmIdeal [hGwgmIdeal : Cert.GwgmIdeal.Facts] : Prop :=
  ∀ (m : (ℓ : Loc Cert.GwgmIdeal.nD Cert.GwgmIdeal.τ Cert.GwgmIdeal.sig) → Buf (Elt Ideal) ℓ) (g : Dev Cert.GwgmIdeal.nD → PrngReg), Pre_GwgmIdeal m →
    θ_run (Cert.GwgmIdeal.defs (F := Ideal)) (onTc (τ := Cert.GwgmIdeal.τ) (Cert.GwgmIdeal.main (F := Ideal))) ⟨m, fun _ => 0, g⟩ (fun r => (∀ c : Dev Cert.GwgmIdeal.nD,
      r.2.mem ((c.tc : Thread Cert.GwgmIdeal.nD Cert.GwgmIdeal.τ).loc Cert.GwgmIdeal.main_arg0) = m ((c.tc : Thread Cert.GwgmIdeal.nD Cert.GwgmIdeal.τ).loc Cert.GwgmIdeal.main_arg0)
      ∧ r.2.mem ((c.tc : Thread Cert.GwgmIdeal.nD Cert.GwgmIdeal.τ).loc Cert.GwgmIdeal.main_arg1) = m ((c.tc : Thread Cert.GwgmIdeal.nD Cert.GwgmIdeal.τ).loc Cert.GwgmIdeal.main_arg1))
      ∧ r.2.sem = fun _ => 0)

def quiescent_GwgmRefIdeal [hGwgmRefIdeal : Cert.GwgmRefIdeal.Facts] : Prop :=
  ∀ (m : (ℓ : Loc Cert.GwgmRefIdeal.nD Cert.GwgmRefIdeal.τ Cert.GwgmRefIdeal.sig) → Buf (Elt Ideal) ℓ) (g : Dev Cert.GwgmRefIdeal.nD → PrngReg), Pre_GwgmRefIdeal m →
    θ_run (Cert.GwgmRefIdeal.defs (F := Ideal)) (onTc (τ := Cert.GwgmRefIdeal.τ) (Cert.GwgmRefIdeal.main (F := Ideal))) ⟨m, fun _ => 0, g⟩ (fun r => (∀ c : Dev Cert.GwgmRefIdeal.nD,
      r.2.mem ((c.tc : Thread Cert.GwgmRefIdeal.nD Cert.GwgmRefIdeal.τ).loc Cert.GwgmRefIdeal.main_arg0) = m ((c.tc : Thread Cert.GwgmRefIdeal.nD Cert.GwgmRefIdeal.τ).loc Cert.GwgmRefIdeal.main_arg0)
      ∧ r.2.mem ((c.tc : Thread Cert.GwgmRefIdeal.nD Cert.GwgmRefIdeal.τ).loc Cert.GwgmRefIdeal.main_arg1) = m ((c.tc : Thread Cert.GwgmRefIdeal.nD Cert.GwgmRefIdeal.τ).loc Cert.GwgmRefIdeal.main_arg1))
      ∧ r.2.sem = fun _ => 0)

def quiescent_Dz [hDz : Cert.Dz.Facts] : Prop :=
  ∀ (m : (ℓ : Loc Cert.Dz.nD Cert.Dz.τ Cert.Dz.sig) → Buf (Elt Bits) ℓ) (g : Dev Cert.Dz.nD → PrngReg), Pre_Dz m →
    θ_run (Cert.Dz.defs (F := Bits)) (onTc (τ := Cert.Dz.τ) (Cert.Dz.main (F := Bits))) ⟨m, fun _ => 0, g⟩ (fun r => (∀ c : Dev Cert.Dz.nD,
      r.2.mem ((c.tc : Thread Cert.Dz.nD Cert.Dz.τ).loc Cert.Dz.main_arg0) = m ((c.tc : Thread Cert.Dz.nD Cert.Dz.τ).loc Cert.Dz.main_arg0)
      ∧ r.2.mem ((c.tc : Thread Cert.Dz.nD Cert.Dz.τ).loc Cert.Dz.main_arg1) = m ((c.tc : Thread Cert.Dz.nD Cert.Dz.τ).loc Cert.Dz.main_arg1))
      ∧ r.2.sem = fun _ => 0)

def quiescent_DzIdeal [hDzIdeal : Cert.DzIdeal.Facts] : Prop :=
  ∀ (m : (ℓ : Loc Cert.DzIdeal.nD Cert.DzIdeal.τ Cert.DzIdeal.sig) → Buf (Elt Ideal) ℓ) (g : Dev Cert.DzIdeal.nD → PrngReg), Pre_DzIdeal m →
    θ_run (Cert.DzIdeal.defs (F := Ideal)) (onTc (τ := Cert.DzIdeal.τ) (Cert.DzIdeal.main (F := Ideal))) ⟨m, fun _ => 0, g⟩ (fun r => (∀ c : Dev Cert.DzIdeal.nD,
      r.2.mem ((c.tc : Thread Cert.DzIdeal.nD Cert.DzIdeal.τ).loc Cert.DzIdeal.main_arg0) = m ((c.tc : Thread Cert.DzIdeal.nD Cert.DzIdeal.τ).loc Cert.DzIdeal.main_arg0)
      ∧ r.2.mem ((c.tc : Thread Cert.DzIdeal.nD Cert.DzIdeal.τ).loc Cert.DzIdeal.main_arg1) = m ((c.tc : Thread Cert.DzIdeal.nD Cert.DzIdeal.τ).loc Cert.DzIdeal.main_arg1))
      ∧ r.2.sem = fun _ => 0)

def quiescent_DzRefIdeal [hDzRefIdeal : Cert.DzRefIdeal.Facts] : Prop :=
  ∀ (m : (ℓ : Loc Cert.DzRefIdeal.nD Cert.DzRefIdeal.τ Cert.DzRefIdeal.sig) → Buf (Elt Ideal) ℓ) (g : Dev Cert.DzRefIdeal.nD → PrngReg), Pre_DzRefIdeal m →
    θ_run (Cert.DzRefIdeal.defs (F := Ideal)) (onTc (τ := Cert.DzRefIdeal.τ) (Cert.DzRefIdeal.main (F := Ideal))) ⟨m, fun _ => 0, g⟩ (fun r => (∀ c : Dev Cert.DzRefIdeal.nD,
      r.2.mem ((c.tc : Thread Cert.DzRefIdeal.nD Cert.DzRefIdeal.τ).loc Cert.DzRefIdeal.main_arg0) = m ((c.tc : Thread Cert.DzRefIdeal.nD Cert.DzRefIdeal.τ).loc Cert.DzRefIdeal.main_arg0)
      ∧ r.2.mem ((c.tc : Thread Cert.DzRefIdeal.nD Cert.DzRefIdeal.τ).loc Cert.DzRefIdeal.main_arg1) = m ((c.tc : Thread Cert.DzRefIdeal.nD Cert.DzRefIdeal.τ).loc Cert.DzRefIdeal.main_arg1))
      ∧ r.2.sem = fun _ => 0)

def quiescent_Dh1 [hDh1 : Cert.Dh1.Facts] : Prop :=
  ∀ (m : (ℓ : Loc Cert.Dh1.nD Cert.Dh1.τ Cert.Dh1.sig) → Buf (Elt Bits) ℓ) (g : Dev Cert.Dh1.nD → PrngReg), Pre_Dh1 m →
    θ_run (Cert.Dh1.defs (F := Bits)) (onTc (τ := Cert.Dh1.τ) (Cert.Dh1.main (F := Bits))) ⟨m, fun _ => 0, g⟩ (fun r => (∀ c : Dev Cert.Dh1.nD,
      r.2.mem ((c.tc : Thread Cert.Dh1.nD Cert.Dh1.τ).loc Cert.Dh1.main_arg0) = m ((c.tc : Thread Cert.Dh1.nD Cert.Dh1.τ).loc Cert.Dh1.main_arg0)
      ∧ r.2.mem ((c.tc : Thread Cert.Dh1.nD Cert.Dh1.τ).loc Cert.Dh1.main_arg1) = m ((c.tc : Thread Cert.Dh1.nD Cert.Dh1.τ).loc Cert.Dh1.main_arg1))
      ∧ r.2.sem = fun _ => 0)

def quiescent_Dh1Ideal [hDh1Ideal : Cert.Dh1Ideal.Facts] : Prop :=
  ∀ (m : (ℓ : Loc Cert.Dh1Ideal.nD Cert.Dh1Ideal.τ Cert.Dh1Ideal.sig) → Buf (Elt Ideal) ℓ) (g : Dev Cert.Dh1Ideal.nD → PrngReg), Pre_Dh1Ideal m →
    θ_run (Cert.Dh1Ideal.defs (F := Ideal)) (onTc (τ := Cert.Dh1Ideal.τ) (Cert.Dh1Ideal.main (F := Ideal))) ⟨m, fun _ => 0, g⟩ (fun r => (∀ c : Dev Cert.Dh1Ideal.nD,
      r.2.mem ((c.tc : Thread Cert.Dh1Ideal.nD Cert.Dh1Ideal.τ).loc Cert.Dh1Ideal.main_arg0) = m ((c.tc : Thread Cert.Dh1Ideal.nD Cert.Dh1Ideal.τ).loc Cert.Dh1Ideal.main_arg0)
      ∧ r.2.mem ((c.tc : Thread Cert.Dh1Ideal.nD Cert.Dh1Ideal.τ).loc Cert.Dh1Ideal.main_arg1) = m ((c.tc : Thread Cert.Dh1Ideal.nD Cert.Dh1Ideal.τ).loc Cert.Dh1Ideal.main_arg1))
      ∧ r.2.sem = fun _ => 0)

def quiescent_Dh1RefIdeal [hDh1RefIdeal : Cert.Dh1RefIdeal.Facts] : Prop :=
  ∀ (m : (ℓ : Loc Cert.Dh1RefIdeal.nD Cert.Dh1RefIdeal.τ Cert.Dh1RefIdeal.sig) → Buf (Elt Ideal) ℓ) (g : Dev Cert.Dh1RefIdeal.nD → PrngReg), Pre_Dh1RefIdeal m →
    θ_run (Cert.Dh1RefIdeal.defs (F := Ideal)) (onTc (τ := Cert.Dh1RefIdeal.τ) (Cert.Dh1RefIdeal.main (F := Ideal))) ⟨m, fun _ => 0, g⟩ (fun r => (∀ c : Dev Cert.Dh1RefIdeal.nD,
      r.2.mem ((c.tc : Thread Cert.Dh1RefIdeal.nD Cert.Dh1RefIdeal.τ).loc Cert.Dh1RefIdeal.main_arg0) = m ((c.tc : Thread Cert.Dh1RefIdeal.nD Cert.Dh1RefIdeal.τ).loc Cert.Dh1RefIdeal.main_arg0)
      ∧ r.2.mem ((c.tc : Thread Cert.Dh1RefIdeal.nD Cert.Dh1RefIdeal.τ).loc Cert.Dh1RefIdeal.main_arg1) = m ((c.tc : Thread Cert.Dh1RefIdeal.nD Cert.Dh1RefIdeal.τ).loc Cert.Dh1RefIdeal.main_arg1))
      ∧ r.2.sem = fun _ => 0)

def quiescent_Gwin [hGwin : Cert.Gwin.Facts] : Prop :=
  ∀ (m : (ℓ : Loc Cert.Gwin.nD Cert.Gwin.τ Cert.Gwin.sig) → Buf (Elt Bits) ℓ) (g : Dev Cert.Gwin.nD → PrngReg), Pre_Gwin m →
    θ_run (Cert.Gwin.defs (F := Bits)) (onTc (τ := Cert.Gwin.τ) (Cert.Gwin.main (F := Bits))) ⟨m, fun _ => 0, g⟩ (fun r => (∀ c : Dev Cert.Gwin.nD,
      r.2.mem ((c.tc : Thread Cert.Gwin.nD Cert.Gwin.τ).loc Cert.Gwin.main_arg0) = m ((c.tc : Thread Cert.Gwin.nD Cert.Gwin.τ).loc Cert.Gwin.main_arg0)
      ∧ r.2.mem ((c.tc : Thread Cert.Gwin.nD Cert.Gwin.τ).loc Cert.Gwin.main_arg1) = m ((c.tc : Thread Cert.Gwin.nD Cert.Gwin.τ).loc Cert.Gwin.main_arg1))
      ∧ r.2.sem = fun _ => 0)

def quiescent_GwinIdeal [hGwinIdeal : Cert.GwinIdeal.Facts] : Prop :=
  ∀ (m : (ℓ : Loc Cert.GwinIdeal.nD Cert.GwinIdeal.τ Cert.GwinIdeal.sig) → Buf (Elt Ideal) ℓ) (g : Dev Cert.GwinIdeal.nD → PrngReg), Pre_GwinIdeal m →
    θ_run (Cert.GwinIdeal.defs (F := Ideal)) (onTc (τ := Cert.GwinIdeal.τ) (Cert.GwinIdeal.main (F := Ideal))) ⟨m, fun _ => 0, g⟩ (fun r => (∀ c : Dev Cert.GwinIdeal.nD,
      r.2.mem ((c.tc : Thread Cert.GwinIdeal.nD Cert.GwinIdeal.τ).loc Cert.GwinIdeal.main_arg0) = m ((c.tc : Thread Cert.GwinIdeal.nD Cert.GwinIdeal.τ).loc Cert.GwinIdeal.main_arg0)
      ∧ r.2.mem ((c.tc : Thread Cert.GwinIdeal.nD Cert.GwinIdeal.τ).loc Cert.GwinIdeal.main_arg1) = m ((c.tc : Thread Cert.GwinIdeal.nD Cert.GwinIdeal.τ).loc Cert.GwinIdeal.main_arg1))
      ∧ r.2.sem = fun _ => 0)

def quiescent_GwinRefIdeal [hGwinRefIdeal : Cert.GwinRefIdeal.Facts] : Prop :=
  ∀ (m : (ℓ : Loc Cert.GwinRefIdeal.nD Cert.GwinRefIdeal.τ Cert.GwinRefIdeal.sig) → Buf (Elt Ideal) ℓ) (g : Dev Cert.GwinRefIdeal.nD → PrngReg), Pre_GwinRefIdeal m →
    θ_run (Cert.GwinRefIdeal.defs (F := Ideal)) (onTc (τ := Cert.GwinRefIdeal.τ) (Cert.GwinRefIdeal.main (F := Ideal))) ⟨m, fun _ => 0, g⟩ (fun r => (∀ c : Dev Cert.GwinRefIdeal.nD,
      r.2.mem ((c.tc : Thread Cert.GwinRefIdeal.nD Cert.GwinRefIdeal.τ).loc Cert.GwinRefIdeal.main_arg0) = m ((c.tc : Thread Cert.GwinRefIdeal.nD Cert.GwinRefIdeal.τ).loc Cert.GwinRefIdeal.main_arg0)
      ∧ r.2.mem ((c.tc : Thread Cert.GwinRefIdeal.nD Cert.GwinRefIdeal.τ).loc Cert.GwinRefIdeal.main_arg1) = m ((c.tc : Thread Cert.GwinRefIdeal.nD Cert.GwinRefIdeal.τ).loc Cert.GwinRefIdeal.main_arg1))
      ∧ r.2.sem = fun _ => 0)

def quiescent_Dh2 [hDh2 : Cert.Dh2.Facts] : Prop :=
  ∀ (m : (ℓ : Loc Cert.Dh2.nD Cert.Dh2.τ Cert.Dh2.sig) → Buf (Elt Bits) ℓ) (g : Dev Cert.Dh2.nD → PrngReg), Pre_Dh2 m →
    θ_run (Cert.Dh2.defs (F := Bits)) (onTc (τ := Cert.Dh2.τ) (Cert.Dh2.main (F := Bits))) ⟨m, fun _ => 0, g⟩ (fun r => (∀ c : Dev Cert.Dh2.nD,
      r.2.mem ((c.tc : Thread Cert.Dh2.nD Cert.Dh2.τ).loc Cert.Dh2.main_arg0) = m ((c.tc : Thread Cert.Dh2.nD Cert.Dh2.τ).loc Cert.Dh2.main_arg0)
      ∧ r.2.mem ((c.tc : Thread Cert.Dh2.nD Cert.Dh2.τ).loc Cert.Dh2.main_arg1) = m ((c.tc : Thread Cert.Dh2.nD Cert.Dh2.τ).loc Cert.Dh2.main_arg1))
      ∧ r.2.sem = fun _ => 0)

def quiescent_Dh2Ideal [hDh2Ideal : Cert.Dh2Ideal.Facts] : Prop :=
  ∀ (m : (ℓ : Loc Cert.Dh2Ideal.nD Cert.Dh2Ideal.τ Cert.Dh2Ideal.sig) → Buf (Elt Ideal) ℓ) (g : Dev Cert.Dh2Ideal.nD → PrngReg), Pre_Dh2Ideal m →
    θ_run (Cert.Dh2Ideal.defs (F := Ideal)) (onTc (τ := Cert.Dh2Ideal.τ) (Cert.Dh2Ideal.main (F := Ideal))) ⟨m, fun _ => 0, g⟩ (fun r => (∀ c : Dev Cert.Dh2Ideal.nD,
      r.2.mem ((c.tc : Thread Cert.Dh2Ideal.nD Cert.Dh2Ideal.τ).loc Cert.Dh2Ideal.main_arg0) = m ((c.tc : Thread Cert.Dh2Ideal.nD Cert.Dh2Ideal.τ).loc Cert.Dh2Ideal.main_arg0)
      ∧ r.2.mem ((c.tc : Thread Cert.Dh2Ideal.nD Cert.Dh2Ideal.τ).loc Cert.Dh2Ideal.main_arg1) = m ((c.tc : Thread Cert.Dh2Ideal.nD Cert.Dh2Ideal.τ).loc Cert.Dh2Ideal.main_arg1))
      ∧ r.2.sem = fun _ => 0)

def quiescent_Dh2RefIdeal [hDh2RefIdeal : Cert.Dh2RefIdeal.Facts] : Prop :=
  ∀ (m : (ℓ : Loc Cert.Dh2RefIdeal.nD Cert.Dh2RefIdeal.τ Cert.Dh2RefIdeal.sig) → Buf (Elt Ideal) ℓ) (g : Dev Cert.Dh2RefIdeal.nD → PrngReg), Pre_Dh2RefIdeal m →
    θ_run (Cert.Dh2RefIdeal.defs (F := Ideal)) (onTc (τ := Cert.Dh2RefIdeal.τ) (Cert.Dh2RefIdeal.main (F := Ideal))) ⟨m, fun _ => 0, g⟩ (fun r => (∀ c : Dev Cert.Dh2RefIdeal.nD,
      r.2.mem ((c.tc : Thread Cert.Dh2RefIdeal.nD Cert.Dh2RefIdeal.τ).loc Cert.Dh2RefIdeal.main_arg0) = m ((c.tc : Thread Cert.Dh2RefIdeal.nD Cert.Dh2RefIdeal.τ).loc Cert.Dh2RefIdeal.main_arg0)
      ∧ r.2.mem ((c.tc : Thread Cert.Dh2RefIdeal.nD Cert.Dh2RefIdeal.τ).loc Cert.Dh2RefIdeal.main_arg1) = m ((c.tc : Thread Cert.Dh2RefIdeal.nD Cert.Dh2RefIdeal.τ).loc Cert.Dh2RefIdeal.main_arg1))
      ∧ r.2.sem = fun _ => 0)

def quiescent_Gwout [hGwout : Cert.Gwout.Facts] : Prop :=
  ∀ (m : (ℓ : Loc Cert.Gwout.nD Cert.Gwout.τ Cert.Gwout.sig) → Buf (Elt Bits) ℓ) (g : Dev Cert.Gwout.nD → PrngReg), Pre_Gwout m →
    θ_run (Cert.Gwout.defs (F := Bits)) (onTc (τ := Cert.Gwout.τ) (Cert.Gwout.main (F := Bits))) ⟨m, fun _ => 0, g⟩ (fun r => (∀ c : Dev Cert.Gwout.nD,
      r.2.mem ((c.tc : Thread Cert.Gwout.nD Cert.Gwout.τ).loc Cert.Gwout.main_arg0) = m ((c.tc : Thread Cert.Gwout.nD Cert.Gwout.τ).loc Cert.Gwout.main_arg0)
      ∧ r.2.mem ((c.tc : Thread Cert.Gwout.nD Cert.Gwout.τ).loc Cert.Gwout.main_arg1) = m ((c.tc : Thread Cert.Gwout.nD Cert.Gwout.τ).loc Cert.Gwout.main_arg1))
      ∧ r.2.sem = fun _ => 0)

def quiescent_GwoutIdeal [hGwoutIdeal : Cert.GwoutIdeal.Facts] : Prop :=
  ∀ (m : (ℓ : Loc Cert.GwoutIdeal.nD Cert.GwoutIdeal.τ Cert.GwoutIdeal.sig) → Buf (Elt Ideal) ℓ) (g : Dev Cert.GwoutIdeal.nD → PrngReg), Pre_GwoutIdeal m →
    θ_run (Cert.GwoutIdeal.defs (F := Ideal)) (onTc (τ := Cert.GwoutIdeal.τ) (Cert.GwoutIdeal.main (F := Ideal))) ⟨m, fun _ => 0, g⟩ (fun r => (∀ c : Dev Cert.GwoutIdeal.nD,
      r.2.mem ((c.tc : Thread Cert.GwoutIdeal.nD Cert.GwoutIdeal.τ).loc Cert.GwoutIdeal.main_arg0) = m ((c.tc : Thread Cert.GwoutIdeal.nD Cert.GwoutIdeal.τ).loc Cert.GwoutIdeal.main_arg0)
      ∧ r.2.mem ((c.tc : Thread Cert.GwoutIdeal.nD Cert.GwoutIdeal.τ).loc Cert.GwoutIdeal.main_arg1) = m ((c.tc : Thread Cert.GwoutIdeal.nD Cert.GwoutIdeal.τ).loc Cert.GwoutIdeal.main_arg1))
      ∧ r.2.sem = fun _ => 0)

def quiescent_GwoutRefIdeal [hGwoutRefIdeal : Cert.GwoutRefIdeal.Facts] : Prop :=
  ∀ (m : (ℓ : Loc Cert.GwoutRefIdeal.nD Cert.GwoutRefIdeal.τ Cert.GwoutRefIdeal.sig) → Buf (Elt Ideal) ℓ) (g : Dev Cert.GwoutRefIdeal.nD → PrngReg), Pre_GwoutRefIdeal m →
    θ_run (Cert.GwoutRefIdeal.defs (F := Ideal)) (onTc (τ := Cert.GwoutRefIdeal.τ) (Cert.GwoutRefIdeal.main (F := Ideal))) ⟨m, fun _ => 0, g⟩ (fun r => (∀ c : Dev Cert.GwoutRefIdeal.nD,
      r.2.mem ((c.tc : Thread Cert.GwoutRefIdeal.nD Cert.GwoutRefIdeal.τ).loc Cert.GwoutRefIdeal.main_arg0) = m ((c.tc : Thread Cert.GwoutRefIdeal.nD Cert.GwoutRefIdeal.τ).loc Cert.GwoutRefIdeal.main_arg0)
      ∧ r.2.mem ((c.tc : Thread Cert.GwoutRefIdeal.nD Cert.GwoutRefIdeal.τ).loc Cert.GwoutRefIdeal.main_arg1) = m ((c.tc : Thread Cert.GwoutRefIdeal.nD Cert.GwoutRefIdeal.τ).loc Cert.GwoutRefIdeal.main_arg1))
      ∧ r.2.sem = fun _ => 0)

def quiescent_Dbr [hDbr : Cert.Dbr.Facts] : Prop :=
  ∀ (m : (ℓ : Loc Cert.Dbr.nD Cert.Dbr.τ Cert.Dbr.sig) → Buf (Elt Bits) ℓ) (g : Dev Cert.Dbr.nD → PrngReg), Pre_Dbr m →
    θ_run (Cert.Dbr.defs (F := Bits)) (onTc (τ := Cert.Dbr.τ) (Cert.Dbr.main (F := Bits))) ⟨m, fun _ => 0, g⟩ (fun r => (∀ c : Dev Cert.Dbr.nD,
      r.2.mem ((c.tc : Thread Cert.Dbr.nD Cert.Dbr.τ).loc Cert.Dbr.main_arg0) = m ((c.tc : Thread Cert.Dbr.nD Cert.Dbr.τ).loc Cert.Dbr.main_arg0)
      ∧ r.2.mem ((c.tc : Thread Cert.Dbr.nD Cert.Dbr.τ).loc Cert.Dbr.main_arg1) = m ((c.tc : Thread Cert.Dbr.nD Cert.Dbr.τ).loc Cert.Dbr.main_arg1))
      ∧ r.2.sem = fun _ => 0)

def quiescent_DbrIdeal [hDbrIdeal : Cert.DbrIdeal.Facts] : Prop :=
  ∀ (m : (ℓ : Loc Cert.DbrIdeal.nD Cert.DbrIdeal.τ Cert.DbrIdeal.sig) → Buf (Elt Ideal) ℓ) (g : Dev Cert.DbrIdeal.nD → PrngReg), Pre_DbrIdeal m →
    θ_run (Cert.DbrIdeal.defs (F := Ideal)) (onTc (τ := Cert.DbrIdeal.τ) (Cert.DbrIdeal.main (F := Ideal))) ⟨m, fun _ => 0, g⟩ (fun r => (∀ c : Dev Cert.DbrIdeal.nD,
      r.2.mem ((c.tc : Thread Cert.DbrIdeal.nD Cert.DbrIdeal.τ).loc Cert.DbrIdeal.main_arg0) = m ((c.tc : Thread Cert.DbrIdeal.nD Cert.DbrIdeal.τ).loc Cert.DbrIdeal.main_arg0)
      ∧ r.2.mem ((c.tc : Thread Cert.DbrIdeal.nD Cert.DbrIdeal.τ).loc Cert.DbrIdeal.main_arg1) = m ((c.tc : Thread Cert.DbrIdeal.nD Cert.DbrIdeal.τ).loc Cert.DbrIdeal.main_arg1))
      ∧ r.2.sem = fun _ => 0)

def quiescent_DbrRefIdeal [hDbrRefIdeal : Cert.DbrRefIdeal.Facts] : Prop :=
  ∀ (m : (ℓ : Loc Cert.DbrRefIdeal.nD Cert.DbrRefIdeal.τ Cert.DbrRefIdeal.sig) → Buf (Elt Ideal) ℓ) (g : Dev Cert.DbrRefIdeal.nD → PrngReg), Pre_DbrRefIdeal m →
    θ_run (Cert.DbrRefIdeal.defs (F := Ideal)) (onTc (τ := Cert.DbrRefIdeal.τ) (Cert.DbrRefIdeal.main (F := Ideal))) ⟨m, fun _ => 0, g⟩ (fun r => (∀ c : Dev Cert.DbrRefIdeal.nD,
      r.2.mem ((c.tc : Thread Cert.DbrRefIdeal.nD Cert.DbrRefIdeal.τ).loc Cert.DbrRefIdeal.main_arg0) = m ((c.tc : Thread Cert.DbrRefIdeal.nD Cert.DbrRefIdeal.τ).loc Cert.DbrRefIdeal.main_arg0)
      ∧ r.2.mem ((c.tc : Thread Cert.DbrRefIdeal.nD Cert.DbrRefIdeal.τ).loc Cert.DbrRefIdeal.main_arg1) = m ((c.tc : Thread Cert.DbrRefIdeal.nD Cert.DbrRefIdeal.τ).loc Cert.DbrRefIdeal.main_arg1))
      ∧ r.2.sem = fun _ => 0)

def quiescent_Gwb [hGwb : Cert.Gwb.Facts] : Prop :=
  ∀ (m : (ℓ : Loc Cert.Gwb.nD Cert.Gwb.τ Cert.Gwb.sig) → Buf (Elt Bits) ℓ) (g : Dev Cert.Gwb.nD → PrngReg), Pre_Gwb m →
    θ_run (Cert.Gwb.defs (F := Bits)) (onTc (τ := Cert.Gwb.τ) (Cert.Gwb.main (F := Bits))) ⟨m, fun _ => 0, g⟩ (fun r => (∀ c : Dev Cert.Gwb.nD,
      r.2.mem ((c.tc : Thread Cert.Gwb.nD Cert.Gwb.τ).loc Cert.Gwb.main_arg0) = m ((c.tc : Thread Cert.Gwb.nD Cert.Gwb.τ).loc Cert.Gwb.main_arg0)
      ∧ r.2.mem ((c.tc : Thread Cert.Gwb.nD Cert.Gwb.τ).loc Cert.Gwb.main_arg1) = m ((c.tc : Thread Cert.Gwb.nD Cert.Gwb.τ).loc Cert.Gwb.main_arg1))
      ∧ r.2.sem = fun _ => 0)

def quiescent_GwbIdeal [hGwbIdeal : Cert.GwbIdeal.Facts] : Prop :=
  ∀ (m : (ℓ : Loc Cert.GwbIdeal.nD Cert.GwbIdeal.τ Cert.GwbIdeal.sig) → Buf (Elt Ideal) ℓ) (g : Dev Cert.GwbIdeal.nD → PrngReg), Pre_GwbIdeal m →
    θ_run (Cert.GwbIdeal.defs (F := Ideal)) (onTc (τ := Cert.GwbIdeal.τ) (Cert.GwbIdeal.main (F := Ideal))) ⟨m, fun _ => 0, g⟩ (fun r => (∀ c : Dev Cert.GwbIdeal.nD,
      r.2.mem ((c.tc : Thread Cert.GwbIdeal.nD Cert.GwbIdeal.τ).loc Cert.GwbIdeal.main_arg0) = m ((c.tc : Thread Cert.GwbIdeal.nD Cert.GwbIdeal.τ).loc Cert.GwbIdeal.main_arg0)
      ∧ r.2.mem ((c.tc : Thread Cert.GwbIdeal.nD Cert.GwbIdeal.τ).loc Cert.GwbIdeal.main_arg1) = m ((c.tc : Thread Cert.GwbIdeal.nD Cert.GwbIdeal.τ).loc Cert.GwbIdeal.main_arg1))
      ∧ r.2.sem = fun _ => 0)

def quiescent_GwbRefIdeal [hGwbRefIdeal : Cert.GwbRefIdeal.Facts] : Prop :=
  ∀ (m : (ℓ : Loc Cert.GwbRefIdeal.nD Cert.GwbRefIdeal.τ Cert.GwbRefIdeal.sig) → Buf (Elt Ideal) ℓ) (g : Dev Cert.GwbRefIdeal.nD → PrngReg), Pre_GwbRefIdeal m →
    θ_run (Cert.GwbRefIdeal.defs (F := Ideal)) (onTc (τ := Cert.GwbRefIdeal.τ) (Cert.GwbRefIdeal.main (F := Ideal))) ⟨m, fun _ => 0, g⟩ (fun r => (∀ c : Dev Cert.GwbRefIdeal.nD,
      r.2.mem ((c.tc : Thread Cert.GwbRefIdeal.nD Cert.GwbRefIdeal.τ).loc Cert.GwbRefIdeal.main_arg0) = m ((c.tc : Thread Cert.GwbRefIdeal.nD Cert.GwbRefIdeal.τ).loc Cert.GwbRefIdeal.main_arg0)
      ∧ r.2.mem ((c.tc : Thread Cert.GwbRefIdeal.nD Cert.GwbRefIdeal.τ).loc Cert.GwbRefIdeal.main_arg1) = m ((c.tc : Thread Cert.GwbRefIdeal.nD Cert.GwbRefIdeal.τ).loc Cert.GwbRefIdeal.main_arg1))
      ∧ r.2.sem = fun _ => 0)

def quiescent_OutBwd [hOutBwd : Cert.OutBwd.Facts] : Prop :=
  ∀ (m : (ℓ : Loc Cert.OutBwd.nD Cert.OutBwd.τ Cert.OutBwd.sig) → Buf (Elt Bits) ℓ) (g : Dev Cert.OutBwd.nD → PrngReg), Pre_OutBwd m →
    θ_run (Cert.OutBwd.defs (F := Bits)) (onTc (τ := Cert.OutBwd.τ) (Cert.OutBwd.main (F := Bits))) ⟨m, fun _ => 0, g⟩ (fun r => (∀ c : Dev Cert.OutBwd.nD,
      r.2.mem ((c.tc : Thread Cert.OutBwd.nD Cert.OutBwd.τ).loc Cert.OutBwd.main_arg0) = m ((c.tc : Thread Cert.OutBwd.nD Cert.OutBwd.τ).loc Cert.OutBwd.main_arg0)
      ∧ r.2.mem ((c.tc : Thread Cert.OutBwd.nD Cert.OutBwd.τ).loc Cert.OutBwd.main_arg1) = m ((c.tc : Thread Cert.OutBwd.nD Cert.OutBwd.τ).loc Cert.OutBwd.main_arg1)
      ∧ r.2.mem ((c.tc : Thread Cert.OutBwd.nD Cert.OutBwd.τ).loc Cert.OutBwd.main_arg2) = m ((c.tc : Thread Cert.OutBwd.nD Cert.OutBwd.τ).loc Cert.OutBwd.main_arg2))
      ∧ r.2.sem = fun _ => 0)

def quiescent_OutBwdIdeal [hOutBwdIdeal : Cert.OutBwdIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
      ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2))
      ∧ r.2.sem = fun _ => 0)

def quiescent_OutBwdRefIdeal [hOutBwdRefIdeal : Cert.OutBwdRefIdeal.Facts] : Prop :=
  ∀ (m : (ℓ : Loc Cert.OutBwdRefIdeal.nD Cert.OutBwdRefIdeal.τ Cert.OutBwdRefIdeal.sig) → Buf (Elt Ideal) ℓ) (g : Dev Cert.OutBwdRefIdeal.nD → PrngReg), Pre_OutBwdRefIdeal m →
    θ_run (Cert.OutBwdRefIdeal.defs (F := Ideal)) (onTc (τ := Cert.OutBwdRefIdeal.τ) (Cert.OutBwdRefIdeal.main (F := Ideal))) ⟨m, fun _ => 0, g⟩ (fun r => (∀ c : Dev Cert.OutBwdRefIdeal.nD,
      r.2.mem ((c.tc : Thread Cert.OutBwdRefIdeal.nD Cert.OutBwdRefIdeal.τ).loc Cert.OutBwdRefIdeal.main_arg0) = m ((c.tc : Thread Cert.OutBwdRefIdeal.nD Cert.OutBwdRefIdeal.τ).loc Cert.OutBwdRefIdeal.main_arg0)
      ∧ r.2.mem ((c.tc : Thread Cert.OutBwdRefIdeal.nD Cert.OutBwdRefIdeal.τ).loc Cert.OutBwdRefIdeal.main_arg1) = m ((c.tc : Thread Cert.OutBwdRefIdeal.nD Cert.OutBwdRefIdeal.τ).loc Cert.OutBwdRefIdeal.main_arg1)
      ∧ r.2.mem ((c.tc : Thread Cert.OutBwdRefIdeal.nD Cert.OutBwdRefIdeal.τ).loc Cert.OutBwdRefIdeal.main_arg2) = m ((c.tc : Thread Cert.OutBwdRefIdeal.nD Cert.OutBwdRefIdeal.τ).loc Cert.OutBwdRefIdeal.main_arg2))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2)
      ∧ r.2.mem ((c.tc : Thread Cert.Fwd.nD Cert.Fwd.τ).loc Cert.Fwd.main_arg3) = m ((c.tc : Thread Cert.Fwd.nD Cert.Fwd.τ).loc Cert.Fwd.main_arg3))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3))
      ∧ r.2.sem = fun _ => 0)

def quiescent_FwdIdeal_pre_attn_finite [hFwdIdeal : Cert.FwdIdeal.Facts] [hPre_attn_finite : Cert.Pre_attn_finite.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal_attn_finite m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2)
      ∧ r.2.mem ((c.tc : Thread Cert.FwdRefIdeal.nD Cert.FwdRefIdeal.τ).loc Cert.FwdRefIdeal.main_arg3) = m ((c.tc : Thread Cert.FwdRefIdeal.nD Cert.FwdRefIdeal.τ).loc Cert.FwdRefIdeal.main_arg3))
      ∧ r.2.sem = fun _ => 0)

def quiescent_FwdRefIdeal_pre_attn_finite [hFwdRefIdeal : Cert.FwdRefIdeal.Facts] [hPre_attn_finite : Cert.Pre_attn_finite.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal_attn_finite m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2)
      ∧ r.2.mem ((c.tc : Thread Cert.FwdRefIdeal.nD Cert.FwdRefIdeal.τ).loc Cert.FwdRefIdeal.main_arg3) = m ((c.tc : Thread Cert.FwdRefIdeal.nD Cert.FwdRefIdeal.τ).loc Cert.FwdRefIdeal.main_arg3))
      ∧ r.2.sem = fun _ => 0)

def preserves_Kernel_KernelIdeal : Prop :=
  IdealRules.named_const.Statement Cert.KernelIdeal.κ "scale_log2e" .f32 0x3E0293EE#32 (((11863283 / 134217728) * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v35_0)) (v1 : (c : Dev Cert.KernelIdeal.nD) → Buf (Elt Ideal) ((c.tc : Thread Cert.KernelIdeal.nD Cert.KernelIdeal.τ).loc Cert.KernelIdeal.main_v35_1)) (v2 : (c : Dev Cert.KernelIdeal.nD) → Buf (Elt Ideal) ((c.tc : Thread Cert.KernelIdeal.nD Cert.KernelIdeal.τ).loc Cert.KernelIdeal.main_v35_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35_0) = v0 c
          ∧ r.2.mem ((c.tc : Thread Cert.KernelIdeal.nD Cert.KernelIdeal.τ).loc Cert.KernelIdeal.main_v35_1) = v1 c
          ∧ r.2.mem ((c.tc : Thread Cert.KernelIdeal.nD Cert.KernelIdeal.τ).loc Cert.KernelIdeal.main_v35_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_v69) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Gwgm_GwgmIdeal : Prop :=
  True

def algebraic_GwgmIdeal_GwgmRefIdeal [hGwgmIdeal : Cert.GwgmIdeal.Facts] [hGwgmRefIdeal : Cert.GwgmRefIdeal.Facts] : Prop :=
  ∀ (m : (ℓ : Loc Cert.GwgmIdeal.nD Cert.GwgmIdeal.τ Cert.GwgmIdeal.sig) → Buf (Elt Ideal) ℓ) (g : Dev Cert.GwgmIdeal.nD → PrngReg)
    (m' : (ℓ : Loc Cert.GwgmRefIdeal.nD Cert.GwgmRefIdeal.τ Cert.GwgmRefIdeal.sig) → Buf (Elt Ideal) ℓ) (g' : Dev Cert.GwgmRefIdeal.nD → PrngReg), Pre_GwgmIdeal m →
    (∀ c : Dev Cert.GwgmIdeal.nD,
      m' ((c.tc : Thread Cert.GwgmRefIdeal.nD Cert.GwgmRefIdeal.τ).loc Cert.GwgmRefIdeal.main_arg0) = m ((c.tc : Thread Cert.GwgmIdeal.nD Cert.GwgmIdeal.τ).loc Cert.GwgmIdeal.main_arg0)
      ∧ m' ((c.tc : Thread Cert.GwgmRefIdeal.nD Cert.GwgmRefIdeal.τ).loc Cert.GwgmRefIdeal.main_arg1) = m ((c.tc : Thread Cert.GwgmIdeal.nD Cert.GwgmIdeal.τ).loc Cert.GwgmIdeal.main_arg1)) →
    ∃ (v0 : (c : Dev Cert.GwgmIdeal.nD) → Buf (Elt Ideal) ((c.tc : Thread Cert.GwgmIdeal.nD Cert.GwgmIdeal.τ).loc Cert.GwgmIdeal.main_v0)),
      θ_run (Cert.GwgmIdeal.defs (F := Ideal)) (onTc (τ := Cert.GwgmIdeal.τ) (Cert.GwgmIdeal.main (F := Ideal))) ⟨m, fun _ => 0, g⟩ (fun r => ∀ c : Dev Cert.GwgmIdeal.nD,
          r.2.mem ((c.tc : Thread Cert.GwgmIdeal.nD Cert.GwgmIdeal.τ).loc Cert.GwgmIdeal.main_v0) = v0 c
          ∧ r.2.mem ((c.tc : Thread Cert.GwgmIdeal.nD Cert.GwgmIdeal.τ).loc Cert.GwgmIdeal.main_arg0) = m ((c.tc : Thread Cert.GwgmIdeal.nD Cert.GwgmIdeal.τ).loc Cert.GwgmIdeal.main_arg0)
          ∧ r.2.mem ((c.tc : Thread Cert.GwgmIdeal.nD Cert.GwgmIdeal.τ).loc Cert.GwgmIdeal.main_arg1) = m ((c.tc : Thread Cert.GwgmIdeal.nD Cert.GwgmIdeal.τ).loc Cert.GwgmIdeal.main_arg1))
      ∧ θ_run (Cert.GwgmRefIdeal.defs (F := Ideal)) (onTc (τ := Cert.GwgmRefIdeal.τ) (Cert.GwgmRefIdeal.main (F := Ideal))) ⟨m', fun _ => 0, g'⟩ (fun r => ∀ c : Dev Cert.GwgmRefIdeal.nD,
          r.2.mem ((c.tc : Thread Cert.GwgmRefIdeal.nD Cert.GwgmRefIdeal.τ).loc Cert.GwgmRefIdeal.main_v9) = v0 c
          ∧ r.2.mem ((c.tc : Thread Cert.GwgmRefIdeal.nD Cert.GwgmRefIdeal.τ).loc Cert.GwgmRefIdeal.main_arg0) = m' ((c.tc : Thread Cert.GwgmRefIdeal.nD Cert.GwgmRefIdeal.τ).loc Cert.GwgmRefIdeal.main_arg0)
          ∧ r.2.mem ((c.tc : Thread Cert.GwgmRefIdeal.nD Cert.GwgmRefIdeal.τ).loc Cert.GwgmRefIdeal.main_arg1) = m' ((c.tc : Thread Cert.GwgmRefIdeal.nD Cert.GwgmRefIdeal.τ).loc Cert.GwgmRefIdeal.main_arg1))

def preserves_Dz_DzIdeal : Prop :=
  True

def algebraic_DzIdeal_DzRefIdeal [hDzIdeal : Cert.DzIdeal.Facts] [hDzRefIdeal : Cert.DzRefIdeal.Facts] : Prop :=
  ∀ (m : (ℓ : Loc Cert.DzIdeal.nD Cert.DzIdeal.τ Cert.DzIdeal.sig) → Buf (Elt Ideal) ℓ) (g : Dev Cert.DzIdeal.nD → PrngReg)
    (m' : (ℓ : Loc Cert.DzRefIdeal.nD Cert.DzRefIdeal.τ Cert.DzRefIdeal.sig) → Buf (Elt Ideal) ℓ) (g' : Dev Cert.DzRefIdeal.nD → PrngReg), Pre_DzIdeal m →
    (∀ c : Dev Cert.DzIdeal.nD,
      m' ((c.tc : Thread Cert.DzRefIdeal.nD Cert.DzRefIdeal.τ).loc Cert.DzRefIdeal.main_arg0) = m ((c.tc : Thread Cert.DzIdeal.nD Cert.DzIdeal.τ).loc Cert.DzIdeal.main_arg0)
      ∧ m' ((c.tc : Thread Cert.DzRefIdeal.nD Cert.DzRefIdeal.τ).loc Cert.DzRefIdeal.main_arg1) = m ((c.tc : Thread Cert.DzIdeal.nD Cert.DzIdeal.τ).loc Cert.DzIdeal.main_arg1)) →
    ∃ (v0 : (c : Dev Cert.DzIdeal.nD) → Buf (Elt Ideal) ((c.tc : Thread Cert.DzIdeal.nD Cert.DzIdeal.τ).loc Cert.DzIdeal.main_v0)),
      θ_run (Cert.DzIdeal.defs (F := Ideal)) (onTc (τ := Cert.DzIdeal.τ) (Cert.DzIdeal.main (F := Ideal))) ⟨m, fun _ => 0, g⟩ (fun r => ∀ c : Dev Cert.DzIdeal.nD,
          r.2.mem ((c.tc : Thread Cert.DzIdeal.nD Cert.DzIdeal.τ).loc Cert.DzIdeal.main_v0) = v0 c
          ∧ r.2.mem ((c.tc : Thread Cert.DzIdeal.nD Cert.DzIdeal.τ).loc Cert.DzIdeal.main_arg0) = m ((c.tc : Thread Cert.DzIdeal.nD Cert.DzIdeal.τ).loc Cert.DzIdeal.main_arg0)
          ∧ r.2.mem ((c.tc : Thread Cert.DzIdeal.nD Cert.DzIdeal.τ).loc Cert.DzIdeal.main_arg1) = m ((c.tc : Thread Cert.DzIdeal.nD Cert.DzIdeal.τ).loc Cert.DzIdeal.main_arg1))
      ∧ θ_run (Cert.DzRefIdeal.defs (F := Ideal)) (onTc (τ := Cert.DzRefIdeal.τ) (Cert.DzRefIdeal.main (F := Ideal))) ⟨m', fun _ => 0, g'⟩ (fun r => ∀ c : Dev Cert.DzRefIdeal.nD,
          r.2.mem ((c.tc : Thread Cert.DzRefIdeal.nD Cert.DzRefIdeal.τ).loc Cert.DzRefIdeal.main_v6) = v0 c
          ∧ r.2.mem ((c.tc : Thread Cert.DzRefIdeal.nD Cert.DzRefIdeal.τ).loc Cert.DzRefIdeal.main_arg0) = m' ((c.tc : Thread Cert.DzRefIdeal.nD Cert.DzRefIdeal.τ).loc Cert.DzRefIdeal.main_arg0)
          ∧ r.2.mem ((c.tc : Thread Cert.DzRefIdeal.nD Cert.DzRefIdeal.τ).loc Cert.DzRefIdeal.main_arg1) = m' ((c.tc : Thread Cert.DzRefIdeal.nD Cert.DzRefIdeal.τ).loc Cert.DzRefIdeal.main_arg1))

def preserves_Dh1_Dh1Ideal : Prop :=
  True

def algebraic_Dh1Ideal_Dh1RefIdeal [hDh1Ideal : Cert.Dh1Ideal.Facts] [hDh1RefIdeal : Cert.Dh1RefIdeal.Facts] : Prop :=
  ∀ (m : (ℓ : Loc Cert.Dh1Ideal.nD Cert.Dh1Ideal.τ Cert.Dh1Ideal.sig) → Buf (Elt Ideal) ℓ) (g : Dev Cert.Dh1Ideal.nD → PrngReg)
    (m' : (ℓ : Loc Cert.Dh1RefIdeal.nD Cert.Dh1RefIdeal.τ Cert.Dh1RefIdeal.sig) → Buf (Elt Ideal) ℓ) (g' : Dev Cert.Dh1RefIdeal.nD → PrngReg), Pre_Dh1Ideal m →
    (∀ c : Dev Cert.Dh1Ideal.nD,
      m' ((c.tc : Thread Cert.Dh1RefIdeal.nD Cert.Dh1RefIdeal.τ).loc Cert.Dh1RefIdeal.main_arg0) = m ((c.tc : Thread Cert.Dh1Ideal.nD Cert.Dh1Ideal.τ).loc Cert.Dh1Ideal.main_arg0)
      ∧ m' ((c.tc : Thread Cert.Dh1RefIdeal.nD Cert.Dh1RefIdeal.τ).loc Cert.Dh1RefIdeal.main_arg1) = m ((c.tc : Thread Cert.Dh1Ideal.nD Cert.Dh1Ideal.τ).loc Cert.Dh1Ideal.main_arg1)) →
    ∃ (v0 : (c : Dev Cert.Dh1Ideal.nD) → Buf (Elt Ideal) ((c.tc : Thread Cert.Dh1Ideal.nD Cert.Dh1Ideal.τ).loc Cert.Dh1Ideal.main_v0)),
      θ_run (Cert.Dh1Ideal.defs (F := Ideal)) (onTc (τ := Cert.Dh1Ideal.τ) (Cert.Dh1Ideal.main (F := Ideal))) ⟨m, fun _ => 0, g⟩ (fun r => ∀ c : Dev Cert.Dh1Ideal.nD,
          r.2.mem ((c.tc : Thread Cert.Dh1Ideal.nD Cert.Dh1Ideal.τ).loc Cert.Dh1Ideal.main_v0) = v0 c
          ∧ r.2.mem ((c.tc : Thread Cert.Dh1Ideal.nD Cert.Dh1Ideal.τ).loc Cert.Dh1Ideal.main_arg0) = m ((c.tc : Thread Cert.Dh1Ideal.nD Cert.Dh1Ideal.τ).loc Cert.Dh1Ideal.main_arg0)
          ∧ r.2.mem ((c.tc : Thread Cert.Dh1Ideal.nD Cert.Dh1Ideal.τ).loc Cert.Dh1Ideal.main_arg1) = m ((c.tc : Thread Cert.Dh1Ideal.nD Cert.Dh1Ideal.τ).loc Cert.Dh1Ideal.main_arg1))
      ∧ θ_run (Cert.Dh1RefIdeal.defs (F := Ideal)) (onTc (τ := Cert.Dh1RefIdeal.τ) (Cert.Dh1RefIdeal.main (F := Ideal))) ⟨m', fun _ => 0, g'⟩ (fun r => ∀ c : Dev Cert.Dh1RefIdeal.nD,
          r.2.mem ((c.tc : Thread Cert.Dh1RefIdeal.nD Cert.Dh1RefIdeal.τ).loc Cert.Dh1RefIdeal.main_v6) = v0 c
          ∧ r.2.mem ((c.tc : Thread Cert.Dh1RefIdeal.nD Cert.Dh1RefIdeal.τ).loc Cert.Dh1RefIdeal.main_arg0) = m' ((c.tc : Thread Cert.Dh1RefIdeal.nD Cert.Dh1RefIdeal.τ).loc Cert.Dh1RefIdeal.main_arg0)
          ∧ r.2.mem ((c.tc : Thread Cert.Dh1RefIdeal.nD Cert.Dh1RefIdeal.τ).loc Cert.Dh1RefIdeal.main_arg1) = m' ((c.tc : Thread Cert.Dh1RefIdeal.nD Cert.Dh1RefIdeal.τ).loc Cert.Dh1RefIdeal.main_arg1))

def preserves_Gwin_GwinIdeal : Prop :=
  True

def algebraic_GwinIdeal_GwinRefIdeal [hGwinIdeal : Cert.GwinIdeal.Facts] [hGwinRefIdeal : Cert.GwinRefIdeal.Facts] : Prop :=
  ∀ (m : (ℓ : Loc Cert.GwinIdeal.nD Cert.GwinIdeal.τ Cert.GwinIdeal.sig) → Buf (Elt Ideal) ℓ) (g : Dev Cert.GwinIdeal.nD → PrngReg)
    (m' : (ℓ : Loc Cert.GwinRefIdeal.nD Cert.GwinRefIdeal.τ Cert.GwinRefIdeal.sig) → Buf (Elt Ideal) ℓ) (g' : Dev Cert.GwinRefIdeal.nD → PrngReg), Pre_GwinIdeal m →
    (∀ c : Dev Cert.GwinIdeal.nD,
      m' ((c.tc : Thread Cert.GwinRefIdeal.nD Cert.GwinRefIdeal.τ).loc Cert.GwinRefIdeal.main_arg0) = m ((c.tc : Thread Cert.GwinIdeal.nD Cert.GwinIdeal.τ).loc Cert.GwinIdeal.main_arg0)
      ∧ m' ((c.tc : Thread Cert.GwinRefIdeal.nD Cert.GwinRefIdeal.τ).loc Cert.GwinRefIdeal.main_arg1) = m ((c.tc : Thread Cert.GwinIdeal.nD Cert.GwinIdeal.τ).loc Cert.GwinIdeal.main_arg1)) →
    ∃ (v0 : (c : Dev Cert.GwinIdeal.nD) → Buf (Elt Ideal) ((c.tc : Thread Cert.GwinIdeal.nD Cert.GwinIdeal.τ).loc Cert.GwinIdeal.main_v0)),
      θ_run (Cert.GwinIdeal.defs (F := Ideal)) (onTc (τ := Cert.GwinIdeal.τ) (Cert.GwinIdeal.main (F := Ideal))) ⟨m, fun _ => 0, g⟩ (fun r => ∀ c : Dev Cert.GwinIdeal.nD,
          r.2.mem ((c.tc : Thread Cert.GwinIdeal.nD Cert.GwinIdeal.τ).loc Cert.GwinIdeal.main_v0) = v0 c
          ∧ r.2.mem ((c.tc : Thread Cert.GwinIdeal.nD Cert.GwinIdeal.τ).loc Cert.GwinIdeal.main_arg0) = m ((c.tc : Thread Cert.GwinIdeal.nD Cert.GwinIdeal.τ).loc Cert.GwinIdeal.main_arg0)
          ∧ r.2.mem ((c.tc : Thread Cert.GwinIdeal.nD Cert.GwinIdeal.τ).loc Cert.GwinIdeal.main_arg1) = m ((c.tc : Thread Cert.GwinIdeal.nD Cert.GwinIdeal.τ).loc Cert.GwinIdeal.main_arg1))
      ∧ θ_run (Cert.GwinRefIdeal.defs (F := Ideal)) (onTc (τ := Cert.GwinRefIdeal.τ) (Cert.GwinRefIdeal.main (F := Ideal))) ⟨m', fun _ => 0, g'⟩ (fun r => ∀ c : Dev Cert.GwinRefIdeal.nD,
          r.2.mem ((c.tc : Thread Cert.GwinRefIdeal.nD Cert.GwinRefIdeal.τ).loc Cert.GwinRefIdeal.main_v9) = v0 c
          ∧ r.2.mem ((c.tc : Thread Cert.GwinRefIdeal.nD Cert.GwinRefIdeal.τ).loc Cert.GwinRefIdeal.main_arg0) = m' ((c.tc : Thread Cert.GwinRefIdeal.nD Cert.GwinRefIdeal.τ).loc Cert.GwinRefIdeal.main_arg0)
          ∧ r.2.mem ((c.tc : Thread Cert.GwinRefIdeal.nD Cert.GwinRefIdeal.τ).loc Cert.GwinRefIdeal.main_arg1) = m' ((c.tc : Thread Cert.GwinRefIdeal.nD Cert.GwinRefIdeal.τ).loc Cert.GwinRefIdeal.main_arg1))

def preserves_Dh2_Dh2Ideal : Prop :=
  True

def algebraic_Dh2Ideal_Dh2RefIdeal [hDh2Ideal : Cert.Dh2Ideal.Facts] [hDh2RefIdeal : Cert.Dh2RefIdeal.Facts] : Prop :=
  ∀ (m : (ℓ : Loc Cert.Dh2Ideal.nD Cert.Dh2Ideal.τ Cert.Dh2Ideal.sig) → Buf (Elt Ideal) ℓ) (g : Dev Cert.Dh2Ideal.nD → PrngReg)
    (m' : (ℓ : Loc Cert.Dh2RefIdeal.nD Cert.Dh2RefIdeal.τ Cert.Dh2RefIdeal.sig) → Buf (Elt Ideal) ℓ) (g' : Dev Cert.Dh2RefIdeal.nD → PrngReg), Pre_Dh2Ideal m →
    (∀ c : Dev Cert.Dh2Ideal.nD,
      m' ((c.tc : Thread Cert.Dh2RefIdeal.nD Cert.Dh2RefIdeal.τ).loc Cert.Dh2RefIdeal.main_arg0) = m ((c.tc : Thread Cert.Dh2Ideal.nD Cert.Dh2Ideal.τ).loc Cert.Dh2Ideal.main_arg0)
      ∧ m' ((c.tc : Thread Cert.Dh2RefIdeal.nD Cert.Dh2RefIdeal.τ).loc Cert.Dh2RefIdeal.main_arg1) = m ((c.tc : Thread Cert.Dh2Ideal.nD Cert.Dh2Ideal.τ).loc Cert.Dh2Ideal.main_arg1)) →
    ∃ (v0 : (c : Dev Cert.Dh2Ideal.nD) → Buf (Elt Ideal) ((c.tc : Thread Cert.Dh2Ideal.nD Cert.Dh2Ideal.τ).loc Cert.Dh2Ideal.main_v0)),
      θ_run (Cert.Dh2Ideal.defs (F := Ideal)) (onTc (τ := Cert.Dh2Ideal.τ) (Cert.Dh2Ideal.main (F := Ideal))) ⟨m, fun _ => 0, g⟩ (fun r => ∀ c : Dev Cert.Dh2Ideal.nD,
          r.2.mem ((c.tc : Thread Cert.Dh2Ideal.nD Cert.Dh2Ideal.τ).loc Cert.Dh2Ideal.main_v0) = v0 c
          ∧ r.2.mem ((c.tc : Thread Cert.Dh2Ideal.nD Cert.Dh2Ideal.τ).loc Cert.Dh2Ideal.main_arg0) = m ((c.tc : Thread Cert.Dh2Ideal.nD Cert.Dh2Ideal.τ).loc Cert.Dh2Ideal.main_arg0)
          ∧ r.2.mem ((c.tc : Thread Cert.Dh2Ideal.nD Cert.Dh2Ideal.τ).loc Cert.Dh2Ideal.main_arg1) = m ((c.tc : Thread Cert.Dh2Ideal.nD Cert.Dh2Ideal.τ).loc Cert.Dh2Ideal.main_arg1))
      ∧ θ_run (Cert.Dh2RefIdeal.defs (F := Ideal)) (onTc (τ := Cert.Dh2RefIdeal.τ) (Cert.Dh2RefIdeal.main (F := Ideal))) ⟨m', fun _ => 0, g'⟩ (fun r => ∀ c : Dev Cert.Dh2RefIdeal.nD,
          r.2.mem ((c.tc : Thread Cert.Dh2RefIdeal.nD Cert.Dh2RefIdeal.τ).loc Cert.Dh2RefIdeal.main_v6) = v0 c
          ∧ r.2.mem ((c.tc : Thread Cert.Dh2RefIdeal.nD Cert.Dh2RefIdeal.τ).loc Cert.Dh2RefIdeal.main_arg0) = m' ((c.tc : Thread Cert.Dh2RefIdeal.nD Cert.Dh2RefIdeal.τ).loc Cert.Dh2RefIdeal.main_arg0)
          ∧ r.2.mem ((c.tc : Thread Cert.Dh2RefIdeal.nD Cert.Dh2RefIdeal.τ).loc Cert.Dh2RefIdeal.main_arg1) = m' ((c.tc : Thread Cert.Dh2RefIdeal.nD Cert.Dh2RefIdeal.τ).loc Cert.Dh2RefIdeal.main_arg1))

def preserves_Gwout_GwoutIdeal : Prop :=
  True

def algebraic_GwoutIdeal_GwoutRefIdeal [hGwoutIdeal : Cert.GwoutIdeal.Facts] [hGwoutRefIdeal : Cert.GwoutRefIdeal.Facts] : Prop :=
  ∀ (m : (ℓ : Loc Cert.GwoutIdeal.nD Cert.GwoutIdeal.τ Cert.GwoutIdeal.sig) → Buf (Elt Ideal) ℓ) (g : Dev Cert.GwoutIdeal.nD → PrngReg)
    (m' : (ℓ : Loc Cert.GwoutRefIdeal.nD Cert.GwoutRefIdeal.τ Cert.GwoutRefIdeal.sig) → Buf (Elt Ideal) ℓ) (g' : Dev Cert.GwoutRefIdeal.nD → PrngReg), Pre_GwoutIdeal m →
    (∀ c : Dev Cert.GwoutIdeal.nD,
      m' ((c.tc : Thread Cert.GwoutRefIdeal.nD Cert.GwoutRefIdeal.τ).loc Cert.GwoutRefIdeal.main_arg0) = m ((c.tc : Thread Cert.GwoutIdeal.nD Cert.GwoutIdeal.τ).loc Cert.GwoutIdeal.main_arg0)
      ∧ m' ((c.tc : Thread Cert.GwoutRefIdeal.nD Cert.GwoutRefIdeal.τ).loc Cert.GwoutRefIdeal.main_arg1) = m ((c.tc : Thread Cert.GwoutIdeal.nD Cert.GwoutIdeal.τ).loc Cert.GwoutIdeal.main_arg1)) →
    ∃ (v0 : (c : Dev Cert.GwoutIdeal.nD) → Buf (Elt Ideal) ((c.tc : Thread Cert.GwoutIdeal.nD Cert.GwoutIdeal.τ).loc Cert.GwoutIdeal.main_v0)),
      θ_run (Cert.GwoutIdeal.defs (F := Ideal)) (onTc (τ := Cert.GwoutIdeal.τ) (Cert.GwoutIdeal.main (F := Ideal))) ⟨m, fun _ => 0, g⟩ (fun r => ∀ c : Dev Cert.GwoutIdeal.nD,
          r.2.mem ((c.tc : Thread Cert.GwoutIdeal.nD Cert.GwoutIdeal.τ).loc Cert.GwoutIdeal.main_v0) = v0 c
          ∧ r.2.mem ((c.tc : Thread Cert.GwoutIdeal.nD Cert.GwoutIdeal.τ).loc Cert.GwoutIdeal.main_arg0) = m ((c.tc : Thread Cert.GwoutIdeal.nD Cert.GwoutIdeal.τ).loc Cert.GwoutIdeal.main_arg0)
          ∧ r.2.mem ((c.tc : Thread Cert.GwoutIdeal.nD Cert.GwoutIdeal.τ).loc Cert.GwoutIdeal.main_arg1) = m ((c.tc : Thread Cert.GwoutIdeal.nD Cert.GwoutIdeal.τ).loc Cert.GwoutIdeal.main_arg1))
      ∧ θ_run (Cert.GwoutRefIdeal.defs (F := Ideal)) (onTc (τ := Cert.GwoutRefIdeal.τ) (Cert.GwoutRefIdeal.main (F := Ideal))) ⟨m', fun _ => 0, g'⟩ (fun r => ∀ c : Dev Cert.GwoutRefIdeal.nD,
          r.2.mem ((c.tc : Thread Cert.GwoutRefIdeal.nD Cert.GwoutRefIdeal.τ).loc Cert.GwoutRefIdeal.main_v7) = v0 c
          ∧ r.2.mem ((c.tc : Thread Cert.GwoutRefIdeal.nD Cert.GwoutRefIdeal.τ).loc Cert.GwoutRefIdeal.main_arg0) = m' ((c.tc : Thread Cert.GwoutRefIdeal.nD Cert.GwoutRefIdeal.τ).loc Cert.GwoutRefIdeal.main_arg0)
          ∧ r.2.mem ((c.tc : Thread Cert.GwoutRefIdeal.nD Cert.GwoutRefIdeal.τ).loc Cert.GwoutRefIdeal.main_arg1) = m' ((c.tc : Thread Cert.GwoutRefIdeal.nD Cert.GwoutRefIdeal.τ).loc Cert.GwoutRefIdeal.main_arg1))

def preserves_Dbr_DbrIdeal : Prop :=
  True

def algebraic_DbrIdeal_DbrRefIdeal [hDbrIdeal : Cert.DbrIdeal.Facts] [hDbrRefIdeal : Cert.DbrRefIdeal.Facts] : Prop :=
  ∀ (m : (ℓ : Loc Cert.DbrIdeal.nD Cert.DbrIdeal.τ Cert.DbrIdeal.sig) → Buf (Elt Ideal) ℓ) (g : Dev Cert.DbrIdeal.nD → PrngReg)
    (m' : (ℓ : Loc Cert.DbrRefIdeal.nD Cert.DbrRefIdeal.τ Cert.DbrRefIdeal.sig) → Buf (Elt Ideal) ℓ) (g' : Dev Cert.DbrRefIdeal.nD → PrngReg), Pre_DbrIdeal m →
    (∀ c : Dev Cert.DbrIdeal.nD,
      m' ((c.tc : Thread Cert.DbrRefIdeal.nD Cert.DbrRefIdeal.τ).loc Cert.DbrRefIdeal.main_arg0) = m ((c.tc : Thread Cert.DbrIdeal.nD Cert.DbrIdeal.τ).loc Cert.DbrIdeal.main_arg0)
      ∧ m' ((c.tc : Thread Cert.DbrRefIdeal.nD Cert.DbrRefIdeal.τ).loc Cert.DbrRefIdeal.main_arg1) = m ((c.tc : Thread Cert.DbrIdeal.nD Cert.DbrIdeal.τ).loc Cert.DbrIdeal.main_arg1)) →
    ∃ (v0 : (c : Dev Cert.DbrIdeal.nD) → Buf (Elt Ideal) ((c.tc : Thread Cert.DbrIdeal.nD Cert.DbrIdeal.τ).loc Cert.DbrIdeal.main_v0)),
      θ_run (Cert.DbrIdeal.defs (F := Ideal)) (onTc (τ := Cert.DbrIdeal.τ) (Cert.DbrIdeal.main (F := Ideal))) ⟨m, fun _ => 0, g⟩ (fun r => ∀ c : Dev Cert.DbrIdeal.nD,
          r.2.mem ((c.tc : Thread Cert.DbrIdeal.nD Cert.DbrIdeal.τ).loc Cert.DbrIdeal.main_v0) = v0 c
          ∧ r.2.mem ((c.tc : Thread Cert.DbrIdeal.nD Cert.DbrIdeal.τ).loc Cert.DbrIdeal.main_arg0) = m ((c.tc : Thread Cert.DbrIdeal.nD Cert.DbrIdeal.τ).loc Cert.DbrIdeal.main_arg0)
          ∧ r.2.mem ((c.tc : Thread Cert.DbrIdeal.nD Cert.DbrIdeal.τ).loc Cert.DbrIdeal.main_arg1) = m ((c.tc : Thread Cert.DbrIdeal.nD Cert.DbrIdeal.τ).loc Cert.DbrIdeal.main_arg1))
      ∧ θ_run (Cert.DbrRefIdeal.defs (F := Ideal)) (onTc (τ := Cert.DbrRefIdeal.τ) (Cert.DbrRefIdeal.main (F := Ideal))) ⟨m', fun _ => 0, g'⟩ (fun r => ∀ c : Dev Cert.DbrRefIdeal.nD,
          r.2.mem ((c.tc : Thread Cert.DbrRefIdeal.nD Cert.DbrRefIdeal.τ).loc Cert.DbrRefIdeal.main_v14) = v0 c
          ∧ r.2.mem ((c.tc : Thread Cert.DbrRefIdeal.nD Cert.DbrRefIdeal.τ).loc Cert.DbrRefIdeal.main_arg0) = m' ((c.tc : Thread Cert.DbrRefIdeal.nD Cert.DbrRefIdeal.τ).loc Cert.DbrRefIdeal.main_arg0)
          ∧ r.2.mem ((c.tc : Thread Cert.DbrRefIdeal.nD Cert.DbrRefIdeal.τ).loc Cert.DbrRefIdeal.main_arg1) = m' ((c.tc : Thread Cert.DbrRefIdeal.nD Cert.DbrRefIdeal.τ).loc Cert.DbrRefIdeal.main_arg1))

def preserves_Gwb_GwbIdeal : Prop :=
  True

def algebraic_GwbIdeal_GwbRefIdeal [hGwbIdeal : Cert.GwbIdeal.Facts] [hGwbRefIdeal : Cert.GwbRefIdeal.Facts] : Prop :=
  ∀ (m : (ℓ : Loc Cert.GwbIdeal.nD Cert.GwbIdeal.τ Cert.GwbIdeal.sig) → Buf (Elt Ideal) ℓ) (g : Dev Cert.GwbIdeal.nD → PrngReg)
    (m' : (ℓ : Loc Cert.GwbRefIdeal.nD Cert.GwbRefIdeal.τ Cert.GwbRefIdeal.sig) → Buf (Elt Ideal) ℓ) (g' : Dev Cert.GwbRefIdeal.nD → PrngReg), Pre_GwbIdeal m →
    (∀ c : Dev Cert.GwbIdeal.nD,
      m' ((c.tc : Thread Cert.GwbRefIdeal.nD Cert.GwbRefIdeal.τ).loc Cert.GwbRefIdeal.main_arg0) = m ((c.tc : Thread Cert.GwbIdeal.nD Cert.GwbIdeal.τ).loc Cert.GwbIdeal.main_arg0)
      ∧ m' ((c.tc : Thread Cert.GwbRefIdeal.nD Cert.GwbRefIdeal.τ).loc Cert.GwbRefIdeal.main_arg1) = m ((c.tc : Thread Cert.GwbIdeal.nD Cert.GwbIdeal.τ).loc Cert.GwbIdeal.main_arg1)) →
    ∃ (v0 : (c : Dev Cert.GwbIdeal.nD) → Buf (Elt Ideal) ((c.tc : Thread Cert.GwbIdeal.nD Cert.GwbIdeal.τ).loc Cert.GwbIdeal.main_v0)),
      θ_run (Cert.GwbIdeal.defs (F := Ideal)) (onTc (τ := Cert.GwbIdeal.τ) (Cert.GwbIdeal.main (F := Ideal))) ⟨m, fun _ => 0, g⟩ (fun r => ∀ c : Dev Cert.GwbIdeal.nD,
          r.2.mem ((c.tc : Thread Cert.GwbIdeal.nD Cert.GwbIdeal.τ).loc Cert.GwbIdeal.main_v0) = v0 c
          ∧ r.2.mem ((c.tc : Thread Cert.GwbIdeal.nD Cert.GwbIdeal.τ).loc Cert.GwbIdeal.main_arg0) = m ((c.tc : Thread Cert.GwbIdeal.nD Cert.GwbIdeal.τ).loc Cert.GwbIdeal.main_arg0)
          ∧ r.2.mem ((c.tc : Thread Cert.GwbIdeal.nD Cert.GwbIdeal.τ).loc Cert.GwbIdeal.main_arg1) = m ((c.tc : Thread Cert.GwbIdeal.nD Cert.GwbIdeal.τ).loc Cert.GwbIdeal.main_arg1))
      ∧ θ_run (Cert.GwbRefIdeal.defs (F := Ideal)) (onTc (τ := Cert.GwbRefIdeal.τ) (Cert.GwbRefIdeal.main (F := Ideal))) ⟨m', fun _ => 0, g'⟩ (fun r => ∀ c : Dev Cert.GwbRefIdeal.nD,
          r.2.mem ((c.tc : Thread Cert.GwbRefIdeal.nD Cert.GwbRefIdeal.τ).loc Cert.GwbRefIdeal.main_v14) = v0 c
          ∧ r.2.mem ((c.tc : Thread Cert.GwbRefIdeal.nD Cert.GwbRefIdeal.τ).loc Cert.GwbRefIdeal.main_arg0) = m' ((c.tc : Thread Cert.GwbRefIdeal.nD Cert.GwbRefIdeal.τ).loc Cert.GwbRefIdeal.main_arg0)
          ∧ r.2.mem ((c.tc : Thread Cert.GwbRefIdeal.nD Cert.GwbRefIdeal.τ).loc Cert.GwbRefIdeal.main_arg1) = m' ((c.tc : Thread Cert.GwbRefIdeal.nD Cert.GwbRefIdeal.τ).loc Cert.GwbRefIdeal.main_arg1))

def preserves_OutBwd_OutBwdIdeal : Prop :=
  True

def algebraic_OutBwdIdeal_OutBwdRefIdeal [hOutBwdIdeal : Cert.OutBwdIdeal.Facts] [hOutBwdRefIdeal : Cert.OutBwdRefIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg)
    (m' : (ℓ : Loc Cert.OutBwdRefIdeal.nD Cert.OutBwdRefIdeal.τ Cert.OutBwdRefIdeal.sig) → Buf (Elt Ideal) ℓ) (g' : Dev Cert.OutBwdRefIdeal.nD → PrngReg), Pre_OutBwdIdeal m →
    (∀ c : Dev Cert.OutBwdIdeal.nD,
      m' ((c.tc : Thread Cert.OutBwdRefIdeal.nD Cert.OutBwdRefIdeal.τ).loc Cert.OutBwdRefIdeal.main_arg0) = m ((c.tc : Thread Cert.OutBwdIdeal.nD Cert.OutBwdIdeal.τ).loc Cert.OutBwdIdeal.main_arg0)
      ∧ m' ((c.tc : Thread Cert.OutBwdRefIdeal.nD Cert.OutBwdRefIdeal.τ).loc Cert.OutBwdRefIdeal.main_arg1) = m ((c.tc : Thread Cert.OutBwdIdeal.nD Cert.OutBwdIdeal.τ).loc Cert.OutBwdIdeal.main_arg1)
      ∧ m' ((c.tc : Thread Cert.OutBwdRefIdeal.nD Cert.OutBwdRefIdeal.τ).loc Cert.OutBwdRefIdeal.main_arg2) = m ((c.tc : Thread Cert.OutBwdIdeal.nD Cert.OutBwdIdeal.τ).loc Cert.OutBwdIdeal.main_arg2)) →
    ∃ (v0 : (c : Dev Cert.OutBwdIdeal.nD) → Buf (Elt Ideal) ((c.tc : Thread Cert.OutBwdIdeal.nD Cert.OutBwdIdeal.τ).loc Cert.OutBwdIdeal.main_v0_0)) (v1 : (c : Dev Cert.OutBwdIdeal.nD) → Buf (Elt Ideal) ((c.tc : Thread Cert.OutBwdIdeal.nD Cert.OutBwdIdeal.τ).loc Cert.OutBwdIdeal.main_v0_1)),
      θ_run (Cert.OutBwdIdeal.defs (F := Ideal)) (onTc (τ := Cert.OutBwdIdeal.τ) (Cert.OutBwdIdeal.main (F := Ideal))) ⟨m, fun _ => 0, g⟩ (fun r => ∀ c : Dev Cert.OutBwdIdeal.nD,
          r.2.mem ((c.tc : Thread Cert.OutBwdIdeal.nD Cert.OutBwdIdeal.τ).loc Cert.OutBwdIdeal.main_v0_0) = v0 c
          ∧ r.2.mem ((c.tc : Thread Cert.OutBwdIdeal.nD Cert.OutBwdIdeal.τ).loc Cert.OutBwdIdeal.main_v0_1) = v1 c
          ∧ r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
          ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
          ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2))
      ∧ θ_run (Cert.OutBwdRefIdeal.defs (F := Ideal)) (onTc (τ := Cert.OutBwdRefIdeal.τ) (Cert.OutBwdRefIdeal.main (F := Ideal))) ⟨m', fun _ => 0, g'⟩ (fun r => ∀ c : Dev Cert.OutBwdRefIdeal.nD,
          r.2.mem ((c.tc : Thread Cert.OutBwdRefIdeal.nD Cert.OutBwdRefIdeal.τ).loc Cert.OutBwdRefIdeal.main_v8) = v0 c
          ∧ r.2.mem ((c.tc : Thread Cert.OutBwdRefIdeal.nD Cert.OutBwdRefIdeal.τ).loc Cert.OutBwdRefIdeal.main_v7) = v1 c
          ∧ r.2.mem ((c.tc : Thread Cert.OutBwdRefIdeal.nD Cert.OutBwdRefIdeal.τ).loc Cert.OutBwdRefIdeal.main_arg0) = m' ((c.tc : Thread Cert.OutBwdRefIdeal.nD Cert.OutBwdRefIdeal.τ).loc Cert.OutBwdRefIdeal.main_arg0)
          ∧ r.2.mem ((c.tc : Thread Cert.OutBwdRefIdeal.nD Cert.OutBwdRefIdeal.τ).loc Cert.OutBwdRefIdeal.main_arg1) = m' ((c.tc : Thread Cert.OutBwdRefIdeal.nD Cert.OutBwdRefIdeal.τ).loc Cert.OutBwdRefIdeal.main_arg1)
          ∧ r.2.mem ((c.tc : Thread Cert.OutBwdRefIdeal.nD Cert.OutBwdRefIdeal.τ).loc Cert.OutBwdRefIdeal.main_arg2) = m' ((c.tc : Thread Cert.OutBwdRefIdeal.nD Cert.OutBwdRefIdeal.τ).loc Cert.OutBwdRefIdeal.main_arg2))

def preserves_MergeBwd_MergeBwdIdeal : Prop :=
  True

def algebraic_MergeBwdIdeal_MergeBwdRefIdeal [hMergeBwdIdeal : Cert.MergeBwdIdeal.Facts] [hMergeBwdRefIdeal : Cert.MergeBwdRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)) →
    ∃ (v0 : (c : Dev Cert.MergeBwdIdeal.nD) → Buf (Elt Ideal) ((c.tc : Thread Cert.MergeBwdIdeal.nD Cert.MergeBwdIdeal.τ).loc Cert.MergeBwdIdeal.main_v7_0)) (v1 : (c : Dev Cert.MergeBwdIdeal.nD) → Buf (Elt Ideal) ((c.tc : Thread Cert.MergeBwdIdeal.nD Cert.MergeBwdIdeal.τ).loc Cert.MergeBwdIdeal.main_v7_1)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v7_0) = v0 c
          ∧ r.2.mem ((c.tc : Thread Cert.MergeBwdIdeal.nD Cert.MergeBwdIdeal.τ).loc Cert.MergeBwdIdeal.main_v7_1) = v1 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          r.2.mem ((c.tc : Thread Cert.MergeBwdRefIdeal.nD Cert.MergeBwdRefIdeal.τ).loc Cert.MergeBwdRefIdeal.main_v21) = v0 c
          ∧ r.2.mem ((c.tc : Thread Cert.MergeBwdRefIdeal.nD Cert.MergeBwdRefIdeal.τ).loc Cert.MergeBwdRefIdeal.main_v22) = v1 c
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v0)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v0) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v5) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v0_0)) (v1 : (c : Dev Cert.OutIdeal.nD) → Buf (Elt Ideal) ((c.tc : Thread Cert.OutIdeal.nD Cert.OutIdeal.τ).loc Cert.OutIdeal.main_v0_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0_0) = v0 c
          ∧ r.2.mem ((c.tc : Thread Cert.OutIdeal.nD Cert.OutIdeal.τ).loc Cert.OutIdeal.main_v0_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v6) = v0 c
          ∧ r.2.mem ((c.tc : Thread Cert.OutRefIdeal.nD Cert.OutRefIdeal.τ).loc Cert.OutRefIdeal.main_v7) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)) (v2 : (c : Dev Cert.MergeIdeal.nD) → Buf (Elt Ideal) ((c.tc : Thread Cert.MergeIdeal.nD Cert.MergeIdeal.τ).loc Cert.MergeIdeal.main_v0_2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_v0_2) = v2 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v19) = v0 c
          ∧ r.2.mem ((c.tc : Thread Cert.MergeRefIdeal.nD Cert.MergeRefIdeal.τ).loc Cert.MergeRefIdeal.main_v20) = v1 c
          ∧ r.2.mem ((c.tc : Thread Cert.MergeRefIdeal.nD Cert.MergeRefIdeal.τ).loc Cert.MergeRefIdeal.main_v31) = v2 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3))

def preserves_Fwd_FwdIdeal : Prop :=
  IdealRules.named_const.Statement Cert.FwdIdeal.κ "scale_log2e" .f32 0x3E0293EE#32 (((11863283 / 134217728) * (Real.log 2)⁻¹ : ℝ) : EReal)

def algebraic_FwdIdeal_FwdRefIdeal_pre_attn_finite [hFwdIdeal : Cert.FwdIdeal.Facts] [hFwdRefIdeal : Cert.FwdRefIdeal.Facts] [hPre_attn_finite : Cert.Pre_attn_finite.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal_attn_finite m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)
      ∧ m' ((c.tc : Thread Cert.FwdRefIdeal.nD Cert.FwdRefIdeal.τ).loc Cert.FwdRefIdeal.main_arg2) = m ((c.tc : Thread Cert.FwdIdeal.nD Cert.FwdIdeal.τ).loc Cert.FwdIdeal.main_arg2)
      ∧ m' ((c.tc : Thread Cert.FwdRefIdeal.nD Cert.FwdRefIdeal.τ).loc Cert.FwdRefIdeal.main_arg3) = m ((c.tc : Thread Cert.FwdIdeal.nD Cert.FwdIdeal.τ).loc Cert.FwdIdeal.main_arg3)) →
    ∃ (v0 : (c : Dev Cert.FwdIdeal.nD) → Buf (Elt Ideal) ((c.tc : Thread Cert.FwdIdeal.nD Cert.FwdIdeal.τ).loc Cert.FwdIdeal.main_v0_0)) (v1 : (c : Dev Cert.FwdIdeal.nD) → Buf (Elt Ideal) ((c.tc : Thread Cert.FwdIdeal.nD Cert.FwdIdeal.τ).loc Cert.FwdIdeal.main_v0_1)) (v2 : (c : Dev Cert.FwdIdeal.nD) → Buf (Elt Ideal) ((c.tc : Thread Cert.FwdIdeal.nD Cert.FwdIdeal.τ).loc Cert.FwdIdeal.main_v0_2)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v0_0) = v0 c
          ∧ r.2.mem ((c.tc : Thread Cert.FwdIdeal.nD Cert.FwdIdeal.τ).loc Cert.FwdIdeal.main_v0_1) = v1 c
          ∧ r.2.mem ((c.tc : Thread Cert.FwdIdeal.nD Cert.FwdIdeal.τ).loc Cert.FwdIdeal.main_v0_2) = v2 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
          ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v38) = v0 c
          ∧ r.2.mem ((c.tc : Thread Cert.FwdRefIdeal.nD Cert.FwdRefIdeal.τ).loc Cert.FwdRefIdeal.main_v39) = v1 c
          ∧ r.2.mem ((c.tc : Thread Cert.FwdRefIdeal.nD Cert.FwdRefIdeal.τ).loc Cert.FwdRefIdeal.main_v33) = v2 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2)
          ∧ r.2.mem ((c.tc : Thread Cert.FwdRefIdeal.nD Cert.FwdRefIdeal.τ).loc Cert.FwdRefIdeal.main_arg3) = m' ((c.tc : Thread Cert.FwdRefIdeal.nD Cert.FwdRefIdeal.τ).loc Cert.FwdRefIdeal.main_arg3))

def Claim : Prop :=
  ∃ (hKernel : Cert.Kernel.Facts) (hKernelIdeal : Cert.KernelIdeal.Facts) (hReferenceIdeal : Cert.ReferenceIdeal.Facts) (hGwgm : Cert.Gwgm.Facts) (hGwgmIdeal : Cert.GwgmIdeal.Facts) (hGwgmRefIdeal : Cert.GwgmRefIdeal.Facts) (hDz : Cert.Dz.Facts) (hDzIdeal : Cert.DzIdeal.Facts) (hDzRefIdeal : Cert.DzRefIdeal.Facts) (hDh1 : Cert.Dh1.Facts) (hDh1Ideal : Cert.Dh1Ideal.Facts) (hDh1RefIdeal : Cert.Dh1RefIdeal.Facts) (hGwin : Cert.Gwin.Facts) (hGwinIdeal : Cert.GwinIdeal.Facts) (hGwinRefIdeal : Cert.GwinRefIdeal.Facts) (hDh2 : Cert.Dh2.Facts) (hDh2Ideal : Cert.Dh2Ideal.Facts) (hDh2RefIdeal : Cert.Dh2RefIdeal.Facts) (hGwout : Cert.Gwout.Facts) (hGwoutIdeal : Cert.GwoutIdeal.Facts) (hGwoutRefIdeal : Cert.GwoutRefIdeal.Facts) (hDbr : Cert.Dbr.Facts) (hDbrIdeal : Cert.DbrIdeal.Facts) (hDbrRefIdeal : Cert.DbrRefIdeal.Facts) (hGwb : Cert.Gwb.Facts) (hGwbIdeal : Cert.GwbIdeal.Facts) (hGwbRefIdeal : Cert.GwbRefIdeal.Facts) (hOutBwd : Cert.OutBwd.Facts) (hOutBwdIdeal : Cert.OutBwdIdeal.Facts) (hOutBwdRefIdeal : Cert.OutBwdRefIdeal.Facts) (hMergeBwd : Cert.MergeBwd.Facts) (hMergeBwdIdeal : Cert.MergeBwdIdeal.Facts) (hMergeBwdRefIdeal : Cert.MergeBwdRefIdeal.Facts) (hIn : Cert.In.Facts) (hInIdeal : Cert.InIdeal.Facts) (hInRefIdeal : Cert.InRefIdeal.Facts) (hOut : Cert.Out.Facts) (hOutIdeal : Cert.OutIdeal.Facts) (hOutRefIdeal : Cert.OutRefIdeal.Facts) (hMerge : Cert.Merge.Facts) (hMergeIdeal : Cert.MergeIdeal.Facts) (hMergeRefIdeal : Cert.MergeRefIdeal.Facts) (hFwd : Cert.Fwd.Facts) (hFwdIdeal : Cert.FwdIdeal.Facts) (hFwdRefIdeal : Cert.FwdRefIdeal.Facts) (hPre_finite : Cert.Pre_finite.Facts) (hPre_attn_finite : Cert.Pre_attn_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Gwgm (hGwgm := hGwgm)
    ∧ quiescent_GwgmIdeal (hGwgmIdeal := hGwgmIdeal)
    ∧ quiescent_GwgmRefIdeal (hGwgmRefIdeal := hGwgmRefIdeal)
    ∧ quiescent_Dz (hDz := hDz)
    ∧ quiescent_DzIdeal (hDzIdeal := hDzIdeal)
    ∧ quiescent_DzRefIdeal (hDzRefIdeal := hDzRefIdeal)
    ∧ quiescent_Dh1 (hDh1 := hDh1)
    ∧ quiescent_Dh1Ideal (hDh1Ideal := hDh1Ideal)
    ∧ quiescent_Dh1RefIdeal (hDh1RefIdeal := hDh1RefIdeal)
    ∧ quiescent_Gwin (hGwin := hGwin)
    ∧ quiescent_GwinIdeal (hGwinIdeal := hGwinIdeal)
    ∧ quiescent_GwinRefIdeal (hGwinRefIdeal := hGwinRefIdeal)
    ∧ quiescent_Dh2 (hDh2 := hDh2)
    ∧ quiescent_Dh2Ideal (hDh2Ideal := hDh2Ideal)
    ∧ quiescent_Dh2RefIdeal (hDh2RefIdeal := hDh2RefIdeal)
    ∧ quiescent_Gwout (hGwout := hGwout)
    ∧ quiescent_GwoutIdeal (hGwoutIdeal := hGwoutIdeal)
    ∧ quiescent_GwoutRefIdeal (hGwoutRefIdeal := hGwoutRefIdeal)
    ∧ quiescent_Dbr (hDbr := hDbr)
    ∧ quiescent_DbrIdeal (hDbrIdeal := hDbrIdeal)
    ∧ quiescent_DbrRefIdeal (hDbrRefIdeal := hDbrRefIdeal)
    ∧ quiescent_Gwb (hGwb := hGwb)
    ∧ quiescent_GwbIdeal (hGwbIdeal := hGwbIdeal)
    ∧ quiescent_GwbRefIdeal (hGwbRefIdeal := hGwbRefIdeal)
    ∧ quiescent_OutBwd (hOutBwd := hOutBwd)
    ∧ quiescent_OutBwdIdeal (hOutBwdIdeal := hOutBwdIdeal)
    ∧ quiescent_OutBwdRefIdeal (hOutBwdRefIdeal := hOutBwdRefIdeal)
    ∧ quiescent_MergeBwd (hMergeBwd := hMergeBwd)
    ∧ quiescent_MergeBwdIdeal (hMergeBwdIdeal := hMergeBwdIdeal)
    ∧ quiescent_MergeBwdRefIdeal (hMergeBwdRefIdeal := hMergeBwdRefIdeal)
    ∧ quiescent_In (hIn := hIn)
    ∧ quiescent_InIdeal (hInIdeal := hInIdeal)
    ∧ quiescent_InRefIdeal (hInRefIdeal := hInRefIdeal)
    ∧ quiescent_Out (hOut := hOut)
    ∧ quiescent_OutIdeal (hOutIdeal := hOutIdeal)
    ∧ quiescent_OutRefIdeal (hOutRefIdeal := hOutRefIdeal)
    ∧ quiescent_Merge (hMerge := hMerge)
    ∧ quiescent_MergeIdeal (hMergeIdeal := hMergeIdeal)
    ∧ quiescent_MergeRefIdeal (hMergeRefIdeal := hMergeRefIdeal)
    ∧ quiescent_Fwd (hFwd := hFwd)
    ∧ quiescent_FwdIdeal (hFwdIdeal := hFwdIdeal)
    ∧ quiescent_FwdIdeal_pre_attn_finite (hFwdIdeal := hFwdIdeal) (hPre_attn_finite := hPre_attn_finite)
    ∧ quiescent_FwdRefIdeal (hFwdRefIdeal := hFwdRefIdeal)
    ∧ quiescent_FwdRefIdeal_pre_attn_finite (hFwdRefIdeal := hFwdRefIdeal) (hPre_attn_finite := hPre_attn_finite)
    ∧ preserves_Kernel_KernelIdeal
    ∧ algebraic_KernelIdeal_ReferenceIdeal_pre_finite (hKernelIdeal := hKernelIdeal) (hReferenceIdeal := hReferenceIdeal) (hPre_finite := hPre_finite)
    ∧ preserves_Gwgm_GwgmIdeal
    ∧ algebraic_GwgmIdeal_GwgmRefIdeal (hGwgmIdeal := hGwgmIdeal) (hGwgmRefIdeal := hGwgmRefIdeal)
    ∧ preserves_Dz_DzIdeal
    ∧ algebraic_DzIdeal_DzRefIdeal (hDzIdeal := hDzIdeal) (hDzRefIdeal := hDzRefIdeal)
    ∧ preserves_Dh1_Dh1Ideal
    ∧ algebraic_Dh1Ideal_Dh1RefIdeal (hDh1Ideal := hDh1Ideal) (hDh1RefIdeal := hDh1RefIdeal)
    ∧ preserves_Gwin_GwinIdeal
    ∧ algebraic_GwinIdeal_GwinRefIdeal (hGwinIdeal := hGwinIdeal) (hGwinRefIdeal := hGwinRefIdeal)
    ∧ preserves_Dh2_Dh2Ideal
    ∧ algebraic_Dh2Ideal_Dh2RefIdeal (hDh2Ideal := hDh2Ideal) (hDh2RefIdeal := hDh2RefIdeal)
    ∧ preserves_Gwout_GwoutIdeal
    ∧ algebraic_GwoutIdeal_GwoutRefIdeal (hGwoutIdeal := hGwoutIdeal) (hGwoutRefIdeal := hGwoutRefIdeal)
    ∧ preserves_Dbr_DbrIdeal
    ∧ algebraic_DbrIdeal_DbrRefIdeal (hDbrIdeal := hDbrIdeal) (hDbrRefIdeal := hDbrRefIdeal)
    ∧ preserves_Gwb_GwbIdeal
    ∧ algebraic_GwbIdeal_GwbRefIdeal (hGwbIdeal := hGwbIdeal) (hGwbRefIdeal := hGwbRefIdeal)
    ∧ preserves_OutBwd_OutBwdIdeal
    ∧ algebraic_OutBwdIdeal_OutBwdRefIdeal (hOutBwdIdeal := hOutBwdIdeal) (hOutBwdRefIdeal := hOutBwdRefIdeal)
    ∧ preserves_MergeBwd_MergeBwdIdeal
    ∧ algebraic_MergeBwdIdeal_MergeBwdRefIdeal (hMergeBwdIdeal := hMergeBwdIdeal) (hMergeBwdRefIdeal := hMergeBwdRefIdeal)
    ∧ preserves_In_InIdeal
    ∧ algebraic_InIdeal_InRefIdeal (hInIdeal := hInIdeal) (hInRefIdeal := hInRefIdeal)
    ∧ preserves_Out_OutIdeal
    ∧ algebraic_OutIdeal_OutRefIdeal (hOutIdeal := hOutIdeal) (hOutRefIdeal := hOutRefIdeal)
    ∧ preserves_Merge_MergeIdeal
    ∧ algebraic_MergeIdeal_MergeRefIdeal (hMergeIdeal := hMergeIdeal) (hMergeRefIdeal := hMergeRefIdeal)
    ∧ preserves_Fwd_FwdIdeal
    ∧ algebraic_FwdIdeal_FwdRefIdeal_pre_attn_finite (hFwdIdeal := hFwdIdeal) (hFwdRefIdeal := hFwdRefIdeal) (hPre_attn_finite := hPre_attn_finite)
-- ==== Pre_attn_finite.lean ====
abbrev S8192x512 : Shape := ⟨2, ![8192, 512]⟩
abbrev S8192x7168 : Shape := ⟨2, ![8192, 7168]⟩
abbrev S4 : Shape := ⟨1, ![4]⟩
abbrev S_ : Shape := ⟨0, ![]⟩

class Facts : Prop where
  bitsLt_bf16_f32 : FTy.bits .bf16 < FTy.bits .f32
  bcast_S_S8192x512 : S_.BroadcastsInDim S8192x512 (![] : Fin 0 → Fin S8192x512.rank)
  bcast_S_S4 : S_.BroadcastsInDim S4 (![] : Fin 0 → Fin S4.rank)

variable [Facts]

def fn {F : FTy → Type} [FloatOps F] (main_arg0 : FVec F S8192x512 .bf16) (main_arg1 : FVec F S8192x512 .bf16) (main_arg2 : FVec F S8192x7168 .bf16) (main_arg3 : FVec F S4 .f32) : IVec S8192x512 1 × IVec S8192x512 1 × IVec S4 1 :=
  let main_v0 : FVec F S8192x512 .f32 := (extf .f32 · bitsLt_bf16_f32) main_arg0
  let main_v1 : FVec F S8192x512 .f32 := Host.absf main_v0
  let main_cst : FVec F S_ .f32 := constant S_ .f32 0x7F800000#32
  let main_v2 : FVec F S8192x512 .f32 := broadcastInDim S8192x512 ![] bcast_S_S8192x512 main_cst
  let main_v3 : IVec S8192x512 1 := cmpf .olt main_v1 main_v2
  let main_v4 : FVec F S8192x512 .f32 := (extf .f32 · bitsLt_bf16_f32) main_arg1
  let main_v5 : FVec F S8192x512 .f32 := Host.absf main_v4
  let main_cst_0 : FVec F S_ .f32 := constant S_ .f32 0x7F800000#32
  let main_v6 : FVec F S8192x512 .f32 := broadcastInDim S8192x512 ![] bcast_S_S8192x512 main_cst_0
  let main_v7 : IVec S8192x512 1 := cmpf .olt main_v5 main_v6
  let main_cst_1 : FVec F S_ .f32 := constant S_ .f32 0x7F800000#32
  let main_v8 : FVec F S4 .f32 := broadcastInDim S4 ![] bcast_S_S4 main_cst_1
  let main_v9 : IVec S4 1 := cmpf .olt main_arg3 main_v8
  (main_v3, main_v7, main_v9)
-- ==== Pre_finite.lean ====
abbrev S8192x512 : Shape := ⟨2, ![8192, 512]⟩
abbrev S32768x512 : Shape := ⟨2, ![32768, 512]⟩
abbrev S_ : Shape := ⟨0, ![]⟩

class Facts : Prop where
  bitsLt_bf16_f32 : FTy.bits .bf16 < FTy.bits .f32
  bcast_S_S8192x512 : S_.BroadcastsInDim S8192x512 (![] : Fin 0 → Fin S8192x512.rank)
  bcast_S_S32768x512 : S_.BroadcastsInDim S32768x512 (![] : Fin 0 → Fin S32768x512.rank)

variable [Facts]

def fn {F : FTy → Type} [FloatOps F] (main_arg0 : FVec F S8192x512 .bf16) (main_arg1 : FVec F S8192x512 .bf16) (main_arg2 : FVec F S32768x512 .bf16) : IVec S8192x512 1 × IVec S8192x512 1 × IVec S32768x512 1 :=
  let main_v0 : FVec F S8192x512 .f32 := (extf .f32 · bitsLt_bf16_f32) main_arg0
  let main_v1 : FVec F S8192x512 .f32 := Host.absf main_v0
  let main_cst : FVec F S_ .f32 := constant S_ .f32 0x7F800000#32
  let main_v2 : FVec F S8192x512 .f32 := broadcastInDim S8192x512 ![] bcast_S_S8192x512 main_cst
  let main_v3 : IVec S8192x512 1 := cmpf .olt main_v1 main_v2
  let main_v4 : FVec F S8192x512 .f32 := (extf .f32 · bitsLt_bf16_f32) main_arg1
  let main_v5 : FVec F S8192x512 .f32 := Host.absf main_v4
  let main_cst_0 : FVec F S_ .f32 := constant S_ .f32 0x7F800000#32
  let main_v6 : FVec F S8192x512 .f32 := broadcastInDim S8192x512 ![] bcast_S_S8192x512 main_cst_0
  let main_v7 : IVec S8192x512 1 := cmpf .olt main_v5 main_v6
  let main_v8 : FVec F S32768x512 .f32 := (extf .f32 · bitsLt_bf16_f32) main_arg2
  let main_v9 : FVec F S32768x512 .f32 := Host.absf main_v8
  let main_cst_1 : FVec F S_ .f32 := constant S_ .f32 0x7F800000#32
  let main_v10 : FVec F S32768x512 .f32 := broadcastInDim S32768x512 ![] bcast_S_S32768x512 main_cst_1
  let main_v11 : IVec S32768x512 1 := cmpf .olt main_v9 main_v10
  (main_v3, main_v7, main_v11)
-- ==== Kernel.lean ====
abbrev S8192x512 : Shape := ⟨2, ![8192, 512]⟩
abbrev S32768x512 : Shape := ⟨2, ![32768, 512]⟩
abbrev S8192x2x2x128 : Shape := ⟨4, ![8192, 2, 2, 128]⟩
abbrev S2x2x8192x128 : Shape := ⟨4, ![2, 2, 8192, 128]⟩
abbrev S8192x256 : Shape := ⟨2, ![8192, 256]⟩
abbrev S8192x2x128 : Shape := ⟨3, ![8192, 2, 128]⟩
abbrev S2x8192x128 : Shape := ⟨3, ![2, 8192, 128]⟩
abbrev S2x2x8192x8192 : Shape := ⟨4, ![2, 2, 8192, 8192]⟩
abbrev S_ : Shape := ⟨0, ![]⟩
abbrev S2x2x8192 : Shape := ⟨3, ![2, 2, 8192]⟩
abbrev S2x2x8192x1 : Shape := ⟨4, ![2, 2, 8192, 1]⟩
abbrev S4x1x8192 : Shape := ⟨3, ![4, 1, 8192]⟩
abbrev S16x1x8192 : Shape := ⟨3, ![16, 1, 8192]⟩
abbrev S512x128 : Shape := ⟨2, ![512, 128]⟩
abbrev S2048x256 : Shape := ⟨2, ![2048, 256]⟩
abbrev S2x1x2048 : Shape := ⟨3, ![2, 1, 2048]⟩
abbrev S1x512x128 : Shape := ⟨3, ![1, 512, 128]⟩
abbrev S2048x128 : Shape := ⟨2, ![2048, 128]⟩
abbrev S512x2048 : Shape := ⟨2, ![512, 2048]⟩
abbrev S1x1x2048 : Shape := ⟨3, ![1, 1, 2048]⟩
abbrev S1x2048 : Shape := ⟨2, ![1, 2048]⟩

abbrev nBuf : Space → Nat
  | .hbm => 47
  | .vmem => 20
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S32768x512, .bf16⟩
  | .hbm, ⟨3, _⟩ => ⟨S8192x512, .f32⟩
  | .hbm, ⟨4, _⟩ => ⟨S8192x2x2x128, .f32⟩
  | .hbm, ⟨5, _⟩ => ⟨S2x2x8192x128, .f32⟩
  | .hbm, ⟨6, _⟩ => ⟨S8192x256, .bf16⟩
  | .hbm, ⟨7, _⟩ => ⟨S8192x256, .f32⟩
  | .hbm, ⟨8, _⟩ => ⟨S8192x2x128, .f32⟩
  | .hbm, ⟨9, _⟩ => ⟨S2x8192x128, .f32⟩
  | .hbm, ⟨10, _⟩ => ⟨S8192x256, .bf16⟩
  | .hbm, ⟨11, _⟩ => ⟨S8192x256, .f32⟩
  | .hbm, ⟨12, _⟩ => ⟨S8192x2x128, .f32⟩
  | .hbm, ⟨13, _⟩ => ⟨S2x8192x128, .f32⟩
  | .hbm, ⟨14, _⟩ => ⟨S8192x512, .bf16⟩
  | .hbm, ⟨15, _⟩ => ⟨S8192x512, .f32⟩
  | .hbm, ⟨16, _⟩ => ⟨S8192x2x2x128, .f32⟩
  | .hbm, ⟨17, _⟩ => ⟨S2x2x8192x128, .f32⟩
  | .hbm, ⟨18, _⟩ => ⟨S2x2x8192x8192, .f32⟩
  | .hbm, ⟨19, _⟩ => ⟨S_, .f32⟩
  | .hbm, ⟨20, _⟩ => ⟨S2x2x8192x8192, .f32⟩
  | .hbm, ⟨21, _⟩ => ⟨S2x2x8192x8192, .f32⟩
  | .hbm, ⟨22, _⟩ => ⟨S_, .f32⟩
  | .hbm, ⟨23, _⟩ => ⟨S2x2x8192, .f32⟩
  | .hbm, ⟨24, _⟩ => ⟨S2x2x8192x1, .f32⟩
  | .hbm, ⟨25, _⟩ => ⟨S2x2x8192x8192, .f32⟩
  | .hbm, ⟨26, _⟩ => ⟨S2x2x8192x8192, .f32⟩
  | .hbm, ⟨27, _⟩ => ⟨S2x2x8192x8192, .f32⟩
  | .hbm, ⟨28, _⟩ => ⟨S_, .f32⟩
  | .hbm, ⟨29, _⟩ => ⟨S2x2x8192, .f32⟩
  | .hbm, ⟨30, _⟩ => ⟨S2x2x8192x128, .f32⟩
  | .hbm, ⟨31, _⟩ => ⟨S2x2x8192x1, .f32⟩
  | .hbm, ⟨32, _⟩ => ⟨S2x2x8192x128, .f32⟩
  | .hbm, ⟨33, _⟩ => ⟨S2x2x8192x128, .f32⟩
  | .hbm, ⟨34, _⟩ => ⟨S2x2x8192, .f32⟩
  | .hbm, ⟨35, _⟩ => ⟨S2x2x8192, .f32⟩
  | .hbm, ⟨36, _⟩ => ⟨S4x1x8192, .f32⟩
  | .hbm, ⟨37, _⟩ => ⟨S2x2x8192x128, .f32⟩
  | .hbm, ⟨38, _⟩ => ⟨S_, .f32⟩
  | .hbm, ⟨39, _⟩ => ⟨S2x2x8192, .f32⟩
  | .hbm, ⟨40, _⟩ => ⟨S4x1x8192, .f32⟩
  | .hbm, ⟨41, _⟩ => ⟨S_, .i32⟩
  | .hbm, ⟨42, _⟩ => ⟨S_, .f32⟩
  | .hbm, ⟨43, _⟩ => ⟨S16x1x8192, .f32⟩
  | .hbm, ⟨44, _⟩ => ⟨S8192x512, .f32⟩
  | .hbm, ⟨45, _⟩ => ⟨S8192x256, .f32⟩
  | .hbm, ⟨46, _⟩ => ⟨S8192x256, .f32⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S2x1x2048, .f32⟩
  | .local _ .vmem, ⟨9, _⟩ => ⟨S2x1x2048, .f32⟩
  | .local _ .vmem, ⟨10, _⟩ => ⟨S2x1x2048, .f32⟩
  | .local _ .vmem, ⟨11, _⟩ => ⟨S2x1x2048, .f32⟩
  | .local _ .vmem, ⟨12, _⟩ => ⟨S8192x256, .f32⟩
  | .local _ .vmem, ⟨13, _⟩ => ⟨S8192x256, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S1x512x128, .f32⟩
  | .local _ .vmem, ⟨19, _⟩ => ⟨S1x512x128, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_1 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_2 : Ref sig .tc := ⟨.hbm, 38, rfl⟩
abbrev main_v32 : Ref sig .tc := ⟨.hbm, 39, rfl⟩
abbrev main_v33 : Ref sig .tc := ⟨.hbm, 40, rfl⟩
abbrev main_c : Ref sig .tc := ⟨.hbm, 41, rfl⟩
abbrev main_call0_v0 : Ref sig .tc := ⟨.hbm, 42, rfl⟩
abbrev main_v34 : Ref sig .tc := ⟨.hbm, 43, rfl⟩
abbrev main_v35_0 : Ref sig .tc := ⟨.hbm, 44, rfl⟩
abbrev main_v35_1 : Ref sig .tc := ⟨.hbm, 45, rfl⟩
abbrev main_v35_2 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 16, 4], ![false, false, false]⟩

def k0_mult1 (i : grid0.Coords) : BitVec 32 :=
  let arg2 : BitVec 32 := BitVec.ofNat 32 (i 2).val
  let c2048_i32 : BitVec 32 := 2048#32
  let v32 : BitVec 32 := Scalar.muli arg2 c2048_i32
  v32
def k0_off1 (i : grid0.Coords) : Fin 2 → Nat :=
  let arg2 : BitVec 32 := BitVec.ofNat 32 (i 2).val
  let c2048_i32 : BitVec 32 := 2048#32
  let v32 : BitVec 32 := Scalar.muli arg2 c2048_i32
  let v33 : BitVec 32 := v32
  let v34 : Index := Scalar.indexCast v33
  let c0_22 : Index := 0#32
  ![v34.toNat, 0]
def k0_mult2 (i : grid0.Coords) : BitVec 32 :=
  let arg2 : BitVec 32 := BitVec.ofNat 32 (i 2).val
  let c2048_i32_56 : BitVec 32 := 2048#32
  let v79 : BitVec 32 := Scalar.muli arg2 c2048_i32_56
  v79
def k0_off2 (i : grid0.Coords) : Fin 2 → Nat :=
  let arg2 : BitVec 32 := BitVec.ofNat 32 (i 2).val
  let c2048_i32_56 : BitVec 32 := 2048#32
  let v79 : BitVec 32 := Scalar.muli arg2 c2048_i32_56
  let v80 : BitVec 32 := v79
  let v81 : Index := Scalar.indexCast v80
  let c128_57 : Index := 128#32
  ![v81.toNat, 128]
def k0_cond3 (i : grid0.Coords) : BitVec 1 :=
  let arg2 : BitVec 32 := BitVec.ofNat 32 (i 2).val
  let c3_i32 : BitVec 32 := 3#32
  let v102 : BitVec 1 := Scalar.cmpi .eq arg2 c3_i32
  let v103 : BitVec 32 := Scalar.extui v102
  let c0_i32_73 : BitVec 32 := 0#32
  let v104 : BitVec 1 := Scalar.cmpi .ne v103 c0_i32_73
  v104

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg0
  let c0_i32_1 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg2
  let c0_i32 : BitVec 32 := 0#32
  let v1 : BitVec 32 := Scalar.addi c0_i32 arg0
  let c0_i32_0 : BitVec 32 := 0#32
  ![v0.toNat, v1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg0
  let c0_i32 : BitVec 32 := 0#32
  let c0_i32_0 : BitVec 32 := 0#32
  ![v0.toNat, c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S2x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S2x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S8192x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== KernelIdeal.lean ====
variable {F : FTy → Type} [FloatOps F] [Named F]
def κ : String → Option EReal := fun
  | "log2e" => some (((Real.log 2)⁻¹ : ℝ) : EReal)
  | "scale_log2e" => some (((11863283 / 134217728) * (Real.log 2)⁻¹ : ℝ) : EReal)
  | _ => none
-- ==== ReferenceIdeal.lean ====
abbrev S8192x512 : Shape := ⟨2, ![8192, 512]⟩
abbrev S32768x512 : Shape := ⟨2, ![32768, 512]⟩
abbrev S8192x256 : Shape := ⟨2, ![8192, 256]⟩
abbrev S8192x2x2x128 : Shape := ⟨4, ![8192, 2, 2, 128]⟩
abbrev S2x2x8192x128 : Shape := ⟨4, ![2, 2, 8192, 128]⟩
abbrev S8192x2x128 : Shape := ⟨3, ![8192, 2, 128]⟩
abbrev S2x8192x128 : Shape := ⟨3, ![2, 8192, 128]⟩
abbrev S2x2x8192x8192 : Shape := ⟨4, ![2, 2, 8192, 8192]⟩
abbrev S_ : Shape := ⟨0, ![]⟩
abbrev S2x2x8192 : Shape := ⟨3, ![2, 2, 8192]⟩
abbrev S2x2x8192x1 : Shape := ⟨4, ![2, 2, 8192, 1]⟩
abbrev S2x128x8192 : Shape := ⟨3, ![2, 128, 8192]⟩

abbrev nBuf : Space → Nat
  | .hbm => 91
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S32768x512, .bf16⟩
  | .hbm, ⟨3, _⟩ => ⟨S8192x512, .f32⟩
  | .hbm, ⟨4, _⟩ => ⟨S8192x256, .bf16⟩
  | .hbm, ⟨5, _⟩ => ⟨S8192x256, .f32⟩
  | .hbm, ⟨6, _⟩ => ⟨S8192x256, .bf16⟩
  | .hbm, ⟨7, _⟩ => ⟨S8192x256, .f32⟩
  | .hbm, ⟨8, _⟩ => ⟨S8192x2x2x128, .f32⟩
  | .hbm, ⟨9, _⟩ => ⟨S2x2x8192x128, .f32⟩
  | .hbm, ⟨10, _⟩ => ⟨S8192x2x128, .f32⟩
  | .hbm, ⟨11, _⟩ => ⟨S2x8192x128, .f32⟩
  | .hbm, ⟨12, _⟩ => ⟨S8192x2x128, .f32⟩
  | .hbm, ⟨13, _⟩ => ⟨S2x8192x128, .f32⟩
  | .hbm, ⟨14, _⟩ => ⟨S2x2x8192x8192, .f32⟩
  | .hbm, ⟨15, _⟩ => ⟨S_, .f32⟩
  | .hbm, ⟨16, _⟩ => ⟨S2x2x8192x8192, .f32⟩
  | .hbm, ⟨17, _⟩ => ⟨S2x2x8192x8192, .f32⟩
  | .hbm, ⟨18, _⟩ => ⟨S_, .f32⟩
  | .hbm, ⟨19, _⟩ => ⟨S2x2x8192, .f32⟩
  | .hbm, ⟨20, _⟩ => ⟨S2x2x8192x1, .f32⟩
  | .hbm, ⟨21, _⟩ => ⟨S2x2x8192x8192, .f32⟩
  | .hbm, ⟨22, _⟩ => ⟨S2x2x8192x8192, .i1⟩
  | .hbm, ⟨23, _⟩ => ⟨S2x2x8192x8192, .f32⟩
  | .hbm, ⟨24, _⟩ => ⟨S_, .f32⟩
  | .hbm, ⟨25, _⟩ => ⟨S2x2x8192, .f32⟩
  | .hbm, ⟨26, _⟩ => ⟨S_, .f32⟩
  | .hbm, ⟨27, _⟩ => ⟨S2x2x8192, .f32⟩
  | .hbm, ⟨28, _⟩ => ⟨S2x2x8192, .f32⟩
  | .hbm, ⟨29, _⟩ => ⟨S_, .f32⟩
  | .hbm, ⟨30, _⟩ => ⟨S2x2x8192, .f32⟩
  | .hbm, ⟨31, _⟩ => ⟨S2x2x8192, .i1⟩
  | .hbm, ⟨32, _⟩ => ⟨S_, .f32⟩
  | .hbm, ⟨33, _⟩ => ⟨S2x2x8192, .f32⟩
  | .hbm, ⟨34, _⟩ => ⟨S2x2x8192, .i1⟩
  | .hbm, ⟨35, _⟩ => ⟨S_, .f32⟩
  | .hbm, ⟨36, _⟩ => ⟨S2x2x8192, .f32⟩
  | .hbm, ⟨37, _⟩ => ⟨S_, .f32⟩
  | .hbm, ⟨38, _⟩ => ⟨S2x2x8192, .f32⟩
  | .hbm, ⟨39, _⟩ => ⟨S_, .f32⟩
  | .hbm, ⟨40, _⟩ => ⟨S2x2x8192, .f32⟩
  | .hbm, ⟨41, _⟩ => ⟨S2x2x8192, .f32⟩
  | .hbm, ⟨42, _⟩ => ⟨S2x2x8192, .f32⟩
  | .hbm, ⟨43, _⟩ => ⟨S2x2x8192x1, .f32⟩
  | .hbm, ⟨44, _⟩ => ⟨S2x2x8192x8192, .f32⟩
  | .hbm, ⟨45, _⟩ => ⟨S2x2x8192x8192, .f32⟩
  | .hbm, ⟨46, _⟩ => ⟨S2x2x8192x8192, .f32⟩
  | .hbm, ⟨47, _⟩ => ⟨S_, .f32⟩
  | .hbm, ⟨48, _⟩ => ⟨S2x2x8192, .f32⟩
  | .hbm, ⟨49, _⟩ => ⟨S2x2x8192x1, .f32⟩
  | .hbm, ⟨50, _⟩ => ⟨S2x2x8192x8192, .f32⟩
  | .hbm, ⟨51, _⟩ => ⟨S2x2x8192x8192, .f32⟩
  | .hbm, ⟨52, _⟩ => ⟨S2x2x8192x1, .f32⟩
  | .hbm, ⟨53, _⟩ => ⟨S_, .f32⟩
  | .hbm, ⟨54, _⟩ => ⟨S2x2x8192x1, .f32⟩
  | .hbm, ⟨55, _⟩ => ⟨S2x2x8192x1, .f32⟩
  | .hbm, ⟨56, _⟩ => ⟨S2x2x8192x128, .f32⟩
  | .hbm, ⟨57, _⟩ => ⟨S8192x2x2x128, .f32⟩
  | .hbm, ⟨58, _⟩ => ⟨S8192x512, .f32⟩
  | .hbm, ⟨59, _⟩ => ⟨S8192x512, .bf16⟩
  | .hbm, ⟨60, _⟩ => ⟨S8192x512, .f32⟩
  | .hbm, ⟨61, _⟩ => ⟨S8192x2x2x128, .f32⟩
  | .hbm, ⟨62, _⟩ => ⟨S2x2x8192x128, .f32⟩
  | .hbm, ⟨63, _⟩ => ⟨S2x128x8192, .f32⟩
  | .hbm, ⟨64, _⟩ => ⟨S2x8192x128, .f32⟩
  | .hbm, ⟨65, _⟩ => ⟨S2x2x8192x8192, .f32⟩
  | .hbm, ⟨66, _⟩ => ⟨S2x2x8192x8192, .f32⟩
  | .hbm, ⟨67, _⟩ => ⟨S2x2x8192x8192, .f32⟩
  | .hbm, ⟨68, _⟩ => ⟨S2x2x8192x8192, .f32⟩
  | .hbm, ⟨69, _⟩ => ⟨S_, .f32⟩
  | .hbm, ⟨70, _⟩ => ⟨S2x2x8192, .f32⟩
  | .hbm, ⟨71, _⟩ => ⟨S2x2x8192x1, .f32⟩
  | .hbm, ⟨72, _⟩ => ⟨S2x2x8192x1, .f32⟩
  | .hbm, ⟨73, _⟩ => ⟨S2x2x8192x8192, .f32⟩
  | .hbm, ⟨74, _⟩ => ⟨S2x2x8192x8192, .f32⟩
  | .hbm, ⟨75, _⟩ => ⟨S_, .f32⟩
  | .hbm, ⟨76, _⟩ => ⟨S2x2x8192, .f32⟩
  | .hbm, ⟨77, _⟩ => ⟨S2x2x8192x8192, .f32⟩
  | .hbm, ⟨78, _⟩ => ⟨S2x2x8192x8192, .f32⟩
  | .hbm, ⟨79, _⟩ => ⟨S2x2x8192x8192, .f32⟩
  | .hbm, ⟨80, _⟩ => ⟨S_, .f32⟩
  | .hbm, ⟨81, _⟩ => ⟨S2x2x8192x8192, .f32⟩
  | .hbm, ⟨82, _⟩ => ⟨S2x2x8192x8192, .f32⟩
  | .hbm, ⟨83, _⟩ => ⟨S2x8192x128, .f32⟩
  | .hbm, ⟨84, _⟩ => ⟨S2x2x8192x128, .f32⟩
  | .hbm, ⟨85, _⟩ => ⟨S8192x2x128, .f32⟩
  | .hbm, ⟨86, _⟩ => ⟨S8192x256, .f32⟩
  | .hbm, ⟨87, _⟩ => ⟨S8192x2x128, .f32⟩
  | .hbm, ⟨88, _⟩ => ⟨S8192x256, .f32⟩
  | .hbm, ⟨89, _⟩ => ⟨S8192x2x2x128, .f32⟩
  | .hbm, ⟨90, _⟩ => ⟨S8192x512, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_cst_6 : Ref sig .tc := ⟨.hbm, 37, rfl⟩
abbrev main_v27 : Ref sig .tc := ⟨.hbm, 38, rfl⟩
abbrev main_cst_7 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_8 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_9 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_10 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_11 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_12 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩

abbrev nD : Nat := 1
abbrev τ : Topo := Topo.v7x

variable {F : FTy → Type} [FloatOps F]
-- ==== Gwgm.lean ====
abbrev S8192x2048 : Shape := ⟨2, ![8192, 2048]⟩
abbrev S8192x8192 : Shape := ⟨2, ![8192, 8192]⟩
abbrev S4x2048x2048 : Shape := ⟨3, ![4, 2048, 2048]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .bf16⟩
  | .hbm, ⟨2, _⟩ => ⟨S4x2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 2, 2, 8], ![false, false, false, false]⟩

def k0_cond3 (i : grid0.Coords) : BitVec 1 :=
  let arg3 : BitVec 32 := BitVec.ofNat 32 (i 3).val
  let c7_i32 : BitVec 32 := 7#32
  let v9 : BitVec 1 := Scalar.cmpi .eq arg3 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg2
  let c0_i32 : BitVec 32 := 0#32
  ![arg3.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== GwgmRefIdeal.lean ====
abbrev S8192x2048 : Shape := ⟨2, ![8192, 2048]⟩
abbrev S8192x8192 : Shape := ⟨2, ![8192, 8192]⟩
abbrev S_ : Shape := ⟨0, ![]⟩
abbrev S4x2048x2048 : Shape := ⟨3, ![4, 2048, 2048]⟩
abbrev S2048x4x2048 : Shape := ⟨3, ![2048, 4, 2048]⟩
abbrev S2048x8192 : Shape := ⟨2, ![2048, 8192]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .bf16⟩
  | .hbm, ⟨2, _⟩ => ⟨S_, .f32⟩
  | .hbm, ⟨3, _⟩ => ⟨S4x2048x2048, .f32⟩
  | .hbm, ⟨4, _⟩ => ⟨S8192x2048, .f32⟩
  | .hbm, ⟨5, _⟩ => ⟨S2048x4x2048, .f32⟩
  | .hbm, ⟨6, _⟩ => ⟨S2048x8192, .f32⟩
  | .hbm, ⟨7, _⟩ => ⟨S8192x8192, .f32⟩
  | .hbm, ⟨8, _⟩ => ⟨S8192x8192, .f32⟩
  | .hbm, ⟨9, _⟩ => ⟨S8192x2048, .f32⟩
  | .hbm, ⟨10, _⟩ => ⟨S2048x8192, .f32⟩
  | .hbm, ⟨11, _⟩ => ⟨S2048x4x2048, .f32⟩
  | .hbm, ⟨12, _⟩ => ⟨S4x2048x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Dz.lean ====
abbrev S8192x2048 : Shape := ⟨2, ![8192, 2048]⟩
abbrev S4x512x2048 : Shape := ⟨3, ![4, 512, 2048]⟩
abbrev S1024x2048 : Shape := ⟨2, ![1024, 2048]⟩
abbrev S1x512x2048 : Shape := ⟨3, ![1, 512, 2048]⟩
abbrev S1024x512 : Shape := ⟨2, ![1024, 512]⟩
abbrev S512x2048 : Shape := ⟨2, ![512, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S4x512x2048, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S1024x512, .bf16⟩
  | .local _ .vmem, ⟨5, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DzRefIdeal.lean ====
abbrev S8192x2048 : Shape := ⟨2, ![8192, 2048]⟩
abbrev S4x512x2048 : Shape := ⟨3, ![4, 512, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x512x2048, .bf16⟩
  | .hbm, ⟨2, _⟩ => ⟨S_, .f32⟩
  | .hbm, ⟨3, _⟩ => ⟨S8192x2048, .f32⟩
  | .hbm, ⟨4, _⟩ => ⟨S4x512x2048, .f32⟩
  | .hbm, ⟨5, _⟩ => ⟨S2048x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dh1.lean ====
abbrev S8192x8192 : Shape := ⟨2, ![8192, 8192]⟩
abbrev S4x2048x2048 : Shape := ⟨3, ![4, 2048, 2048]⟩
abbrev S8192x2048 : Shape := ⟨2, ![8192, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x8192, .bf16⟩
  | .hbm, ⟨1, _⟩ => ⟨S4x2048x2048, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dh1RefIdeal.lean ====
abbrev S8192x8192 : Shape := ⟨2, ![8192, 8192]⟩
abbrev S4x2048x2048 : Shape := ⟨3, ![4, 2048, 2048]⟩
abbrev S_ : Shape := ⟨0, ![]⟩
abbrev S8192x2048 : Shape := ⟨2, ![8192, 2048]⟩
abbrev S2048x4x2048 : Shape := ⟨3, ![2048, 4, 2048]⟩
abbrev S2048x8192 : Shape := ⟨2, ![2048, 8192]⟩

abbrev nBuf : Space → Nat
  | .hbm => 10
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S4x2048x2048, .bf16⟩
  | .hbm, ⟨2, _⟩ => ⟨S_, .f32⟩
  | .hbm, ⟨3, _⟩ => ⟨S8192x2048, .f32⟩
  | .hbm, ⟨4, _⟩ => ⟨S4x2048x2048, .f32⟩
  | .hbm, ⟨5, _⟩ => ⟨S2048x4x2048, .f32⟩
  | .hbm, ⟨6, _⟩ => ⟨S2048x8192, .f32⟩
  | .hbm, ⟨7, _⟩ => ⟨S8192x8192, .f32⟩
  | .hbm, ⟨8, _⟩ => ⟨S8192x8192, .f32⟩
  | .hbm, ⟨9, _⟩ => ⟨S8192x2048, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Gwin.lean ====
abbrev S8192x2048 : Shape := ⟨2, ![8192, 2048]⟩
abbrev S8192x7168 : Shape := ⟨2, ![8192, 7168]⟩
abbrev S4x2048x1792 : Shape := ⟨3, ![4, 2048, 1792]⟩
abbrev S1024x1024 : Shape := ⟨2, ![1024, 1024]⟩
abbrev S1024x1792 : Shape := ⟨2, ![1024, 1792]⟩
abbrev S1x1024x1792 : Shape := ⟨3, ![1, 1024, 1792]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x7168, .bf16⟩
  | .hbm, ⟨2, _⟩ => ⟨S4x2048x1792, .f32⟩
  | .local _ .vmem, ⟨0, _⟩ => ⟨S1024x1024, .bf16⟩
  | .local _ .vmem, ⟨1, _⟩ => ⟨S1024x1024, .bf16⟩
  | .local _ .vmem, ⟨2, _⟩ => ⟨S1024x1792, .bf16⟩
  | .local _ .vmem, ⟨3, _⟩ => ⟨S1024x1792, .bf16⟩
  | .local _ .vmem, ⟨4, _⟩ => ⟨S1x1024x1792, .f32⟩
  | .local _ .vmem, ⟨5, _⟩ => ⟨S1x1024x1792, .f32⟩
  | .local _ .vmem, ⟨6, _⟩ => ⟨S1024x1792, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GwinRefIdeal.lean ====
abbrev S8192x2048 : Shape := ⟨2, ![8192, 2048]⟩
abbrev S8192x7168 : Shape := ⟨2, ![8192, 7168]⟩
abbrev S_ : Shape := ⟨0, ![]⟩
abbrev S4x2048x1792 : Shape := ⟨3, ![4, 2048, 1792]⟩
abbrev S2048x4x1792 : Shape := ⟨3, ![2048, 4, 1792]⟩
abbrev S2048x7168 : Shape := ⟨2, ![2048, 7168]⟩
abbrev S7168x2048 : Shape := ⟨2, ![7168, 2048]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x7168, .bf16⟩
  | .hbm, ⟨2, _⟩ => ⟨S_, .f32⟩
  | .hbm, ⟨3, _⟩ => ⟨S4x2048x1792, .f32⟩
  | .hbm, ⟨4, _⟩ => ⟨S8192x2048, .f32⟩
  | .hbm, ⟨5, _⟩ => ⟨S2048x4x1792, .f32⟩
  | .hbm, ⟨6, _⟩ => ⟨S2048x7168, .f32⟩
  | .hbm, ⟨7, _⟩ => ⟨S8192x7168, .f32⟩
  | .hbm, ⟨8, _⟩ => ⟨S8192x7168, .f32⟩
  | .hbm, ⟨9, _⟩ => ⟨S7168x2048, .f32⟩
  | .hbm, ⟨10, _⟩ => ⟨S2048x7168, .f32⟩
  | .hbm, ⟨11, _⟩ => ⟨S2048x4x1792, .f32⟩
  | .hbm, ⟨12, _⟩ => ⟨S4x2048x1792, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Dh2.lean ====
abbrev S8192x7168 : Shape := ⟨2, ![8192, 7168]⟩
abbrev S4x2048x1792 : Shape := ⟨3, ![4, 2048, 1792]⟩
abbrev S8192x2048 : Shape := ⟨2, ![8192, 2048]⟩
abbrev S1024x1792 : Shape := ⟨2, ![1024, 1792]⟩
abbrev S1x1024x1792 : Shape := ⟨3, ![1, 1024, 1792]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x7168, .bf16⟩
  | .hbm, ⟨1, _⟩ => ⟨S4x2048x1792, .bf16⟩
  | .hbm, ⟨2, _⟩ => ⟨S8192x2048, .f32⟩
  | .local _ .vmem, ⟨0, _⟩ => ⟨S1024x1792, .bf16⟩
  | .local _ .vmem, ⟨1, _⟩ => ⟨S1024x1792, .bf16⟩
  | .local _ .vmem, ⟨2, _⟩ => ⟨S1x1024x1792, .bf16⟩
  | .local _ .vmem, ⟨3, _⟩ => ⟨S1x1024x1792, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dh2RefIdeal.lean ====
abbrev S8192x7168 : Shape := ⟨2, ![8192, 7168]⟩
abbrev S4x2048x1792 : Shape := ⟨3, ![4, 2048, 1792]⟩
abbrev S_ : Shape := ⟨0, ![]⟩
abbrev S8192x2048 : Shape := ⟨2, ![8192, 2048]⟩
abbrev S2048x4x1792 : Shape := ⟨3, ![2048, 4, 1792]⟩
abbrev S2048x7168 : Shape := ⟨2, ![2048, 7168]⟩

abbrev nBuf : Space → Nat
  | .hbm => 10
  | .vmem => 0
  | .smem => 0
  | _ => 0

abbrev bufTy : (tb : Table) → Fin (tcTables nBuf tb) → BufTy
  | .hbm, ⟨0, _⟩ => ⟨S8192x7168, .bf16⟩
  | .hbm, ⟨1, _⟩ => ⟨S4x2048x1792, .bf16⟩
  | .hbm, ⟨2, _⟩ => ⟨S_, .f32⟩
  | .hbm, ⟨3, _⟩ => ⟨S8192x2048, .f32⟩
  | .hbm, ⟨4, _⟩ => ⟨S4x2048x1792, .f32⟩
  | .hbm, ⟨5, _⟩ => ⟨S2048x4x1792, .f32⟩
  | .hbm, ⟨6, _⟩ => ⟨S2048x7168, .f32⟩
  | .hbm, ⟨7, _⟩ => ⟨S8192x7168, .f32⟩
  | .hbm, ⟨8, _⟩ => ⟨S8192x7168, .f32⟩
  | .hbm, ⟨9, _⟩ => ⟨S8192x2048, .f32⟩
  | _, _ => ⟨S8192x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Gwout.lean ====
abbrev S8192x2048 : Shape := ⟨2, ![8192, 2048]⟩
abbrev S4x512x2048 : Shape := ⟨3, ![4, 512, 2048]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S4x512x2048, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .f32⟩
  | .local _ .vmem, ⟨5, _⟩ => ⟨S1x512x1024, .f32⟩
  | .local _ .vmem, ⟨6, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GwoutRefIdeal.lean ====
abbrev S8192x2048 : Shape := ⟨2, ![8192, 2048]⟩
abbrev S_ : Shape := ⟨0, ![]⟩
abbrev S4x512x2048 : Shape := ⟨3, ![4, 512, 2048]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .f32⟩
  | .hbm, ⟨3, _⟩ => ⟨S4x512x2048, .f32⟩
  | .hbm, ⟨4, _⟩ => ⟨S8192x2048, .f32⟩
  | .hbm, ⟨5, _⟩ => ⟨S2048x2048, .f32⟩
  | .hbm, ⟨6, _⟩ => ⟨S8192x2048, .f32⟩
  | .hbm, ⟨7, _⟩ => ⟨S8192x2048, .f32⟩
  | .hbm, ⟨8, _⟩ => ⟨S2048x2048, .f32⟩
  | .hbm, ⟨9, _⟩ => ⟨S2048x2048, .f32⟩
  | .hbm, ⟨10, _⟩ => ⟨S4x512x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Dbr.lean ====
abbrev S8192x8192 : Shape := ⟨2, ![8192, 8192]⟩
abbrev S4x4x512x512 : Shape := ⟨4, ![4, 4, 512, 512]⟩
abbrev S8192x2048 : Shape := ⟨2, ![8192, 2048]⟩
abbrev S1024x2048 : Shape := ⟨2, ![1024, 2048]⟩
abbrev S4x1x512x512 : Shape := ⟨4, ![4, 1, 512, 512]⟩
abbrev S1024x512 : Shape := ⟨2, ![1024, 512]⟩
abbrev S1x1x512x512 : Shape := ⟨4, ![1, 1, 512, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x8192, .bf16⟩
  | .hbm, ⟨1, _⟩ => ⟨S4x4x512x512, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S4x1x512x512, .bf16⟩
  | .local _ .vmem, ⟨3, _⟩ => ⟨S4x1x512x512, .bf16⟩
  | .local _ .vmem, ⟨4, _⟩ => ⟨S1024x512, .bf16⟩
  | .local _ .vmem, ⟨5, _⟩ => ⟨S1024x512, .bf16⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DbrRefIdeal.lean ====
abbrev S8192x8192 : Shape := ⟨2, ![8192, 8192]⟩
abbrev S4x4x512x512 : Shape := ⟨4, ![4, 4, 512, 512]⟩
abbrev S_ : Shape := ⟨0, ![]⟩
abbrev S8192x2048 : Shape := ⟨2, ![8192, 2048]⟩
abbrev S4x512x4x512 : Shape := ⟨4, ![4, 512, 4, 512]⟩
abbrev S4x512x2048 : Shape := ⟨3, ![4, 512, 2048]⟩
abbrev S8192x4x512 : Shape := ⟨3, ![8192, 4, 512]⟩
abbrev S4x2048x8192 : Shape := ⟨3, ![4, 2048, 8192]⟩
abbrev S8192x4x2048 : Shape := ⟨3, ![8192, 4, 2048]⟩
abbrev S4x8192x512 : Shape := ⟨3, ![4, 8192, 512]⟩

abbrev nBuf : Space → Nat
  | .hbm => 18
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S4x4x512x512, .bf16⟩
  | .hbm, ⟨2, _⟩ => ⟨S_, .f32⟩
  | .hbm, ⟨3, _⟩ => ⟨S8192x2048, .f32⟩
  | .hbm, ⟨4, _⟩ => ⟨S4x4x512x512, .f32⟩
  | .hbm, ⟨5, _⟩ => ⟨S4x512x4x512, .f32⟩
  | .hbm, ⟨6, _⟩ => ⟨S4x512x2048, .f32⟩
  | .hbm, ⟨7, _⟩ => ⟨S8192x4x512, .f32⟩
  | .hbm, ⟨8, _⟩ => ⟨S4x2048x8192, .f32⟩
  | .hbm, ⟨9, _⟩ => ⟨S8192x4x2048, .f32⟩
  | .hbm, ⟨10, _⟩ => ⟨S8192x8192, .f32⟩
  | .hbm, ⟨11, _⟩ => ⟨S8192x8192, .f32⟩
  | .hbm, ⟨12, _⟩ => ⟨S8192x4x2048, .f32⟩
  | .hbm, ⟨13, _⟩ => ⟨S4x2048x8192, .f32⟩
  | .hbm, ⟨14, _⟩ => ⟨S4x8192x512, .f32⟩
  | .hbm, ⟨15, _⟩ => ⟨S8192x4x512, .f32⟩
  | .hbm, ⟨16, _⟩ => ⟨S8192x2048, .f32⟩
  | .hbm, ⟨17, _⟩ => ⟨S8192x2048, .bf16⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Gwb.lean ====
abbrev S8192x2048 : Shape := ⟨2, ![8192, 2048]⟩
abbrev S8192x8192 : Shape := ⟨2, ![8192, 8192]⟩
abbrev S4x4x512x512 : Shape := ⟨4, ![4, 4, 512, 512]⟩
abbrev S2048x512 : Shape := ⟨2, ![2048, 512]⟩
abbrev S1x1x512x512 : Shape := ⟨4, ![1, 1, 512, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .bf16⟩
  | .hbm, ⟨2, _⟩ => ⟨S4x4x512x512, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S1x1x512x512, .f32⟩
  | .local _ .vmem, ⟨5, _⟩ => ⟨S1x1x512x512, .f32⟩
  | .local _ .vmem, ⟨6, _⟩ => ⟨S512x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg0
  let c0_i32 : BitVec 32 := 0#32
  ![arg2.toNat, v1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GwbRefIdeal.lean ====
abbrev S8192x2048 : Shape := ⟨2, ![8192, 2048]⟩
abbrev S8192x8192 : Shape := ⟨2, ![8192, 8192]⟩
abbrev S_ : Shape := ⟨0, ![]⟩
abbrev S4x4x512x512 : Shape := ⟨4, ![4, 4, 512, 512]⟩
abbrev S4x512x4x512 : Shape := ⟨4, ![4, 512, 4, 512]⟩
abbrev S4x512x2048 : Shape := ⟨3, ![4, 512, 2048]⟩
abbrev S8192x4x512 : Shape := ⟨3, ![8192, 4, 512]⟩
abbrev S4x2048x8192 : Shape := ⟨3, ![4, 2048, 8192]⟩
abbrev S8192x4x2048 : Shape := ⟨3, ![8192, 4, 2048]⟩
abbrev S4x2048x512 : Shape := ⟨3, ![4, 2048, 512]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .bf16⟩
  | .hbm, ⟨2, _⟩ => ⟨S_, .f32⟩
  | .hbm, ⟨3, _⟩ => ⟨S4x4x512x512, .f32⟩
  | .hbm, ⟨4, _⟩ => ⟨S8192x2048, .f32⟩
  | .hbm, ⟨5, _⟩ => ⟨S4x512x4x512, .f32⟩
  | .hbm, ⟨6, _⟩ => ⟨S4x512x2048, .f32⟩
  | .hbm, ⟨7, _⟩ => ⟨S8192x4x512, .f32⟩
  | .hbm, ⟨8, _⟩ => ⟨S4x2048x8192, .f32⟩
  | .hbm, ⟨9, _⟩ => ⟨S8192x4x2048, .f32⟩
  | .hbm, ⟨10, _⟩ => ⟨S8192x8192, .f32⟩
  | .hbm, ⟨11, _⟩ => ⟨S8192x8192, .f32⟩
  | .hbm, ⟨12, _⟩ => ⟨S8192x4x2048, .f32⟩
  | .hbm, ⟨13, _⟩ => ⟨S4x2048x8192, .f32⟩
  | .hbm, ⟨14, _⟩ => ⟨S4x2048x512, .f32⟩
  | .hbm, ⟨15, _⟩ => ⟨S4x512x2048, .f32⟩
  | .hbm, ⟨16, _⟩ => ⟨S4x512x4x512, .f32⟩
  | .hbm, ⟨17, _⟩ => ⟨S4x4x512x512, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== OutBwd.lean ====
abbrev S8192x2048 : Shape := ⟨2, ![8192, 2048]⟩
abbrev S1x2048 : Shape := ⟨2, ![1, 2048]⟩
abbrev S256x2048 : Shape := ⟨2, ![256, 2048]⟩
abbrev S2048 : Shape := ⟨1, ![2048]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S1x2048, .f32⟩
  | .hbm, ⟨3, _⟩ => ⟨S8192x2048, .bf16⟩
  | .hbm, ⟨4, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | .local _ .vmem, ⟨7, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== OutBwdRefIdeal.lean ====
abbrev S8192x2048 : Shape := ⟨2, ![8192, 2048]⟩
abbrev S1x2048 : Shape := ⟨2, ![1, 2048]⟩
abbrev S_ : Shape := ⟨0, ![]⟩
abbrev S2048 : Shape := ⟨1, ![2048]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S1x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S2048, .f32⟩
  | .hbm, ⟨11, _⟩ => ⟨S1x2048, .f32⟩
  | .hbm, ⟨12, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== MergeBwd.lean ====
abbrev S8192x2048 : Shape := ⟨2, ![8192, 2048]⟩
abbrev S8192x8192 : Shape := ⟨2, ![8192, 8192]⟩
abbrev S_ : Shape := ⟨0, ![]⟩
abbrev S512x512 : Shape := ⟨2, ![512, 512]⟩

abbrev nBuf : Space → Nat
  | .hbm => 14
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .f32⟩
  | .hbm, ⟨2, _⟩ => ⟨S8192x8192, .bf16⟩
  | .hbm, ⟨3, _⟩ => ⟨S8192x8192, .f32⟩
  | .hbm, ⟨4, _⟩ => ⟨S8192x8192, .f32⟩
  | .hbm, ⟨5, _⟩ => ⟨S_, .f32⟩
  | .hbm, ⟨6, _⟩ => ⟨S8192x8192, .f32⟩
  | .hbm, ⟨7, _⟩ => ⟨S8192x8192, .f32⟩
  | .hbm, ⟨8, _⟩ => ⟨S_, .f32⟩
  | .hbm, ⟨9, _⟩ => ⟨S8192x8192, .f32⟩
  | .hbm, ⟨10, _⟩ => ⟨S8192x8192, .f32⟩
  | .hbm, ⟨11, _⟩ => ⟨S8192x8192, .bf16⟩
  | .hbm, ⟨12, _⟩ => ⟨S8192x8192, .bf16⟩
  | .hbm, ⟨13, _⟩ => ⟨S8192x8192, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let v1 : BitVec 32 := Scalar.addi v0 arg1
  let c0_i32 : BitVec 32 := 0#32
  ![arg0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let v1 : BitVec 32 := Scalar.addi v0 arg1
  let c0_i32 : BitVec 32 := 0#32
  ![arg0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let v1 : BitVec 32 := Scalar.addi v0 arg1
  let c0_i32 : BitVec 32 := 0#32
  ![arg0.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let v1 : BitVec 32 := Scalar.addi v0 arg1
  let c0_i32 : BitVec 32 := 0#32
  ![arg0.toNat, v1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== MergeBwdRefIdeal.lean ====
abbrev S8192x2048 : Shape := ⟨2, ![8192, 2048]⟩
abbrev S8192x8192 : Shape := ⟨2, ![8192, 8192]⟩
abbrev S8192x4x2048 : Shape := ⟨3, ![8192, 4, 2048]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .f32⟩
  | .hbm, ⟨2, _⟩ => ⟨S8192x8192, .bf16⟩
  | .hbm, ⟨3, _⟩ => ⟨S8192x8192, .f32⟩
  | .hbm, ⟨4, _⟩ => ⟨S8192x4x2048, .f32⟩
  | .hbm, ⟨5, _⟩ => ⟨S8192x4x2048, .f32⟩
  | .hbm, ⟨6, _⟩ => ⟨S8192x4x2048, .f32⟩
  | .hbm, ⟨7, _⟩ => ⟨S_, .f32⟩
  | .hbm, ⟨8, _⟩ => ⟨S8192x4x2048, .f32⟩
  | .hbm, ⟨9, _⟩ => ⟨S8192x4x2048, .f32⟩
  | .hbm, ⟨10, _⟩ => ⟨S_, .f32⟩
  | .hbm, ⟨11, _⟩ => ⟨S8192x4x2048, .f32⟩
  | .hbm, ⟨12, _⟩ => ⟨S8192x4x2048, .f32⟩
  | .hbm, ⟨13, _⟩ => ⟨S_, .f32⟩
  | .hbm, ⟨14, _⟩ => ⟨S8192x4x2048, .f32⟩
  | .hbm, ⟨15, _⟩ => ⟨S8192x4x2048, .f32⟩
  | .hbm, ⟨16, _⟩ => ⟨S8192x4x2048, .f32⟩
  | .hbm, ⟨17, _⟩ => ⟨S8192x4x2048, .f32⟩
  | .hbm, ⟨18, _⟩ => ⟨S8192x4x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S8192x4x2048, .f32⟩
  | .hbm, ⟨23, _⟩ => ⟨S8192x4x2048, .f32⟩
  | .hbm, ⟨24, _⟩ => ⟨S8192x4x2048, .f32⟩
  | .hbm, ⟨25, _⟩ => ⟨S8192x8192, .f32⟩
  | .hbm, ⟨26, _⟩ => ⟨S8192x4x2048, .f32⟩
  | .hbm, ⟨27, _⟩ => ⟨S8192x8192, .f32⟩
  | .hbm, ⟨28, _⟩ => ⟨S8192x8192, .bf16⟩
  | .hbm, ⟨29, _⟩ => ⟨S8192x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== In.lean ====
abbrev S8192x2048 : Shape := ⟨2, ![8192, 2048]⟩
abbrev S4x2048x1792 : Shape := ⟨3, ![4, 2048, 1792]⟩
abbrev S8192x7168 : Shape := ⟨2, ![8192, 7168]⟩
abbrev S1024x2048 : Shape := ⟨2, ![1024, 2048]⟩
abbrev S1x2048x1792 : Shape := ⟨3, ![1, 2048, 1792]⟩
abbrev S1024x1792 : Shape := ⟨2, ![1024, 1792]⟩
abbrev S2048x1792 : Shape := ⟨2, ![2048, 1792]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S4x2048x1792, .bf16⟩
  | .hbm, ⟨2, _⟩ => ⟨S8192x7168, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1792, .bf16⟩
  | .local _ .vmem, ⟨3, _⟩ => ⟨S1x2048x1792, .bf16⟩
  | .local _ .vmem, ⟨4, _⟩ => ⟨S1024x1792, .bf16⟩
  | .local _ .vmem, ⟨5, _⟩ => ⟨S1024x1792, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InRefIdeal.lean ====
abbrev S8192x2048 : Shape := ⟨2, ![8192, 2048]⟩
abbrev S4x2048x1792 : Shape := ⟨3, ![4, 2048, 1792]⟩
abbrev S2048x4x1792 : Shape := ⟨3, ![2048, 4, 1792]⟩
abbrev S2048x7168 : Shape := ⟨2, ![2048, 7168]⟩
abbrev S8192x7168 : Shape := ⟨2, ![8192, 7168]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x1792, .bf16⟩
  | .hbm, ⟨2, _⟩ => ⟨S8192x2048, .f32⟩
  | .hbm, ⟨3, _⟩ => ⟨S4x2048x1792, .f32⟩
  | .hbm, ⟨4, _⟩ => ⟨S2048x4x1792, .f32⟩
  | .hbm, ⟨5, _⟩ => ⟨S2048x7168, .f32⟩
  | .hbm, ⟨6, _⟩ => ⟨S8192x7168, .f32⟩
  | .hbm, ⟨7, _⟩ => ⟨S8192x7168, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Out.lean ====
abbrev S8192x2048 : Shape := ⟨2, ![8192, 2048]⟩
abbrev S4x512x2048 : Shape := ⟨3, ![4, 512, 2048]⟩
abbrev S1x2048 : Shape := ⟨2, ![1, 2048]⟩
abbrev S1024x2048 : Shape := ⟨2, ![1024, 2048]⟩
abbrev S4x512x1024 : Shape := ⟨3, ![4, 512, 1024]⟩
abbrev S1024x1024 : Shape := ⟨2, ![1024, 1024]⟩
abbrev S1x1024 : Shape := ⟨2, ![1, 1024]⟩
abbrev S1024x512 : Shape := ⟨2, ![1024, 512]⟩
abbrev S1x512x1024 : Shape := ⟨3, ![1, 512, 1024]⟩
abbrev S512x1024 : Shape := ⟨2, ![512, 1024]⟩

abbrev nBuf : Space → Nat
  | .hbm => 6
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S4x512x2048, .bf16⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S4x512x1024, .bf16⟩
  | .local _ .vmem, ⟨3, _⟩ => ⟨S4x512x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutRefIdeal.lean ====
abbrev S8192x2048 : Shape := ⟨2, ![8192, 2048]⟩
abbrev S4x512x2048 : Shape := ⟨3, ![4, 512, 2048]⟩
abbrev S1x2048 : Shape := ⟨2, ![1, 2048]⟩
abbrev S2048x2048 : Shape := ⟨2, ![2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x512x2048, .bf16⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S4x512x2048, .f32⟩
  | .hbm, ⟨6, _⟩ => ⟨S2048x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Merge.lean ====
abbrev S8192x2048 : Shape := ⟨2, ![8192, 2048]⟩
abbrev S4x2048x2048 : Shape := ⟨3, ![4, 2048, 2048]⟩
abbrev S4x4x512x512 : Shape := ⟨4, ![4, 4, 512, 512]⟩
abbrev S8192x8192 : Shape := ⟨2, ![8192, 8192]⟩
abbrev S1024x2048 : Shape := ⟨2, ![1024, 2048]⟩
abbrev S1x2048x512 : Shape := ⟨3, ![1, 2048, 512]⟩
abbrev S1024x512 : Shape := ⟨2, ![1024, 512]⟩
abbrev S1x1x512x512 : Shape := ⟨4, ![1, 1, 512, 512]⟩
abbrev S2048x512 : Shape := ⟨2, ![2048, 512]⟩
abbrev S512x512 : Shape := ⟨2, ![512, 512]⟩

abbrev nBuf : Space → Nat
  | .hbm => 7
  | .vmem => 15
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .bf16⟩
  | .hbm, ⟨2, _⟩ => ⟨S8192x2048, .bf16⟩
  | .hbm, ⟨3, _⟩ => ⟨S4x4x512x512, .bf16⟩
  | .hbm, ⟨4, _⟩ => ⟨S8192x8192, .bf16⟩
  | .hbm, ⟨5, _⟩ => ⟨S8192x8192, .bf16⟩
  | .hbm, ⟨6, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1024x512, .bf16⟩
  | .local _ .vmem, ⟨5, _⟩ => ⟨S1024x512, .bf16⟩
  | .local _ .vmem, ⟨6, _⟩ => ⟨S1x1x512x512, .bf16⟩
  | .local _ .vmem, ⟨7, _⟩ => ⟨S1x1x512x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 4, 4], ![false, false, false]⟩

def k0_cond3 (i : grid0.Coords) : BitVec 1 :=
  let arg2 : BitVec 32 := BitVec.ofNat 32 (i 2).val
  let c3_i32 : BitVec 32 := 3#32
  let v25 : BitVec 1 := Scalar.cmpi .eq arg2 c3_i32
  let v26 : BitVec 32 := Scalar.extui v25
  let c0_i32_21 : BitVec 32 := 0#32
  let v27 : BitVec 1 := Scalar.cmpi .ne v26 c0_i32_21
  v27

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg2.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let v1 : BitVec 32 := Scalar.addi v0 arg1
  let c0_i32 : BitVec 32 := 0#32
  ![arg0.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let v1 : BitVec 32 := Scalar.addi v0 arg1
  let c0_i32 : BitVec 32 := 0#32
  ![arg0.toNat, v1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== MergeRefIdeal.lean ====
abbrev S8192x2048 : Shape := ⟨2, ![8192, 2048]⟩
abbrev S4x2048x2048 : Shape := ⟨3, ![4, 2048, 2048]⟩
abbrev S4x4x512x512 : Shape := ⟨4, ![4, 4, 512, 512]⟩
abbrev S2048x4x2048 : Shape := ⟨3, ![2048, 4, 2048]⟩
abbrev S2048x8192 : Shape := ⟨2, ![2048, 8192]⟩
abbrev S8192x8192 : Shape := ⟨2, ![8192, 8192]⟩
abbrev S4x512x4x512 : Shape := ⟨4, ![4, 512, 4, 512]⟩
abbrev S4x512x2048 : Shape := ⟨3, ![4, 512, 2048]⟩
abbrev S8192x4x512 : Shape := ⟨3, ![8192, 4, 512]⟩
abbrev S4x2048x8192 : Shape := ⟨3, ![4, 2048, 8192]⟩
abbrev S8192x4x2048 : Shape := ⟨3, ![8192, 4, 2048]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .bf16⟩
  | .hbm, ⟨2, _⟩ => ⟨S8192x2048, .bf16⟩
  | .hbm, ⟨3, _⟩ => ⟨S4x4x512x512, .bf16⟩
  | .hbm, ⟨4, _⟩ => ⟨S8192x2048, .f32⟩
  | .hbm, ⟨5, _⟩ => ⟨S4x2048x2048, .f32⟩
  | .hbm, ⟨6, _⟩ => ⟨S2048x4x2048, .f32⟩
  | .hbm, ⟨7, _⟩ => ⟨S2048x8192, .f32⟩
  | .hbm, ⟨8, _⟩ => ⟨S8192x8192, .f32⟩
  | .hbm, ⟨9, _⟩ => ⟨S8192x2048, .f32⟩
  | .hbm, ⟨10, _⟩ => ⟨S4x4x512x512, .f32⟩
  | .hbm, ⟨11, _⟩ => ⟨S4x512x4x512, .f32⟩
  | .hbm, ⟨12, _⟩ => ⟨S4x512x2048, .f32⟩
  | .hbm, ⟨13, _⟩ => ⟨S8192x4x512, .f32⟩
  | .hbm, ⟨14, _⟩ => ⟨S4x2048x8192, .f32⟩
  | .hbm, ⟨15, _⟩ => ⟨S8192x4x2048, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S8192x8192, .bf16⟩
  | .hbm, ⟨26, _⟩ => ⟨S8192x8192, .bf16⟩
  | .hbm, ⟨27, _⟩ => ⟨S8192x4x2048, .f32⟩
  | .hbm, ⟨28, _⟩ => ⟨S8192x4x2048, .f32⟩
  | .hbm, ⟨29, _⟩ => ⟨S8192x4x2048, .f32⟩
  | .hbm, ⟨30, _⟩ => ⟨S_, .f32⟩
  | .hbm, ⟨31, _⟩ => ⟨S8192x4x2048, .f32⟩
  | .hbm, ⟨32, _⟩ => ⟨S8192x4x2048, .f32⟩
  | .hbm, ⟨33, _⟩ => ⟨S_, .f32⟩
  | .hbm, ⟨34, _⟩ => ⟨S8192x4x2048, .f32⟩
  | .hbm, ⟨35, _⟩ => ⟨S8192x4x2048, .f32⟩
  | .hbm, ⟨36, _⟩ => ⟨S8192x4x2048, .f32⟩
  | .hbm, ⟨37, _⟩ => ⟨S8192x4x2048, .f32⟩
  | .hbm, ⟨38, _⟩ => ⟨S_, .f32⟩
  | .hbm, ⟨39, _⟩ => ⟨S8192x2048, .f32⟩
  | .hbm, ⟨40, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_1 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== Fwd.lean ====
abbrev S8192x512 : Shape := ⟨2, ![8192, 512]⟩
abbrev S8192x7168 : Shape := ⟨2, ![8192, 7168]⟩
abbrev S4 : Shape := ⟨1, ![4]⟩
abbrev S4x1x8192 : Shape := ⟨3, ![4, 1, 8192]⟩
abbrev S512x512 : Shape := ⟨2, ![512, 512]⟩
abbrev S1024x256 : Shape := ⟨2, ![1024, 256]⟩
abbrev S4x1x512 : Shape := ⟨3, ![4, 1, 512]⟩
abbrev S4x128x512 : Shape := ⟨3, ![4, 128, 512]⟩
abbrev S1024x128 : Shape := ⟨2, ![1024, 128]⟩
abbrev S512x128 : Shape := ⟨2, ![512, 128]⟩
abbrev S1024x512 : Shape := ⟨2, ![1024, 512]⟩
abbrev S1x1x512 : Shape := ⟨3, ![1, 1, 512]⟩
abbrev S1x512 : Shape := ⟨2, ![1, 512]⟩
abbrev S512 : Shape := ⟨1, ![512]⟩
abbrev S1x128x512 : Shape := ⟨3, ![1, 128, 512]⟩
abbrev S128x512 : Shape := ⟨2, ![128, 512]⟩
abbrev S1 : Shape := ⟨1, ![1]⟩

abbrev nBuf : Space → Nat
  | .hbm => 7
  | .vmem => 17
  | .smem => 1
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x7168, .bf16⟩
  | .hbm, ⟨3, _⟩ => ⟨S4, .f32⟩
  | .hbm, ⟨4, _⟩ => ⟨S8192x512, .bf16⟩
  | .hbm, ⟨5, _⟩ => ⟨S8192x512, .bf16⟩
  | .hbm, ⟨6, _⟩ => ⟨S4x1x8192, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S4x1x512, .f32⟩
  | .local _ .vmem, ⟨13, _⟩ => ⟨S4x1x512, .f32⟩
  | .local _ .vmem, ⟨14, _⟩ => ⟨S4x1x512, .f32⟩
  | .local _ .vmem, ⟨15, _⟩ => ⟨S4x1x512, .f32⟩
  | .local _ .vmem, ⟨16, _⟩ => ⟨S4x128x512, .f32⟩
  | .local _ .smem, ⟨0, _⟩ => ⟨S4, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v163 : BitVec 1 := Scalar.cmpi .eq arg1 c7_i32
  let v164 : BitVec 32 := Scalar.extui v163
  let c0_i32_113 : BitVec 32 := 0#32
  let v165 : BitVec 1 := Scalar.cmpi .ne v164 c0_i32_113
  v165

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, c9_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== FwdIdeal.lean ====
variable {F : FTy → Type} [FloatOps F] [Named F]
def κ : String → Option EReal := fun
  | "scale_log2e" => some (((11863283 / 134217728) * (Real.log 2)⁻¹ : ℝ) : EReal)
  | _ => none
-- ==== FwdRefIdeal.lean ====
abbrev S8192x512 : Shape := ⟨2, ![8192, 512]⟩
abbrev S8192x7168 : Shape := ⟨2, ![8192, 7168]⟩
abbrev S4 : Shape := ⟨1, ![4]⟩
abbrev S8192x2x2x128 : Shape := ⟨4, ![8192, 2, 2, 128]⟩
abbrev S2x2x8192x128 : Shape := ⟨4, ![2, 2, 8192, 128]⟩
abbrev S8192x256 : Shape := ⟨2, ![8192, 256]⟩
abbrev S8192x2x128 : Shape := ⟨3, ![8192, 2, 128]⟩
abbrev S2x8192x128 : Shape := ⟨3, ![2, 8192, 128]⟩
abbrev S2x2x8192x8192 : Shape := ⟨4, ![2, 2, 8192, 8192]⟩
abbrev S_ : Shape := ⟨0, ![]⟩
abbrev S2x2x8192 : Shape := ⟨3, ![2, 2, 8192]⟩
abbrev S2x2x8192x1 : Shape := ⟨4, ![2, 2, 8192, 1]⟩
abbrev S2x2x1 : Shape := ⟨3, ![2, 2, 1]⟩
abbrev S4x1x8192 : Shape := ⟨3, ![4, 1, 8192]⟩

abbrev nBuf : Space → Nat
  | .hbm => 55
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x7168, .bf16⟩
  | .hbm, ⟨3, _⟩ => ⟨S4, .f32⟩
  | .hbm, ⟨4, _⟩ => ⟨S8192x512, .f32⟩
  | .hbm, ⟨5, _⟩ => ⟨S8192x2x2x128, .f32⟩
  | .hbm, ⟨6, _⟩ => ⟨S2x2x8192x128, .f32⟩
  | .hbm, ⟨7, _⟩ => ⟨S8192x256, .bf16⟩
  | .hbm, ⟨8, _⟩ => ⟨S8192x256, .f32⟩
  | .hbm, ⟨9, _⟩ => ⟨S8192x2x128, .f32⟩
  | .hbm, ⟨10, _⟩ => ⟨S2x8192x128, .f32⟩
  | .hbm, ⟨11, _⟩ => ⟨S8192x256, .bf16⟩
  | .hbm, ⟨12, _⟩ => ⟨S8192x256, .f32⟩
  | .hbm, ⟨13, _⟩ => ⟨S8192x2x128, .f32⟩
  | .hbm, ⟨14, _⟩ => ⟨S2x8192x128, .f32⟩
  | .hbm, ⟨15, _⟩ => ⟨S2x2x8192x8192, .f32⟩
  | .hbm, ⟨16, _⟩ => ⟨S_, .f32⟩
  | .hbm, ⟨17, _⟩ => ⟨S2x2x8192x8192, .f32⟩
  | .hbm, ⟨18, _⟩ => ⟨S2x2x8192x8192, .f32⟩
  | .hbm, ⟨19, _⟩ => ⟨S_, .f32⟩
  | .hbm, ⟨20, _⟩ => ⟨S2x2x8192, .f32⟩
  | .hbm, ⟨21, _⟩ => ⟨S2x2x8192x1, .f32⟩
  | .hbm, ⟨22, _⟩ => ⟨S2x2x8192x8192, .f32⟩
  | .hbm, ⟨23, _⟩ => ⟨S2x2x8192x8192, .f32⟩
  | .hbm, ⟨24, _⟩ => ⟨S2x2x8192x8192, .f32⟩
  | .hbm, ⟨25, _⟩ => ⟨S_, .f32⟩
  | .hbm, ⟨26, _⟩ => ⟨S2x2x8192, .f32⟩
  | .hbm, ⟨27, _⟩ => ⟨S2x2x1, .f32⟩
  | .hbm, ⟨28, _⟩ => ⟨S2x2x8192, .f32⟩
  | .hbm, ⟨29, _⟩ => ⟨S2x2x8192, .f32⟩
  | .hbm, ⟨30, _⟩ => ⟨S2x2x8192, .f32⟩
  | .hbm, ⟨31, _⟩ => ⟨S2x2x8192, .f32⟩
  | .hbm, ⟨32, _⟩ => ⟨S2x2x8192x128, .f32⟩
  | .hbm, ⟨33, _⟩ => ⟨S2x2x8192x1, .f32⟩
  | .hbm, ⟨34, _⟩ => ⟨S2x2x8192x128, .f32⟩
  | .hbm, ⟨35, _⟩ => ⟨S2x2x8192x128, .f32⟩
  | .hbm, ⟨36, _⟩ => ⟨S8192x2x2x128, .f32⟩
  | .hbm, ⟨37, _⟩ => ⟨S8192x512, .f32⟩
  | .hbm, ⟨38, _⟩ => ⟨S2x2x8192, .f32⟩
  | .hbm, ⟨39, _⟩ => ⟨S2x2x8192, .f32⟩
  | .hbm, ⟨40, _⟩ => ⟨S4x1x8192, .f32⟩
  | .hbm, ⟨41, _⟩ => ⟨S8192x512, .bf16⟩
  | .hbm, ⟨42, _⟩ => ⟨S8192x512, .f32⟩
  | .hbm, ⟨43, _⟩ => ⟨S8192x512, .f32⟩
  | .hbm, ⟨44, _⟩ => ⟨S8192x512, .f32⟩
  | .hbm, ⟨45, _⟩ => ⟨S_, .f32⟩
  | .hbm, ⟨46, _⟩ => ⟨S8192x512, .f32⟩
  | .hbm, ⟨47, _⟩ => ⟨S8192x512, .f32⟩
  | .hbm, ⟨48, _⟩ => ⟨S_, .f32⟩
  | .hbm, ⟨49, _⟩ => ⟨S8192x512, .f32⟩
  | .hbm, ⟨50, _⟩ => ⟨S8192x512, .f32⟩
  | .hbm, ⟨51, _⟩ => ⟨S8192x512, .f32⟩
  | .hbm, ⟨52, _⟩ => ⟨S8192x512, .f32⟩
  | .hbm, ⟨53, _⟩ => ⟨S8192x512, .bf16⟩
  | .hbm, ⟨54, _⟩ => ⟨S8192x512, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]
-- ==== Proof.Step.lean ====
/- What one grid point of the backward attention kernel makes of its buffers, written as functions of the
   contents it finds: the two accumulators of the key and value gradients, and the block of the query gradient that
   stays in place while the keys go by. -/
module

public import proofs.«01_k».proof.Proof.Gen.KernelIdeal.Skeleton
public import proofs.«01_k».proof.Proof.Gen.KernelIdeal.Frame
public import Idealize.ShloMosaic.Lib.VecWindow

@[expose] public section

set_option maxRecDepth 16384

noncomputable section

namespace Cert.KernelIdeal.Bwd

open Idealize.ShloMosaic Idealize.ShloMosaic.TcCoe
open Cert.KernelIdeal Cert.KernelIdeal.Gen

variable {F : FTy → Type} [FloatOps F] [Named F]

/-- The columns of the first of the two query heads in a block of both. -/
def headA (x : Vec F S2048x256 .bf16) : Vec F S2048x128 .bf16 :=
  VecWindow.window x ![0, 0] S2048x128.size inb_S2048x256_S2048x128_0_0

/-- The columns of the second of the two query heads. -/
def headB (x : Vec F S2048x256 .bf16) : Vec F S2048x128 .bf16 :=
  VecWindow.window x ![0, 128] S2048x128.size inb_S2048x256_S2048x128_0_128

/-- The row of the first head in a pair of rows, one number per query. -/
def rowA (x : Vec F S2x1x2048 .f32) : Vec F S1x1x2048 .f32 :=
  VecWindow.window x ![0, 0, 0] S1x1x2048.size inb_S2x1x2048_S1x1x2048_0_0_0

/-- The row of the second head. -/
def rowB (x : Vec F S2x1x2048 .f32) : Vec F S1x1x2048 .f32 :=
  VecWindow.window x ![1, 0, 0] S1x1x2048.size inb_S2x1x2048_S1x1x2048_1_0_0

/-- The constant the scores are multiplied by before the power of two is taken. -/
abbrev scaleLog2e : F .f32 := Named.named κ "scale_log2e" 0x3E0293EE#32

/-- The score gradient of the first head at a point, keys by queries. -/
def dsA (k v : Vec F S512x128 .bf16) (q g : Vec F S2048x256 .bf16) (l e : Vec F S2x1x2048 .f32) : FVec F S512x2048 .bf16 :=
  k0_pay9 k v (headA q) (headA g) (rowA l) (rowA e)

/-- The accumulator of the key gradient after a point, from what it held before. -/
def dkStep (k v : Vec F S512x128 .bf16) (q g : Vec F S2048x256 .bf16) (l e : Vec F S2x1x2048 .f32)
    (s : Vec F S1x512x128 .f32) : Vec F S1x512x128 .f32 :=
  k0_pay18 v (headB q) (headB g) (k0_pay13 k (headB q)) scaleLog2e (rowB l) (rowB e) (k0_pay11 (headA q) (dsA k v q g l e) s)

/-- The accumulator of the value gradient after a point, from what it held before. -/
def dvStep (k : Vec F S512x128 .bf16) (q g : Vec F S2048x256 .bf16) (l : Vec F S2x1x2048 .f32)
    (s : Vec F S1x512x128 .f32) : Vec F S1x512x128 .f32 :=
  k0_pay1 (k0_pay15 (headB g) (k0_pay13 k (headB q)) scaleLog2e (rowB l)) (k0_pay12 (k0_pay8 k (headA q) (headA g) (rowA l)) s)

/-- The block of the query gradient after a point: on the rows of the point's query tile, each head's product added to
    its own columns. -/
def dqStep (i : grid0.Coords) (k v : Vec F S512x128 .bf16) (q g : Vec F S2048x256 .bf16) (l e : Vec F S2x1x2048 .f32)
    (x : Vec F S8192x256 .f32) : Vec F S8192x256 .f32 :=
  VecWindow.put (VecWindow.put x (k0_off1 i) S2048x128.size
      (k0_pay10 k (dsA k v q g l e) (VecWindow.window x (k0_off1 i) S2048x128.size (Gen.k0_off1_inb i))))
    (k0_off2 i) S2048x128.size
    (k0_pay17 k v (headB g) (k0_pay13 k (headB q)) scaleLog2e (rowB l) (rowB e)
      (VecWindow.window x (k0_off2 i) S2048x128.size (Gen.k0_off2_inb i)))

/-! ## The body's conditions, over the points in order -/

/-- The first point of a pair of heads: the block of the query gradient is emptied there. -/
abbrev condStart (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1

theorem condStart_iff (t : Fin cfg0.N) : condStart (grid0.coords t) ↔ t.val % 64 = 0 := by
  have ht : t.val < 128 := Nat.lt_of_lt_of_eq t.isLt N_0
  have e1 : (grid0.coords t 1).val = t.val / 4 % 16 := Pipeline.Grid.coords_val t 1 (by decide) rfl
  have e2 : (grid0.coords t 2).val = t.val / 1 % 4 := Pipeline.Grid.coords_val t 2 (by decide) rfl
  simp only [condStart, e1, e2]
  word_cmp

/-- The first query tile of a key block: the accumulators are emptied there. -/
abbrev condFirst (i : grid0.Coords) : Prop := (Scalar.cmpi .ne (Scalar.extui (Scalar.cmpi .eq (BitVec.ofNat 32 (i 2).val) 0#32)) 0#32) = 1#1

theorem condFirst_iff (t : Fin cfg0.N) : condFirst (grid0.coords t) ↔ t.val % 4 = 0 := by
  have ht : t.val < 128 := Nat.lt_of_lt_of_eq t.isLt N_0
  have e2 : (grid0.coords t 2).val = t.val / 1 % 4 := Pipeline.Grid.coords_val t 2 (by decide) rfl
  simp only [condFirst, e2]
  word_cmp

/-- The last query tile of a key block: the accumulators are written out there. -/
abbrev condLast (i : grid0.Coords) : Prop := k0_cond3 i = 1#1

theorem condLast_iff (t : Fin cfg0.N) : condLast (grid0.coords t) ↔ t.val % 4 = 3 := by
  have ht : t.val < 128 := Nat.lt_of_lt_of_eq t.isLt N_0
  have e2 : (grid0.coords t 2).val = t.val / 1 % 4 := Pipeline.Grid.coords_val t 2 (by decide) rfl
  simp only [condLast, k0_cond3, e2]
  word_cmp

/-- The query tile of a point. -/
theorem tile_val (t : Fin cfg0.N) : (grid0.coords t 2).val = t.val % 4 := by
  rw [show (grid0.coords t 2).val = t.val / 1 % 4 from Pipeline.Grid.coords_val t 2 (by decide) rfl, Nat.div_one]

end Cert.KernelIdeal.Bwd

end
-- ==== Proof.Body.lean ====
/- The body's triple in each of the four cases of its conditions, the buffers' contents named before and after. -/
module

public import proofs.«01_k».proof.Proof.Step
public import Idealize.ShloMosaic.Lib.Pipeline.TableIdle

@[expose] public section

set_option maxRecDepth 16384

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

/-- A load of a part, of contents named whole: a window of them. -/
theorem readWin {s : Shape} {e : EltTy} (v : View sig .tc .vmem s e) (x : s.Idx → Elt F e) {off size : Fin s.rank → ℕ} (inb : ∀ a, off a + size a ≤ s.size a) :
    v.readAt (Elt F) (Rect.unit off size inb).toLoadRect (v.rep x) = VecWindow.window x off size inb :=
  View.readAt_rep_unit v x inb rfl inb

/-- A window that is all of a key block. -/
theorem winKey {α : Type} (x : S512x128.Idx → α) (inb : ∀ a, (![0, 0] : Fin 2 → ℕ) a + (![512, 128] : Fin 2 → ℕ) a ≤ S512x128.size a) :
    VecWindow.window x ![0, 0] ![512, 128] inb = x := funext fun y => congrArg x (Rect.emb_unit_full (s := S512x128) inb y)

/-- A window that is all of an accumulator. -/
theorem winAcc {α : Type} (x : S1x512x128.Idx → α) (inb : ∀ a, (![0, 0, 0] : Fin 3 → ℕ) a + (![1, 512, 128] : Fin 3 → ℕ) a ≤ S1x512x128.size a) :
    VecWindow.window x ![0, 0, 0] ![1, 512, 128] inb = x := funext fun y => congrArg x (Rect.emb_unit_full (s := S1x512x128) inb y)

/-- A load of part of the query block, just after the block was stored whole. -/
theorem clear1 {e : EltTy} (v : View sig .tc .vmem S8192x256 e) (f : v.ty.Contents (Elt F)) (w : S8192x256.Idx → Elt F e) (i : grid0.Coords)
    (inb : ∀ a, k0_off1 i a + (![2048, 128] : Fin 2 → ℕ) a ≤ S8192x256.size a) (inb' : ∀ a, (![0, 0] : Fin 2 → ℕ) a + (![8192, 256] : Fin 2 → ℕ) a ≤ S8192x256.size a) :
    v.readAt (Elt F) (Rect.unit (s := S8192x256) (k0_off1 i) ![2048, 128] inb).toLoadRect (v.writes (Elt F) f [⟨Rect.unit (s := S8192x256) ![0, 0] ![8192, 256] inb', w⟩])
      = VecWindow.window w (k0_off1 i) ![2048, 128] inb := by
  rw [View.readAt_unit v _ inb rfl inb]
  exact congrArg (fun z => VecWindow.window z (k0_off1 i) ![2048, 128] inb) (View.read_writes_full v f inb' w [])

/-- A load of the second head's part, after the block was stored whole and then the first head's part. -/
theorem clear2 {e : EltTy} (v : View sig .tc .vmem S8192x256 e) (f : v.ty.Contents (Elt F)) (w : S8192x256.Idx → Elt F e) (p : S2048x128.Idx → Elt F e) (i : grid0.Coords)
    (inb1 : ∀ a, k0_off1 i a + (![2048, 128] : Fin 2 → ℕ) a ≤ S8192x256.size a) (inb2 : ∀ a, k0_off2 i a + (![2048, 128] : Fin 2 → ℕ) a ≤ S8192x256.size a)
    (inb' : ∀ a, (![0, 0] : Fin 2 → ℕ) a + (![8192, 256] : Fin 2 → ℕ) a ≤ S8192x256.size a) :
    v.readAt (Elt F) (Rect.unit (s := S8192x256) (k0_off2 i) ![2048, 128] inb2).toLoadRect
        (v.writes (Elt F) f [⟨Rect.unit (s := S8192x256) (k0_off1 i) ![2048, 128] inb1, p⟩, ⟨Rect.unit (s := S8192x256) ![0, 0] ![8192, 256] inb', w⟩])
      = VecWindow.window w (k0_off2 i) ![2048, 128] inb2 := by
  rw [View.readAt_unit v _ inb2 rfl inb2, View.read_writes_cons_put v f inb1 p _ rfl]
  have hd : k0_off1 i 1 + 128 ≤ k0_off2 i 1 := by rw [k0_off1_eq, k0_off2_eq]; show 0 + 128 ≤ 128; decide
  refine (VecWindow.window_put_of_disjoint (s := S8192x256) _ (k0_off1 i) ![2048, 128] (k0_off2 i) ![2048, 128] inb2 p (1 : Fin 2) (.inr hd)).trans ?_
  exact congrArg (fun z => VecWindow.window z (k0_off2 i) ![2048, 128] inb2) (View.read_writes_full v f inb' w [])

/-- A load of a whole accumulator, just after it was stored. -/
theorem covAcc {e : EltTy} (v : View sig .tc .vmem S1x512x128 e) (w : S1x512x128.Idx → Elt F e) (L : List (View.Piece (Elt F) S1x512x128 e))
    (inb : ∀ a, (![0, 0, 0] : Fin 3 → ℕ) a + (![1, 512, 128] : Fin 3 → ℕ) a ≤ S1x512x128.size a) :
    v.readCov (⟨Rect.unit (s := S1x512x128) ![0, 0, 0] ![1, 512, 128] inb, w⟩ :: L) (Rect.unit (s := S1x512x128) ![0, 0, 0] ![1, 512, 128] inb).toLoadRect = w :=
  View.readCov_full v inb inb w L

set_option backward.isDefEq.respectTransparency.types false in
set_option maxHeartbeats 400000 in
/-- A point in the middle of a key block: everything goes on. -/
theorem body_B (c : Dev nD) (i : grid0.Coords) (arg3 : Memref sig .tc .vmem S512x128 .bf16) (harg3 : arg3.IsWhole) (arg4 : Memref sig .tc .vmem S512x128 .bf16) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2x1x2048 .f32) (harg7 : arg7.IsWhole) (arg8 : Memref sig .tc .vmem S2x1x2048 .f32) (harg8 : arg8.IsWhole) (arg9 : Memref sig .tc .vmem S8192x256 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S1x512x128 .f32) (harg12 : arg12.IsWhole) (arg13 : Memref sig .tc .vmem S1x512x128 .f32) (harg13 : arg13.IsWhole)
    (hc0 : ¬condStart i) (hc1 : ¬condFirst i) (hc2 : ¬condLast i)
    (k v : Vec F S512x128 .bf16) (q g : Vec F S2048x256 .bf16) (l e : Vec F S2x1x2048 .f32)
    (x : Vec F S8192x256 .f32) (s0 s1 : Vec F S1x512x128 .f32) (y0 y1 : Vec F S512x128 .f32) (E : Set ℕ) (K : PUnit → sProp 𝕄) :
    iprop(owns (c : Thread nD τ) arg3 fullShare k ∗ owns (c : Thread nD τ) arg4 fullShare v ∗ owns (c : Thread nD τ) arg5 fullShare q ∗ owns (c : Thread nD τ) arg6 fullShare g ∗ owns (c : Thread nD τ) arg7 fullShare l ∗ owns (c : Thread nD τ) arg8 fullShare e ∗ owns (c : Thread nD τ) arg9 fullShare x ∗ owns (c : Thread nD τ) arg10 fullShare y0 ∗ owns (c : Thread nD τ) arg11 fullShare y1 ∗ owns (c : Thread nD τ) arg12 fullShare s0 ∗ owns (c : Thread nD τ) arg13 fullShare s1
        ∗ (iprop(owns (c : Thread nD τ) arg3 fullShare k ∗ owns (c : Thread nD τ) arg4 fullShare v ∗ owns (c : Thread nD τ) arg5 fullShare q ∗ owns (c : Thread nD τ) arg6 fullShare g ∗ owns (c : Thread nD τ) arg7 fullShare l ∗ owns (c : Thread nD τ) arg8 fullShare e ∗ owns (c : Thread nD τ) arg9 fullShare (dqStep i k v q g l e x) ∗ owns (c : Thread nD τ) arg10 fullShare y0 ∗ owns (c : Thread nD τ) arg11 fullShare y1 ∗ owns (c : Thread nD τ) arg12 fullShare (dkStep k v q g l e s0) ∗ owns (c : Thread nD τ) arg13 fullShare (dvStep k q g l s1)) -∗ K ⟨⟩))
      ⊢ wp frame (wpE (defs₀ (F := F)) Variants.none c none) E (cc0_attn_c_bwd_l3 i arg3 harg3 arg4 harg4 arg5 harg5 arg6 harg6 arg7 harg7 arg8 harg8 arg9 harg9 arg10 harg10 arg11 harg11 arg12 harg12 arg13 harg13) K := by
  simp only [cc0_attn_c_bwd_l3_eq_skeleton]; unfold cc0_attn_c_bwd_l3_skel
  simp only [k0_part1_eq_skeleton, k0_part2_eq_skeleton, k0_part3_eq_skeleton]
  simp only [owns_eq_rep]
  iintro ⟨H0, H1, H2, H3, H4, H5, H6, H7, H8, HS0, HS1, Hk⟩
  sl_exec (disch := first | sl_exact hc0 | sl_exact hc1 | sl_exact hc2)
  sl_step
  iapply Hk
  isplitl [H0];
  · iexact H0
  isplitl [H1];
  · iexact H1
  isplitl [H2];
  · iexact H2
  isplitl [H3];
  · iexact H3
  isplitl [H4];
  · iexact H4
  isplitl [H5];
  · iexact H5
  isplitl [H6];
  · iapply (pointsTo_rep_of_read (c : Thread nD τ) arg9 _ fullShare _ ?h9); rotate_left; · iexact H6
    · sl_unfold_run_names; rw [View.read_writes_cons_put _ _ _ _ _ rfl, View.read_writes_rep_unit _ _ _ _ rfl]; simp only [covAcc, readWin, winKey, winAcc]; rfl
  isplitl [H7];
  · iexact H7
  isplitl [H8];
  · iexact H8
  isplitl [HS0];
  · iapply (pointsTo_rep_of_read (c : Thread nD τ) arg12 _ fullShare _ ?h12); rotate_left; · iexact HS0
    · sl_unfold_run_names; rw [View.read_writes_full]; simp only [covAcc, readWin, winKey, winAcc]; rfl
  · iapply (pointsTo_rep_of_read (c : Thread nD τ) arg13 _ fullShare _ ?h13); rotate_left; · iexact HS1
    · sl_unfold_run_names; rw [View.read_writes_full]; simp only [covAcc, readWin, winKey, winAcc]; rfl

set_option backward.isDefEq.respectTransparency.types false in
set_option maxHeartbeats 400000 in
/-- The first point of a pair of heads: the query block and the accumulators are emptied before the products are added. -/
theorem body_A (c : Dev nD) (i : grid0.Coords) (arg3 : Memref sig .tc .vmem S512x128 .bf16) (harg3 : arg3.IsWhole) (arg4 : Memref sig .tc .vmem S512x128 .bf16) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2x1x2048 .f32) (harg7 : arg7.IsWhole) (arg8 : Memref sig .tc .vmem S2x1x2048 .f32) (harg8 : arg8.IsWhole) (arg9 : Memref sig .tc .vmem S8192x256 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S1x512x128 .f32) (harg12 : arg12.IsWhole) (arg13 : Memref sig .tc .vmem S1x512x128 .f32) (harg13 : arg13.IsWhole)
    (hc0 : condStart i) (hc1 : condFirst i) (hc2 : ¬condLast i)
    (k v : Vec F S512x128 .bf16) (q g : Vec F S2048x256 .bf16) (l e : Vec F S2x1x2048 .f32)
    (x : Vec F S8192x256 .f32) (s0 s1 : Vec F S1x512x128 .f32) (y0 y1 : Vec F S512x128 .f32) (E : Set ℕ) (K : PUnit → sProp 𝕄) :
    iprop(owns (c : Thread nD τ) arg3 fullShare k ∗ owns (c : Thread nD τ) arg4 fullShare v ∗ owns (c : Thread nD τ) arg5 fullShare q ∗ owns (c : Thread nD τ) arg6 fullShare g ∗ owns (c : Thread nD τ) arg7 fullShare l ∗ owns (c : Thread nD τ) arg8 fullShare e ∗ owns (c : Thread nD τ) arg9 fullShare x ∗ owns (c : Thread nD τ) arg10 fullShare y0 ∗ owns (c : Thread nD τ) arg11 fullShare y1 ∗ owns (c : Thread nD τ) arg12 fullShare s0 ∗ owns (c : Thread nD τ) arg13 fullShare s1
        ∗ (iprop(owns (c : Thread nD τ) arg3 fullShare k ∗ owns (c : Thread nD τ) arg4 fullShare v ∗ owns (c : Thread nD τ) arg5 fullShare q ∗ owns (c : Thread nD τ) arg6 fullShare g ∗ owns (c : Thread nD τ) arg7 fullShare l ∗ owns (c : Thread nD τ) arg8 fullShare e ∗ owns (c : Thread nD τ) arg9 fullShare (dqStep i k v q g l e (k0_pay4 (F := F))) ∗ owns (c : Thread nD τ) arg10 fullShare y0 ∗ owns (c : Thread nD τ) arg11 fullShare y1 ∗ owns (c : Thread nD τ) arg12 fullShare (dkStep k v q g l e (k0_pay5 (F := F))) ∗ owns (c : Thread nD τ) arg13 fullShare (dvStep k q g l (k0_pay6 (F := F)))) -∗ K ⟨⟩))
      ⊢ wp frame (wpE (defs₀ (F := F)) Variants.none c none) E (cc0_attn_c_bwd_l3 i arg3 harg3 arg4 harg4 arg5 harg5 arg6 harg6 arg7 harg7 arg8 harg8 arg9 harg9 arg10 harg10 arg11 harg11 arg12 harg12 arg13 harg13) K := by
  simp only [cc0_attn_c_bwd_l3_eq_skeleton]; unfold cc0_attn_c_bwd_l3_skel
  simp only [k0_part1_eq_skeleton, k0_part2_eq_skeleton, k0_part3_eq_skeleton]
  simp only [owns_eq_rep]
  iintro ⟨H0, H1, H2, H3, H4, H5, H6, H7, H8, HS0, HS1, Hk⟩
  sl_exec (disch := first | sl_exact hc0 | sl_exact hc1 | sl_exact hc2)
  sl_step
  iapply Hk
  isplitl [H0];
  · iexact H0
  isplitl [H1];
  · iexact H1
  isplitl [H2];
  · iexact H2
  isplitl [H3];
  · iexact H3
  isplitl [H4];
  · iexact H4
  isplitl [H5];
  · iexact H5
  isplitl [H6];
  · iapply (pointsTo_rep_of_read (c : Thread nD τ) arg9 _ fullShare _ ?h9); rotate_left; · iexact H6
    · sl_unfold_run_names; rw [View.read_writes_cons_put _ _ _ _ _ rfl, View.read_writes_cons_put _ _ _ _ _ rfl, View.read_writes_full];  simp only [covAcc, clear1, clear2, readWin, winKey, winAcc]; rfl
  isplitl [H7];
  · iexact H7
  isplitl [H8];
  · iexact H8
  isplitl [HS0];
  · iapply (pointsTo_rep_of_read (c : Thread nD τ) arg12 _ fullShare _ ?h12); rotate_left; · iexact HS0
    · sl_unfold_run_names; rw [View.read_writes_full]; simp only [covAcc, readWin, winKey, winAcc]; rfl
  · iapply (pointsTo_rep_of_read (c : Thread nD τ) arg13 _ fullShare _ ?h13); rotate_left; · iexact HS1
    · sl_unfold_run_names; rw [View.read_writes_full]; simp only [covAcc, readWin, winKey, winAcc]; rfl

set_option backward.isDefEq.respectTransparency.types false in
set_option maxHeartbeats 400000 in
/-- The first query tile of a later key block: the accumulators are emptied, the query block goes on. -/
theorem body_D (c : Dev nD) (i : grid0.Coords) (arg3 : Memref sig .tc .vmem S512x128 .bf16) (harg3 : arg3.IsWhole) (arg4 : Memref sig .tc .vmem S512x128 .bf16) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2x1x2048 .f32) (harg7 : arg7.IsWhole) (arg8 : Memref sig .tc .vmem S2x1x2048 .f32) (harg8 : arg8.IsWhole) (arg9 : Memref sig .tc .vmem S8192x256 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S1x512x128 .f32) (harg12 : arg12.IsWhole) (arg13 : Memref sig .tc .vmem S1x512x128 .f32) (harg13 : arg13.IsWhole)
    (hc0 : ¬condStart i) (hc1 : condFirst i) (hc2 : ¬condLast i)
    (k v : Vec F S512x128 .bf16) (q g : Vec F S2048x256 .bf16) (l e : Vec F S2x1x2048 .f32)
    (x : Vec F S8192x256 .f32) (s0 s1 : Vec F S1x512x128 .f32) (y0 y1 : Vec F S512x128 .f32) (E : Set ℕ) (K : PUnit → sProp 𝕄) :
    iprop(owns (c : Thread nD τ) arg3 fullShare k ∗ owns (c : Thread nD τ) arg4 fullShare v ∗ owns (c : Thread nD τ) arg5 fullShare q ∗ owns (c : Thread nD τ) arg6 fullShare g ∗ owns (c : Thread nD τ) arg7 fullShare l ∗ owns (c : Thread nD τ) arg8 fullShare e ∗ owns (c : Thread nD τ) arg9 fullShare x ∗ owns (c : Thread nD τ) arg10 fullShare y0 ∗ owns (c : Thread nD τ) arg11 fullShare y1 ∗ owns (c : Thread nD τ) arg12 fullShare s0 ∗ owns (c : Thread nD τ) arg13 fullShare s1
        ∗ (iprop(owns (c : Thread nD τ) arg3 fullShare k ∗ owns (c : Thread nD τ) arg4 fullShare v ∗ owns (c : Thread nD τ) arg5 fullShare q ∗ owns (c : Thread nD τ) arg6 fullShare g ∗ owns (c : Thread nD τ) arg7 fullShare l ∗ owns (c : Thread nD τ) arg8 fullShare e ∗ owns (c : Thread nD τ) arg9 fullShare (dqStep i k v q g l e x) ∗ owns (c : Thread nD τ) arg10 fullShare y0 ∗ owns (c : Thread nD τ) arg11 fullShare y1 ∗ owns (c : Thread nD τ) arg12 fullShare (dkStep k v q g l e (k0_pay5 (F := F))) ∗ owns (c : Thread nD τ) arg13 fullShare (dvStep k q g l (k0_pay6 (F := F)))) -∗ K ⟨⟩))
      ⊢ wp frame (wpE (defs₀ (F := F)) Variants.none c none) E (cc0_attn_c_bwd_l3 i arg3 harg3 arg4 harg4 arg5 harg5 arg6 harg6 arg7 harg7 arg8 harg8 arg9 harg9 arg10 harg10 arg11 harg11 arg12 harg12 arg13 harg13) K := by
  simp only [cc0_attn_c_bwd_l3_eq_skeleton]; unfold cc0_attn_c_bwd_l3_skel
  simp only [k0_part1_eq_skeleton, k0_part2_eq_skeleton, k0_part3_eq_skeleton]
  simp only [owns_eq_rep]
  iintro ⟨H0, H1, H2, H3, H4, H5, H6, H7, H8, HS0, HS1, Hk⟩
  sl_exec (disch := first | sl_exact hc0 | sl_exact hc1 | sl_exact hc2)
  sl_step
  iapply Hk
  isplitl [H0];
  · iexact H0
  isplitl [H1];
  · iexact H1
  isplitl [H2];
  · iexact H2
  isplitl [H3];
  · iexact H3
  isplitl [H4];
  · iexact H4
  isplitl [H5];
  · iexact H5
  isplitl [H6];
  · iapply (pointsTo_rep_of_read (c : Thread nD τ) arg9 _ fullShare _ ?h9); rotate_left; · iexact H6
    · sl_unfold_run_names; rw [View.read_writes_cons_put _ _ _ _ _ rfl, View.read_writes_rep_unit _ _ _ _ rfl]; simp only [covAcc, readWin, winKey, winAcc]; rfl
  isplitl [H7];
  · iexact H7
  isplitl [H8];
  · iexact H8
  isplitl [HS0];
  · iapply (pointsTo_rep_of_read (c : Thread nD τ) arg12 _ fullShare _ ?h12); rotate_left; · iexact HS0
    · sl_unfold_run_names; rw [View.read_writes_full]; simp only [covAcc, readWin, winKey, winAcc]; rfl
  · iapply (pointsTo_rep_of_read (c : Thread nD τ) arg13 _ fullShare _ ?h13); rotate_left; · iexact HS1
    · sl_unfold_run_names; rw [View.read_writes_full]; simp only [covAcc, readWin, winKey, winAcc]; rfl

set_option backward.isDefEq.respectTransparency.types false in
set_option maxHeartbeats 400000 in
/-- The last query tile of a key block: the accumulators are written out after the products were added. -/
theorem body_C (c : Dev nD) (i : grid0.Coords) (arg3 : Memref sig .tc .vmem S512x128 .bf16) (harg3 : arg3.IsWhole) (arg4 : Memref sig .tc .vmem S512x128 .bf16) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2x1x2048 .f32) (harg7 : arg7.IsWhole) (arg8 : Memref sig .tc .vmem S2x1x2048 .f32) (harg8 : arg8.IsWhole) (arg9 : Memref sig .tc .vmem S8192x256 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S1x512x128 .f32) (harg12 : arg12.IsWhole) (arg13 : Memref sig .tc .vmem S1x512x128 .f32) (harg13 : arg13.IsWhole)
    (hc0 : ¬condStart i) (hc1 : ¬condFirst i) (hc2 : condLast i)
    (k v : Vec F S512x128 .bf16) (q g : Vec F S2048x256 .bf16) (l e : Vec F S2x1x2048 .f32)
    (x : Vec F S8192x256 .f32) (s0 s1 : Vec F S1x512x128 .f32) (y0 y1 : Vec F S512x128 .f32) (E : Set ℕ) (K : PUnit → sProp 𝕄) :
    iprop(owns (c : Thread nD τ) arg3 fullShare k ∗ owns (c : Thread nD τ) arg4 fullShare v ∗ owns (c : Thread nD τ) arg5 fullShare q ∗ owns (c : Thread nD τ) arg6 fullShare g ∗ owns (c : Thread nD τ) arg7 fullShare l ∗ owns (c : Thread nD τ) arg8 fullShare e ∗ owns (c : Thread nD τ) arg9 fullShare x ∗ owns (c : Thread nD τ) arg10 fullShare y0 ∗ owns (c : Thread nD τ) arg11 fullShare y1 ∗ owns (c : Thread nD τ) arg12 fullShare s0 ∗ owns (c : Thread nD τ) arg13 fullShare s1
        ∗ (iprop(owns (c : Thread nD τ) arg3 fullShare k ∗ owns (c : Thread nD τ) arg4 fullShare v ∗ owns (c : Thread nD τ) arg5 fullShare q ∗ owns (c : Thread nD τ) arg6 fullShare g ∗ owns (c : Thread nD τ) arg7 fullShare l ∗ owns (c : Thread nD τ) arg8 fullShare e ∗ owns (c : Thread nD τ) arg9 fullShare (dqStep i k v q g l e x) ∗ owns (c : Thread nD τ) arg10 fullShare (k0_pay2 (dkStep k v q g l e s0)) ∗ owns (c : Thread nD τ) arg11 fullShare (k0_pay3 (dvStep k q g l s1)) ∗ owns (c : Thread nD τ) arg12 fullShare (dkStep k v q g l e s0) ∗ owns (c : Thread nD τ) arg13 fullShare (dvStep k q g l s1)) -∗ K ⟨⟩))
      ⊢ wp frame (wpE (defs₀ (F := F)) Variants.none c none) E (cc0_attn_c_bwd_l3 i arg3 harg3 arg4 harg4 arg5 harg5 arg6 harg6 arg7 harg7 arg8 harg8 arg9 harg9 arg10 harg10 arg11 harg11 arg12 harg12 arg13 harg13) K := by
  simp only [cc0_attn_c_bwd_l3_eq_skeleton]; unfold cc0_attn_c_bwd_l3_skel
  simp only [k0_part1_eq_skeleton, k0_part2_eq_skeleton, k0_part3_eq_skeleton]
  simp only [owns_eq_rep]
  iintro ⟨H0, H1, H2, H3, H4, H5, H6, H7, H8, HS0, HS1, Hk⟩
  sl_exec (disch := first | sl_exact hc0 | sl_exact hc1 | sl_exact hc2)
  sl_step
  iapply Hk
  isplitl [H0];
  · iexact H0
  isplitl [H1];
  · iexact H1
  isplitl [H2];
  · iexact H2
  isplitl [H3];
  · iexact H3
  isplitl [H4];
  · iexact H4
  isplitl [H5];
  · iexact H5
  isplitl [H6];
  · iapply (pointsTo_rep_of_read (c : Thread nD τ) arg9 _ fullShare _ ?h9); rotate_left; · iexact H6
    · sl_unfold_run_names; rw [View.read_writes_cons_put _ _ _ _ _ rfl, View.read_writes_rep_unit _ _ _ _ rfl]; simp only [covAcc, readWin, winKey, winAcc]; rfl
  isplitl [H7];
  · iapply (pointsTo_rep_of_read (c : Thread nD τ) arg10 _ fullShare _ ?h10); rotate_left; · iexact H7
    · sl_unfold_run_names; rw [View.read_writes_full]; simp only [covAcc, readWin, winKey, winAcc]; rfl
  isplitl [H8];
  · iapply (pointsTo_rep_of_read (c : Thread nD τ) arg11 _ fullShare _ ?h11); rotate_left; · iexact H8
    · sl_unfold_run_names; rw [View.read_writes_full]; simp only [covAcc, readWin, winKey, winAcc]; rfl
  isplitl [HS0];
  · iapply (pointsTo_rep_of_read (c : Thread nD τ) arg12 _ fullShare _ ?h12); rotate_left; · iexact HS0
    · sl_unfold_run_names; rw [View.read_writes_full]; simp only [covAcc, readWin, winKey, winAcc]; rfl
  · iapply (pointsTo_rep_of_read (c : Thread nD τ) arg13 _ fullShare _ ?h13); rotate_left; · iexact HS1
    · sl_unfold_run_names; rw [View.read_writes_full]; simp only [covAcc, readWin, winKey, winAcc]; rfl

end Cert.KernelIdeal.Bwd

end
-- ==== Proof.Track.lean ====
/- The kernel's run point by point: what the accumulators and the query block hold after each grid point, the
   pipeline's proof data over them, the body's obligation, and the launch. -/
module

public import proofs.«01_k».proof.Proof.Body
public import proofs.«01_k».proof.Proof.Gen.KernelIdeal.Launch
public import proofs.«01_k».proof.Proof.Gen.KernelIdeal.Points
public import Idealize.ShloMosaic.Lib.Pipeline.FrameBody
public import Idealize.ShloMosaic.Lib.Claim

@[expose] public section

set_option maxRecDepth 16384

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The state -/

/-- The query block and the two accumulators. -/
abbrev St (F : FTy → Type) : Type := Vec F S8192x256 .f32 × Vec F S1x512x128 .f32 × Vec F S1x512x128 .f32

/-- The blocks of the inputs at a point. -/
abbrev kBlk (c : Dev nD) (t : Fin cfg0.N) : Vec F S512x128 .bf16 := iblk m c 0 t
abbrev vBlk (c : Dev nD) (t : Fin cfg0.N) : Vec F S512x128 .bf16 := iblk m c 1 t
abbrev qBlk (c : Dev nD) (t : Fin cfg0.N) : Vec F S2048x256 .bf16 := iblk m c 2 t
abbrev gBlk (c : Dev nD) (t : Fin cfg0.N) : Vec F S2048x256 .bf16 := iblk m c 3 t
abbrev lBlk (c : Dev nD) (t : Fin cfg0.N) : Vec F S2x1x2048 .f32 := iblk m c 4 t
abbrev eBlk (c : Dev nD) (t : Fin cfg0.N) : Vec F S2x1x2048 .f32 := iblk m c 5 t

/-- The state after a point, from the state its products are added to. -/
def stepAt (c : Dev nD) (t : Fin cfg0.N) (p : St F) : St F :=
  (dqStep (grid0.coords t) (kBlk m c t) (vBlk m c t) (qBlk m c t) (gBlk m c t) (lBlk m c t) (eBlk m c t) p.1,
   dkStep (kBlk m c t) (vBlk m c t) (qBlk m c t) (gBlk m c t) (lBlk m c t) (eBlk m c t) p.2.1,
   dvStep (kBlk m c t) (qBlk m c t) (gBlk m c t) (lBlk m c t) p.2.2)

/-- The state a point's products are added to: parts of it emptied where a pair of heads or a key block begins. -/
def emptied (n : ℕ) (p : St F) : St F :=
  (if n % 64 = 0 then k0_pay4 else p.1, if n % 4 = 0 then k0_pay5 else p.2.1, if n % 4 = 0 then k0_pay6 else p.2.2)

/-- The state after point `n`. -/
def stAt (c : Dev nD) : (n : ℕ) → n < cfg0.N → St F
  | 0, h => stepAt m c ⟨0, h⟩ (k0_pay4, k0_pay5, k0_pay6)
  | n + 1, h => stepAt m c ⟨n + 1, h⟩ (emptied (n + 1) (stAt c n (Nat.lt_of_succ_lt h)))

theorem stAt_start (c : Dev nD) (t : Fin cfg0.N) (h0 : t.val % 64 = 0) :
    stAt m c t.val t.isLt = stepAt m c t (k0_pay4, k0_pay5, k0_pay6) := by
  obtain ⟨n, hn⟩ := t
  cases n with
  | zero => rfl
  | succ n =>
    have h1 : (n + 1) % 4 = 0 := by dsimp only at h0; omega
    show stepAt m c _ (emptied _ _) = _
    unfold emptied; rw [if_pos h0, if_pos h1, if_pos h1]

theorem stAt_first (c : Dev nD) (t : Fin cfg0.N) (h0 : ¬t.val % 64 = 0) (h1 : t.val % 4 = 0) :
    stAt m c t.val t.isLt = stepAt m c t ((stAt m c (t.val - 1) (Nat.lt_of_le_of_lt (Nat.sub_le _ _) t.isLt)).1, k0_pay5, k0_pay6) := by
  obtain ⟨n, hn⟩ := t
  cases n with
  | zero => exact absurd (Nat.zero_mod _) h0
  | succ n =>
    show stepAt m c _ (emptied _ _) = _
    unfold emptied; rw [if_neg h0, if_pos h1, if_pos h1]; rfl

theorem stAt_next (c : Dev nD) (t : Fin cfg0.N) (h1 : ¬t.val % 4 = 0) :
    stAt m c t.val t.isLt = stepAt m c t (stAt m c (t.val - 1) (Nat.lt_of_le_of_lt (Nat.sub_le _ _) t.isLt)) := by
  obtain ⟨n, hn⟩ := t
  cases n with
  | zero => exact absurd (Nat.zero_mod _) h1
  | succ n =>
    have h0 : ¬(n + 1) % 64 = 0 := by dsimp only at h1; omega
    show stepAt m c _ (emptied _ _) = _
    unfold emptied; rw [if_neg h0, if_neg h1, if_neg h1]; rfl

/-! ## The memrefs a point is called with -/

abbrev stg0 (t : Fin cfg0.N) : Memref sig .tc .vmem S512x128 .bf16 := win0_0.stage (cfg0.slots t 0)
abbrev stg1 (t : Fin cfg0.N) : Memref sig .tc .vmem S512x128 .bf16 := win0_1.stage (cfg0.slots t 1)
abbrev stg2 (t : Fin cfg0.N) : Memref sig .tc .vmem S2048x256 .bf16 := win0_2.stage (cfg0.slots t 2)
abbrev stg3 (t : Fin cfg0.N) : Memref sig .tc .vmem S2048x256 .bf16 := win0_3.stage (cfg0.slots t 3)
abbrev stg4 (t : Fin cfg0.N) : Memref sig .tc .vmem S2x1x2048 .f32 := win0_4.stage (cfg0.slots t 4)
abbrev stg5 (t : Fin cfg0.N) : Memref sig .tc .vmem S2x1x2048 .f32 := win0_5.stage (cfg0.slots t 5)
abbrev stg6 (t : Fin cfg0.N) : Memref sig .tc .vmem S8192x256 .f32 := win0_6.stage (cfg0.slots t 6)
abbrev stg7 (t : Fin cfg0.N) : Memref sig .tc .vmem S512x128 .f32 := win0_7.stage (cfg0.slots t 7)
abbrev stg8 (t : Fin cfg0.N) : Memref sig .tc .vmem S512x128 .f32 := win0_8.stage (cfg0.slots t 8)

/-- The two accumulators. -/
abbrev accK : Memref sig .tc .vmem S1x512x128 .f32 := Memref.whole cc0_scratch0
abbrev accV : Memref sig .tc .vmem S1x512x128 .f32 := Memref.whole cc0_scratch1

/-- The launch's invariant, with the accumulators as memrefs owned at something. -/
theorem PhiA_accs (c : Dev nD) :
    (Pipeline.ΦA spec0 c : sProp 𝕄)
      = iprop(iprop((∃ d, owns (c : Thread nD τ) accK fullShare d) ∗ (∃ d, owns (c : Thread nD τ) accV fullShare d)) ∗ (∃ r, prngReg c r)) := by
  unfold Pipeline.ΦA; rw [scopedRest0_eq]; simp only [accK, accV, owns_whole]; try rfl

/-- The invariant before position `n`: the accumulators at what the point before left in them. -/
def Inv (c : Dev nD) : (n : ℕ) → n ≤ cfg0.N → sProp 𝕄
  | 0, _ => Pipeline.ΦA spec0 c
  | n + 1, hn => iprop(iprop(owns (c : Thread nD τ) accK fullShare ((stAt m c n hn).2.1) ∗ owns (c : Thread nD τ) accV fullShare ((stAt m c n hn).2.2)) ∗ (∃ r, prngReg c r))

theorem Inv_succ (c : Dev nD) (n : ℕ) (hn : n < cfg0.N) :
    Inv m c (n + 1) hn = iprop(iprop(owns (c : Thread nD τ) accK fullShare ((stAt m c n hn).2.1) ∗ owns (c : Thread nD τ) accV fullShare ((stAt m c n hn).2.2)) ∗ (∃ r, prngReg c r)) := rfl

theorem Inv_pos (c : Dev nD) (n : ℕ) (h : n ≤ cfg0.N) (hz : n ≠ 0) :
    Inv m c n h = iprop(iprop(owns (c : Thread nD τ) accK fullShare ((stAt m c (n - 1) (by omega)).2.1) ∗ owns (c : Thread nD τ) accV fullShare ((stAt m c (n - 1) (by omega)).2.2)) ∗ (∃ r, prngReg c r)) := by
  cases n with
  | zero => exact absurd rfl hz
  | succ n => rfl

/-- At any position the accumulators are owned at something. -/
theorem Inv_any (c : Dev nD) (n : ℕ) (h : n ≤ cfg0.N) : Inv m c n h ⊢ Pipeline.ΦA spec0 c := by
  cases n with
  | zero => exact .rfl
  | succ n =>
    rw [Inv_succ, PhiA_accs]
    iintro ⟨⟨HS0, HS1⟩, Hg⟩
    isplitl [HS0 HS1]
    · isplitl [HS0]
      · iexists _; iexact HS0
      iexists _; iexact HS1
    iexact Hg

/-! ## The pipeline's proof data -/

/-- The arrays as the region finds them; after a point each input's buffer at its block, the query block at the state's,
    and, where they are stored, the key and value gradients' blocks at the accumulators (the key gradient's scaled). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (stAt m c t.val t.isLt).1
    | ⟨7, _⟩ => k0_pay2 (stAt m c t.val t.isLt).2.1
    | ⟨8, _⟩ => k0_pay3 (stAt m c t.val t.isLt).2.2
  Φ t := Inv m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem Inv_castSucc (c : Dev nD) (t : Fin cfg0.N) :
    (dats m 0 c).Φ t.castSucc = Inv m c t.val (Nat.le_of_lt t.isLt) := by
  dsimp only [dats]; exact Pipeline.Dat.Φ_castSucc (Inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = (stAt m c t.val t.isLt).1 := by dsimp only [dats]
theorem after_7 (c : Dev nD) (t : Fin cfg0.N) : (dats m 0 c).after 7 t = k0_pay2 (stAt m c t.val t.isLt).2.1 := by dsimp only [dats]
theorem after_8 (c : Dev nD) (t : Fin cfg0.N) : (dats m 0 c).after 8 t = k0_pay3 (stAt m c t.val t.isLt).2.2 := by dsimp only [dats]

/-- What an input's buffer holds before the body, at every point: its block. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- The query block, after the first point of a pair of heads: what the point before left. -/
theorem before_6 (c : Dev nD) (t : Fin cfg0.N) (h : ¬t.val % 64 = 0) (d) :
    (dats m 0 c).before 6 t d = (stAt m c (t.val - 1) (Nat.lt_of_le_of_lt (Nat.sub_le _ _) t.isLt)).1 := by
  have hz : t.val ≠ 0 := fun e => h (by rw [e])
  have hf : (cfg0.win 6).flush ⟨t.val - 1, Nat.lt_of_le_of_lt (Nat.sub_le _ _) t.isLt⟩ = false := by
    rw [Bool.eq_false_iff]; intro hh; have := (flush0_6 _).mp hh; dsimp only at this; omega
  rw [(dats m 0 c).before_out_kept 6 rfl t hz hf (fun _ => rfl) (fun _ _ => rfl) d, after_6]

theorem leaves_0 (c : Dev nD) (t : Fin cfg0.N) : (dats m 0 c).leavesExact 0 t = owns (c : Thread nD τ) (stg0 t) fullShare ((dats m 0 c).after 0 t) := by
  unfold Dat.leavesExact; rw [show cfg0.idle 0 (cfg0.grid.coords t) = false from rfl]
theorem leaves_1 (c : Dev nD) (t : Fin cfg0.N) : (dats m 0 c).leavesExact 1 t = owns (c : Thread nD τ) (stg1 t) fullShare ((dats m 0 c).after 1 t) := by
  unfold Dat.leavesExact; rw [show cfg0.idle 1 (cfg0.grid.coords t) = false from rfl]
theorem leaves_2 (c : Dev nD) (t : Fin cfg0.N) : (dats m 0 c).leavesExact 2 t = owns (c : Thread nD τ) (stg2 t) fullShare ((dats m 0 c).after 2 t) := by
  unfold Dat.leavesExact; rw [show cfg0.idle 2 (cfg0.grid.coords t) = false from rfl]
theorem leaves_3 (c : Dev nD) (t : Fin cfg0.N) : (dats m 0 c).leavesExact 3 t = owns (c : Thread nD τ) (stg3 t) fullShare ((dats m 0 c).after 3 t) := by
  unfold Dat.leavesExact; rw [show cfg0.idle 3 (cfg0.grid.coords t) = false from rfl]
theorem leaves_4 (c : Dev nD) (t : Fin cfg0.N) : (dats m 0 c).leavesExact 4 t = owns (c : Thread nD τ) (stg4 t) fullShare ((dats m 0 c).after 4 t) := by
  unfold Dat.leavesExact; rw [show cfg0.idle 4 (cfg0.grid.coords t) = false from rfl]
theorem leaves_5 (c : Dev nD) (t : Fin cfg0.N) : (dats m 0 c).leavesExact 5 t = owns (c : Thread nD τ) (stg5 t) fullShare ((dats m 0 c).after 5 t) := by
  unfold Dat.leavesExact; rw [show cfg0.idle 5 (cfg0.grid.coords t) = false from rfl]
theorem leaves_6 (c : Dev nD) (t : Fin cfg0.N) : (dats m 0 c).leavesExact 6 t = owns (c : Thread nD τ) (stg6 t) fullShare ((dats m 0 c).after 6 t) := by
  unfold Dat.leavesExact; rw [show cfg0.idle 6 (cfg0.grid.coords t) = false from rfl]

theorem leaves_7_last (c : Dev nD) (t : Fin cfg0.N) (h : t.val % 4 = 3) :
    (dats m 0 c).leavesExact 7 t = owns (c : Thread nD τ) (stg7 t) fullShare ((dats m 0 c).after 7 t) := by
  have e : cfg0.idle 7 (cfg0.grid.coords t) = false := by
    show (!(k0_cond3 (grid0.coords t) == 1#1)) = false
    rw [show k0_cond3 (grid0.coords t) = 1#1 from (condLast_iff t).mpr h]; rfl
  unfold Dat.leavesExact; rw [e]

theorem leaves_7_idle (c : Dev nD) (t : Fin cfg0.N) (h : ¬t.val % 4 = 3) :
    (dats m 0 c).leavesExact 7 t = iprop(∃ d, owns (c : Thread nD τ) (stg7 t) fullShare ((dats m 0 c).before 7 t d)) := by
  have e : cfg0.idle 7 (cfg0.grid.coords t) = true := by
    show (!(k0_cond3 (grid0.coords t) == 1#1)) = true
    rw [beq_eq_false_iff_ne.mpr (fun hh => h ((condLast_iff t).mp hh))]; rfl
  have hf : (cfg0.win 7).flush t = false := by
    rw [Bool.eq_false_iff]; intro hh; exact h ((flush0_7 t).mp hh)
  exact (dats m 0 c).leavesExact_idle 7 t e hf

theorem leaves_8_last (c : Dev nD) (t : Fin cfg0.N) (h : t.val % 4 = 3) :
    (dats m 0 c).leavesExact 8 t = owns (c : Thread nD τ) (stg8 t) fullShare ((dats m 0 c).after 8 t) := by
  have e : cfg0.idle 8 (cfg0.grid.coords t) = false := by
    show (!(k0_cond3 (grid0.coords t) == 1#1)) = false
    rw [show k0_cond3 (grid0.coords t) = 1#1 from (condLast_iff t).mpr h]; rfl
  unfold Dat.leavesExact; rw [e]

theorem leaves_8_idle (c : Dev nD) (t : Fin cfg0.N) (h : ¬t.val % 4 = 3) :
    (dats m 0 c).leavesExact 8 t = iprop(∃ d, owns (c : Thread nD τ) (stg8 t) fullShare ((dats m 0 c).before 8 t d)) := by
  have e : cfg0.idle 8 (cfg0.grid.coords t) = true := by
    show (!(k0_cond3 (grid0.coords t) == 1#1)) = true
    rw [beq_eq_false_iff_ne.mpr (fun hh => h ((condLast_iff t).mp hh))]; rfl
  have hf : (cfg0.win 8).flush t = false := by
    rw [Bool.eq_false_iff]; intro hh; exact h ((flush0_8 t).mp hh)
  exact (dats m 0 c).leavesExact_idle 8 t e hf

/-! ## The body's obligation -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d)) ∗ (∃ d, owns (c : Thread nD τ) (stg1 t) fullShare ((dats m 0 c).before 1 t d)) ∗ (∃ d, owns (c : Thread nD τ) (stg2 t) fullShare ((dats m 0 c).before 2 t d)) ∗ (∃ d, owns (c : Thread nD τ) (stg3 t) fullShare ((dats m 0 c).before 3 t d)) ∗ (∃ d, owns (c : Thread nD τ) (stg4 t) fullShare ((dats m 0 c).before 4 t d)) ∗ (∃ d, owns (c : Thread nD τ) (stg5 t) fullShare ((dats m 0 c).before 5 t d)) ∗ (∃ d, owns (c : Thread nD τ) (stg6 t) fullShare ((dats m 0 c).before 6 t d)) ∗ (∃ d, owns (c : Thread nD τ) (stg7 t) fullShare ((dats m 0 c).before 7 t d)) ∗ (∃ d, owns (c : Thread nD τ) (stg8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t)

set_option maxHeartbeats 1600000 in
theorem sound_A (c : Dev nD) (t : Fin cfg0.N) (h0 : t.val % 64 = 0) :
    bodyPre m c t ⊢ wp frame (wpE (defs₀ (F := F)) Variants.none c none) Set.univ (bodyAt0 t) (fun _ => bodyPost m c t) := by
  have h1 : t.val % 4 = 0 := by omega
  have h2 : ¬t.val % 4 = 3 := by omega
  unfold bodyPre bodyPost bodyAt0
  simp only [before_0, before_1, before_2, before_3, before_4, before_5]
  rw [show (dats m 0 c).owesAt () t.succ = (dats m 0 c).owesAt () t.castSucc from rfl]
  rw [show (dats m 0 c).Φ t.succ = Inv m c (t.val + 1) t.isLt from rfl, Inv_succ]
  rw [leaves_0, leaves_1, leaves_2, leaves_3, leaves_4, leaves_5, leaves_6, leaves_7_idle m c t h2, leaves_8_idle m c t h2]
  simp only [after_0, after_1, after_2, after_3, after_4, after_5, after_6, after_7, after_8]
  rw [stAt_start m c t h0]
  rw [Inv_castSucc m c t]
  refine (sep_mono (Inv_any m c _ _) .rfl).trans ?_
  rw [PhiA_accs]
  iintro ⟨⟨⟨⟨%a0, HS0⟩, ⟨%a1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_A c (grid0.coords t) _ _ _ _ _ _ _ _ _ _ _ _ _ _ _ _ _ _ _ _ _ _ ((condStart_iff t).mpr h0) ((condFirst_iff t).mpr h1) (fun h => h2 ((condLast_iff t).mp h)) (kBlk m c t) (vBlk m c t) (qBlk m c t) (gBlk m c t) (lBlk m c t) (eBlk m c t) _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  iintro ⟨H0, H1, H2, H3, H4, H5, H6, H7, H8, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iexists _; iexact H8

set_option maxHeartbeats 1600000 in
theorem sound_D (c : Dev nD) (t : Fin cfg0.N) (h0 : ¬t.val % 64 = 0) (h1 : t.val % 4 = 0) :
    bodyPre m c t ⊢ wp frame (wpE (defs₀ (F := F)) Variants.none c none) Set.univ (bodyAt0 t) (fun _ => bodyPost m c t) := by
  have h2 : ¬t.val % 4 = 3 := by omega
  unfold bodyPre bodyPost bodyAt0
  simp only [before_0, before_1, before_2, before_3, before_4, before_5]
  simp only [before_6 m c t h0]
  rw [show (dats m 0 c).owesAt () t.succ = (dats m 0 c).owesAt () t.castSucc from rfl]
  rw [show (dats m 0 c).Φ t.succ = Inv m c (t.val + 1) t.isLt from rfl, Inv_succ]
  rw [leaves_0, leaves_1, leaves_2, leaves_3, leaves_4, leaves_5, leaves_6, leaves_7_idle m c t h2, leaves_8_idle m c t h2]
  simp only [after_0, after_1, after_2, after_3, after_4, after_5, after_6, after_7, after_8]
  rw [stAt_first m c t h0 h1]
  rw [Inv_castSucc m c t, Inv_pos m c _ _ (fun e => h0 (by rw [e]))]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_D c (grid0.coords t) _ _ _ _ _ _ _ _ _ _ _ _ _ _ _ _ _ _ _ _ _ _ (fun h => h0 ((condStart_iff t).mp h)) ((condFirst_iff t).mpr h1) (fun h => h2 ((condLast_iff t).mp h)) (kBlk m c t) (vBlk m c t) (qBlk m c t) (gBlk m c t) (lBlk m c t) (eBlk m c t) _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  iintro ⟨H0, H1, H2, H3, H4, H5, H6, H7, H8, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iexists _; iexact H8

set_option maxHeartbeats 1600000 in
theorem sound_B (c : Dev nD) (t : Fin cfg0.N) (h1 : ¬t.val % 4 = 0) (h2 : ¬t.val % 4 = 3) :
    bodyPre m c t ⊢ wp frame (wpE (defs₀ (F := F)) Variants.none c none) Set.univ (bodyAt0 t) (fun _ => bodyPost m c t) := by
  have h0 : ¬t.val % 64 = 0 := by omega
  unfold bodyPre bodyPost bodyAt0
  simp only [before_0, before_1, before_2, before_3, before_4, before_5]
  simp only [before_6 m c t h0]
  rw [show (dats m 0 c).owesAt () t.succ = (dats m 0 c).owesAt () t.castSucc from rfl]
  rw [show (dats m 0 c).Φ t.succ = Inv m c (t.val + 1) t.isLt from rfl, Inv_succ]
  rw [leaves_0, leaves_1, leaves_2, leaves_3, leaves_4, leaves_5, leaves_6, leaves_7_idle m c t h2, leaves_8_idle m c t h2]
  simp only [after_0, after_1, after_2, after_3, after_4, after_5, after_6, after_7, after_8]
  rw [stAt_next m c t h1]
  rw [Inv_castSucc m c t, Inv_pos m c _ _ (fun e => h0 (by rw [e]))]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_B c (grid0.coords t) _ _ _ _ _ _ _ _ _ _ _ _ _ _ _ _ _ _ _ _ _ _ (fun h => h0 ((condStart_iff t).mp h)) (fun h => h1 ((condFirst_iff t).mp h)) (fun h => h2 ((condLast_iff t).mp h)) (kBlk m c t) (vBlk m c t) (qBlk m c t) (gBlk m c t) (lBlk m c t) (eBlk m c t) _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  iintro ⟨H0, H1, H2, H3, H4, H5, H6, H7, H8, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iexists _; iexact H8

set_option maxHeartbeats 1600000 in
theorem sound_C (c : Dev nD) (t : Fin cfg0.N) (h2 : t.val % 4 = 3) :
    bodyPre m c t ⊢ wp frame (wpE (defs₀ (F := F)) Variants.none c none) Set.univ (bodyAt0 t) (fun _ => bodyPost m c t) := by
  have h0 : ¬t.val % 64 = 0 := by omega
  have h1 : ¬t.val % 4 = 0 := by omega
  unfold bodyPre bodyPost bodyAt0
  simp only [before_0, before_1, before_2, before_3, before_4, before_5]
  simp only [before_6 m c t h0]
  rw [show (dats m 0 c).owesAt () t.succ = (dats m 0 c).owesAt () t.castSucc from rfl]
  rw [show (dats m 0 c).Φ t.succ = Inv m c (t.val + 1) t.isLt from rfl, Inv_succ]
  rw [leaves_0, leaves_1, leaves_2, leaves_3, leaves_4, leaves_5, leaves_6, leaves_7_last m c t h2, leaves_8_last m c t h2]
  simp only [after_0, after_1, after_2, after_3, after_4, after_5, after_6, after_7, after_8]
  rw [stAt_next m c t h1]
  rw [Inv_castSucc m c t, Inv_pos m c _ _ (fun e => h0 (by rw [e]))]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_C c (grid0.coords t) _ _ _ _ _ _ _ _ _ _ _ _ _ _ _ _ _ _ _ _ _ _ (fun h => h0 ((condStart_iff t).mp h)) (fun h => h1 ((condFirst_iff t).mp h)) ((condLast_iff t).mpr h2) (kBlk m c t) (vBlk m c t) (qBlk m c t) (gBlk m c t) (lBlk m c t) (eBlk m c t) _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  iintro ⟨H0, H1, H2, H3, H4, H5, H6, H7, H8, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 64 = 0
  · exact sound_A m c t h0
  by_cases h1 : t.val % 4 = 0
  · exact sound_D m c t h0 h1
  by_cases h2 : t.val % 4 = 3
  · exact sound_C m c t h2
  exact sound_B m c t h1 h2

theorem row_at (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_at]
  exact triple_restated (sound_body m c t) rfl .rfl fun _ => .rfl

/-! ## The launch and the frame -/

/-- After the last point the invariant gives the scratch back. -/
theorem inv_end (c : Dev nD) : (dats m 0 c).Φ (Fin.last cfg0.N) ⊢ Pipeline.ΦA spec0 c := by
  rw [show (dats m 0 c).Φ (Fin.last cfg0.N) = Inv m c (Fin.last cfg0.N).val (Nat.le_of_lt_succ (Fin.last cfg0.N).isLt) from rfl]
  exact Inv_any m c _ _

set_option backward.isDefEq.respectTransparency.types false in
/-- The launch: every array at what the write-backs left in it, and every semaphore counter at zero. -/
theorem run_all : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m)
    (hin := fun c => .rfl) (hout := fun c => inv_end m c)

/-- The frame: the kernel ends, its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_all m ρ)))
    ((θ_run defs _ _).mono (fun _ h => h.2) (run_all m ρ))

end Cert.KernelIdeal.Bwd

end
-- ==== Proof.Payload.lean ====
/- The kernel's arithmetic read element by element at the ideal instance: probabilities, score gradients, and what
   a point adds to each accumulator. -/
module

public import proofs.«01_k».proof.Proof.Step
public import Idealize.ShloMosaic.Lib.Pointwise

@[expose] public section

set_option maxRecDepth 16384

noncomputable section

namespace Cert.KernelIdeal.Bwd

open Idealize.ShloMosaic Idealize.SL.Sem
open Cert.KernelIdeal.Gen

/-- The scale of the gradients, as the program writes it. -/
abbrev scaleW : EReal := Ideal.ofBits .f32 0x3DB504F3#32
/-- The constant the log-sums are multiplied by. -/
abbrev log2eW : EReal := Named.named (F := Ideal) κ "log2e" (φ := .f32) 0x3FB8AA3B#32
/-- The constant the scores are multiplied by. -/
abbrev scaleLogW : EReal := Named.named (F := Ideal) κ "scale_log2e" (φ := .f32) 0x3E0293EE#32

section
variable (k v : FVec Ideal S512x128 .bf16) (q g : FVec Ideal S2048x128 .bf16) (l e : FVec Ideal S1x1x2048 .f32)

theorem pay7_apply (y : Fin 512) (r : Fin 2048) : (k0_pay7 (F := Ideal) k q l (ix2 y r) : EReal)
    = Ideal.exp2 ((∑ x : Fin 128, (k (ix2 y x) : EReal) * q (ix2 r x)) * scaleLogW - l (ix3 (0 : Fin 1) (0 : Fin 1) r) * log2eW) := by
  pointwise [k0_pay7]
  rfl

theorem pay13_apply (y : Fin 512) (r : Fin 2048) : (k0_pay13 (F := Ideal) k q (ix2 y r) : EReal)
    = ∑ x : Fin 128, (k (ix2 y x) : EReal) * q (ix2 r x) := by
  pointwise [k0_pay13]

theorem pay14_apply (y : Fin 512) (r : Fin 2048) : (k0_pay14 (F := Ideal) (k0_pay13 k q) scaleLog2e l (ix2 y r) : EReal)
    = Ideal.exp2 ((∑ x : Fin 128, (k (ix2 y x) : EReal) * q (ix2 r x)) * scaleLogW - l (ix3 (0 : Fin 1) (0 : Fin 1) r) * log2eW) := by
  rw [← pay13_apply]
  pointwise [k0_pay14]
  rfl

theorem pay8_apply (y : Fin 512) (x : Fin 128) : (k0_pay8 (F := Ideal) k q g l (ix2 y x) : EReal)
    = ∑ r : Fin 2048, (k0_pay7 (F := Ideal) k q l (ix2 y r) : EReal) * g (ix2 r x) := by
  pointwise [k0_pay8]

theorem pay15_apply (y : Fin 512) (x : Fin 128) (s) : (k0_pay15 (F := Ideal) g s scaleLog2e l (ix2 y x) : EReal)
    = ∑ r : Fin 2048, (k0_pay14 (F := Ideal) s scaleLog2e l (ix2 y r) : EReal) * g (ix2 r x) := by
  pointwise [k0_pay15]

theorem pay9_apply (y : Fin 512) (r : Fin 2048) : (k0_pay9 (F := Ideal) k v q g l e (ix2 y r) : EReal)
    = k0_pay7 (F := Ideal) k q l (ix2 y r) * ((∑ x : Fin 128, (v (ix2 y x) : EReal) * g (ix2 r x)) - e (ix3 (0 : Fin 1) (0 : Fin 1) r)) := by
  pointwise [k0_pay9]

theorem pay16_apply (y : Fin 512) (r : Fin 2048) (s) : (k0_pay16 (F := Ideal) v g s scaleLog2e l e (ix2 y r) : EReal)
    = k0_pay14 (F := Ideal) s scaleLog2e l (ix2 y r) * ((∑ x : Fin 128, (v (ix2 y x) : EReal) * g (ix2 r x)) - e (ix3 (0 : Fin 1) (0 : Fin 1) r)) := by
  pointwise [k0_pay16]

theorem pay10_apply (p : FVec Ideal S512x2048 .bf16) (x : FVec Ideal S2048x128 .f32) (r : Fin 2048) (y : Fin 128) :
    (k0_pay10 (F := Ideal) k p x (ix2 r y) : EReal) = x (ix2 r y) + (∑ z : Fin 512, (p (ix2 z r) : EReal) * k (ix2 z y)) * scaleW := by
  pointwise [k0_pay10]

theorem pay17_apply (s) (x : FVec Ideal S2048x128 .f32) (r : Fin 2048) (y : Fin 128) :
    (k0_pay17 (F := Ideal) k v g s scaleLog2e l e x (ix2 r y) : EReal)
      = x (ix2 r y) + (∑ z : Fin 512, (k0_pay16 (F := Ideal) v g s scaleLog2e l e (ix2 z r) : EReal) * k (ix2 z y)) * scaleW := by
  pointwise [k0_pay17]

theorem pay11_apply (p : FVec Ideal S512x2048 .bf16) (s : FVec Ideal S1x512x128 .f32) (y : Fin 512) (x : Fin 128) :
    (k0_pay11 (F := Ideal) q p s (ix3 (0 : Fin 1) y x) : EReal) = s (ix3 (0 : Fin 1) y x) + ∑ r : Fin 2048, (p (ix2 y r) : EReal) * q (ix2 r x) := by
  pointwise [k0_pay11]

theorem pay18_apply (z) (s : FVec Ideal S1x512x128 .f32) (y : Fin 512) (x : Fin 128) :
    (k0_pay18 (F := Ideal) v q g z scaleLog2e l e s (ix3 (0 : Fin 1) y x) : EReal)
      = s (ix3 (0 : Fin 1) y x) + ∑ r : Fin 2048, (k0_pay16 (F := Ideal) v g z scaleLog2e l e (ix2 y r) : EReal) * q (ix2 r x) := by
  pointwise [k0_pay18]

theorem pay12_apply (p : FVec Ideal S512x128 .f32) (s : FVec Ideal S1x512x128 .f32) (y : Fin 512) (x : Fin 128) :
    (k0_pay12 (F := Ideal) p s (ix3 (0 : Fin 1) y x) : EReal) = s (ix3 (0 : Fin 1) y x) + p (ix2 y x) := by
  pointwise [k0_pay12]

theorem pay1_apply (p : FVec Ideal S512x128 .f32) (s : FVec Ideal S1x512x128 .f32) (y : Fin 512) (x : Fin 128) :
    (k0_pay1 (F := Ideal) p s (ix3 (0 : Fin 1) y x) : EReal) = s (ix3 (0 : Fin 1) y x) + p (ix2 y x) := by
  pointwise [k0_pay1]

theorem pay2_apply (s : FVec Ideal S1x512x128 .f32) (y : Fin 512) (x : Fin 128) :
    (k0_pay2 (F := Ideal) s (ix2 y x) : EReal) = s (ix3 (0 : Fin 1) y x) * scaleW := by
  pointwise [k0_pay2]

theorem pay3_apply (s : FVec Ideal S1x512x128 .f32) (y : Fin 512) (x : Fin 128) :
    (k0_pay3 (F := Ideal) s (ix2 y x) : EReal) = s (ix3 (0 : Fin 1) y x) := by
  pointwise [k0_pay3]

theorem pay4_apply (r : Fin 8192) (x : Fin 256) : (k0_pay4 (F := Ideal) (ix2 r x) : EReal) = 0 := by
  pointwise [k0_pay4]

theorem pay5_apply (y : Fin 512) (x : Fin 128) : (k0_pay5 (F := Ideal) (ix3 (0 : Fin 1) y x) : EReal) = 0 := by
  pointwise [k0_pay5]

theorem pay6_apply (y : Fin 512) (x : Fin 128) : (k0_pay6 (F := Ideal) (ix3 (0 : Fin 1) y x) : EReal) = 0 := by
  pointwise [k0_pay6]

end

/-! ## The windows of the blocks -/

theorem headA_apply (x : FVec Ideal S2048x256 .bf16) (r : Fin 2048) (y : Fin 128) :
    (headA (F := Ideal) x (ix2 r y) : EReal) = x (ix2 r (⟨y.val, by omega⟩ : Fin 256)) := by
  unfold headA VecWindow.window
  exact congrArg x (funext fun a => by fin_cases a <;> exact Fin.ext (by simp [Rect.emb, Rect.unit, ix2]))

theorem headB_apply (x : FVec Ideal S2048x256 .bf16) (r : Fin 2048) (y : Fin 128) :
    (headB (F := Ideal) x (ix2 r y) : EReal) = x (ix2 r (⟨128 + y.val, by omega⟩ : Fin 256)) := by
  unfold headB VecWindow.window
  exact congrArg x (funext fun a => by fin_cases a <;> exact Fin.ext (by simp [Rect.emb, Rect.unit, ix2]))

theorem rowA_apply (x : FVec Ideal S2x1x2048 .f32) (r : Fin 2048) :
    (rowA (F := Ideal) x (ix3 (0 : Fin 1) (0 : Fin 1) r) : EReal) = x (ix3 (0 : Fin 2) (0 : Fin 1) r) := by
  unfold rowA VecWindow.window
  exact congrArg x (funext fun a => by fin_cases a <;> exact Fin.ext (by simp [Rect.emb, Rect.unit, ix3]))

theorem rowB_apply (x : FVec Ideal S2x1x2048 .f32) (r : Fin 2048) :
    (rowB (F := Ideal) x (ix3 (0 : Fin 1) (0 : Fin 1) r) : EReal) = x (ix3 (1 : Fin 2) (0 : Fin 1) r) := by
  unfold rowB VecWindow.window
  exact congrArg x (funext fun a => by fin_cases a <;> exact Fin.ext (by simp [Rect.emb, Rect.unit, ix3]))

end Cert.KernelIdeal.Bwd

end
-- ==== Proof.Softmax.lean ====
/- The gradient of softmax attention over the real numbers, one query head at a time, and the forms in which a
   program may compute it: probabilities shifted by any number, probabilities as a power of two of a score less a
   log-sum, the row sum of a product of cotangent and output. -/
module

public import Idealize.ShloMosaic.PureOps.Ideal
public import Idealize.ShloMosaic.PureOps.Reduce
public import Idealize.ShloMosaic.Lib.Pointwise.Index

@[expose] public section

noncomputable section

namespace Cert.Attn

open Idealize.ShloMosaic

/-! ## Arrays of real numbers -/

/-- Every element of the array is a real number. -/
def Reals {s : Shape} (a : s.Idx → EReal) : Prop := ∀ i, ∃ r : ℝ, a i = (r : EReal)

/-- The real number at a row and a column of an array (zero outside of it). -/
def rd {n0 n1 : ℕ} (a : (⟨2, ![n0, n1]⟩ : Shape).Idx → EReal) (i j : ℕ) : ℝ :=
  if h : i < n0 ∧ j < n1 then (a (ix2 ⟨i, h.1⟩ ⟨j, h.2⟩)).toReal else 0

theorem rd_eq {n0 n1 : ℕ} {a : (⟨2, ![n0, n1]⟩ : Shape).Idx → EReal} (h : Reals a) (i : Fin n0) (j : Fin n1) :
    a (ix2 i j) = ((rd a i.val j.val : ℝ) : EReal) := by
  obtain ⟨r, hr⟩ := h (ix2 i j)
  have : rd a i.val j.val = (a (ix2 i j)).toReal := by
    unfold rd; rw [dif_pos ⟨i.isLt, j.isLt⟩]
  rw [this, hr, EReal.toReal_coe]

/-- A sum of real numbers is the same sum in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The largest of finitely many real numbers, begun from minus infinity, is a real number. -/
theorem fold_max_real {ι : Type} [Fintype ι] [Nonempty ι] (f : ι → EReal) (hf : ∀ i, ∃ r : ℝ, f i = (r : EReal)) :
    ∃ r : ℝ, Finset.fold max (⊥ : EReal) f Finset.univ = (r : EReal) := by
  classical
  have key : ∀ s : Finset ι, s.Nonempty → ∃ r : ℝ, Finset.fold max (⊥ : EReal) f s = (r : EReal) := by
    intro s hs
    induction hs using Finset.Nonempty.cons_induction with
    | singleton a => obtain ⟨r, hr⟩ := hf a; exact ⟨r, by simp [hr]⟩
    | cons a s ha hs ih =>
      obtain ⟨r, hr⟩ := ih
      obtain ⟨x, hx⟩ := hf a
      refine ⟨max x r, ?_⟩
      rw [Finset.fold_cons, hr, hx]
      exact (EReal.coe_strictMono.monotone.map_max (a := x) (b := r)).symm
  exact key _ Finset.univ_nonempty

/-- The largest of real numbers over one axis of an array, begun from minus infinity, is a real number. -/
theorem reduce_max_real {s t u : Shape} {a : Fin s.rank} (x : s.Idx → EReal) (hx : Reals x) (init : u.Idx → EReal)
    (h' : s.ReducesTo [a] t) (h : s.Reduces [a] t) (hu : 0 < u.numel) (hinit : ∀ i, init i = ⊥) (hs : 0 < s.size a) (j : t.Idx) :
    ∃ r : ℝ, (Host.reduce (FloatOps.maximumf (F := Ideal) (φ := .f32)) x init h' hu j : EReal) = (r : EReal) := by
  show ∃ r : ℝ, Host.reduce (max : EReal → EReal → EReal) x init h' hu j = (r : EReal)
  haveI : Nonempty (Fin (s.size a)) := ⟨⟨0, hs⟩⟩
  rw [Host.reduce_eq_fold_single _ _ _ h' h, hinit]
  exact fold_max_real _ fun i => hx _

/-- The same of the largest of minus infinity and that number. -/
theorem max_reduce_real {s t : Shape} {a : Fin s.rank} (x : s.Idx → EReal) (hx : Reals x) (c : BitVec 32) (hc : Ideal.ofBits .f32 c = ⊥)
    (d : Fin (⟨0, ![]⟩ : Shape).rank → Fin t.rank) (hb)
    (h' : s.ReducesTo [a] t) (h : s.Reduces [a] t) (hu : 0 < (⟨0, ![]⟩ : Shape).numel) (hs : 0 < s.size a) (j : t.Idx) :
    ∃ r : ℝ, (maximumf (F := Ideal) (φ := .f32) (broadcastInDim t d hb (constant ⟨0, ![]⟩ .f32 c))
      (Host.reduce FloatOps.maximumf x (constant ⟨0, ![]⟩ .f32 c) h' hu) j : EReal) = (r : EReal) := by
  obtain ⟨r, hr⟩ := reduce_max_real x hx (constant (F := Ideal) ⟨0, ![]⟩ .f32 c) h' h hu (fun _ => hc) hs j
  refine ⟨r, ?_⟩
  show max (Ideal.ofBits .f32 c) _ = _
  rw [hr, hc]
  exact max_eq_right bot_le

theorem div_real {x y : ℝ} (h : y ≠ 0) : Ideal.div (x : EReal) (y : EReal) = ((x / y : ℝ) : EReal) := by
  rw [Ideal.div_coe h, ← EReal.coe_mul, mul_one_div]

/-! ## The heads of the arrays -/

/-- The queries of the head `b` of the key head `a`. -/
def qh (q : (⟨2, ![8192, 512]⟩ : Shape).Idx → EReal) (a b : ℕ) : ℕ → ℕ → ℝ := fun r x => rd q r (a * 256 + b * 128 + x)
/-- The keys of the key head `a`. -/
def kh (kv : (⟨2, ![8192, 512]⟩ : Shape).Idx → EReal) (a : ℕ) : ℕ → ℕ → ℝ := fun κ x => rd kv κ (a * 128 + x)
/-- The values of the key head `a`. -/
def vh (kv : (⟨2, ![8192, 512]⟩ : Shape).Idx → EReal) (a : ℕ) : ℕ → ℕ → ℝ := fun κ x => rd kv κ (256 + (a * 128 + x))
/-- The output's cotangent of the head `b` of the key head `a`. -/
def gh (g : (⟨2, ![32768, 512]⟩ : Shape).Idx → EReal) (a b : ℕ) : ℕ → ℕ → ℝ := fun r x => rd g (16384 + r) (a * 256 + b * 128 + x)

/-! ## One head -/

section head
variable (c : ℝ) (q k v g : ℕ → ℕ → ℝ)

/-- The score of a query and a key: their product times the scale. -/
def score (r κ : ℕ) : ℝ := (∑ x : Fin 128, q r x * k κ x) * c

/-- The exponentials of a query's scores, each less `M`, summed over the keys. -/
def mass (M : ℝ) (r : ℕ) : ℝ := ∑ κ : Fin 8192, Real.exp (score c q k r κ - M)

/-- The attention probability of a key for a query. -/
def soft (r κ : ℕ) : ℝ := Real.exp (score c q k r κ) / ∑ κ' : Fin 8192, Real.exp (score c q k r κ')

/-- The gradient of the probabilities: the output's cotangent times the values. -/
def dP (r κ : ℕ) : ℝ := ∑ x : Fin 128, g r x * v κ x

/-- What a query's probabilities have in common in the gradient of the softmax. -/
def dRow (r : ℕ) : ℝ := ∑ κ : Fin 8192, soft c q k r κ * dP v g r κ

/-- The gradient of the scaled scores. -/
def dS (r κ : ℕ) : ℝ := soft c q k r κ * (dP v g r κ - dRow c q k v g r)

/-- The gradient of the values. -/
def dV (κ x : ℕ) : ℝ := ∑ r : Fin 8192, soft c q k r κ * g r x

/-- The gradient of the keys. -/
def dK (κ x : ℕ) : ℝ := (∑ r : Fin 8192, dS c q k v g r κ * q r x) * c

/-- The gradient of the queries. -/
def dQ (r x : ℕ) : ℝ := (∑ κ : Fin 8192, dS c q k v g r κ * k κ x) * c

theorem mass_pos (M : ℝ) (r : ℕ) : 0 < mass c q k M r :=
  Finset.sum_pos (fun _ _ => Real.exp_pos _) Finset.univ_nonempty

theorem mass_eq (M : ℝ) (r : ℕ) : mass c q k M r = Real.exp (-M) * ∑ κ : Fin 8192, Real.exp (score c q k r κ) := by
  unfold mass
  rw [Finset.mul_sum]
  exact Finset.sum_congr rfl fun κ _ => by rw [← Real.exp_add]; ring_nf

/-- The probabilities may be computed from scores shifted by any number. -/
theorem soft_shift (M : ℝ) (r κ : ℕ) : Real.exp (score c q k r κ - M) / mass c q k M r = soft c q k r κ := by
  rw [mass_eq, sub_eq_add_neg, Real.exp_add, mul_comm, soft, mul_div_mul_left _ _ (Real.exp_pos _).ne']

/-- A probability is the power of two whose exponent is the score less the log-sum, both over the logarithm of two. -/
theorem soft_pow (M : ℝ) (r κ : ℕ) :
    Real.rpow 2 ((∑ x : Fin 128, k κ x * q r x) * (c * (Real.log 2)⁻¹) - (M + Real.log (mass c q k M r)) * (Real.log 2)⁻¹)
      = soft c q k r κ := by
  have hl : Real.log 2 ≠ 0 := (Real.log_pos (by norm_num)).ne'
  have hs : ∑ x : Fin 128, k κ x * q r x = ∑ x : Fin 128, q r x * k κ x := Finset.sum_congr rfl fun x _ => mul_comm _ _
  rw [hs]
  show (2 : ℝ) ^ (_ : ℝ) = _
  rw [Real.rpow_def_of_pos (by norm_num)]
  have : Real.log 2 * ((∑ x : Fin 128, q r x * k κ x) * (c * (Real.log 2)⁻¹) - (M + Real.log (mass c q k M r)) * (Real.log 2)⁻¹)
      = (score c q k r κ - M) - Real.log (mass c q k M r) := by
    unfold score; field_simp; ring
  rw [this, Real.exp_sub, Real.exp_log (mass_pos ..), soft_shift]

/-- The row sum of cotangent times output is what the probabilities have in common. -/
theorem row_out (M : ℝ) (r : ℕ) :
    ∑ x : Fin 128, g r x * ((∑ κ : Fin 8192, Real.exp (score c q k r κ - M) * v κ x) / mass c q k M r) = dRow c q k v g r := by
  unfold dRow dP
  simp only [Finset.sum_div, Finset.mul_sum]
  rw [Finset.sum_comm]
  refine Finset.sum_congr rfl fun κ _ => Finset.sum_congr rfl fun x _ => ?_
  rw [← soft_shift c q k M]; ring

/-- The gradient of a softmax written as a quotient, as differentiation by rule gives it. -/
theorem ds_quot (M : ℝ) (r κ : ℕ) :
    (dP v g r κ / mass c q k M r
        + -∑ κ' : Fin 8192, dP v g r κ' * (1 / (mass c q k M r * mass c q k M r)) * Real.exp (score c q k r κ' - M))
      * Real.exp (score c q k r κ - M) = dS c q k v g r κ := by
  have hm := (mass_pos c q k M r).ne'
  have hrow : ∑ κ' : Fin 8192, dP v g r κ' * (1 / (mass c q k M r * mass c q k M r)) * Real.exp (score c q k r κ' - M)
      = dRow c q k v g r / mass c q k M r := by
    unfold dRow
    rw [Finset.sum_div]
    refine Finset.sum_congr rfl fun κ' _ => ?_
    rw [← soft_shift c q k M]; field_simp
  rw [hrow, dS, ← soft_shift c q k M]; field_simp; ring

end head

end Cert.Attn

end
-- ==== Proof.Consts.lean ====
/- The float constants of the two programs as the numbers they denote, the two named constants, and what the
   precondition says of an array: that each of its elements is a real number. -/
module

public import proofs.«01_k».proof.Defs
public import proofs.«01_k».proof.Proof.Softmax
public import Idealize.ShloMosaic.PureOps.Ideal
public import Idealize.ShloMosaic.Lib.Pointwise

@[expose] public section

noncomputable section

namespace Cert.Attn

open Idealize.ShloMosaic

/-- The scale of the scores: one over the root of 128 as 32 bits hold it. -/
def sc : ℝ := 11863283 / 134217728

theorem ofBits_scale : Ideal.ofBits .f32 0x3DB504F3#32 = ((sc : ℝ) : EReal) := by
  unfold sc
  simp [Ideal.ofBits, Ideal.ieee, -EReal.coe_mul]; norm_num

theorem ofBits_bot : Ideal.ofBits .f32 0xFF800000#32 = ⊥ := by simp [Ideal.ofBits, Ideal.ieee]

theorem ofBits_top : Ideal.ofBits .f32 0x7F800000#32 = ⊤ := by simp [Ideal.ofBits, Ideal.ieee]

theorem named_scale_log2e :
    Named.named (F := Ideal) Cert.KernelIdeal.κ "scale_log2e" (φ := .f32) 0x3E0293EE#32 = ((sc * (Real.log 2)⁻¹ : ℝ) : EReal) :=
  IdealRules.named_const.ideal_named_scalar _ _ _ _ rfl

theorem named_log2e :
    Named.named (F := Ideal) Cert.KernelIdeal.κ "log2e" (φ := .f32) 0x3FB8AA3B#32 = (((Real.log 2)⁻¹ : ℝ) : EReal) :=
  IdealRules.named_const.ideal_named_scalar _ _ _ _ rfl

/-- An element whose absolute value is below infinity is a real number. -/
theorem real_of_lt {x : EReal} (h : Ideal.cmp .olt (max x (-x)) ⊤ = 1#1) : ∃ r : ℝ, x = (r : EReal) := by
  have hlt : max x (-x) < ⊤ := by
    by_contra hn
    simp [Ideal.cmp, hn] at h
  rw [max_lt_iff] at hlt
  induction x using EReal.rec with
  | bot => simp at hlt
  | coe r => exact ⟨r, rfl⟩
  | top => simp at hlt

section pre
variable [Cert.Pre_finite.Facts]

theorem reals_of_fn (q kv : FVec Ideal Cert.Pre_finite.S8192x512 .bf16) (g : FVec Ideal Cert.Pre_finite.S32768x512 .bf16)
    (h : (Cert.Pre_finite.fn (F := Ideal) q kv g).1 = (fun _ => 1#1) ∧ (Cert.Pre_finite.fn (F := Ideal) q kv g).2.1 = (fun _ => 1#1)
      ∧ (Cert.Pre_finite.fn (F := Ideal) q kv g).2.2 = (fun _ => 1#1)) :
    Reals (s := ⟨2, ![8192, 512]⟩) q ∧ Reals (s := ⟨2, ![8192, 512]⟩) kv ∧ Reals (s := ⟨2, ![32768, 512]⟩) g := by
  obtain ⟨h1, h2, h3⟩ := h
  refine ⟨fun i => real_of_lt ?_, fun i => real_of_lt ?_, fun i => real_of_lt ?_⟩
  · have := congrFun h1 i
    rw [← ofBits_top]; exact this
  · have := congrFun h2 i
    rw [← ofBits_top]; exact this
  · have := congrFun h3 i
    rw [← ofBits_top]; exact this

end pre

end Cert.Attn

end
-- ==== Proof.RefValue.lean ====
/- The reference's results read element by element: the gradients of softmax attention over the real numbers. -/
module

public import proofs.«01_k».proof.Proof.Gen.ReferenceIdeal.Run
public import proofs.«01_k».proof.Proof.Consts
public import Idealize.ShloMosaic.Lib.Pointwise
public import Idealize.ShloMosaic.Lib.Tactic.CleanTypes

@[expose] public section

set_option maxRecDepth 16384

noncomputable section

namespace Cert.ReferenceIdeal.Val

open Idealize.ShloMosaic Idealize.SL.Sem
open Cert.ReferenceIdeal Cert.ReferenceIdeal.Gen Cert.ReferenceIdeal.Value Cert.Attn

/-! ## The reference in stages -/

/-- The queries by key head, group and row. -/
def qH (q : FVec Ideal S8192x512 .bf16) : FVec Ideal S2x2x8192x128 .f32 :=
  transpose S2x2x8192x128 [1, 2, 0, 3] (shapeCast S8192x2x2x128 (extf .f32 q bitsLt_bf16_f32) shapeCasts_S8192x512_S8192x2x2x128) transposes_S8192x2x2x128_S2x2x8192x128_1_2_0_3

/-- The keys by head and row. -/
def kH (kv : FVec Ideal S8192x512 .bf16) : FVec Ideal S2x8192x128 .f32 :=
  transpose S2x8192x128 [1, 0, 2] (shapeCast S8192x2x128 (extf .f32 (extractStridedSlice S8192x256 ![0, 0] kv slices_S8192x512_S8192x256_0_0) bitsLt_bf16_f32) shapeCasts_S8192x256_S8192x2x128) transposes_S8192x2x128_S2x8192x128_1_0_2

/-- The values by head and row. -/
def vH (kv : FVec Ideal S8192x512 .bf16) : FVec Ideal S2x8192x128 .f32 :=
  transpose S2x8192x128 [1, 0, 2] (shapeCast S8192x2x128 (extf .f32 (extractStridedSlice S8192x256 ![0, 256] kv slices_S8192x512_S8192x256_0_256) bitsLt_bf16_f32) shapeCasts_S8192x256_S8192x2x128) transposes_S8192x2x128_S2x8192x128_1_0_2

/-- The output's cotangent by key head, group and row. -/
def gH (g : FVec Ideal S32768x512 .bf16) : FVec Ideal S2x2x8192x128 .f32 :=
  transpose S2x2x8192x128 [1, 2, 0, 3] (shapeCast S8192x2x2x128 (extf .f32 (extractStridedSlice S8192x512 ![16384, 0] g slices_S32768x512_S8192x512_16384_0) bitsLt_bf16_f32) shapeCasts_S8192x512_S8192x2x2x128) transposes_S8192x2x2x128_S2x2x8192x128_1_2_0_3

/-- The scaled scores. -/
def scores (Q : FVec Ideal S2x2x8192x128 .f32) (K : FVec Ideal S2x8192x128 .f32) : FVec Ideal S2x2x8192x8192 .f32 :=
  mulf (Host.dotGeneral dot_S2x2x8192x128_S2x8192x128_S2x2x8192x8192_3_2_12_1_0_0 none Q K) (broadcastInDim S2x2x8192x8192 ![] bcast_S_S2x2x8192x8192 (constant S_ .f32 0x3DB504F3#32))

/-- The largest score of each query. -/
def rowMax (s : FVec Ideal S2x2x8192x8192 .f32) : FVec Ideal S2x2x8192 .f32 :=
  maximumf (broadcastInDim S2x2x8192 ![] bcast_S_S2x2x8192 (constant S_ .f32 0xFF800000#32)) (Host.reduce FloatOps.maximumf s (constant S_ .f32 0xFF800000#32) reducesTo_S2x2x8192x8192_S2x2x8192_d3 h_S_)

/-- The exponentials of the shifted scores. -/
def expd (s : FVec Ideal S2x2x8192x8192 .f32) (M : FVec Ideal S2x2x8192 .f32) : FVec Ideal S2x2x8192x8192 .f32 :=
  Host.exp (subf s (broadcastInDim S2x2x8192x8192 ![0, 1, 2, 3] bcast_S2x2x8192x1_S2x2x8192x8192_0_1_2_3 (broadcastInDim S2x2x8192x1 ![0, 1, 2] bcast_S2x2x8192_S2x2x8192x1_0_1_2 M)))

/-- Their sum over the keys. -/
def total (e : FVec Ideal S2x2x8192x8192 .f32) : FVec Ideal S2x2x8192x1 .f32 :=
  broadcastInDim S2x2x8192x1 ![0, 1, 2] bcast_S2x2x8192_S2x2x8192x1_0_1_2 (Host.reduceAdd e (constant S_ .f32 0x00000000#32) reducesTo_S2x2x8192x8192_S2x2x8192_d3 h_S_)

/-- The gradient of the probabilities. -/
def dProb (G : FVec Ideal S2x2x8192x128 .f32) (V : FVec Ideal S2x8192x128 .f32) : FVec Ideal S2x2x8192x8192 .f32 :=
  Host.dotGeneral dot_S2x2x8192x128_S2x8192x128_S2x2x8192x8192_3_2_12_1_0_0 none G V

/-- The part of the softmax's gradient that a query's keys share. -/
def common (p e : FVec Ideal S2x2x8192x8192 .f32) (t : FVec Ideal S2x2x8192x1 .f32) : FVec Ideal S2x2x8192 .f32 :=
  Host.reduceAdd (Host.negf (shapeCast S2x2x8192x1 (Host.reduceAdd (mulf (mulf p (broadcastInDim S2x2x8192x8192 ![0, 1, 2, 3] bcast_S2x2x8192x1_S2x2x8192x8192_0_1_2_3 (Host.divf (broadcastInDim S2x2x8192x1 ![] bcast_S_S2x2x8192x1 (constant S_ .f32 0x3F800000#32)) (mulf t t)))) e) (constant S_ .f32 0x00000000#32) reducesTo_S2x2x8192x8192_S2x2x8192_d3 h_S_) shapeCasts_S2x2x8192_S2x2x8192x1)) (constant S_ .f32 0x00000000#32) reducesTo_S2x2x8192x1_S2x2x8192_d3 h_S_

/-- The gradient of the scores. -/
def dScore (p e : FVec Ideal S2x2x8192x8192 .f32) (t : FVec Ideal S2x2x8192x1 .f32) (w : FVec Ideal S2x2x8192 .f32) : FVec Ideal S2x2x8192x8192 .f32 :=
  mulf (mulf (addf (Host.divf p (broadcastInDim S2x2x8192x8192 ![0, 1, 2, 3] bcast_S2x2x8192x1_S2x2x8192x8192_0_1_2_3 t)) (broadcastInDim S2x2x8192x8192 ![0, 1, 2] bcast_S2x2x8192_S2x2x8192x8192_0_1_2 w)) e) (broadcastInDim S2x2x8192x8192 ![] bcast_S_S2x2x8192x8192 (constant S_ .f32 0x3DB504F3#32))

/-- The gradient of the values as the reference returns it. -/
def outV (G : FVec Ideal S2x2x8192x128 .f32) (e : FVec Ideal S2x2x8192x8192 .f32) (t : FVec Ideal S2x2x8192x1 .f32) : FVec Ideal S8192x256 .f32 :=
  shapeCast S8192x256 (transpose S8192x2x128 [1, 0, 2] (transpose S2x8192x128 [0, 2, 1] (Host.dotGeneral dot_S2x2x8192x128_S2x2x8192x8192_S2x128x8192_12_12_3_3_0_0 none G (Host.divf e (broadcastInDim S2x2x8192x8192 ![0, 1, 2, 3] bcast_S2x2x8192x1_S2x2x8192x8192_0_1_2_3 t))) transposes_S2x128x8192_S2x8192x128_0_2_1) transposes_S2x8192x128_S8192x2x128_1_0_2) shapeCasts_S8192x2x128_S8192x256

/-- The gradient of the keys as the reference returns it. -/
def outK (d : FVec Ideal S2x2x8192x8192 .f32) (Q : FVec Ideal S2x2x8192x128 .f32) : FVec Ideal S8192x256 .f32 :=
  shapeCast S8192x256 (transpose S8192x2x128 [1, 0, 2] (Host.dotGeneral dot_S2x2x8192x8192_S2x2x8192x128_S2x8192x128_12_12_3_3_0_0 none d Q) transposes_S2x8192x128_S8192x2x128_1_0_2) shapeCasts_S8192x2x128_S8192x256

/-- The gradient of the queries as the reference returns it. -/
def outQ (d : FVec Ideal S2x2x8192x8192 .f32) (K : FVec Ideal S2x8192x128 .f32) : FVec Ideal S8192x512 .f32 :=
  shapeCast S8192x512 (transpose S8192x2x2x128 [2, 0, 1, 3] (Host.dotGeneral dot_S2x2x8192x8192_S2x8192x128_S2x2x8192x128_3_1_12_2_0_0 none d K) transposes_S2x2x8192x128_S8192x2x2x128_2_0_1_3) shapeCasts_S8192x2x2x128_S8192x512

section stages
variable (q kv : FVec Ideal S8192x512 .bf16) (g : FVec Ideal S32768x512 .bf16)

/-- The exponentials of the arguments. -/
def E : FVec Ideal S2x2x8192x8192 .f32 := expd (scores (qH q) (kH kv)) (rowMax (scores (qH q) (kH kv)))
/-- The gradient of the scores of the arguments. -/
def D : FVec Ideal S2x2x8192x8192 .f32 :=
  dScore (dProb (gH g) (vH kv)) (E q kv) (total (E q kv)) (common (dProb (gH g) (vH kv)) (E q kv) (total (E q kv)))

end stages

section run
variable (m : (ℓ : Loc nD τ sig) → Buf (Elt Ideal) ℓ) (c : Dev nD)

theorem res_v : res_main_v69 (F := Ideal) m c = outV (gH (m ((c.tc : Thread nD τ).loc main_arg2)))
    (E (m ((c.tc : Thread nD τ).loc main_arg0)) (m ((c.tc : Thread nD τ).loc main_arg1)))
    (total (E (m ((c.tc : Thread nD τ).loc main_arg0)) (m ((c.tc : Thread nD τ).loc main_arg1)))) := by
  unfold res_main_v69; rfl

theorem res_k : res_main_v71 (F := Ideal) m c = outK (D (m ((c.tc : Thread nD τ).loc main_arg0)) (m ((c.tc : Thread nD τ).loc main_arg1)) (m ((c.tc : Thread nD τ).loc main_arg2)))
    (qH (m ((c.tc : Thread nD τ).loc main_arg0))) := by
  unfold res_main_v71; rfl

theorem res_q : res_main_v73 (F := Ideal) m c = outQ (D (m ((c.tc : Thread nD τ).loc main_arg0)) (m ((c.tc : Thread nD τ).loc main_arg1)) (m ((c.tc : Thread nD τ).loc main_arg2)))
    (kH (m ((c.tc : Thread nD τ).loc main_arg1))) := by
  unfold res_main_v73; rfl

end run

/-! ## The stages read at an index -/

theorem qH_apply (q : FVec Ideal S8192x512 .bf16) (hq : Reals (s := ⟨2, ![8192, 512]⟩) q) (a b : Fin 2) (r : Fin 8192) (x : Fin 128) :
    (qH q (ix4 a b r x) : EReal) = (qh q a b r x : ℝ) := by
  refine Eq.trans ?_ (rd_eq hq r ⟨a.val * 256 + b.val * 128 + x.val, by omega⟩)
  pointwise [qH]

theorem kH_apply (kv : FVec Ideal S8192x512 .bf16) (hkv : Reals (s := ⟨2, ![8192, 512]⟩) kv) (a : Fin 2) (r : Fin 8192) (x : Fin 128) :
    (kH kv (ix3 a r x) : EReal) = (kh kv a r x : ℝ) := by
  refine Eq.trans ?_ (rd_eq hkv r ⟨a.val * 128 + x.val, by omega⟩)
  pointwise [kH]

theorem vH_apply (kv : FVec Ideal S8192x512 .bf16) (hkv : Reals (s := ⟨2, ![8192, 512]⟩) kv) (a : Fin 2) (r : Fin 8192) (x : Fin 128) :
    (vH kv (ix3 a r x) : EReal) = (vh kv a r x : ℝ) := by
  refine Eq.trans ?_ (rd_eq hkv r ⟨256 + (a.val * 128 + x.val), by omega⟩)
  pointwise [vH]

theorem gH_apply (g : FVec Ideal S32768x512 .bf16) (hg : Reals (s := ⟨2, ![32768, 512]⟩) g) (a b : Fin 2) (r : Fin 8192) (x : Fin 128) :
    (gH g (ix4 a b r x) : EReal) = (gh g a b r x : ℝ) := by
  refine Eq.trans ?_ (rd_eq hg ⟨16384 + r.val, by omega⟩ ⟨a.val * 256 + b.val * 128 + x.val, by omega⟩)
  pointwise [gH]

theorem scores_apply (Q K) (a b : Fin 2) (r x : Fin 8192) :
    (scores Q K (ix4 a b r x) : EReal) = (∑ y : Fin 128, (Q (ix4 a b r y) : EReal) * K (ix3 a x y)) * Ideal.ofBits .f32 0x3DB504F3#32 := by
  pointwise [scores]

theorem expd_apply (s M) (a b : Fin 2) (r x : Fin 8192) :
    (expd s M (ix4 a b r x) : EReal) = Ideal.exp ((s (ix4 a b r x) : EReal) - M (ix3 a b r)) := by
  pointwise [expd]

theorem total_apply (e) (a b : Fin 2) (r : Fin 8192) :
    (total e (ix4 a b r (0 : Fin 1)) : EReal) = ∑ x : Fin 8192, (e (ix4 a b r x) : EReal) := by
  pointwise [total]

theorem dProb_apply (G V) (a b : Fin 2) (r x : Fin 8192) :
    (dProb G V (ix4 a b r x) : EReal) = ∑ y : Fin 128, (G (ix4 a b r y) : EReal) * V (ix3 a x y) := by
  pointwise [dProb]

theorem common_apply (p e t) (a b : Fin 2) (r : Fin 8192) :
    (common p e t (ix3 a b r) : EReal) = -∑ x : Fin 8192, (p (ix4 a b r x) : EReal)
      * Ideal.div 1 ((t (ix4 a b r (0 : Fin 1)) : EReal) * t (ix4 a b r (0 : Fin 1))) * e (ix4 a b r x) := by
  pointwise [common]
  exact Fin.sum_univ_one _

theorem dScore_apply (p e t w) (a b : Fin 2) (r x : Fin 8192) :
    (dScore p e t w (ix4 a b r x) : EReal) = (Ideal.div (p (ix4 a b r x)) (t (ix4 a b r (0 : Fin 1))) + w (ix3 a b r))
      * e (ix4 a b r x) * Ideal.ofBits .f32 0x3DB504F3#32 := by
  pointwise [dScore]

theorem outV_apply (G e t) (r : Fin 8192) (x : Fin 256) :
    (outV G e t (ix2 r x) : EReal) = ∑ b : Fin 2, ∑ ρ : Fin 8192, (G (ix4 (⟨x.val / 128, by omega⟩ : Fin 2) b ρ (⟨x.val % 128, by omega⟩ : Fin 128)) : EReal)
      * Ideal.div (e (ix4 (⟨x.val / 128, by omega⟩ : Fin 2) b ρ r)) (t (ix4 (⟨x.val / 128, by omega⟩ : Fin 2) b ρ (0 : Fin 1))) := by
  pointwise [outV]

theorem outK_apply (d Q) (r : Fin 8192) (x : Fin 256) :
    (outK d Q (ix2 r x) : EReal) = ∑ b : Fin 2, ∑ ρ : Fin 8192, (d (ix4 (⟨x.val / 128, by omega⟩ : Fin 2) b ρ r) : EReal)
      * Q (ix4 (⟨x.val / 128, by omega⟩ : Fin 2) b ρ (⟨x.val % 128, by omega⟩ : Fin 128)) := by
  pointwise [outK]

theorem outQ_apply (d K) (r : Fin 8192) (x : Fin 512) :
    (outQ d K (ix2 r x) : EReal) = ∑ κ : Fin 8192, (d (ix4 (⟨x.val / 256, by omega⟩ : Fin 2) (⟨x.val / 128 % 2, by omega⟩ : Fin 2) r κ) : EReal)
      * K (ix3 (⟨x.val / 256, by omega⟩ : Fin 2) κ (⟨x.val % 128, by omega⟩ : Fin 128)) := by
  pointwise [outQ]

theorem rowMax_real (s : FVec Ideal S2x2x8192x8192 .f32) (hs : Reals s) (a b : Fin 2) (r : Fin 8192) :
    ∃ M : ℝ, (rowMax s (ix3 a b r) : EReal) = (M : EReal) := by
  unfold rowMax
  exact max_reduce_real s hs _ ofBits_bot _ _ _ (by decide) _ (by decide) _

/-! ## The stages over the real numbers -/

section real
variable {q kv : FVec Ideal S8192x512 .bf16} {g : FVec Ideal S32768x512 .bf16}
  (hq : Reals (s := ⟨2, ![8192, 512]⟩) q) (hkv : Reals (s := ⟨2, ![8192, 512]⟩) kv) (hg : Reals (s := ⟨2, ![32768, 512]⟩) g)
include hq hkv

theorem scores_real (a b : Fin 2) (r x : Fin 8192) :
    (scores (qH q) (kH kv) (ix4 a b r x) : EReal) = (score sc (qh q a b) (kh kv a) r x : ℝ) := by
  rw [scores_apply, ofBits_scale]
  simp only [qH_apply q hq, kH_apply kv hkv]
  unfold score
  rw [EReal.coe_mul, coe_sum]
  simp only [EReal.coe_mul]

theorem scores_reals : Reals (scores (qH q) (kH kv)) := fun i => by
  obtain ⟨a, b, r, x, rfl⟩ : ∃ a b r x, i = ix4 a b r x := ⟨i 0, i 1, i 2, i 3, by ext c; fin_cases c <;> rfl⟩
  exact ⟨_, scores_real hq hkv a b r x⟩

/-- The exponentials and their sum at a row, over the number that the row's scores are shifted by. -/
theorem E_real (a b : Fin 2) (r : Fin 8192) : ∃ M : ℝ,
    (∀ x : Fin 8192, (E q kv (ix4 a b r x) : EReal) = (Real.exp (score sc (qh q a b) (kh kv a) r x - M) : ℝ))
    ∧ (total (E q kv) (ix4 a b r (0 : Fin 1)) : EReal) = (mass sc (qh q a b) (kh kv a) M r : ℝ) := by
  obtain ⟨M, hM⟩ := rowMax_real _ (scores_reals hq hkv) a b r
  have h : ∀ x : Fin 8192, (E q kv (ix4 a b r x) : EReal) = (Real.exp (score sc (qh q a b) (kh kv a) r x - M) : ℝ) := fun x => by
    unfold E
    rw [expd_apply, hM, scores_real hq hkv, ← EReal.coe_sub]
    rfl
  refine ⟨M, h, ?_⟩
  rw [total_apply]
  simp only [h]
  rw [← coe_sum]
  rfl

include hg

theorem dProb_real (a b : Fin 2) (r x : Fin 8192) :
    (dProb (gH g) (vH kv) (ix4 a b r x) : EReal) = (dP (vh kv a) (gh g a b) r x : ℝ) := by
  rw [dProb_apply]
  simp only [gH_apply g hg, vH_apply kv hkv]
  unfold dP
  rw [coe_sum]
  simp only [EReal.coe_mul]

theorem D_real (a b : Fin 2) (r x : Fin 8192) :
    (D q kv g (ix4 a b r x) : EReal) = (dS sc (qh q a b) (kh kv a) (vh kv a) (gh g a b) r x * sc : ℝ) := by
  obtain ⟨M, hE, ht⟩ := E_real hq hkv a b r
  have hm := (mass_pos sc (qh q a b) (kh kv a) M r).ne'
  unfold D
  rw [dScore_apply, common_apply, ht, ofBits_scale, ← EReal.coe_mul, ← EReal.coe_one, div_real (mul_ne_zero hm hm)]
  simp only [dProb_real hq hkv hg, hE, ← EReal.coe_mul]
  rw [div_real hm, ← coe_sum, ← EReal.coe_neg, ← EReal.coe_add, ← EReal.coe_mul, ← EReal.coe_mul, ds_quot]

/-- The gradient of the values. -/
theorem outV_real (r : Fin 8192) (x : Fin 256) :
    (outV (gH g) (E q kv) (total (E q kv)) (ix2 r x) : EReal)
      = (∑ b : Fin 2, dV sc (qh q (x.val / 128) b) (kh kv (x.val / 128)) (gh g (x.val / 128) b) r (x.val % 128) : ℝ) := by
  rw [outV_apply, coe_sum]
  refine Finset.sum_congr rfl fun b _ => ?_
  unfold dV
  rw [coe_sum]
  refine Finset.sum_congr rfl fun ρ _ => ?_
  obtain ⟨M, hE, ht⟩ := E_real hq hkv (⟨x.val / 128, by omega⟩ : Fin 2) b ρ
  rw [hE, ht, div_real (mass_pos ..).ne', soft_shift, gH_apply g hg, ← EReal.coe_mul, mul_comm]

/-- The gradient of the keys. -/
theorem outK_real (r : Fin 8192) (x : Fin 256) :
    (outK (D q kv g) (qH q) (ix2 r x) : EReal)
      = (∑ b : Fin 2, dK sc (qh q (x.val / 128) b) (kh kv (x.val / 128)) (vh kv (x.val / 128)) (gh g (x.val / 128) b) r (x.val % 128) : ℝ) := by
  rw [outK_apply, coe_sum]
  refine Finset.sum_congr rfl fun b _ => ?_
  unfold dK
  rw [Finset.sum_mul, coe_sum]
  refine Finset.sum_congr rfl fun ρ _ => ?_
  rw [D_real hq hkv hg, qH_apply q hq, ← EReal.coe_mul, mul_right_comm]

/-- The gradient of the queries. -/
theorem outQ_real (r : Fin 8192) (x : Fin 512) :
    (outQ (D q kv g) (kH kv) (ix2 r x) : EReal)
      = (dQ sc (qh q (x.val / 256) (x.val / 128 % 2)) (kh kv (x.val / 256)) (vh kv (x.val / 256)) (gh g (x.val / 256) (x.val / 128 % 2)) r (x.val % 128) : ℝ) := by
  rw [outQ_apply]
  unfold dQ
  rw [Finset.sum_mul, coe_sum]
  refine Finset.sum_congr rfl fun κ _ => ?_
  rw [D_real hq hkv hg, kH_apply kv hkv, ← EReal.coe_mul, mul_right_comm]

end real

end Cert.ReferenceIdeal.Val

end
-- ==== Proof.HostValue.lean ====
/- What the kernel's host code hands to its call: each row's log-sum of the scores, and each row's product of
   cotangent and output, over the real numbers. -/
module

public import proofs.«01_k».proof.Proof.Gen.KernelIdeal.Frame
public import proofs.«01_k».proof.Proof.RefValue
public import Idealize.ShloMosaic.Lib.Pointwise
public import Idealize.ShloMosaic.Lib.Tactic.CleanTypes

@[expose] public section

set_option maxRecDepth 16384

noncomputable section

namespace Cert.KernelIdeal.Bwd

open Idealize.ShloMosaic Idealize.SL.Sem
open Cert.KernelIdeal Cert.KernelIdeal.Gen Cert.Attn
open Cert.ReferenceIdeal.Val (qH kH vH gH scores expd scores_reals scores_real qH_apply kH_apply vH_apply gH_apply expd_apply)

/-! ## The host code in stages -/

/-- The largest score of each query. -/
def hostMax (s : FVec Ideal S2x2x8192x8192 .f32) : FVec Ideal S2x2x8192 .f32 :=
  Host.reduce FloatOps.maximumf s (constant S_ .f32 0xFF800000#32) reducesTo_S2x2x8192x8192_S2x2x8192_d3 h_S_

/-- The sum of a query's exponentials. -/
def hostSum (e : FVec Ideal S2x2x8192x8192 .f32) : FVec Ideal S2x2x8192 .f32 :=
  Host.reduceAdd e (constant S_ .f32 0x00000000#32) reducesTo_S2x2x8192x8192_S2x2x8192_d3 h_S_

/-- The row log-sums, one row to a query head. -/
def hostLse (M t : FVec Ideal S2x2x8192 .f32) : FVec Ideal S4x1x8192 .f32 :=
  shapeCast S4x1x8192 (addf M (Host.log t)) shapeCasts_S2x2x8192_S4x1x8192

/-- The attention's output. -/
def hostOut (e : FVec Ideal S2x2x8192x8192 .f32) (t : FVec Ideal S2x2x8192 .f32) (v : FVec Ideal S2x8192x128 .f32) : FVec Ideal S2x2x8192x128 .f32 :=
  Host.divf (Host.dotGeneral dot_S2x2x8192x8192_S2x8192x128_S2x2x8192x128_3_1_12_2_0_0 none e v)
    (broadcastInDim S2x2x8192x128 ![0, 1, 2, 3] bcast_S2x2x8192x1_S2x2x8192x128_0_1_2_3 (broadcastInDim S2x2x8192x1 ![0, 1, 2] bcast_S2x2x8192_S2x2x8192x1_0_1_2 t))

/-- The row sums of cotangent times output, one row to a query head, with rows of zeros before and after. -/
def hostDelta (g o : FVec Ideal S2x2x8192x128 .f32) : FVec Ideal S16x1x8192 .f32 :=
  pad S16x1x8192 ![8, 0, 0] ![4, 0, 0] ![0, 0, 0]
    (shapeCast S4x1x8192 (Host.reduceAdd (mulf g o) (constant S_ .f32 0x00000000#32) reducesTo_S2x2x8192x128_S2x2x8192_d3 h_S_) shapeCasts_S2x2x8192_S4x1x8192)
    (sitofp .f32 (constantI S_ 32 0#32)) pads_S4x1x8192_S16x1x8192_840_000_000 h_S_

section run
variable (m : (ℓ : Loc nD τ sig) → Buf (Elt Ideal) ℓ) (c : Dev nD)

/-- The queries, the keys and values, the cotangents as the launch finds them. -/
abbrev argQ : FVec Ideal S8192x512 .bf16 := m ((c.tc : Thread nD τ).loc main_arg0)
abbrev argKV : FVec Ideal S8192x512 .bf16 := m ((c.tc : Thread nD τ).loc main_arg1)
abbrev argG : FVec Ideal S32768x512 .bf16 := m ((c.tc : Thread nD τ).loc main_arg2)

/-- The scores, the largest of each row, the exponentials. -/
def hS : FVec Ideal S2x2x8192x8192 .f32 := scores (qH (argQ m c)) (kH (argKV m c))
def hM : FVec Ideal S2x2x8192 .f32 := hostMax (hS m c)
def hE : FVec Ideal S2x2x8192x8192 .f32 := expd (hS m c) (hM m c)

theorem V_lse : V m c main_v30 = hostLse (hM m c) (hostSum (hE m c)) := by
  unfold V
  simp only [hostOps0, hostOps0_1, List.flatten_cons, List.flatten_nil, List.append_nil, List.cons_append, List.nil_append]
  after_results_simp
  rfl

theorem V_delta : V m c main_v34 = hostDelta (gH (argG m c)) (hostOut (hE m c) (hostSum (hE m c)) (vH (argKV m c))) := by
  unfold V
  simp only [hostOps0, hostOps0_1, List.flatten_cons, List.flatten_nil, List.append_nil, List.cons_append, List.nil_append]
  after_results_simp
  rfl

end run

/-! ## The stages read at an index -/

theorem hostLse_apply (M t : FVec Ideal S2x2x8192 .f32) (h : Fin 4) (r : Fin 8192) :
    (hostLse M t (ix3 h (0 : Fin 1) r) : EReal) = M (ix3 (⟨h.val / 2, by omega⟩ : Fin 2) (⟨h.val % 2, by omega⟩ : Fin 2) r)
      + Ideal.log (t (ix3 (⟨h.val / 2, by omega⟩ : Fin 2) (⟨h.val % 2, by omega⟩ : Fin 2) r)) := by
  pointwise [hostLse]

theorem hostSum_apply (e) (a b : Fin 2) (r : Fin 8192) : (hostSum e (ix3 a b r) : EReal) = ∑ x : Fin 8192, (e (ix4 a b r x) : EReal) := by
  pointwise [hostSum]

theorem hostOut_apply (e t v) (a b : Fin 2) (r : Fin 8192) (x : Fin 128) :
    (hostOut e t v (ix4 a b r x) : EReal) = Ideal.div (∑ κ : Fin 8192, (e (ix4 a b r κ) : EReal) * v (ix3 a κ x)) (t (ix3 a b r)) := by
  pointwise [hostOut]

theorem hostDelta_apply (g o) (h : Fin 4) (r : Fin 8192) :
    (hostDelta g o (ix3 (⟨8 + h.val, by omega⟩ : Fin 16) (0 : Fin 1) r) : EReal)
      = ∑ x : Fin 128, (g (ix4 (⟨h.val / 2, by omega⟩ : Fin 2) (⟨h.val % 2, by omega⟩ : Fin 2) r x) : EReal)
        * o (ix4 (⟨h.val / 2, by omega⟩ : Fin 2) (⟨h.val % 2, by omega⟩ : Fin 2) r x) := by
  pointwise [hostDelta]

/-! ## Over the real numbers -/

section real
variable {m : (ℓ : Loc nD τ sig) → Buf (Elt Ideal) ℓ} {c : Dev nD}
  (hq : Reals (s := ⟨2, ![8192, 512]⟩) (argQ m c)) (hkv : Reals (s := ⟨2, ![8192, 512]⟩) (argKV m c)) (hg : Reals (s := ⟨2, ![32768, 512]⟩) (argG m c))
include hq hkv

theorem hM_real (a b : Fin 2) (r : Fin 8192) : ∃ M : ℝ, (hM m c (ix3 a b r) : EReal) = (M : EReal) := by
  unfold hM hostMax
  exact reduce_max_real _ (scores_reals hq hkv) _ _ (by decide) _ (fun _ => ofBits_bot) (by decide) _

theorem hE_real (a b : Fin 2) (r : Fin 8192) (M : ℝ) (hM' : (hM m c (ix3 a b r) : EReal) = (M : EReal)) (x : Fin 8192) :
    (hE m c (ix4 a b r x) : EReal) = (Real.exp (score sc (qh (argQ m c) a b) (kh (argKV m c) a) r x - M) : ℝ) := by
  unfold hE hS
  rw [expd_apply, hM', scores_real hq hkv, ← EReal.coe_sub]
  rfl

theorem hSum_real (a b : Fin 2) (r : Fin 8192) (M : ℝ) (hM' : (hM m c (ix3 a b r) : EReal) = (M : EReal)) :
    (hostSum (hE m c) (ix3 a b r) : EReal) = (mass sc (qh (argQ m c) a b) (kh (argKV m c) a) M r : ℝ) := by
  rw [hostSum_apply]
  simp only [hE_real hq hkv a b r M hM']
  rw [← coe_sum]
  rfl

/-- A row's log-sum, over the number that its scores are shifted by. -/
theorem lse_real (h : Fin 4) (a b : Fin 2) (e : h.val = 2 * a.val + b.val) (r : Fin 8192) :
    ∃ M : ℝ, ((V m c main_v30 : FVec Ideal S4x1x8192 .f32) (ix3 h (0 : Fin 1) r) : EReal)
      = ((M + Real.log (mass sc (qh (argQ m c) a b) (kh (argKV m c) a) M r) : ℝ) : EReal) := by
  obtain ⟨M, hM'⟩ := hM_real hq hkv a b r
  refine ⟨M, ?_⟩
  have ea : (⟨h.val / 2, by omega⟩ : Fin 2) = a := Fin.ext (by simp only; omega)
  have eb : (⟨h.val % 2, by omega⟩ : Fin 2) = b := Fin.ext (by simp only; omega)
  rw [V_lse, hostLse_apply, ea, eb, hM', hSum_real hq hkv a b r M hM', Ideal.log_coe, if_neg (not_le.mpr (mass_pos ..)), ← EReal.coe_add]

include hg

/-- A row's sum of cotangent times output. -/
theorem delta_real (h : Fin 4) (a b : Fin 2) (e : h.val = 2 * a.val + b.val) (r : Fin 8192) :
    ((V m c main_v34 : FVec Ideal S16x1x8192 .f32) (ix3 (⟨8 + h.val, by omega⟩ : Fin 16) (0 : Fin 1) r) : EReal)
      = ((dRow sc (qh (argQ m c) a b) (kh (argKV m c) a) (vh (argKV m c) a) (gh (argG m c) a b) r : ℝ) : EReal) := by
  obtain ⟨M, hM'⟩ := hM_real hq hkv a b r
  have ea : (⟨h.val / 2, by omega⟩ : Fin 2) = a := Fin.ext (by simp only; omega)
  have eb : (⟨h.val % 2, by omega⟩ : Fin 2) = b := Fin.ext (by simp only; omega)
  rw [V_delta]
  refine (hostDelta_apply _ _ h r).trans ?_
  rw [ea, eb, ← row_out (M := M), coe_sum]
  refine Finset.sum_congr rfl fun x _ => ?_
  rw [hostOut_apply, hSum_real hq hkv a b r M hM', gH_apply _ hg]
  simp only [hE_real hq hkv a b r M hM', vH_apply _ hkv, ← EReal.coe_mul]
  rw [← coe_sum, div_real (mass_pos ..).ne', ← EReal.coe_mul]

end real

end Cert.KernelIdeal.Bwd

end
-- ==== Proof.Blocks.lean ====
/- The kernel's input blocks at a grid point, read off the arrays at coordinates. -/
module

public import proofs.«01_k».proof.Proof.Track
public import proofs.«01_k».proof.Proof.HostValue
public import Idealize.ShloMosaic.Lib.Pointwise
public import Idealize.ShloMosaic.Lib.Pipeline.ValueKit

@[expose] public section

set_option maxRecDepth 16384

noncomputable section

namespace Cert.KernelIdeal.Bwd

open Idealize.ShloMosaic Idealize.ShloMosaic.TcCoe Idealize.SL.Sem
open Cert.KernelIdeal Cert.KernelIdeal.Gen

theorem idx0 : ∀ t : Fin cfg0.N, win0_0.index t = ![t.val / 4 % 16, t.val / 64] := by decide +kernel
theorem idx1 : ∀ t : Fin cfg0.N, win0_1.index t = ![t.val / 4 % 16, 2 + t.val / 64] := by decide +kernel
theorem idx2 : ∀ t : Fin cfg0.N, win0_2.index t = ![t.val % 4, t.val / 64] := by decide +kernel
theorem idx3 : ∀ t : Fin cfg0.N, win0_3.index t = ![8 + t.val % 4, t.val / 64] := by decide +kernel
theorem idx4 : ∀ t : Fin cfg0.N, win0_4.index t = ![t.val / 64, 0, t.val % 4] := by decide +kernel
theorem idx5 : ∀ t : Fin cfg0.N, win0_5.index t = ![4 + t.val / 64, 0, t.val % 4] := by decide +kernel
theorem idx6 : ∀ t : Fin cfg0.N, win0_6.index t = ![0, t.val / 64] := by decide +kernel
theorem idx7 : ∀ t : Fin cfg0.N, win0_7.index t = ![t.val / 4 % 16, t.val / 64] := by decide +kernel
theorem idx8 : ∀ t : Fin cfg0.N, win0_8.index t = ![t.val / 4 % 16, t.val / 64] := by decide +kernel

theorem lt128 (t : Fin cfg0.N) : t.val < 128 := Nat.lt_of_lt_of_eq t.isLt N_0

variable (m : (ℓ : Loc nD τ sig) → Buf (Elt Ideal) ℓ) (c : Dev nD) (t : Fin cfg0.N)

theorem kBlk_apply (y : Fin 512) (x : Fin 128) :
    (kBlk (F := Ideal) m c t (ix2 y x) : EReal)
      = argKV m c (ix2 (⟨t.val / 4 % 16 * 512 + y.val, by omega⟩ : Fin 8192) (⟨t.val / 64 * 128 + x.val, by have := lt128 t; omega⟩ : Fin 512)) := by
  blk_ext [iblk, V_main_arg1, idx0 t]

theorem vBlk_apply (y : Fin 512) (x : Fin 128) :
    (vBlk (F := Ideal) m c t (ix2 y x) : EReal)
      = argKV m c (ix2 (⟨t.val / 4 % 16 * 512 + y.val, by omega⟩ : Fin 8192) (⟨(2 + t.val / 64) * 128 + x.val, by have := lt128 t; omega⟩ : Fin 512)) := by
  blk_ext [iblk, V_main_arg1, idx1 t]

theorem qBlk_apply (r : Fin 2048) (x : Fin 256) :
    (qBlk (F := Ideal) m c t (ix2 r x) : EReal)
      = argQ m c (ix2 (⟨t.val % 4 * 2048 + r.val, by omega⟩ : Fin 8192) (⟨t.val / 64 * 256 + x.val, by have := lt128 t; omega⟩ : Fin 512)) := by
  blk_ext [iblk, V_main_arg0, idx2 t]

theorem gBlk_apply (r : Fin 2048) (x : Fin 256) :
    (gBlk (F := Ideal) m c t (ix2 r x) : EReal)
      = argG m c (ix2 (⟨(8 + t.val % 4) * 2048 + r.val, by omega⟩ : Fin 32768) (⟨t.val / 64 * 256 + x.val, by have := lt128 t; omega⟩ : Fin 512)) := by
  blk_ext [iblk, V_main_arg2, idx3 t]

/-- Blocks of the log-sums and of the row sums, of any contents of the arrays. -/
theorem read4 (A : FVec Ideal S4x1x8192 .f32) (p : Fin 2) (r : Fin 2048) :
    (((win0_4.blk t).view.read (Elt Ideal) A : FVec Ideal S2x1x2048 .f32) (ix3 p (0 : Fin 1) r) : EReal)
      = A (ix3 (⟨t.val / 64 * 2 + p.val, by have := lt128 t; omega⟩ : Fin 4) (0 : Fin 1) (⟨t.val % 4 * 2048 + r.val, by omega⟩ : Fin 8192)) := by
  blk_ext [idx4 t]

theorem read5 (A : FVec Ideal S16x1x8192 .f32) (p : Fin 2) (r : Fin 2048) :
    (((win0_5.blk t).view.read (Elt Ideal) A : FVec Ideal S2x1x2048 .f32) (ix3 p (0 : Fin 1) r) : EReal)
      = A (ix3 (⟨(4 + t.val / 64) * 2 + p.val, by have := lt128 t; omega⟩ : Fin 16) (0 : Fin 1) (⟨t.val % 4 * 2048 + r.val, by omega⟩ : Fin 8192)) := by
  blk_ext [idx5 t]

theorem lBlk_apply (p : Fin 2) (r : Fin 2048) :
    (lBlk (F := Ideal) m c t (ix3 p (0 : Fin 1) r) : EReal)
      = (V m c main_v30 : FVec Ideal S4x1x8192 .f32) (ix3 (⟨t.val / 64 * 2 + p.val, by have := lt128 t; omega⟩ : Fin 4) (0 : Fin 1) (⟨t.val % 4 * 2048 + r.val, by omega⟩ : Fin 8192)) :=
  read4 t (V m c main_v30) p r

theorem eBlk_apply (p : Fin 2) (r : Fin 2048) :
    (eBlk (F := Ideal) m c t (ix3 p (0 : Fin 1) r) : EReal)
      = (V m c main_v34 : FVec Ideal S16x1x8192 .f32) (ix3 (⟨(4 + t.val / 64) * 2 + p.val, by have := lt128 t; omega⟩ : Fin 16) (0 : Fin 1) (⟨t.val % 4 * 2048 + r.val, by omega⟩ : Fin 8192)) :=
  read5 t (V m c main_v34) p r

end Cert.KernelIdeal.Bwd

end
-- ==== Proof.PointValue.lean ====
/- What a grid point adds to the accumulators, over the real numbers: the point's share of each gradient. -/
module

public import proofs.«01_k».proof.Proof.Payload
public import proofs.«01_k».proof.Proof.Blocks

@[expose] public section

set_option maxRecDepth 16384

noncomputable section

namespace Cert.KernelIdeal.Bwd

open Idealize.ShloMosaic Idealize.ShloMosaic.TcCoe Idealize.SL.Sem
open Cert.KernelIdeal Cert.KernelIdeal.Gen Cert.Attn

/-! ## One head of a point -/

/-- A head's blocks hold real numbers: keys and values from row `κ0` on, queries and cotangents from row `r0` on, those
    rows' log-sums and their sums of cotangent times output. -/
structure HeadAt (k v : FVec Ideal S512x128 .bf16) (q g : FVec Ideal S2048x128 .bf16) (l e : FVec Ideal S1x1x2048 .f32)
    (Q K V G : ℕ → ℕ → ℝ) (κ0 r0 : ℕ) : Prop where
  k : ∀ (y : Fin 512) (x : Fin 128), (k (ix2 y x) : EReal) = ((K (κ0 + y.val) x : ℝ) : EReal)
  v : ∀ (y : Fin 512) (x : Fin 128), (v (ix2 y x) : EReal) = ((V (κ0 + y.val) x : ℝ) : EReal)
  q : ∀ (r : Fin 2048) (x : Fin 128), (q (ix2 r x) : EReal) = ((Q (r0 + r.val) x : ℝ) : EReal)
  g : ∀ (r : Fin 2048) (x : Fin 128), (g (ix2 r x) : EReal) = ((G (r0 + r.val) x : ℝ) : EReal)
  l : ∀ r : Fin 2048, ∃ M : ℝ, (l (ix3 (0 : Fin 1) (0 : Fin 1) r) : EReal) = ((M + Real.log (mass sc Q K M (r0 + r.val)) : ℝ) : EReal)
  e : ∀ r : Fin 2048, (e (ix3 (0 : Fin 1) (0 : Fin 1) r) : EReal) = ((dRow sc Q K V G (r0 + r.val) : ℝ) : EReal)

/-- A point's share of the gradient of the values, of one head. -/
def partV (Q K G : ℕ → ℕ → ℝ) (r0 κ x : ℕ) : ℝ := ∑ r : Fin 2048, soft sc Q K (r0 + r.val) κ * G (r0 + r.val) x
/-- A point's share of the gradient of the keys, of one head, before the scale. -/
def partK (Q K V G : ℕ → ℕ → ℝ) (r0 κ x : ℕ) : ℝ := ∑ r : Fin 2048, dS sc Q K V G (r0 + r.val) κ * Q (r0 + r.val) x
/-- A point's share of the gradient of the queries. -/
def partQ (Q K V G : ℕ → ℕ → ℝ) (κ0 r x : ℕ) : ℝ := (∑ y : Fin 512, dS sc Q K V G r (κ0 + y.val) * K (κ0 + y.val) x) * sc

section head
variable {k v : FVec Ideal S512x128 .bf16} {q g : FVec Ideal S2048x128 .bf16} {l e : FVec Ideal S1x1x2048 .f32}
  {Q K V G : ℕ → ℕ → ℝ} {κ0 r0 : ℕ} (H : HeadAt k v q g l e Q K V G κ0 r0)
include H

theorem power_real (y : Fin 512) (r : Fin 2048) :
    Ideal.exp2 ((∑ x : Fin 128, (k (ix2 y x) : EReal) * q (ix2 r x)) * scaleLogW - l (ix3 (0 : Fin 1) (0 : Fin 1) r) * log2eW)
      = ((soft sc Q K (r0 + r.val) (κ0 + y.val) : ℝ) : EReal) := by
  obtain ⟨M, hM⟩ := H.l r
  rw [scaleLogW, log2eW, named_scale_log2e, named_log2e, hM]
  simp only [H.k, H.q, ← EReal.coe_mul]
  rw [← coe_sum, ← EReal.coe_mul, ← EReal.coe_sub, Ideal.exp2_coe]
  exact congrArg _ (soft_pow sc Q K M (r0 + r.val) (κ0 + y.val))

theorem dprob_real (y : Fin 512) (r : Fin 2048) :
    ((∑ x : Fin 128, (v (ix2 y x) : EReal) * g (ix2 r x)) - e (ix3 (0 : Fin 1) (0 : Fin 1) r) : EReal)
      = ((dP V G (r0 + r.val) (κ0 + y.val) - dRow sc Q K V G (r0 + r.val) : ℝ) : EReal) := by
  rw [H.e]
  simp only [H.v, H.g, ← EReal.coe_mul]
  rw [← coe_sum, ← EReal.coe_sub]
  unfold dP
  simp only [mul_comm]

theorem pay7_real (y : Fin 512) (r : Fin 2048) : (k0_pay7 (F := Ideal) k q l (ix2 y r) : EReal) = ((soft sc Q K (r0 + r.val) (κ0 + y.val) : ℝ) : EReal) :=
  (pay7_apply k q l y r).trans (power_real H y r)

theorem pay14_real (y : Fin 512) (r : Fin 2048) : (k0_pay14 (F := Ideal) (k0_pay13 k q) scaleLog2e l (ix2 y r) : EReal) = ((soft sc Q K (r0 + r.val) (κ0 + y.val) : ℝ) : EReal) :=
  (pay14_apply k q l y r).trans (power_real H y r)

theorem pay9_real (y : Fin 512) (r : Fin 2048) : (k0_pay9 (F := Ideal) k v q g l e (ix2 y r) : EReal) = ((dS sc Q K V G (r0 + r.val) (κ0 + y.val) : ℝ) : EReal) := by
  rw [pay9_apply, pay7_real H, dprob_real H, ← EReal.coe_mul]; rfl

theorem pay16_real (y : Fin 512) (r : Fin 2048) : (k0_pay16 (F := Ideal) v g (k0_pay13 k q) scaleLog2e l e (ix2 y r) : EReal) = ((dS sc Q K V G (r0 + r.val) (κ0 + y.val) : ℝ) : EReal) := by
  rw [pay16_apply, pay14_real H, dprob_real H, ← EReal.coe_mul]; rfl

theorem pay8_real (y : Fin 512) (x : Fin 128) : (k0_pay8 (F := Ideal) k q g l (ix2 y x) : EReal) = ((partV Q K G r0 (κ0 + y.val) x : ℝ) : EReal) := by
  rw [pay8_apply]
  simp only [pay7_real H, H.g, ← EReal.coe_mul]
  rw [← coe_sum]; rfl

theorem pay15_real (y : Fin 512) (x : Fin 128) : (k0_pay15 (F := Ideal) g (k0_pay13 k q) scaleLog2e l (ix2 y x) : EReal) = ((partV Q K G r0 (κ0 + y.val) x : ℝ) : EReal) := by
  rw [pay15_apply]
  simp only [pay14_real H, H.g, ← EReal.coe_mul]
  rw [← coe_sum]; rfl

theorem pay11_real (s : FVec Ideal S1x512x128 .f32) (y : Fin 512) (x : Fin 128) :
    (k0_pay11 (F := Ideal) q (k0_pay9 k v q g l e) s (ix3 (0 : Fin 1) y x) : EReal) = s (ix3 (0 : Fin 1) y x) + ((partK Q K V G r0 (κ0 + y.val) x : ℝ) : EReal) := by
  rw [pay11_apply]
  simp only [pay9_real H, H.q, ← EReal.coe_mul]
  rw [← coe_sum]; rfl

theorem pay18_real (s : FVec Ideal S1x512x128 .f32) (y : Fin 512) (x : Fin 128) :
    (k0_pay18 (F := Ideal) v q g (k0_pay13 k q) scaleLog2e l e s (ix3 (0 : Fin 1) y x) : EReal) = s (ix3 (0 : Fin 1) y x) + ((partK Q K V G r0 (κ0 + y.val) x : ℝ) : EReal) := by
  rw [pay18_apply]
  simp only [pay16_real H, H.q, ← EReal.coe_mul]
  rw [← coe_sum]; rfl

theorem pay10_real (x : FVec Ideal S2048x128 .f32) (r : Fin 2048) (y : Fin 128) :
    (k0_pay10 (F := Ideal) k (k0_pay9 k v q g l e) x (ix2 r y) : EReal) = x (ix2 r y) + ((partQ Q K V G κ0 (r0 + r.val) y : ℝ) : EReal) := by
  rw [pay10_apply, scaleW, ofBits_scale]
  simp only [pay9_real H, H.k, ← EReal.coe_mul]
  rw [← coe_sum, ← EReal.coe_mul]; rfl

theorem pay17_real (x : FVec Ideal S2048x128 .f32) (r : Fin 2048) (y : Fin 128) :
    (k0_pay17 (F := Ideal) k v g (k0_pay13 k q) scaleLog2e l e x (ix2 r y) : EReal) = x (ix2 r y) + ((partQ Q K V G κ0 (r0 + r.val) y : ℝ) : EReal) := by
  rw [pay17_apply, scaleW, ofBits_scale]
  simp only [pay16_real H, H.k, ← EReal.coe_mul]
  rw [← coe_sum, ← EReal.coe_mul]; rfl

end head

/-! ## Both heads' blocks at a point -/

section point
variable {m : (ℓ : Loc nD τ sig) → Buf (Elt Ideal) ℓ} {c : Dev nD}
  (hq : Reals (s := ⟨2, ![8192, 512]⟩) (argQ m c)) (hkv : Reals (s := ⟨2, ![8192, 512]⟩) (argKV m c)) (hg : Reals (s := ⟨2, ![32768, 512]⟩) (argG m c))
include hq hkv hg

theorem at_A (t : Fin cfg0.N) : HeadAt (kBlk m c t) (vBlk m c t) (headA (qBlk m c t)) (headA (gBlk m c t)) (rowA (lBlk m c t)) (rowA (eBlk m c t))
    (qh (argQ m c) (t.val / 64) 0) (kh (argKV m c) (t.val / 64)) (vh (argKV m c) (t.val / 64)) (gh (argG m c) (t.val / 64) 0)
    (t.val / 4 % 16 * 512) (t.val % 4 * 2048) where
  k y x := (kBlk_apply m c t y x).trans (rd_eq hkv _ _)
  v y x := (vBlk_apply m c t y x).trans ((rd_eq hkv _ _).trans (by
    unfold vh; congr 2; simp only; omega))
  q r x := (headA_apply _ r x).trans ((qBlk_apply m c t r _).trans ((rd_eq hq _ _).trans (by
    unfold qh; congr 2)))
  g r x := (headA_apply _ r x).trans ((gBlk_apply m c t r _).trans ((rd_eq hg _ _).trans (by
    unfold gh; congr 2; simp only; omega)))
  l r := by
    obtain ⟨M, hM⟩ := lse_real hq hkv (⟨t.val / 64 * 2 + 0, by have := lt128 t; omega⟩ : Fin 4) (⟨t.val / 64, by have := lt128 t; omega⟩ : Fin 2) 0
      (by simp only [Fin.val_zero]; omega) (⟨t.val % 4 * 2048 + r.val, by omega⟩ : Fin 8192)
    exact ⟨M, (rowA_apply _ r).trans ((lBlk_apply m c t 0 r).trans hM)⟩
  e r := by
    have h := delta_real hq hkv hg (⟨t.val / 64 * 2 + 0, by have := lt128 t; omega⟩ : Fin 4) (⟨t.val / 64, by have := lt128 t; omega⟩ : Fin 2) 0
      (by simp only [Fin.val_zero]; omega) (⟨t.val % 4 * 2048 + r.val, by omega⟩ : Fin 8192)
    refine (rowA_apply _ r).trans ((eBlk_apply m c t 0 r).trans (Eq.trans ?_ h))
    congr 2
    exact Fin.ext (by simp only [Fin.val_zero]; omega)

theorem at_B (t : Fin cfg0.N) : HeadAt (kBlk m c t) (vBlk m c t) (headB (qBlk m c t)) (headB (gBlk m c t)) (rowB (lBlk m c t)) (rowB (eBlk m c t))
    (qh (argQ m c) (t.val / 64) 1) (kh (argKV m c) (t.val / 64)) (vh (argKV m c) (t.val / 64)) (gh (argG m c) (t.val / 64) 1)
    (t.val / 4 % 16 * 512) (t.val % 4 * 2048) where
  k y x := (kBlk_apply m c t y x).trans (rd_eq hkv _ _)
  v y x := (vBlk_apply m c t y x).trans ((rd_eq hkv _ _).trans (by
    unfold vh; congr 2; simp only; omega))
  q r x := (headB_apply _ r x).trans ((qBlk_apply m c t r _).trans ((rd_eq hq _ _).trans (by
    unfold qh; congr 2; simp only; omega)))
  g r x := (headB_apply _ r x).trans ((gBlk_apply m c t r _).trans ((rd_eq hg _ _).trans (by
    unfold gh; congr 2 <;> simp only <;> omega)))
  l r := by
    obtain ⟨M, hM⟩ := lse_real hq hkv (⟨t.val / 64 * 2 + 1, by have := lt128 t; omega⟩ : Fin 4) (⟨t.val / 64, by have := lt128 t; omega⟩ : Fin 2) 1
      (by simp only [Fin.val_one]; omega) (⟨t.val % 4 * 2048 + r.val, by omega⟩ : Fin 8192)
    exact ⟨M, (rowB_apply _ r).trans ((lBlk_apply m c t 1 r).trans hM)⟩
  e r := by
    have h := delta_real hq hkv hg (⟨t.val / 64 * 2 + 1, by have := lt128 t; omega⟩ : Fin 4) (⟨t.val / 64, by have := lt128 t; omega⟩ : Fin 2) 1
      (by simp only [Fin.val_one]; omega) (⟨t.val % 4 * 2048 + r.val, by omega⟩ : Fin 8192)
    refine (rowB_apply _ r).trans ((eBlk_apply m c t 1 r).trans (Eq.trans ?_ h))
    congr 2
    exact Fin.ext (by simp only [Fin.val_one]; omega)

end point

end Cert.KernelIdeal.Bwd

end
-- ==== Proof.Accum.lean ====
/- The accumulators and the query block after each grid point, over the real numbers: sums over the points so far. -/
module

public import proofs.«01_k».proof.Proof.PointValue

@[expose] public section

set_option maxRecDepth 16384

noncomputable section

namespace Cert.KernelIdeal.Bwd

open Idealize.ShloMosaic Idealize.ShloMosaic.TcCoe Idealize.SL.Sem
open Cert.KernelIdeal Cert.KernelIdeal.Gen Cert.Attn

/-! ## The query block of a point -/

theorem off1_eq (t : Fin cfg0.N) : k0_off1 (grid0.coords t) = ![t.val % 4 * 2048, 0] := by
  revert t; decide +kernel
theorem off2_eq (t : Fin cfg0.N) : k0_off2 (grid0.coords t) = ![t.val % 4 * 2048, 128] := by
  revert t; decide +kernel

/-- An array with a window put over it, read outside of the window. -/
theorem put_out (x : FVec Ideal S8192x256 .f32) (w : FVec Ideal S2048x128 .f32) (off : Fin 2 → ℕ) (o0 o1 : ℕ) (e : off = ![o0, o1])
    (r : Fin 8192) (y : Fin 256) (h : ¬((o0 ≤ r.val ∧ r.val < o0 + 2048) ∧ (o1 ≤ y.val ∧ y.val < o1 + 128))) :
    VecWindow.put (s := S8192x256) x off S2048x128.size w (ix2 r y) = x (ix2 r y) := by
  subst e
  unfold VecWindow.put
  exact dif_neg fun h' => h ⟨h' 0, h' 1⟩

/-- An array with a window put over it, read in the window. -/
theorem put_in (x : FVec Ideal S8192x256 .f32) (w : FVec Ideal S2048x128 .f32) (off : Fin 2 → ℕ) (o0 o1 : ℕ) (e : off = ![o0, o1])
    (r : Fin 8192) (y : Fin 256) (r' : Fin 2048) (y' : Fin 128) (hr : r.val = o0 + r'.val) (hy : y.val = o1 + y'.val) :
    VecWindow.put (s := S8192x256) x off S2048x128.size w (ix2 r y) = w (ix2 r' y') := by
  subst e
  unfold VecWindow.put
  have h : ∀ a : Fin 2, (![o0, o1] : Fin 2 → ℕ) a ≤ (ix2 r y a).val ∧ (ix2 r y a).val < (![o0, o1] : Fin 2 → ℕ) a + S2048x128.size a := by
    intro a
    have h1 := r'.isLt
    have h2 := y'.isLt
    fin_cases a
    · exact ⟨by show o0 ≤ r.val; omega, by show r.val < o0 + 2048; omega⟩
    · exact ⟨by show o1 ≤ y.val; omega, by show y.val < o1 + 128; omega⟩
  refine (dif_pos h).trans (congrArg w (funext fun a => ?_))
  fin_cases a
  · exact Fin.ext (by show r.val - o0 = r'.val; omega)
  · exact Fin.ext (by show y.val - o1 = y'.val; omega)

/-- A window of an array, read at an element of it. -/
theorem window_at (x : FVec Ideal S8192x256 .f32) (off : Fin 2 → ℕ) (inb) (o0 o1 : ℕ) (e : off = ![o0, o1])
    (r : Fin 8192) (y : Fin 256) (r' : Fin 2048) (y' : Fin 128) (hr : r.val = o0 + r'.val) (hy : y.val = o1 + y'.val) :
    VecWindow.window (s := S8192x256) x off S2048x128.size inb (ix2 r' y') = x (ix2 r y) := by
  subst e
  unfold VecWindow.window
  refine congrArg x (funext fun a => ?_)
  fin_cases a
  · exact Fin.ext (by show o0 + 1 * r'.val = r.val; omega)
  · exact Fin.ext (by show o1 + 1 * y'.val = y.val; omega)

/-! ## One step -/

section step
variable (m : (ℓ : Loc nD τ sig) → Buf (Elt Ideal) ℓ) (c : Dev nD)

/-- The head `b` of the pair `a`, in the launch's arrays. -/
abbrev hQ (a b : ℕ) : ℕ → ℕ → ℝ := qh (argQ m c) a b
abbrev hK (a : ℕ) : ℕ → ℕ → ℝ := kh (argKV m c) a
abbrev hV (a : ℕ) : ℕ → ℕ → ℝ := vh (argKV m c) a
abbrev hG (a b : ℕ) : ℕ → ℕ → ℝ := gh (argG m c) a b

/-- What point `n` adds to the accumulator of the keys' gradient. -/
def addK (n y x : ℕ) : ℝ := ∑ b : Fin 2, partK (hQ m c (n / 64) b) (hK m c (n / 64)) (hV m c (n / 64)) (hG m c (n / 64) b) (n % 4 * 2048) (n / 4 % 16 * 512 + y) x
/-- What it adds to the accumulator of the values' gradient. -/
def addV (n y x : ℕ) : ℝ := ∑ b : Fin 2, partV (hQ m c (n / 64) b) (hK m c (n / 64)) (hG m c (n / 64) b) (n % 4 * 2048) (n / 4 % 16 * 512 + y) x
/-- What it adds to the block of the queries' gradient: nothing but on the rows of its query tile. -/
def addQ (n r y : ℕ) : ℝ :=
  if r / 2048 = n % 4 then partQ (hQ m c (n / 64) (y / 128)) (hK m c (n / 64)) (hV m c (n / 64)) (hG m c (n / 64) (y / 128)) (n / 4 % 16 * 512) r (y % 128) else 0

variable {m c} (hq : Reals (s := ⟨2, ![8192, 512]⟩) (argQ m c)) (hkv : Reals (s := ⟨2, ![8192, 512]⟩) (argKV m c)) (hg : Reals (s := ⟨2, ![32768, 512]⟩) (argG m c))
include hq hkv hg

theorem step_K (t : Fin cfg0.N) (p : St Ideal) (y : Fin 512) (x : Fin 128) :
    ((stepAt (F := Ideal) m c t p).2.1 (ix3 (0 : Fin 1) y x) : EReal) = p.2.1 (ix3 (0 : Fin 1) y x) + ((addK m c t.val y x : ℝ) : EReal) := by
  unfold stepAt dkStep dsA
  refine (pay18_real (at_B hq hkv hg t) _ y x).trans ?_
  rw [pay11_real (at_A hq hkv hg t) _ y x, add_assoc, ← EReal.coe_add]
  unfold addK
  rw [Fin.sum_univ_two]
  rfl

theorem step_V (t : Fin cfg0.N) (p : St Ideal) (y : Fin 512) (x : Fin 128) :
    ((stepAt (F := Ideal) m c t p).2.2 (ix3 (0 : Fin 1) y x) : EReal) = p.2.2 (ix3 (0 : Fin 1) y x) + ((addV m c t.val y x : ℝ) : EReal) := by
  unfold stepAt dvStep
  refine (pay1_apply _ _ y x).trans ?_
  rw [pay12_apply, pay8_real (at_A hq hkv hg t), pay15_real (at_B hq hkv hg t), add_assoc, ← EReal.coe_add]
  unfold addV
  rw [Fin.sum_univ_two]
  rfl

theorem step_Q (t : Fin cfg0.N) (p : St Ideal) (r : Fin 8192) (y : Fin 256) :
    ((stepAt (F := Ideal) m c t p).1 (ix2 r y) : EReal) = p.1 (ix2 r y) + ((addQ m c t.val r y : ℝ) : EReal) := by
  unfold stepAt dqStep dsA addQ
  by_cases hr : r.val / 2048 = t.val % 4
  · rw [if_pos hr]
    by_cases hy : y.val < 128
    · have e1 : y.val / 128 = 0 := by omega
      have e2 : y.val % 128 = y.val := by omega
      refine (put_out _ _ _ _ _ (off2_eq t) r y (by omega)).trans ?_
      refine (put_in _ _ _ _ _ (off1_eq t) r y (⟨r.val % 2048, by omega⟩ : Fin 2048) (⟨y.val, hy⟩ : Fin 128) (by simp only; omega) (by simp only; omega)).trans ?_
      refine (pay10_real (at_A hq hkv hg t) _ _ _).trans ?_
      rw [window_at _ _ _ _ _ (off1_eq t) r y (⟨r.val % 2048, by omega⟩ : Fin 2048) (⟨y.val, hy⟩ : Fin 128) (by simp only; omega) (by simp only; omega)]
      simp only [e1, e2, show t.val % 4 * 2048 + r.val % 2048 = r.val by omega]
    · have hy' := y.isLt
      have e1 : y.val / 128 = 1 := by omega
      have e2 : y.val % 128 = y.val - 128 := by omega
      refine (put_in _ _ _ _ _ (off2_eq t) r y (⟨r.val % 2048, by omega⟩ : Fin 2048) (⟨y.val - 128, by omega⟩ : Fin 128) (by simp only; omega) (by simp only; omega)).trans ?_
      refine (pay17_real (at_B hq hkv hg t) _ _ _).trans ?_
      rw [window_at _ _ _ _ _ (off2_eq t) r y (⟨r.val % 2048, by omega⟩ : Fin 2048) (⟨y.val - 128, by omega⟩ : Fin 128) (by simp only; omega) (by simp only; omega)]
      simp only [e1, e2, show t.val % 4 * 2048 + r.val % 2048 = r.val by omega]
  · rw [if_neg hr, EReal.coe_zero, add_zero]
    refine (put_out _ _ _ _ _ (off2_eq t) r y (by omega)).trans ?_
    exact put_out _ _ _ _ _ (off1_eq t) r y (by omega)

/-! ## All steps -/

/-- The accumulators after a point: the sums of what the points of its key block have added. -/
theorem acc_real (n : ℕ) (h : n < cfg0.N) (y : Fin 512) (x : Fin 128) :
    ((stAt (F := Ideal) m c n h).2.1 (ix3 (0 : Fin 1) y x) : EReal) = ((∑ d ∈ Finset.range (n % 4 + 1), addK m c (n / 4 * 4 + d) y x : ℝ) : EReal)
    ∧ ((stAt (F := Ideal) m c n h).2.2 (ix3 (0 : Fin 1) y x) : EReal) = ((∑ d ∈ Finset.range (n % 4 + 1), addV m c (n / 4 * 4 + d) y x : ℝ) : EReal) := by
  induction n with
  | zero =>
    rw [stAt_start m c ⟨0, h⟩ rfl, step_K hq hkv hg, step_V hq hkv hg]
    dsimp only
    rw [pay5_apply, pay6_apply, zero_add, zero_add]
    simp
  | succ n ih =>
    by_cases h1 : (n + 1) % 4 = 0
    · have e : stAt (F := Ideal) m c (n + 1) h = stepAt m c ⟨n + 1, h⟩ (emptied (n + 1) (stAt m c n (Nat.lt_of_succ_lt h))) := rfl
      rw [e, step_K hq hkv hg, step_V hq hkv hg]
      unfold emptied
      dsimp only
      rw [if_pos h1, if_pos h1, pay5_apply, pay6_apply, zero_add, zero_add, h1]
      have e4 : (n + 1) / 4 * 4 = n + 1 := by omega
      simp [e4]
    · have e : stAt (F := Ideal) m c (n + 1) h = stepAt m c ⟨n + 1, h⟩ (emptied (n + 1) (stAt m c n (Nat.lt_of_succ_lt h))) := rfl
      rw [e, step_K hq hkv hg, step_V hq hkv hg]
      unfold emptied
      dsimp only
      obtain ⟨ihK, ihV⟩ := ih (Nat.lt_of_succ_lt h)
      rw [if_neg h1, if_neg h1, ihK, ihV, ← EReal.coe_add, ← EReal.coe_add]
      have e1 : (n + 1) % 4 = n % 4 + 1 := by omega
      have e2 : (n + 1) / 4 * 4 = n / 4 * 4 := by omega
      have e3 : n / 4 * 4 + (n % 4 + 1) = n + 1 := by omega
      rw [e1, e2, Finset.sum_range_succ _ (n % 4 + 1), Finset.sum_range_succ _ (n % 4 + 1), e3]
      exact ⟨rfl, rfl⟩

/-- The query block after a point: the sum of what the points of its pair of heads have added. -/
theorem blk_real (n : ℕ) (h : n < cfg0.N) (r : Fin 8192) (y : Fin 256) :
    ((stAt (F := Ideal) m c n h).1 (ix2 r y) : EReal) = ((∑ d ∈ Finset.range (n % 64 + 1), addQ m c (n / 64 * 64 + d) r y : ℝ) : EReal) := by
  induction n with
  | zero =>
    rw [stAt_start m c ⟨0, h⟩ rfl, step_Q hq hkv hg]
    dsimp only
    rw [pay4_apply, zero_add]
    simp
  | succ n ih =>
    have e : stAt (F := Ideal) m c (n + 1) h = stepAt m c ⟨n + 1, h⟩ (emptied (n + 1) (stAt m c n (Nat.lt_of_succ_lt h))) := rfl
    rw [e, step_Q hq hkv hg]
    unfold emptied
    dsimp only
    by_cases h1 : (n + 1) % 64 = 0
    · rw [if_pos h1, pay4_apply, zero_add, h1]
      have e4 : (n + 1) / 64 * 64 = n + 1 := by omega
      simp [e4]
    · rw [if_neg h1, ih (Nat.lt_of_succ_lt h), ← EReal.coe_add]
      have e1 : (n + 1) % 64 = n % 64 + 1 := by omega
      have e2 : (n + 1) / 64 * 64 = n / 64 * 64 := by omega
      have e3 : n / 64 * 64 + (n % 64 + 1) = n + 1 := by omega
      rw [e1, e2, Finset.sum_range_succ _ (n % 64 + 1), e3]

end step

/-! ## The sums of all points -/

theorem sum_tiles (f : ℕ → ℝ) (a b : ℕ) : ∑ i ∈ Finset.range a, ∑ j : Fin b, f (i * b + j.val) = ∑ k : Fin (a * b), f k.val := by
  rw [← Finset.sum_range (fun k => f k)]
  induction a with
  | zero => simp
  | succ a ih =>
    rw [Finset.sum_range_succ, ih, Nat.succ_mul, Finset.sum_range_add, Finset.sum_range (fun j => f (a * b + j))]

section total
variable (m : (ℓ : Loc nD τ sig) → Buf (Elt Ideal) ℓ) (c : Dev nD)

theorem total_K (t y x : ℕ) :
    (∑ d ∈ Finset.range 4, addK m c (t / 4 * 4 + d) y x) * sc
      = ∑ b : Fin 2, dK sc (hQ m c (t / 64) b) (hK m c (t / 64)) (hV m c (t / 64)) (hG m c (t / 64) b) (t / 4 % 16 * 512 + y) x := by
  have e : ∀ d ∈ Finset.range 4, addK m c (t / 4 * 4 + d) y x
      = ∑ b : Fin 2, ∑ r : Fin 2048, dS sc (hQ m c (t / 64) b) (hK m c (t / 64)) (hV m c (t / 64)) (hG m c (t / 64) b) (d * 2048 + r.val) (t / 4 % 16 * 512 + y)
          * hQ m c (t / 64) b (d * 2048 + r.val) x := fun d hd => by
    have hd := Finset.mem_range.mp hd
    unfold addK partK
    rw [show (t / 4 * 4 + d) / 64 = t / 64 by omega, show (t / 4 * 4 + d) % 4 = d by omega, show (t / 4 * 4 + d) / 4 % 16 = t / 4 % 16 by omega]
  rw [Finset.sum_congr rfl e, Finset.sum_comm, Finset.sum_mul]
  refine Finset.sum_congr rfl fun b _ => ?_
  unfold dK
  rw [sum_tiles (fun ρ => dS sc (hQ m c (t / 64) b) (hK m c (t / 64)) (hV m c (t / 64)) (hG m c (t / 64) b) ρ (t / 4 % 16 * 512 + y) * hQ m c (t / 64) b ρ x) 4 2048]

theorem total_V (t y x : ℕ) :
    ∑ d ∈ Finset.range 4, addV m c (t / 4 * 4 + d) y x
      = ∑ b : Fin 2, dV sc (hQ m c (t / 64) b) (hK m c (t / 64)) (hG m c (t / 64) b) (t / 4 % 16 * 512 + y) x := by
  have e : ∀ d ∈ Finset.range 4, addV m c (t / 4 * 4 + d) y x
      = ∑ b : Fin 2, ∑ r : Fin 2048, soft sc (hQ m c (t / 64) b) (hK m c (t / 64)) (d * 2048 + r.val) (t / 4 % 16 * 512 + y)
          * hG m c (t / 64) b (d * 2048 + r.val) x := fun d hd => by
    have hd := Finset.mem_range.mp hd
    unfold addV partV
    rw [show (t / 4 * 4 + d) / 64 = t / 64 by omega, show (t / 4 * 4 + d) % 4 = d by omega, show (t / 4 * 4 + d) / 4 % 16 = t / 4 % 16 by omega]
  rw [Finset.sum_congr rfl e, Finset.sum_comm]
  refine Finset.sum_congr rfl fun b _ => ?_
  unfold dV
  rw [sum_tiles (fun ρ => soft sc (hQ m c (t / 64) b) (hK m c (t / 64)) ρ (t / 4 % 16 * 512 + y) * hG m c (t / 64) b ρ x) 4 2048]

theorem total_Q (a r y : ℕ) (hr : r < 8192) :
    ∑ d ∈ Finset.range 64, addQ m c (a * 64 + d) r y
      = dQ sc (hQ m c a (y / 128)) (hK m c a) (hV m c a) (hG m c a (y / 128)) r (y % 128) := by
  have e : ∀ j ∈ Finset.range 16, ∑ d : Fin 4, addQ m c (a * 64 + (j * 4 + d.val)) r y
      = (∑ z : Fin 512, dS sc (hQ m c a (y / 128)) (hK m c a) (hV m c a) (hG m c a (y / 128)) r (j * 512 + z.val) * hK m c a (j * 512 + z.val) (y % 128)) * sc := fun j hj => by
    have hj := Finset.mem_range.mp hj
    rw [Finset.sum_eq_single (⟨r / 2048, by omega⟩ : Fin 4)]
    · unfold addQ partQ
      have hd : r / 2048 < 4 := by omega
      rw [if_pos (by dsimp only; omega)]
      dsimp only
      rw [show (a * 64 + (j * 4 + r / 2048)) / 64 = a by omega, show (a * 64 + (j * 4 + r / 2048)) / 4 % 16 = j by omega]
    · intro d _ hd
      unfold addQ
      refine if_neg fun h => hd (Fin.ext ?_)
      have := d.isLt
      dsimp only
      omega
    · intro h; exact absurd (Finset.mem_univ _) h
  have s := sum_tiles (fun d => addQ m c (a * 64 + d) r y) 16 4
  rw [Finset.sum_congr rfl e, ← Finset.sum_mul, sum_tiles (fun κ => dS sc (hQ m c a (y / 128)) (hK m c a) (hV m c a) (hG m c a (y / 128)) r κ * hK m c a κ (y % 128)) 16 512] at s
  rw [Finset.sum_range (fun d => addQ m c (a * 64 + d) r y)]
  exact s.symm

end total

end Cert.KernelIdeal.Bwd

end
-- ==== Proof.Arrays.lean ====
/- The three result arrays of the kernel: the gradients over the real numbers. -/
module

public import proofs.«01_k».proof.Proof.Accum

@[expose] public section

set_option maxRecDepth 16384

noncomputable section

namespace Cert.Attn

open Idealize.ShloMosaic

/-- The queries' gradient. -/
def resQ (q kv : FVec Ideal ⟨2, ![8192, 512]⟩ .bf16) (g : FVec Ideal ⟨2, ![32768, 512]⟩ .bf16) : FVec Ideal ⟨2, ![8192, 512]⟩ .bf16 := fun i =>
  ((dQ sc (qh q ((i 1).val / 256) ((i 1).val / 128 % 2)) (kh kv ((i 1).val / 256)) (vh kv ((i 1).val / 256))
    (gh g ((i 1).val / 256) ((i 1).val / 128 % 2)) (i 0).val ((i 1).val % 128) : ℝ) : EReal)

/-- The keys' gradient. -/
def resK (q kv : FVec Ideal ⟨2, ![8192, 512]⟩ .bf16) (g : FVec Ideal ⟨2, ![32768, 512]⟩ .bf16) : FVec Ideal ⟨2, ![8192, 256]⟩ .bf16 := fun i =>
  ((∑ b : Fin 2, dK sc (qh q ((i 1).val / 128) b) (kh kv ((i 1).val / 128)) (vh kv ((i 1).val / 128))
    (gh g ((i 1).val / 128) b) (i 0).val ((i 1).val % 128) : ℝ) : EReal)

/-- The values' gradient. -/
def resV (q kv : FVec Ideal ⟨2, ![8192, 512]⟩ .bf16) (g : FVec Ideal ⟨2, ![32768, 512]⟩ .bf16) : FVec Ideal ⟨2, ![8192, 256]⟩ .bf16 := fun i =>
  ((∑ b : Fin 2, dV sc (qh q ((i 1).val / 128) b) (kh kv ((i 1).val / 128))
    (gh g ((i 1).val / 128) b) (i 0).val ((i 1).val % 128) : ℝ) : EReal)

end Cert.Attn

namespace Cert.KernelIdeal.Bwd

open Idealize.ShloMosaic Idealize.ShloMosaic.TcCoe Idealize.SL.Sem
open Cert.KernelIdeal Cert.KernelIdeal.Gen Cert.Attn

theorem flush6 : ∀ t : Fin cfg0.N, win0_6.flush t = true → t.val % 64 = 63 := by decide +kernel
theorem flush7 : ∀ t : Fin cfg0.N, win0_7.flush t = true → t.val % 4 = 3 := by decide +kernel
theorem flush8 : ∀ t : Fin cfg0.N, win0_8.flush t = true → t.val % 4 = 3 := by decide +kernel

variable {m : (ℓ : Loc nD τ sig) → Buf (Elt Ideal) ℓ} {c : Dev nD} (hq : Reals (s := ⟨2, ![8192, 512]⟩) (argQ m c)) (hkv : Reals (s := ⟨2, ![8192, 512]⟩) (argKV m c)) (hg : Reals (s := ⟨2, ![32768, 512]⟩) (argG m c))
include hq hkv hg

theorem end_V (t : Fin cfg0.N) (ht : t.val % 4 = 3) (y : Fin 512) (x : Fin 128) :
    (k0_pay3 (F := Ideal) (stAt m c t.val t.isLt).2.2 (ix2 y x) : EReal)
      = resV (argQ m c) (argKV m c) (argG m c) (ix2 (⟨t.val / 4 % 16 * 512 + y.val, by omega⟩ : Fin 8192) (⟨t.val / 64 * 128 + x.val, by have := lt128 t; omega⟩ : Fin 256)) := by
  rw [pay3_apply, (acc_real hq hkv hg t.val t.isLt y x).2, ht, total_V]
  unfold resV
  dsimp only [ix2_0, ix2_1]
  rw [show (t.val / 64 * 128 + x.val) / 128 = t.val / 64 by omega, show (t.val / 64 * 128 + x.val) % 128 = x.val by omega]

theorem end_K (t : Fin cfg0.N) (ht : t.val % 4 = 3) (y : Fin 512) (x : Fin 128) :
    (k0_pay2 (F := Ideal) (stAt m c t.val t.isLt).2.1 (ix2 y x) : EReal)
      = resK (argQ m c) (argKV m c) (argG m c) (ix2 (⟨t.val / 4 % 16 * 512 + y.val, by omega⟩ : Fin 8192) (⟨t.val / 64 * 128 + x.val, by have := lt128 t; omega⟩ : Fin 256)) := by
  rw [pay2_apply, (acc_real hq hkv hg t.val t.isLt y x).1, ht]
  unfold resK
  dsimp only [ix2_0, ix2_1]
  rw [show (t.val / 64 * 128 + x.val) / 128 = t.val / 64 by omega, show (t.val / 64 * 128 + x.val) % 128 = x.val by omega, ← total_K, EReal.coe_mul]
  congr 1
  exact ofBits_scale

theorem end_Q (t : Fin cfg0.N) (ht : t.val % 64 = 63) (r : Fin 8192) (y : Fin 256) :
    ((stAt (F := Ideal) m c t.val t.isLt).1 (ix2 r y) : EReal)
      = resQ (argQ m c) (argKV m c) (argG m c) (ix2 r (⟨t.val / 64 * 256 + y.val, by have := lt128 t; omega⟩ : Fin 512)) := by
  rw [blk_real hq hkv hg t.val t.isLt r y, ht, total_Q m c _ _ _ r.isLt]
  unfold resQ
  dsimp only [ix2_0, ix2_1]
  rw [show (t.val / 64 * 256 + y.val) / 256 = t.val / 64 by omega, show (t.val / 64 * 256 + y.val) / 128 % 2 = y.val / 128 by omega,
    show (t.val / 64 * 256 + y.val) % 128 = y.val % 128 by omega]

theorem arr_Q : (dats (F := Ideal) m 0 c).arrAt 6 cfg0.N = resQ (argQ m c) (argKV m c) (argG m c) := by
  refine (dats m 0 c).arrAt_eq_of_covers 6 _ (by decide +kernel) fun t hf y => ?_
  blk_simp
  rw [after_6]
  obtain ⟨r, x, rfl⟩ : ∃ (r : Fin 8192) (x : Fin 256), y = ix2 r x := ⟨y 0, y 1, by ext a; fin_cases a <;> rfl⟩
  refine (end_Q hq hkv hg t (flush6 t hf) r x).trans ?_
  blk_ext [idx6 t]

theorem arr_K : (dats (F := Ideal) m 0 c).arrAt 7 cfg0.N = resK (argQ m c) (argKV m c) (argG m c) := by
  refine (dats m 0 c).arrAt_eq_of_covers 7 _ (by decide +kernel) fun t hf y => ?_
  blk_simp
  rw [after_7]
  obtain ⟨r, x, rfl⟩ : ∃ (r : Fin 512) (x : Fin 128), y = ix2 r x := ⟨y 0, y 1, by ext a; fin_cases a <;> rfl⟩
  refine (end_K hq hkv hg t (flush7 t hf) r x).trans ?_
  blk_ext [idx7 t]

theorem arr_V : (dats (F := Ideal) m 0 c).arrAt 8 cfg0.N = resV (argQ m c) (argKV m c) (argG m c) := by
  refine (dats m 0 c).arrAt_eq_of_covers 8 _ (by decide +kernel) fun t hf y => ?_
  blk_simp
  rw [after_8]
  obtain ⟨r, x, rfl⟩ : ∃ (r : Fin 512) (x : Fin 128), y = ix2 r x := ⟨y 0, y 1, by ext a; fin_cases a <;> rfl⟩
  refine (end_V hq hkv hg t (flush8 t hf) r x).trans ?_
  blk_ext [idx8 t]

end Cert.KernelIdeal.Bwd

end
-- ==== Proof.Tie.lean ====
/- The kernel and the reference end with the same three arrays. -/
module

public import proofs.«01_k».proof.Defs
public import proofs.«01_k».proof.Proof.Arrays
public import proofs.«01_k».proof.Proof.RefValue
public import Idealize.ShloMosaic.Lib.Claim

@[expose] public section

set_option maxRecDepth 16384

noncomputable section

namespace Cert.ReferenceIdeal.Val

open Idealize.ShloMosaic Cert.ReferenceIdeal Cert.ReferenceIdeal.Gen Cert.ReferenceIdeal.Value Cert.Attn

variable {q kv : FVec Ideal S8192x512 .bf16} {g : FVec Ideal S32768x512 .bf16}
  (hq : Reals (s := ⟨2, ![8192, 512]⟩) q) (hkv : Reals (s := ⟨2, ![8192, 512]⟩) kv) (hg : Reals (s := ⟨2, ![32768, 512]⟩) g)
include hq hkv hg

theorem eq_Q : outQ (D q kv g) (kH kv) = resQ q kv g := funext fun i => by
  obtain ⟨r, x, rfl⟩ : ∃ (r : Fin 8192) (x : Fin 512), i = ix2 r x := ⟨i 0, i 1, by ext a; fin_cases a <;> rfl⟩
  exact outQ_real hq hkv hg r x

theorem eq_K : outK (D q kv g) (qH q) = resK q kv g := funext fun i => by
  obtain ⟨r, x, rfl⟩ : ∃ (r : Fin 8192) (x : Fin 256), i = ix2 r x := ⟨i 0, i 1, by ext a; fin_cases a <;> rfl⟩
  exact outK_real hq hkv hg r x

theorem eq_V : outV (gH g) (E q kv) (total (E q kv)) = resV q kv g := funext fun i => by
  obtain ⟨r, x, rfl⟩ : ∃ (r : Fin 8192) (x : Fin 256), i = ix2 r x := ⟨i 0, i 1, by ext a; fin_cases a <;> rfl⟩
  exact outV_real hq hkv hg r x

end Cert.ReferenceIdeal.Val

namespace Cert

open Idealize.ShloMosaic Idealize.ShloMosaic.TcCoe Idealize.SL.Sem Cert.Attn

theorem kernel_run (m : (ℓ : Loc KernelIdeal.nD KernelIdeal.τ KernelIdeal.sig) → Buf (Elt Ideal) ℓ) (ρ : Dev KernelIdeal.nD → PrngReg)
    (h : ∀ c, Reals (s := ⟨2, ![8192, 512]⟩) (KernelIdeal.Bwd.argQ m c) ∧ Reals (s := ⟨2, ![8192, 512]⟩) (KernelIdeal.Bwd.argKV m c)
      ∧ Reals (s := ⟨2, ![32768, 512]⟩) (KernelIdeal.Bwd.argG m c)) :
    θ_run (KernelIdeal.defs (F := Ideal)) (onTc (τ := KernelIdeal.τ) (KernelIdeal.main (F := Ideal))) ⟨m, fun _ => 0, ρ⟩ (fun r => ∀ c : Dev KernelIdeal.nD,
      r.2.mem ((c.tc : Thread KernelIdeal.nD KernelIdeal.τ).loc KernelIdeal.main_v35_0) = resQ (KernelIdeal.Bwd.argQ m c) (KernelIdeal.Bwd.argKV m c) (KernelIdeal.Bwd.argG m c)
      ∧ r.2.mem ((c.tc : Thread KernelIdeal.nD KernelIdeal.τ).loc KernelIdeal.main_v35_1) = resK (KernelIdeal.Bwd.argQ m c) (KernelIdeal.Bwd.argKV m c) (KernelIdeal.Bwd.argG m c)
      ∧ r.2.mem ((c.tc : Thread KernelIdeal.nD KernelIdeal.τ).loc KernelIdeal.main_v35_2) = resV (KernelIdeal.Bwd.argQ m c) (KernelIdeal.Bwd.argKV m c) (KernelIdeal.Bwd.argG m c)
      ∧ r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1)
      ∧ r.2.mem ((c.tc : Thread KernelIdeal.nD KernelIdeal.τ).loc KernelIdeal.main_arg2) = m ((c.tc : Thread KernelIdeal.nD KernelIdeal.τ).loc KernelIdeal.main_arg2)) := by
  have hf := KernelIdeal.Bwd.frame (F := Ideal) m ρ
  refine (θ_run _ _ _).mono (fun r hr c => ?_) (θ_run_and (KernelIdeal.Bwd.run_all (F := Ideal) m ρ) hf)
  obtain ⟨⟨hp, -⟩, hr2⟩ := hr
  obtain ⟨h1, h2, h3⟩ := h c
  exact ⟨((hp c).1 6).trans (KernelIdeal.Bwd.arr_Q h1 h2 h3), ((hp c).1 7).trans (KernelIdeal.Bwd.arr_K h1 h2 h3),
    ((hp c).1 8).trans (KernelIdeal.Bwd.arr_V h1 h2 h3), (hr2.1 c).1, (hr2.1 c).2.1, (hr2.1 c).2.2⟩

end Cert

end
-- ==== Proof.Online.lean ====
/- A softmax taken block of keys by block of keys, over the real numbers: a running maximum, the sum of the exponentials
   so far and the sum of exponentials times values so far, both less that maximum; and one more term in the denominator,
   the exponential of a sink that may be minus infinity. -/
module

public import proofs.«01_k».proof.Proof.Softmax

@[expose] public section

noncomputable section

namespace Cert.Attn

open Idealize.ShloMosaic

/-- The sink's term of the denominator: the exponential of the sink, zero at minus infinity. -/
def sinkTerm (z : EReal) : ℝ := (Ideal.exp z).toReal

theorem sinkTerm_nonneg (z : EReal) : 0 ≤ sinkTerm z := by
  unfold sinkTerm
  induction z using EReal.rec with
  | bot => simp
  | coe r => rw [Ideal.exp_coe, EReal.toReal_coe]; exact (Real.exp_pos r).le
  | top => simp

/-- A sink below infinity, less a number. -/
theorem exp_sink {z : EReal} (h : z ≠ ⊤) (f : ℝ) : Ideal.exp (z - (f : EReal)) = ((Real.exp (-f) * sinkTerm z : ℝ) : EReal) := by
  unfold sinkTerm
  induction z using EReal.rec with
  | bot =>
    rw [show (⊥ : EReal) - (f : EReal) = ⊥ from EReal.bot_sub _]
    simp
  | coe r =>
    rw [← EReal.coe_sub, Ideal.exp_coe, Ideal.exp_coe, EReal.toReal_coe, ← Real.exp_add]
    congr 2; ring
  | top => exact absurd rfl h

/-- The larger of a number and a sink below infinity is a number. -/
theorem max_sink {z : EReal} (h : z ≠ ⊤) (x : ℝ) : ∃ f : ℝ, max (x : EReal) z = (f : EReal) := by
  induction z using EReal.rec with
  | bot => exact ⟨x, max_eq_left bot_le⟩
  | coe r => exact ⟨max x r, (EReal.coe_strictMono.monotone.map_max (a := x) (b := r)).symm⟩
  | top => exact absurd rfl h

/-- A power of two whose exponent is a difference times a scale over the logarithm of two. -/
theorem exp2_scaled (c x : ℝ) : Ideal.exp2 ((x : EReal) * ((c * (Real.log 2)⁻¹ : ℝ) : EReal)) = ((Real.exp (x * c) : ℝ) : EReal) := by
  have hl : Real.log 2 ≠ 0 := (Real.log_pos (by norm_num)).ne'
  rw [← EReal.coe_mul, Ideal.exp2_coe]
  congr 1
  show (2 : ℝ) ^ (_ : ℝ) = _
  rw [Real.rpow_def_of_pos (by norm_num)]
  congr 1
  field_simp

section row
variable (c : ℝ) (s w : ℕ → ℝ)

/-- The weighted exponentials of the first `n` scores, each less `M`. -/
def upto (n : ℕ) (M : ℝ) : ℝ := ∑ κ ∈ Finset.range n, Real.exp ((s κ - M) * c) * w κ

theorem upto_zero (M : ℝ) : upto c s w 0 M = 0 := by simp [upto]

theorem upto_shift (n : ℕ) (M M' : ℝ) : Real.exp ((M - M') * c) * upto c s w n M = upto c s w n M' := by
  unfold upto
  rw [Finset.mul_sum]
  refine Finset.sum_congr rfl fun κ _ => ?_
  rw [← mul_assoc, ← Real.exp_add]; congr 2; ring

/-- One more block of `b` keys, at a new maximum. -/
theorem upto_step (n b : ℕ) (M M' : ℝ) :
    Real.exp ((M - M') * c) * upto c s w n M + ∑ z : Fin b, Real.exp ((s (n + z.val) - M') * c) * w (n + z.val) = upto c s w (n + b) M' := by
  rw [upto_shift]
  unfold upto
  rw [Finset.sum_range_add, Finset.sum_range (fun z => Real.exp ((s (n + z) - M') * c) * w (n + z))]

/-- The weighted exponentials of all scores. -/
def all (n : ℕ) : ℝ := ∑ κ : Fin n, Real.exp (s κ.val * c) * w κ.val

theorem upto_all (n : ℕ) (M : ℝ) : upto c s w n M = Real.exp (-(M * c)) * all c s w n := by
  unfold upto all
  rw [Finset.sum_range (fun κ => Real.exp ((s κ - M) * c) * w κ), Finset.mul_sum]
  refine Finset.sum_congr rfl fun κ _ => ?_
  rw [← mul_assoc, ← Real.exp_add]; congr 2; ring

theorem all_pos (n : ℕ) (hn : 0 < n) : 0 < all c s (fun _ => 1) n := by
  haveI : Nonempty (Fin n) := ⟨⟨0, hn⟩⟩
  exact Finset.sum_pos (fun _ _ => by simpa using Real.exp_pos _) Finset.univ_nonempty

/-- The softmax's denominator: the exponentials of all scores and the sink's term. -/
def denom (n : ℕ) (z : EReal) : ℝ := all c s (fun _ => 1) n + sinkTerm z

theorem denom_pos (n : ℕ) (hn : 0 < n) (z : EReal) : 0 < denom c s n z :=
  add_pos_of_pos_of_nonneg (all_pos c s n hn) (sinkTerm_nonneg z)

end row

/-- The denominator of the last step: what was summed, rescaled, and the sink's term. -/
theorem last_denom (c : ℝ) (s : ℕ → ℝ) (n : ℕ) {z : EReal} (h : z ≠ ⊤) (M f : ℝ) :
    ((upto c s (fun _ => 1) n M : ℝ) : EReal) * Ideal.exp (((M * c : ℝ) : EReal) - (f : EReal)) + Ideal.exp (z - (f : EReal))
      = ((Real.exp (-f) * denom c s n z : ℝ) : EReal) := by
  rw [exp_sink h, ← EReal.coe_sub, Ideal.exp_coe, upto_all, ← EReal.coe_mul, ← EReal.coe_add]
  congr 1
  have : Real.exp (M * c - f) = Real.exp (M * c) * Real.exp (-f) := by rw [← Real.exp_add]; congr 1
  rw [this, Real.exp_neg (M * c), denom]
  have := (Real.exp_pos (M * c)).ne'
  field_simp

/-- The output of the last step. -/
theorem last_out (c : ℝ) (s w : ℕ → ℝ) (n : ℕ) (hn : 0 < n) (z : EReal) (M f : ℝ) :
    Ideal.div (((upto c s w n M : ℝ) : EReal) * Ideal.exp (((M * c : ℝ) : EReal) - (f : EReal))) ((Real.exp (-f) * denom c s n z : ℝ) : EReal)
      = ((all c s w n / denom c s n z : ℝ) : EReal) := by
  have hd := (denom_pos c s n hn z).ne'
  rw [← EReal.coe_sub, Ideal.exp_coe, upto_all, ← EReal.coe_mul, div_real (mul_ne_zero (Real.exp_pos _).ne' hd)]
  congr 1
  have : Real.exp (M * c - f) = Real.exp (M * c) * Real.exp (-f) := by rw [← Real.exp_add]; congr 1
  rw [this, Real.exp_neg (M * c)]
  have := (Real.exp_pos (M * c)).ne'
  have := (Real.exp_pos (-f)).ne'
  field_simp

/-- The logarithm of a rescaled denominator, and what it was rescaled by. -/
theorem last_log (c : ℝ) (s : ℕ → ℝ) (n : ℕ) (hn : 0 < n) (z : EReal) (f : ℝ) :
    (f : EReal) + Ideal.log ((Real.exp (-f) * denom c s n z : ℝ) : EReal) = ((Real.log (denom c s n z) : ℝ) : EReal) := by
  have hd := denom_pos c s n hn z
  rw [Ideal.log_coe, if_neg (not_le.mpr (mul_pos (Real.exp_pos _) hd)), Real.log_mul (Real.exp_pos _).ne' hd.ne', Real.log_exp, ← EReal.coe_add]
  congr 1; ring

end Cert.Attn

end
-- ==== Proof.FwdRef.lean ====
/- The attention of mixer C, forward: what the reference leaves, over the real numbers. -/
module

public import proofs.«01_k».proof.Proof.Gen.FwdRefIdeal.Run
public import proofs.«01_k».proof.Proof.HostValue
public import proofs.«01_k».proof.Proof.Online
public import Idealize.ShloMosaic.Lib.Pointwise
public import Idealize.ShloMosaic.Lib.Tactic.CleanTypes

@[expose] public section

set_option maxRecDepth 16384

noncomputable section

namespace Cert.Attn

open Idealize.ShloMosaic

section spec
variable (q kv : (⟨2, ![8192, 512]⟩ : Shape).Idx → EReal) (u : (⟨2, ![8192, 7168]⟩ : Shape).Idx → EReal) (z : (⟨1, ![4]⟩ : Shape).Idx → EReal)

/-- The product of a query and a key of head `h`, before the scale. -/
def raw (h r κ : ℕ) : ℝ := ∑ x : Fin 128, kh kv (h / 2) κ x * qh q (h / 2) (h % 2) r x

/-- The denominator of the softmax of head `h` at row `r`. -/
def den (h : Fin 4) (r : ℕ) : ℝ := denom sc (raw q kv h r) 8192 (z (ix1 h))

/-- The attention's output of head `h` at row `r`, column `x`. -/
def att (h : Fin 4) (r x : ℕ) : ℝ := all sc (raw q kv h r) (fun κ => vh kv (h.val / 2) κ x) 8192 / den q kv z h r

/-- The output, the heads side by side. -/
def outO : (⟨2, ![8192, 512]⟩ : Shape).Idx → EReal := fun i =>
  ((att q kv z (⟨(i 1).val / 128, by have : (i 1).val < 512 := (i 1).isLt; omega⟩ : Fin 4) (i 0).val ((i 1).val % 128) : ℝ) : EReal)

/-- The gate at a row and a column of its columns of the projection. -/
def gate (i : (⟨2, ![8192, 512]⟩ : Shape).Idx) : EReal :=
  u (ix2 (⟨(i 0).val, (i 0).isLt⟩ : Fin 8192) (⟨4608 + (i 1).val, by have : (i 1).val < 512 := (i 1).isLt; omega⟩ : Fin 7168))

/-- The gate times its logistic. -/
def silu (g : EReal) : EReal := g * Ideal.div 1 (1 + Ideal.exp (-g))

/-- The gated output. -/
def outBr : (⟨2, ![8192, 512]⟩ : Shape).Idx → EReal := fun i => outO q kv z i * silu (gate u i)

/-- The rows' log-sums, one row to a head. -/
def outL : (⟨3, ![4, 1, 8192]⟩ : Shape).Idx → EReal := fun i =>
  ((Real.log (den q kv z (⟨(i 0).val, (i 0).isLt⟩ : Fin 4) (i 2).val) : ℝ) : EReal)

theorem raw_score (a b r κ h : ℕ) (ha : h / 2 = a) (hb : h % 2 = b) : score sc (qh q a b) (kh kv a) r κ = raw q kv h r κ * sc := by
  subst ha; subst hb
  unfold score raw
  congr 1
  exact Finset.sum_congr rfl fun x _ => mul_comm _ _

end spec

end Cert.Attn

namespace Cert.FwdRefIdeal.Val

open Idealize.ShloMosaic Idealize.SL.Sem
open Cert.FwdRefIdeal Cert.FwdRefIdeal.Gen Cert.FwdRefIdeal.Value Cert.Attn
open Cert.ReferenceIdeal.Val (qH kH vH scores expd scores_reals scores_real vH_apply expd_apply)
open Cert.KernelIdeal.Bwd (hostMax hostSum hostLse hostOut hostLse_apply hostSum_apply hostOut_apply)

/-- The exponentials of the sinks, each less its row's largest score. -/
def sinkExp (z : FVec Ideal S4 .f32) (M : FVec Ideal S2x2x8192 .f32) : FVec Ideal S2x2x8192 .f32 :=
  Host.exp (subf (broadcastInDim S2x2x8192 ![0, 1, 2] bcast_S2x2x1_S2x2x8192_0_1_2 (shapeCast S2x2x1 z shapeCasts_S4_S2x2x1)) M)

/-- The heads side by side. -/
def flat (o : FVec Ideal S2x2x8192x128 .f32) : FVec Ideal S8192x512 .f32 :=
  shapeCast S8192x512 (transpose S8192x2x2x128 [2, 0, 1, 3] o transposes_S2x2x8192x128_S8192x2x2x128_2_0_1_3) shapeCasts_S8192x2x2x128_S8192x512

/-- The gate's columns of the projection. -/
def gateCols (u : FVec Ideal S8192x7168 .bf16) : FVec Ideal S8192x512 .f32 :=
  extf .f32 (extractStridedSlice S8192x512 ![0, 4608] u slices_S8192x7168_S8192x512_0_4608) bitsLt_bf16_f32

/-- The gate times its logistic, as the reference writes it. -/
def gated (g : FVec Ideal S8192x512 .f32) : FVec Ideal S8192x512 .f32 :=
  mulf g (Host.divf (broadcastInDim S8192x512 ![] bcast_S_S8192x512 (constant S_ .f32 0x3F800000#32)) (addf (broadcastInDim S8192x512 ![] bcast_S_S8192x512 (constant S_ .f32 0x3F800000#32)) (Host.exp (Host.negf g))))

section stages
variable (q kv : FVec Ideal S8192x512 .bf16) (z : FVec Ideal S4 .f32)

/-- The largest scores, the exponentials, the denominators, the output of the arguments. -/
def Mx : FVec Ideal S2x2x8192 .f32 := hostMax (scores (qH q) (kH kv))
def Ex : FVec Ideal S2x2x8192x8192 .f32 := expd (scores (qH q) (kH kv)) (Mx q kv)
def Dn : FVec Ideal S2x2x8192 .f32 := addf (hostSum (Ex q kv)) (sinkExp z (Mx q kv))
def Ot : FVec Ideal S8192x512 .f32 := flat (hostOut (Ex q kv) (Dn q kv z) (vH kv))

theorem sinkExp_apply (M) (a b : Fin 2) (r : Fin 8192) :
    (sinkExp z M (ix3 a b r) : EReal) = Ideal.exp ((z (ix1 (⟨a.val * 2 + b.val, by omega⟩ : Fin 4)) : EReal) - M (ix3 a b r)) := by
  pointwise [sinkExp]

theorem flat_apply (o) (r : Fin 8192) (x : Fin 512) :
    (flat o (ix2 r x) : EReal) = o (ix4 (⟨x.val / 256, by omega⟩ : Fin 2) (⟨x.val / 128 % 2, by omega⟩ : Fin 2) r (⟨x.val % 128, by omega⟩ : Fin 128)) := by
  pointwise [flat]

theorem gated_apply (u : FVec Ideal S8192x7168 .bf16) (i : S8192x512.Idx) : (gated (gateCols u) i : EReal) = silu (gate u i) := by
  obtain ⟨r, x, rfl⟩ : ∃ (r : Fin 8192) (x : Fin 512), i = ix2 r x := ⟨i 0, i 1, by ext a; fin_cases a <;> rfl⟩
  pointwise [gated, gateCols, silu, gate]

end stages

section real
variable {q kv : FVec Ideal S8192x512 .bf16} {z : FVec Ideal S4 .f32}
  (hq : Reals (s := ⟨2, ![8192, 512]⟩) q) (hkv : Reals (s := ⟨2, ![8192, 512]⟩) kv) (hz : ∀ i, (z i : EReal) ≠ ⊤)
include hq hkv

theorem Mx_real (a b : Fin 2) (r : Fin 8192) : ∃ M : ℝ, (Mx q kv (ix3 a b r) : EReal) = (M : EReal) := by
  unfold Mx hostMax
  exact reduce_max_real _ (scores_reals hq hkv) _ _ (by decide) _ (fun _ => ofBits_bot) (by decide) _

theorem Ex_real (h : Fin 4) (a b : Fin 2) (e : h.val = a.val * 2 + b.val) (r : Fin 8192) (M : ℝ) (hM : (Mx q kv (ix3 a b r) : EReal) = (M : EReal)) (x : Fin 8192) :
    (Ex q kv (ix4 a b r x) : EReal) = ((Real.exp (-M) * Real.exp (raw q kv h r x * sc) : ℝ) : EReal) := by
  unfold Ex
  rw [expd_apply, hM, scores_real hq hkv, ← EReal.coe_sub, Ideal.exp_coe, raw_score q kv a b r x h (by omega) (by omega), ← Real.exp_add]
  exact congrArg (fun t : ℝ => ((Real.exp t : ℝ) : EReal)) (by ring)

include hz

theorem Dn_real (h : Fin 4) (a b : Fin 2) (e : h.val = a.val * 2 + b.val) (r : Fin 8192) (M : ℝ) (hM : (Mx q kv (ix3 a b r) : EReal) = (M : EReal)) :
    (Dn q kv z (ix3 a b r) : EReal) = ((Real.exp (-M) * den q kv z h r : ℝ) : EReal) := by
  have eh : (⟨a.val * 2 + b.val, by omega⟩ : Fin 4) = h := Fin.ext e.symm
  show (hostSum (Ex q kv) (ix3 a b r) : EReal) + sinkExp z (Mx q kv) (ix3 a b r) = _
  rw [hostSum_apply, sinkExp_apply, hM, exp_sink (hz _), eh]
  simp only [Ex_real hq hkv h a b e r M hM]
  rw [← coe_sum, ← EReal.coe_add, ← Finset.mul_sum, ← mul_add]
  unfold den denom all
  simp only [mul_one]

theorem Ot_real (r : Fin 8192) (x : Fin 512) :
    (Ot q kv z (ix2 r x) : EReal) = outO q kv z (ix2 r x) := by
  unfold Ot
  rw [flat_apply, hostOut_apply]
  set a : Fin 2 := ⟨x.val / 256, by omega⟩ with ha
  set b : Fin 2 := ⟨x.val / 128 % 2, by omega⟩ with hb
  have e : (⟨x.val / 128, by omega⟩ : Fin 4).val = a.val * 2 + b.val := by simp only [ha, hb]; omega
  obtain ⟨M, hM⟩ := Mx_real hq hkv a b r
  rw [Dn_real hq hkv hz _ a b e r M hM]
  simp only [Ex_real hq hkv _ a b e r M hM, vH_apply kv hkv, ← EReal.coe_mul]
  have hd : den q kv z (⟨x.val / 128, by omega⟩ : Fin 4) r.val ≠ 0 := (denom_pos sc (raw q kv (x.val / 128) r) 8192 (by norm_num) (z (ix1 (⟨x.val / 128, by omega⟩ : Fin 4)))).ne'
  rw [← coe_sum, div_real (mul_ne_zero (Real.exp_pos _).ne' hd)]
  simp only [mul_assoc]
  rw [← Finset.mul_sum, mul_div_mul_left _ _ (Real.exp_pos _).ne']
  have e2 : x.val / 256 = x.val / 128 / 2 := by omega
  unfold outO att all
  simp only [ha, e2]
  rfl

theorem L_real (h : Fin 4) (r : Fin 8192) :
    (hostLse (Mx q kv) (Dn q kv z) (ix3 h (0 : Fin 1) r) : EReal) = outL q kv z (ix3 h (0 : Fin 1) r) := by
  rw [hostLse_apply]
  set a : Fin 2 := ⟨h.val / 2, by omega⟩ with ha
  set b : Fin 2 := ⟨h.val % 2, by omega⟩ with hb
  have e : h.val = a.val * 2 + b.val := by simp only [ha, hb]; omega
  obtain ⟨M, hM⟩ := Mx_real hq hkv a b r
  rw [Dn_real hq hkv hz h a b e r M hM, hM]
  exact last_log sc (raw q kv h r) 8192 (by norm_num) (z (ix1 h)) M

end real

section run
variable (m : (ℓ : Loc nD τ sig) → Buf (Elt Ideal) ℓ) (c : Dev nD)

abbrev argQ : FVec Ideal S8192x512 .bf16 := m ((c.tc : Thread nD τ).loc main_arg0)
abbrev argKV : FVec Ideal S8192x512 .bf16 := m ((c.tc : Thread nD τ).loc main_arg1)
abbrev argU : FVec Ideal S8192x7168 .bf16 := m ((c.tc : Thread nD τ).loc main_arg2)
abbrev argZ : FVec Ideal S4 .f32 := m ((c.tc : Thread nD τ).loc main_arg3)

theorem res_o : res_main_v39 (F := Ideal) m c = truncf .bf16 (Ot (argQ m c) (argKV m c) (argZ m c)) bitsLt_bf16_f32 := by
  unfold res_main_v39; rfl

theorem res_br : res_main_v38 (F := Ideal) m c
    = truncf .bf16 (mulf (Ot (argQ m c) (argKV m c) (argZ m c)) (gated (gateCols (argU m c)))) bitsLt_bf16_f32 := by
  unfold res_main_v38; rfl

/-- What the reference leaves. -/
theorem run (m : (ℓ : Loc nD τ sig) → Buf (Elt Ideal) ℓ) (ρ : Dev nD → PrngReg)
    (hq : ∀ c, Reals (s := ⟨2, ![8192, 512]⟩) (argQ m c)) (hkv : ∀ c, Reals (s := ⟨2, ![8192, 512]⟩) (argKV m c)) (hz : ∀ c i, (argZ m c i : EReal) ≠ ⊤) :
    θ_run (defs (F := Ideal)) (onTc (τ := τ) (main (F := Ideal))) ⟨m, fun _ => 0, ρ⟩ fun r => ∀ c : Dev nD,
      r.2.mem ((c.tc : Thread nD τ).loc main_v38) = outBr (argQ m c) (argKV m c) (argU m c) (argZ m c)
      ∧ r.2.mem ((c.tc : Thread nD τ).loc main_v39) = outO (argQ m c) (argKV m c) (argZ m c)
      ∧ r.2.mem ((c.tc : Thread nD τ).loc main_v33) = outL (argQ m c) (argKV m c) (argZ m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run _ _ _).mono (fun _ h c => ?_) (Cert.FwdRefIdeal.Value.run (F := Ideal) m ρ)
  obtain ⟨h1, h2, h3, h4⟩ := h c
  refine ⟨h1.trans ((res_br m c).trans ?_), h2.trans ((res_o m c).trans ?_), h3.trans ?_, h4⟩
  · funext i
    obtain ⟨r, x, rfl⟩ : ∃ (r : Fin 8192) (x : Fin 512), i = ix2 r x := ⟨i 0, i 1, by ext a; fin_cases a <;> rfl⟩
    show (Ot (argQ m c) (argKV m c) (argZ m c) (ix2 r x) : EReal) * gated (gateCols (argU m c)) (ix2 r x) = _
    rw [Ot_real (hq c) (hkv c) (hz c), gated_apply]
    rfl
  · funext i
    obtain ⟨r, x, rfl⟩ : ∃ (r : Fin 8192) (x : Fin 512), i = ix2 r x := ⟨i 0, i 1, by ext a; fin_cases a <;> rfl⟩
    exact Ot_real (hq c) (hkv c) (hz c) r x
  · refine Eq.trans (b := hostLse (Mx (argQ m c) (argKV m c)) (Dn (argQ m c) (argKV m c) (argZ m c))) rfl ?_
    funext i
    obtain ⟨h, r, rfl⟩ : ∃ (h : Fin 4) (r : Fin 8192), i = ix3 h (0 : Fin 1) r := ⟨i 0, i 2, by
      ext a; fin_cases a
      · rfl
      · exact Nat.lt_one_iff.mp (i 1).isLt
      · rfl⟩
    exact L_real (hq c) (hkv c) (hz c) h r

end run

end Cert.FwdRefIdeal.Val

end
-- ==== Proof.FwdPay.lean ====
/- The arithmetic of the attention's forward kernel read element by element: one block of keys, and the last step. -/
module

public import proofs.«01_k».proof.Proof.Gen.FwdIdeal.Skeleton
public import proofs.«01_k».proof.Proof.Consts
public import proofs.«01_k».proof.Proof.Online
public import Idealize.ShloMosaic.PureOps.Ideal.Laws
public import Idealize.ShloMosaic.Lib.Pointwise

@[expose] public section

set_option maxRecDepth 16384

noncomputable section

namespace Cert.FwdIdeal.Val

open Idealize.ShloMosaic Idealize.ShloMosaic.TcCoe Idealize.SL.Sem
open Cert.FwdIdeal Cert.FwdIdeal.Gen Cert.Attn

theorem named_scale : Named.named (F := Ideal) Cert.FwdIdeal.κ "scale_log2e" (φ := .f32) 0x3E0293EE#32 = ((sc * (Real.log 2)⁻¹ : ℝ) : EReal) :=
  IdealRules.named_const.ideal_named_scalar _ _ _ _ rfl

/-! ## The steps of a head -/

section defs
variable (k v : FVec Ideal S1024x128 .bf16) (q g : FVec Ideal S512x128 .bf16) (m l : FVec Ideal S1x1x512 .f32) (a : FVec Ideal S1x128x512 .f32) (z : EReal)

/-- The new maximum. -/
def newM : FVec Ideal S1x1x512 .f32 := k0_pay48 (F := Ideal) (k0_pay42 k q m)
/-- The new sum of exponentials. -/
def newL : FVec Ideal S1x1x512 .f32 := k0_pay45 (F := Ideal) k q m l
/-- The new sum of exponentials times values. -/
def newA : FVec Ideal S1x128x512 .f32 := k0_pay47 (F := Ideal) (k0_pay44 k q m) (k0_pay46 k q m a) v
/-- The output of the last step. -/
def finO : FVec Ideal S512x128 .bf16 := k0_pay10 (F := Ideal) m l a z
/-- The gated output of the last step. -/
def finBr : FVec Ideal S512x128 .bf16 := k0_pay11 (F := Ideal) m l a z g
/-- The log-sums of the last step. -/
def finL : FVec Ideal S1x1x512 .f32 := k0_pay12 (F := Ideal) (k0_pay6 m z) (k0_pay8 m l z)

theorem newM0 : k0_pay48 (F := Ideal) (k0_pay42 k q m) = newM k q m := rfl
theorem newM1 : k0_pay57 (F := Ideal) (k0_pay51 k q m) = newM k q m := rfl
theorem newM2 : k0_pay67 (F := Ideal) (k0_pay60 k q m) = newM k q m := rfl
theorem newM3 : k0_pay75 (F := Ideal) (k0_pay68 k q) (k0_pay69 m) = newM k q m := rfl
theorem newL0 : k0_pay45 (F := Ideal) k q m l = newL k q m l := rfl
theorem newL1 : k0_pay55 (F := Ideal) (k0_pay54 k q m l) = newL k q m l := rfl
theorem newL2 : k0_pay65 (F := Ideal) (k0_pay61 k q m) (k0_pay62 k q m) k0_pay63 l = newL k q m l := rfl
theorem newL3 : k0_pay73 (F := Ideal) (k0_pay68 k q) (k0_pay69 m) l = newL k q m l := rfl
theorem newA0 : k0_pay47 (F := Ideal) (k0_pay44 k q m) (k0_pay46 k q m a) v = newA k v q m a := rfl
theorem newA1 : k0_pay56 (F := Ideal) (k0_pay52 k q m) (k0_pay53 k q m) a v = newA k v q m a := rfl
theorem newA2 : k0_pay66 (F := Ideal) (k0_pay61 k q m) (k0_pay62 k q m) k0_pay63 a v = newA k v q m a := rfl
theorem newA3 : k0_pay74 (F := Ideal) (k0_pay68 k q) (k0_pay69 m) a v = newA k v q m a := rfl
theorem finO0 : k0_pay10 (F := Ideal) m l a z = finO m l a z := rfl
theorem finO1 : k0_pay19 (F := Ideal) m l a z = finO m l a z := rfl
theorem finO2 : k0_pay29 (F := Ideal) m l a z = finO m l a z := rfl
theorem finO3 : k0_pay2 (F := Ideal) (k0_pay36 m l a z) = finO m l a z := rfl
theorem finBr0 : k0_pay11 (F := Ideal) m l a z g = finBr g m l a z := rfl
theorem finBr1 : k0_pay21 (F := Ideal) (k0_pay17 m l a z) (k0_pay18 g) (k0_pay20 g) (Scalar.ofBits .f32 0x3F800000#32) = finBr g m l a z := rfl
theorem finBr2 : k0_pay30 (F := Ideal) (k0_pay27 m l a z) (k0_pay28 g) = finBr g m l a z := rfl
theorem finBr3 : k0_pay3 (F := Ideal) (k0_pay36 m l a z) g = finBr g m l a z := rfl
theorem finL0 : k0_pay12 (F := Ideal) (k0_pay6 m z) (k0_pay8 m l z) = finL m l z := rfl
theorem finL1 : k0_pay22 (F := Ideal) (k0_pay14 m z) (k0_pay16 m l z) = finL m l z := rfl
theorem finL2 : k0_pay31 (F := Ideal) (k0_pay24 m z) (k0_pay26 m l z) = finL m l z := rfl
theorem finL3 : k0_pay4 (F := Ideal) (k0_pay33 m z) (k0_pay35 m l z) = finL m l z := rfl

/-! ## Read at an index -/

theorem pay40_apply (κ : Fin 1024) (y : Fin 512) :
    (k0_pay40 (F := Ideal) k q (ix2 κ y) : EReal) = ∑ x : Fin 128, (k (ix2 κ x) : EReal) * q (ix2 y x) := by
  pointwise [k0_pay40]

theorem pay42_apply (y : Fin 512) :
    (k0_pay42 (F := Ideal) k q m (ix2 (0 : Fin 1) y) : EReal)
      = max (m (ix3 (0 : Fin 1) (0 : Fin 1) y)) (multiReduction .maximumf [0] S512 (k0_pay40 (F := Ideal) k q) 0xFF800000#32 reduces_S1024x512_S512 (.inl rfl) rfl (ix1 y)) := by
  pointwise [k0_pay42, k0_pay41]

theorem pay43_apply (y : Fin 512) :
    (k0_pay43 (F := Ideal) k q m (ix2 (0 : Fin 1) y) : EReal)
      = Ideal.exp2 (((m (ix3 (0 : Fin 1) (0 : Fin 1) y) : EReal) - k0_pay42 (F := Ideal) k q m (ix2 (0 : Fin 1) y))
        * Named.named (F := Ideal) Cert.FwdIdeal.κ "scale_log2e" (φ := .f32) 0x3E0293EE#32) := by
  pointwise [k0_pay43, k0_pay41]
  rfl

theorem pay44_apply (κ : Fin 1024) (y : Fin 512) :
    (k0_pay44 (F := Ideal) k q m (ix2 κ y) : EReal)
      = Ideal.exp2 (((k0_pay40 (F := Ideal) k q (ix2 κ y) : EReal) - k0_pay42 (F := Ideal) k q m (ix2 (0 : Fin 1) y))
        * Named.named (F := Ideal) Cert.FwdIdeal.κ "scale_log2e" (φ := .f32) 0x3E0293EE#32) := by
  pointwise [k0_pay44]
  rfl

theorem newM_apply (y : Fin 512) : (newM k q m (ix3 (0 : Fin 1) (0 : Fin 1) y) : EReal) = k0_pay42 (F := Ideal) k q m (ix2 (0 : Fin 1) y) := by
  pointwise [newM, k0_pay48]

theorem newL_apply (y : Fin 512) : (newL k q m l (ix3 (0 : Fin 1) (0 : Fin 1) y) : EReal)
    = (k0_pay43 (F := Ideal) k q m (ix2 (0 : Fin 1) y) : EReal) * l (ix3 (0 : Fin 1) (0 : Fin 1) y)
      + ∑ κ : Fin 1024, (k0_pay44 (F := Ideal) k q m (ix2 κ y) : EReal) := by
  pointwise [newL, k0_pay45]

theorem newA_apply (x : Fin 128) (y : Fin 512) : (newA k v q m a (ix3 (0 : Fin 1) x y) : EReal)
    = (k0_pay43 (F := Ideal) k q m (ix2 (0 : Fin 1) y) : EReal) * a (ix3 (0 : Fin 1) x y)
      + ∑ κ : Fin 1024, (v (ix2 κ x) : EReal) * k0_pay44 (F := Ideal) k q m (ix2 κ y) := by
  pointwise [newA, k0_pay47, k0_pay46]

theorem pay6_apply (y : Fin 512) : (k0_pay6 (F := Ideal) m z (ix2 (0 : Fin 1) y) : EReal)
    = max ((m (ix3 (0 : Fin 1) (0 : Fin 1) y) : EReal) * Ideal.ofBits .f32 0x3DB504F3#32) z := by
  pointwise [k0_pay6, k0_pay5]

theorem pay7_apply (y : Fin 512) : (k0_pay7 (F := Ideal) m z (ix2 (0 : Fin 1) y) : EReal)
    = Ideal.exp ((m (ix3 (0 : Fin 1) (0 : Fin 1) y) : EReal) * Ideal.ofBits .f32 0x3DB504F3#32 - k0_pay6 (F := Ideal) m z (ix2 (0 : Fin 1) y)) := by
  pointwise [k0_pay7, k0_pay5]

theorem pay8_apply (y : Fin 512) : (k0_pay8 (F := Ideal) m l z (ix2 (0 : Fin 1) y) : EReal)
    = (l (ix3 (0 : Fin 1) (0 : Fin 1) y) : EReal) * k0_pay7 (F := Ideal) m z (ix2 (0 : Fin 1) y)
      + Ideal.exp (z - k0_pay6 (F := Ideal) m z (ix2 (0 : Fin 1) y)) := by
  pointwise [k0_pay8]

theorem finO_apply (y : Fin 512) (x : Fin 128) : (finO m l a z (ix2 y x) : EReal)
    = Ideal.div ((a (ix3 (0 : Fin 1) x y) : EReal) * k0_pay7 (F := Ideal) m z (ix2 (0 : Fin 1) y)) (k0_pay8 (F := Ideal) m l z (ix2 (0 : Fin 1) y)) := by
  pointwise [finO, k0_pay10, k0_pay9]

theorem finBr_apply (y : Fin 512) (x : Fin 128) : (finBr g m l a z (ix2 y x) : EReal)
    = (finO m l a z (ix2 y x) : EReal) * ((g (ix2 y x) : EReal) * Ideal.div 1 (1 + Ideal.exp (-(g (ix2 y x) : EReal)))) := by
  rw [← zero_sub]
  pointwise [finBr, finO, k0_pay11, k0_pay10]

theorem finL_apply (y : Fin 512) : (finL m l z (ix3 (0 : Fin 1) (0 : Fin 1) y) : EReal)
    = (k0_pay6 (F := Ideal) m z (ix2 (0 : Fin 1) y) : EReal) + Ideal.log (k0_pay8 (F := Ideal) m l z (ix2 (0 : Fin 1) y)) := by
  pointwise [finL, k0_pay12]

end defs

/-! ## Over the real numbers -/

/-- A row's running maximum, sum of exponentials and sums of exponentials times values, of the first `n` keys. -/
def Row (s : ℕ → ℝ) (w : Fin 128 → ℕ → ℝ) (n : ℕ) (m l : EReal) (a : Fin 128 → EReal) : Prop :=
  ∃ M : ℝ, m = (M : EReal) ∧ l = ((upto sc s (fun _ => 1) n M : ℝ) : EReal) ∧ ∀ x, a x = ((upto sc s (w x) n M : ℝ) : EReal)

theorem ofBits_init : Ideal.ofBits .f32 0xE0AD78EC#32 = ((-(11368684 * 2 ^ 43) : ℝ) : EReal) := by
  simp [Ideal.ofBits, Ideal.ieee, -EReal.coe_mul]

section real
variable {k v : FVec Ideal S1024x128 .bf16} {q g : FVec Ideal S512x128 .bf16} {m l : FVec Ideal S1x1x512 .f32} {a : FVec Ideal S1x128x512 .f32}
  {s : ℕ → ℝ} {w : Fin 128 → ℕ → ℝ} {n : ℕ} {y : Fin 512}

theorem pay42_real (hs : ∀ (κ : Fin 1024) (y : Fin 512), ∃ r : ℝ, (k0_pay40 (F := Ideal) k q (ix2 κ y) : EReal) = (r : EReal))
    (M : ℝ) (hm : (m (ix3 (0 : Fin 1) (0 : Fin 1) y) : EReal) = (M : EReal)) :
    ∃ M' : ℝ, (k0_pay42 (F := Ideal) k q m (ix2 (0 : Fin 1) y) : EReal) = (M' : EReal) := by
  rw [(pay42_apply k q m y).trans (congrArg (max _) (Ideal.multiReduction_maximumf_single (k0_pay40 (F := Ideal) k q) _ reduces_S1024x512_S512 _ _ (ix1 y)))]
  have hb : (FloatOps.ofBits (F := Ideal) .f32 0xFF800000#32 : EReal) = ⊥ := ofBits_bot
  rw [hb, hm]
  haveI : Nonempty (Fin (S1024x512.size (0 : Fin 2))) := ⟨⟨0, by decide⟩⟩
  obtain ⟨r, hr⟩ := fold_max_real ((k0_pay40 (F := Ideal) k q) ∘ reduces_S1024x512_S512.lift (ix1 y)) (fun i => by
    have e : ∀ j : S1024x512.Idx, j = ix2 (j 0) (j 1) := fun j => by ext b; fin_cases b <;> rfl
    show ∃ r : ℝ, (k0_pay40 (F := Ideal) k q (reduces_S1024x512_S512.lift (ix1 y) i) : EReal) = _
    rw [e (reduces_S1024x512_S512.lift (ix1 y) i)]
    exact hs _ _)
  refine ⟨max M r, ?_⟩
  rw [EReal.coe_strictMono.monotone.map_max]
  exact congrArg (max (M : EReal)) hr

/-- One more block of keys. -/
theorem row_step (hs : ∀ (κ : Fin 1024) (y : Fin 512), ∃ r : ℝ, (k0_pay40 (F := Ideal) k q (ix2 κ y) : EReal) = (r : EReal))
    (hk : ∀ κ : Fin 1024, (k0_pay40 (F := Ideal) k q (ix2 κ y) : EReal) = ((s (n + κ.val) : ℝ) : EReal))
    (hv : ∀ (κ : Fin 1024) (x : Fin 128), (v (ix2 κ x) : EReal) = ((w x (n + κ.val) : ℝ) : EReal))
    (h : Row s w n (m (ix3 (0 : Fin 1) (0 : Fin 1) y)) (l (ix3 (0 : Fin 1) (0 : Fin 1) y)) (fun x => a (ix3 (0 : Fin 1) x y))) :
    Row s w (n + 1024) (newM k q m (ix3 (0 : Fin 1) (0 : Fin 1) y)) (newL k q m l (ix3 (0 : Fin 1) (0 : Fin 1) y)) (fun x => newA k v q m a (ix3 (0 : Fin 1) x y)) := by
  obtain ⟨M, hm, hl, ha⟩ := h
  obtain ⟨M', hM'⟩ := pay42_real hs M hm
  have h43 : (k0_pay43 (F := Ideal) k q m (ix2 (0 : Fin 1) y) : EReal) = ((Real.exp ((M - M') * sc) : ℝ) : EReal) := by
    rw [pay43_apply, hm, hM', named_scale, ← EReal.coe_sub, exp2_scaled]
  have h44 : ∀ κ : Fin 1024, (k0_pay44 (F := Ideal) k q m (ix2 κ y) : EReal) = ((Real.exp ((s (n + κ.val) - M') * sc) : ℝ) : EReal) := fun κ => by
    rw [pay44_apply, hk, hM', named_scale, ← EReal.coe_sub, exp2_scaled]
  refine ⟨M', (newM_apply k q m y).trans hM', ?_, fun x => ?_⟩
  · rw [newL_apply, h43, hl]
    simp only [h44]
    rw [← coe_sum, ← EReal.coe_mul, ← EReal.coe_add, ← upto_step sc s _ n 1024 M M']
    simp only [mul_one]
  · dsimp only
    rw [newA_apply, h43, show (a (ix3 (0 : Fin 1) x y) : EReal) = _ from ha x]
    simp only [h44, hv, ← EReal.coe_mul]
    rw [← coe_sum, ← EReal.coe_add, ← upto_step sc s _ n 1024 M M']
    simp only [mul_comm (w x _)]

section last
variable {z : EReal} (hz : z ≠ ⊤)
  (h : Row s w 8192 (m (ix3 (0 : Fin 1) (0 : Fin 1) y)) (l (ix3 (0 : Fin 1) (0 : Fin 1) y)) (fun x => a (ix3 (0 : Fin 1) x y)))
include hz h

theorem fin_L : (finL m l z (ix3 (0 : Fin 1) (0 : Fin 1) y) : EReal) = ((Real.log (denom sc s 8192 z) : ℝ) : EReal) := by
  obtain ⟨M, hm, hl, ha⟩ := h
  obtain ⟨f, hf⟩ := max_sink hz (M * sc)
  rw [finL_apply, pay8_apply, pay7_apply, pay6_apply, hm, hl, ofBits_scale, ← EReal.coe_mul, hf, last_denom sc s 8192 hz, last_log sc s 8192 (by norm_num)]

theorem fin_O (x : Fin 128) : (finO m l a z (ix2 y x) : EReal) = ((all sc s (w x) 8192 / denom sc s 8192 z : ℝ) : EReal) := by
  obtain ⟨M, hm, hl, ha⟩ := h
  obtain ⟨f, hf⟩ := max_sink hz (M * sc)
  rw [finO_apply, pay8_apply, pay7_apply, pay6_apply, hm, hl, show (a (ix3 (0 : Fin 1) x y) : EReal) = _ from ha x, ofBits_scale, ← EReal.coe_mul, hf,
    last_denom sc s 8192 hz, last_out sc s _ 8192 (by norm_num)]

end last

end real

end Cert.FwdIdeal.Val

end
-- ==== Proof.FwdValue.lean ====
/- The attention's forward kernel: what it leaves at every grid point, and in its results. -/
module

public import proofs.«01_k».proof.Proof.Gen.FwdIdeal.Value
public import proofs.«01_k».proof.Proof.FwdRef
public import proofs.«01_k».proof.Proof.FwdPay
public import Idealize.ShloMosaic.Lib.Pointwise
public import Idealize.ShloMosaic.Lib.Pipeline.ValueKit
public import Idealize.ShloMosaic.Lib.Pipeline.ReadBack

@[expose] public section

set_option maxRecDepth 16384

noncomputable section

namespace Cert.FwdIdeal.Val

open Idealize.ShloMosaic Idealize.ShloMosaic.TcCoe Idealize.SL.Sem
open Cert.FwdIdeal Cert.FwdIdeal.Gen Cert.Attn

/-! ## Slices by head -/

/-- Head `h`'s columns of a block of queries (or of gates). -/
def hq (h : Fin 4) (X : FVec Ideal S512x512 .bf16) : FVec Ideal S512x128 .bf16 := fun i =>
  X (ix2 (⟨(i 0).val, (i 0).isLt⟩ : Fin 512) (⟨h.val * 128 + (i 1).val, by have : (i 1).val < 128 := (i 1).isLt; omega⟩ : Fin 512))
/-- Head `h`'s columns of a block of keys or values. -/
def hk (h : Fin 4) (X : FVec Ideal S1024x256 .bf16) : FVec Ideal S1024x128 .bf16 := fun i =>
  X (ix2 (⟨(i 0).val, (i 0).isLt⟩ : Fin 1024) (⟨h.val / 2 * 128 + (i 1).val, by have : (i 1).val < 128 := (i 1).isLt; omega⟩ : Fin 256))
/-- Head `h`'s row of the maxima or of the sums. -/
def hm (h : Fin 4) (X : FVec Ideal S4x1x512 .f32) : FVec Ideal S1x1x512 .f32 := fun i =>
  X (ix3 h (0 : Fin 1) (⟨(i 2).val, (i 2).isLt⟩ : Fin 512))
/-- Head `h`'s rows of the sums of values. -/
def ha (h : Fin 4) (X : FVec Ideal S4x128x512 .f32) : FVec Ideal S1x128x512 .f32 := fun i =>
  X (ix3 h (⟨(i 1).val, (i 1).isLt⟩ : Fin 128) (⟨(i 2).val, (i 2).isLt⟩ : Fin 512))

theorem ld_q0 (X : FVec Ideal S512x512 .bf16) (inb) : View.ld (Val := Elt Ideal) (e' := .bf16) X (Rect.unit (s := S512x512) ![0, 0] ![512, 128] inb) = hq 0 X := by
  funext i
  refine View.ld_unit_apply_of (Val := Elt Ideal) (e := .bf16) X _ _ _ _ _ fun a => ?_
  fin_cases a
  · exact (Nat.zero_add _).symm
  · rfl
theorem ld_q1 (X : FVec Ideal S512x512 .bf16) (inb) : View.ld (Val := Elt Ideal) (e' := .bf16) X (Rect.unit (s := S512x512) ![0, 128] ![512, 128] inb) = hq 1 X := by
  funext i
  refine View.ld_unit_apply_of (Val := Elt Ideal) (e := .bf16) X _ _ _ _ _ fun a => ?_
  fin_cases a
  · exact (Nat.zero_add _).symm
  · rfl
theorem ld_q2 (X : FVec Ideal S512x512 .bf16) (inb) : View.ld (Val := Elt Ideal) (e' := .bf16) X (Rect.unit (s := S512x512) ![0, 256] ![512, 128] inb) = hq 2 X := by
  funext i
  refine View.ld_unit_apply_of (Val := Elt Ideal) (e := .bf16) X _ _ _ _ _ fun a => ?_
  fin_cases a
  · exact (Nat.zero_add _).symm
  · rfl
theorem ld_q3 (X : FVec Ideal S512x512 .bf16) (inb) : View.ld (Val := Elt Ideal) (e' := .bf16) X (Rect.unit (s := S512x512) ![0, 384] ![512, 128] inb) = hq 3 X := by
  funext i
  refine View.ld_unit_apply_of (Val := Elt Ideal) (e := .bf16) X _ _ _ _ _ fun a => ?_
  fin_cases a
  · exact (Nat.zero_add _).symm
  · rfl
theorem ld_k0 (X : FVec Ideal S1024x256 .bf16) (inb) : View.ld (Val := Elt Ideal) (e' := .bf16) X (Rect.unit (s := S1024x256) ![0, 0] ![1024, 128] inb) = hk 0 X := by
  funext i
  refine View.ld_unit_apply_of (Val := Elt Ideal) (e := .bf16) X _ _ _ _ _ fun a => ?_
  fin_cases a
  · exact (Nat.zero_add _).symm
  · rfl
theorem hk_1 : hk 1 = hk 0 := rfl
theorem ld_k1 (X : FVec Ideal S1024x256 .bf16) (inb) : View.ld (Val := Elt Ideal) (e' := .bf16) X (Rect.unit (s := S1024x256) ![0, 128] ![1024, 128] inb) = hk 2 X := by
  funext i
  refine View.ld_unit_apply_of (Val := Elt Ideal) (e := .bf16) X _ _ _ _ _ fun a => ?_
  fin_cases a
  · exact (Nat.zero_add _).symm
  · rfl
theorem hk_3 : hk 3 = hk 2 := rfl
theorem ld_m0 (X : FVec Ideal S4x1x512 .f32) (inb) : View.ld (Val := Elt Ideal) (e' := .f32) X (Rect.unit (s := S4x1x512) ![0, 0, 0] ![1, 1, 512] inb) = hm 0 X := by
  funext i
  have h0 : (i 0).val < 1 := (i 0).isLt
  have h1 : (i 1).val < 1 := (i 1).isLt
  refine View.ld_unit_apply_of (Val := Elt Ideal) (e := .f32) X _ _ _ _ _ fun a => ?_
  fin_cases a
  · exact (congrArg (0 + ·) (Nat.lt_one_iff.mp h0)).symm
  · exact ((Nat.zero_add _).trans (Nat.lt_one_iff.mp h1)).symm
  · exact (Nat.zero_add _).symm
theorem ld_a0 (X : FVec Ideal S4x128x512 .f32) (inb) : View.ld (Val := Elt Ideal) (e' := .f32) X (Rect.unit (s := S4x128x512) ![0, 0, 0] ![1, 128, 512] inb) = ha 0 X := by
  funext i
  have h0 : (i 0).val < 1 := (i 0).isLt
  refine View.ld_unit_apply_of (Val := Elt Ideal) (e := .f32) X _ _ _ _ _ fun a => ?_
  fin_cases a
  · exact (congrArg (0 + ·) (Nat.lt_one_iff.mp h0)).symm
  · exact (Nat.zero_add _).symm
  · exact (Nat.zero_add _).symm
theorem ld_m1 (X : FVec Ideal S4x1x512 .f32) (inb) : View.ld (Val := Elt Ideal) (e' := .f32) X (Rect.unit (s := S4x1x512) ![1, 0, 0] ![1, 1, 512] inb) = hm 1 X := by
  funext i
  have h0 : (i 0).val < 1 := (i 0).isLt
  have h1 : (i 1).val < 1 := (i 1).isLt
  refine View.ld_unit_apply_of (Val := Elt Ideal) (e := .f32) X _ _ _ _ _ fun a => ?_
  fin_cases a
  · exact (congrArg (1 + ·) (Nat.lt_one_iff.mp h0)).symm
  · exact ((Nat.zero_add _).trans (Nat.lt_one_iff.mp h1)).symm
  · exact (Nat.zero_add _).symm
theorem ld_a1 (X : FVec Ideal S4x128x512 .f32) (inb) : View.ld (Val := Elt Ideal) (e' := .f32) X (Rect.unit (s := S4x128x512) ![1, 0, 0] ![1, 128, 512] inb) = ha 1 X := by
  funext i
  have h0 : (i 0).val < 1 := (i 0).isLt
  refine View.ld_unit_apply_of (Val := Elt Ideal) (e := .f32) X _ _ _ _ _ fun a => ?_
  fin_cases a
  · exact (congrArg (1 + ·) (Nat.lt_one_iff.mp h0)).symm
  · exact (Nat.zero_add _).symm
  · exact (Nat.zero_add _).symm
theorem ld_m2 (X : FVec Ideal S4x1x512 .f32) (inb) : View.ld (Val := Elt Ideal) (e' := .f32) X (Rect.unit (s := S4x1x512) ![2, 0, 0] ![1, 1, 512] inb) = hm 2 X := by
  funext i
  have h0 : (i 0).val < 1 := (i 0).isLt
  have h1 : (i 1).val < 1 := (i 1).isLt
  refine View.ld_unit_apply_of (Val := Elt Ideal) (e := .f32) X _ _ _ _ _ fun a => ?_
  fin_cases a
  · exact (congrArg (2 + ·) (Nat.lt_one_iff.mp h0)).symm
  · exact ((Nat.zero_add _).trans (Nat.lt_one_iff.mp h1)).symm
  · exact (Nat.zero_add _).symm
theorem ld_a2 (X : FVec Ideal S4x128x512 .f32) (inb) : View.ld (Val := Elt Ideal) (e' := .f32) X (Rect.unit (s := S4x128x512) ![2, 0, 0] ![1, 128, 512] inb) = ha 2 X := by
  funext i
  have h0 : (i 0).val < 1 := (i 0).isLt
  refine View.ld_unit_apply_of (Val := Elt Ideal) (e := .f32) X _ _ _ _ _ fun a => ?_
  fin_cases a
  · exact (congrArg (2 + ·) (Nat.lt_one_iff.mp h0)).symm
  · exact (Nat.zero_add _).symm
  · exact (Nat.zero_add _).symm
theorem ld_m3 (X : FVec Ideal S4x1x512 .f32) (inb) : View.ld (Val := Elt Ideal) (e' := .f32) X (Rect.unit (s := S4x1x512) ![3, 0, 0] ![1, 1, 512] inb) = hm 3 X := by
  funext i
  have h0 : (i 0).val < 1 := (i 0).isLt
  have h1 : (i 1).val < 1 := (i 1).isLt
  refine View.ld_unit_apply_of (Val := Elt Ideal) (e := .f32) X _ _ _ _ _ fun a => ?_
  fin_cases a
  · exact (congrArg (3 + ·) (Nat.lt_one_iff.mp h0)).symm
  · exact ((Nat.zero_add _).trans (Nat.lt_one_iff.mp h1)).symm
  · exact (Nat.zero_add _).symm
theorem ld_a3 (X : FVec Ideal S4x128x512 .f32) (inb) : View.ld (Val := Elt Ideal) (e' := .f32) X (Rect.unit (s := S4x128x512) ![3, 0, 0] ![1, 128, 512] inb) = ha 3 X := by
  funext i
  have h0 : (i 0).val < 1 := (i 0).isLt
  refine View.ld_unit_apply_of (Val := Elt Ideal) (e := .f32) X _ _ _ _ _ fun a => ?_
  fin_cases a
  · exact (congrArg (3 + ·) (Nat.lt_one_iff.mp h0)).symm
  · exact (Nat.zero_add _).symm
  · exact (Nat.zero_add _).symm

/-- Four stores that cover a buffer, after an earlier one. -/
theorem canon_four {Val : EltTy → Type} {S : Shape} {e : EltTy} [∀ e, Nonempty (Val e)] (L' : List (View.Piece Val S e)) :
    ∀ (L : List (View.Piece Val S e)) (y : S.Idx), (∃ p ∈ L, y ∈ p.1.set) → View.canon (L ++ L') y = View.canon L y
  | [], _, hy => by obtain ⟨p, hp, _⟩ := hy; exact absurd hp List.not_mem_nil
  | p :: L, y, hy => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_four L' L y ?_
      obtain ⟨q, hq, hyq⟩ := hy
      rcases List.mem_cons.mp hq with rfl | hq'
      · exact absurd hyq hm
      · exact ⟨q, hq', hyq⟩

/-- A load of a head's rows reads past the store of another head's. -/
theorem skip_m {sig : RefSig} {κ : Kind} {sp : Space} (v : View sig κ sp S4x1x512 .f32) (i j : ℕ) (hi) (hj) (w) (L : List (View.Piece (Elt Ideal) S4x1x512 .f32)) (h : i ≠ j) :
    v.readCov (⟨Rect.unit (s := S4x1x512) ![i, 0, 0] ![1, 1, 512] hi, w⟩ :: L) (Rect.unit (s := S4x1x512) ![j, 0, 0] ![1, 1, 512] hj).toLoadRect
      = v.readCov L (Rect.unit (s := S4x1x512) ![j, 0, 0] ![1, 1, 512] hj).toLoadRect :=
  View.readCov_skip v _ w L _ (decide_eq_true ⟨(0 : Fin 3), by
    show 1 = 0 ∨ 1 = 0 ∨ i + 1 * (1 - 1) < j ∨ j + 1 * (1 - 1) < i
    omega⟩)

/-- A load of a head's rows reads past the store of another head's. -/
theorem skip_a {sig : RefSig} {κ : Kind} {sp : Space} (v : View sig κ sp S4x128x512 .f32) (i j : ℕ) (hi) (hj) (w) (L : List (View.Piece (Elt Ideal) S4x128x512 .f32)) (h : i ≠ j) :
    v.readCov (⟨Rect.unit (s := S4x128x512) ![i, 0, 0] ![1, 128, 512] hi, w⟩ :: L) (Rect.unit (s := S4x128x512) ![j, 0, 0] ![1, 128, 512] hj).toLoadRect
      = v.readCov L (Rect.unit (s := S4x128x512) ![j, 0, 0] ![1, 128, 512] hj).toLoadRect :=
  View.readCov_skip v _ w L _ (decide_eq_true ⟨(0 : Fin 3), by
    show 1 = 0 ∨ 1 = 0 ∨ i + 1 * (1 - 1) < j ∨ j + 1 * (1 - 1) < i
    omega⟩)

/-- A load of a head's rows reads that head's store. -/
theorem hit_m {sig : RefSig} {κ : Kind} {sp : Space} (v : View sig κ sp S4x1x512 .f32) (i : ℕ) (hi) (hj) (w) (L : List (View.Piece (Elt Ideal) S4x1x512 .f32)) :
    v.readCov (⟨Rect.unit (s := S4x1x512) ![i, 0, 0] ![1, 1, 512] hi, w⟩ :: L) (Rect.unit (s := S4x1x512) ![i, 0, 0] ![1, 1, 512] hj).toLoadRect = w := by
  rw [View.readCov_eq_canon']
  funext j
  exact View.canon_cons_emb (Rect.unit (s := S4x1x512) ![i, 0, 0] ![1, 1, 512] hi) w L j

/-- A load of a head's rows reads that head's store. -/
theorem hit_a {sig : RefSig} {κ : Kind} {sp : Space} (v : View sig κ sp S4x128x512 .f32) (i : ℕ) (hi) (hj) (w) (L : List (View.Piece (Elt Ideal) S4x128x512 .f32)) :
    v.readCov (⟨Rect.unit (s := S4x128x512) ![i, 0, 0] ![1, 128, 512] hi, w⟩ :: L) (Rect.unit (s := S4x128x512) ![i, 0, 0] ![1, 128, 512] hj).toLoadRect = w := by
  rw [View.readCov_eq_canon']
  funext j
  exact View.canon_cons_emb (Rect.unit (s := S4x128x512) ![i, 0, 0] ![1, 128, 512] hi) w L j

variable (m : (ℓ : Loc nD τ sig) → Buf (Elt Ideal) ℓ) (c : Dev nD)

/-- The blocks point `t` reads. -/
abbrev zBlk (t : Fin cfg0.N) : FVec Ideal S4 .f32 := iblk m c 0 t
abbrev qBlk (t : Fin cfg0.N) : FVec Ideal S512x512 .bf16 := iblk m c 1 t
abbrev gBlk (t : Fin cfg0.N) : FVec Ideal S512x512 .bf16 := iblk m c 2 t
abbrev kBlk (t : Fin cfg0.N) : FVec Ideal S1024x256 .bf16 := iblk m c 3 t
abbrev vBlk (t : Fin cfg0.N) : FVec Ideal S1024x256 .bf16 := iblk m c 4 t
/-- The maxima, the sums and the sums of values after position `n`. -/
abbrev mAt (n : ℕ) (h : n < cfg0.N) : FVec Ideal S4x1x512 .f32 := (outsAt0 m c n h).2.2.2.1
abbrev lAt (n : ℕ) (h : n < cfg0.N) : FVec Ideal S4x1x512 .f32 := (outsAt0 m c n h).2.2.2.2.1
abbrev aAt (n : ℕ) (h : n < cfg0.N) : FVec Ideal S4x128x512 .f32 := (outsAt0 m c n h).2.2.2.2.2

theorem before (t : Fin cfg0.N) : t.val - 1 < cfg0.N := Nat.lt_of_le_of_lt (Nat.sub_le _ _) t.isLt

theorem eq_row (x : S1x1x512.Idx) (y : Fin 512) (h : y.val = (x 2).val) : x = ix3 (0 : Fin 1) (0 : Fin 1) y := by
  ext a; fin_cases a
  · exact Nat.lt_one_iff.mp (x 0).isLt
  · exact Nat.lt_one_iff.mp (x 1).isLt
  · exact h.symm
theorem eq_col (x : S1x128x512.Idx) (w : Fin 128) (y : Fin 512) (h1 : w.val = (x 1).val) (h : y.val = (x 2).val) : x = ix3 (0 : Fin 1) w y := by
  ext a; fin_cases a
  · exact Nat.lt_one_iff.mp (x 0).isLt
  · exact h1.symm
  · exact h.symm

theorem stepM_A (t : Fin cfg0.N) (h0 : t.val % 8 = 0) (h : Fin 4) (y : Fin 512) :
    (mAt m c t.val t.isLt (ix3 h (0 : Fin 1) y) : EReal) = newM (hk h (kBlk m c t)) (hq h (qBlk m c t)) (hm h (k0_pay37)) (ix3 (0 : Fin 1) (0 : Fin 1) y) := by
  unfold mAt
  rw [outsAt0_A m c t h0 (by omega)]
  frame_out
  simp (disch := first | decide | (exact (by decide : ∀ b : Fin 3, (![0, 0, 0] : Fin 3 → ℕ) b = 0))) only [↓skip_m, ↓skip_a, ↓View.readCov_fill]
  refine (canon_four [_] [_, _, _, _] _ (View.cover_of_tiled_head _ _ _ (by rfl) _)).trans ?_
  simp only [read_unread_whole, ld_q0, ld_q1, ld_q2, ld_q3, ld_k0, ld_k1, ld_m0, ld_m1, ld_m2, ld_m3, ld_a0, ld_a1, ld_a2, ld_a3]
  canon_tiles w e
  · obtain rfl : h = 3 := Fin.ext (show h.val = 3 from (show h.val = _ from e0).trans (by have : (w 0).val < 1 := (w 0).isLt; omega))
    rw [eq_row w y e2]
    exact congrFun (newM3 _ _ _) _
  · obtain rfl : h = 2 := Fin.ext (show h.val = 2 from (show h.val = _ from e0).trans (by have : (w 0).val < 1 := (w 0).isLt; omega))
    rw [eq_row w y e2]
    exact congrFun (newM2 _ _ _) _
  · obtain rfl : h = 1 := Fin.ext (show h.val = 1 from (show h.val = _ from e0).trans (by have : (w 0).val < 1 := (w 0).isLt; omega))
    rw [eq_row w y e2]
    exact congrFun (newM1 _ _ _) _
  · obtain rfl : h = 0 := Fin.ext (show h.val = 0 from (show h.val = _ from e0).trans (by have : (w 0).val < 1 := (w 0).isLt; omega))
    rw [eq_row w y e2]
    exact congrFun (newM0 _ _ _) _

theorem stepL_A (t : Fin cfg0.N) (h0 : t.val % 8 = 0) (h : Fin 4) (y : Fin 512) :
    (lAt m c t.val t.isLt (ix3 h (0 : Fin 1) y) : EReal) = newL (hk h (kBlk m c t)) (hq h (qBlk m c t)) (hm h (k0_pay37)) (hm h (k0_pay38)) (ix3 (0 : Fin 1) (0 : Fin 1) y) := by
  unfold lAt
  rw [outsAt0_A m c t h0 (by omega)]
  frame_out
  simp (disch := first | decide | (exact (by decide : ∀ b : Fin 3, (![0, 0, 0] : Fin 3 → ℕ) b = 0))) only [↓skip_m, ↓skip_a, ↓View.readCov_fill]
  refine (canon_four [_] [_, _, _, _] _ (View.cover_of_tiled_head _ _ _ (by rfl) _)).trans ?_
  simp only [read_unread_whole, ld_q0, ld_q1, ld_q2, ld_q3, ld_k0, ld_k1, ld_m0, ld_m1, ld_m2, ld_m3, ld_a0, ld_a1, ld_a2, ld_a3]
  canon_tiles w e
  · obtain rfl : h = 3 := Fin.ext (show h.val = 3 from (show h.val = _ from e0).trans (by have : (w 0).val < 1 := (w 0).isLt; omega))
    rw [eq_row w y e2]
    exact congrFun (newL3 _ _ _ _) _
  · obtain rfl : h = 2 := Fin.ext (show h.val = 2 from (show h.val = _ from e0).trans (by have : (w 0).val < 1 := (w 0).isLt; omega))
    rw [eq_row w y e2]
    exact congrFun (newL2 _ _ _ _) _
  · obtain rfl : h = 1 := Fin.ext (show h.val = 1 from (show h.val = _ from e0).trans (by have : (w 0).val < 1 := (w 0).isLt; omega))
    rw [eq_row w y e2]
    exact congrFun (newL1 _ _ _ _) _
  · obtain rfl : h = 0 := Fin.ext (show h.val = 0 from (show h.val = _ from e0).trans (by have : (w 0).val < 1 := (w 0).isLt; omega))
    rw [eq_row w y e2]
    exact congrFun (newL0 _ _ _ _) _

theorem stepA_A (t : Fin cfg0.N) (h0 : t.val % 8 = 0) (h : Fin 4) (x : Fin 128) (y : Fin 512) :
    (aAt m c t.val t.isLt (ix3 h x y) : EReal) = newA (hk h (kBlk m c t)) (hk h (vBlk m c t)) (hq h (qBlk m c t)) (hm h (k0_pay37)) (ha h (k0_pay39)) (ix3 (0 : Fin 1) x y) := by
  unfold aAt
  rw [outsAt0_A m c t h0 (by omega)]
  frame_out
  simp (disch := first | decide | (exact (by decide : ∀ b : Fin 3, (![0, 0, 0] : Fin 3 → ℕ) b = 0))) only [↓skip_m, ↓skip_a, ↓View.readCov_fill]
  refine (canon_four [_] [_, _, _, _] _ (View.cover_of_tiled_head _ _ _ (by rfl) _)).trans ?_
  simp only [read_unread_whole, ld_q0, ld_q1, ld_q2, ld_q3, ld_k0, ld_k1, ld_m0, ld_m1, ld_m2, ld_m3, ld_a0, ld_a1, ld_a2, ld_a3]
  canon_tiles w e
  · obtain rfl : h = 3 := Fin.ext (show h.val = 3 from (show h.val = _ from e0).trans (by have : (w 0).val < 1 := (w 0).isLt; omega))
    rw [eq_col w x y e1 e2]
    exact congrFun (newA3 _ _ _ _ _) _
  · obtain rfl : h = 2 := Fin.ext (show h.val = 2 from (show h.val = _ from e0).trans (by have : (w 0).val < 1 := (w 0).isLt; omega))
    rw [eq_col w x y e1 e2]
    exact congrFun (newA2 _ _ _ _ _) _
  · obtain rfl : h = 1 := Fin.ext (show h.val = 1 from (show h.val = _ from e0).trans (by have : (w 0).val < 1 := (w 0).isLt; omega))
    rw [eq_col w x y e1 e2]
    exact congrFun (newA1 _ _ _ _ _) _
  · obtain rfl : h = 0 := Fin.ext (show h.val = 0 from (show h.val = _ from e0).trans (by have : (w 0).val < 1 := (w 0).isLt; omega))
    rw [eq_col w x y e1 e2]
    exact congrFun (newA0 _ _ _ _ _) _

theorem stepM_B (t : Fin cfg0.N) (h0 : ¬t.val % 8 = 0) (h1 : ¬t.val % 8 = 7) (h : Fin 4) (y : Fin 512) :
    (mAt m c t.val t.isLt (ix3 h (0 : Fin 1) y) : EReal) = newM (hk h (kBlk m c t)) (hq h (qBlk m c t)) (hm h (mAt m c (t.val - 1) (before t))) (ix3 (0 : Fin 1) (0 : Fin 1) y) := by
  unfold mAt
  rw [outsAt0_B m c t h0 h1]
  frame_out
  simp only [read_unread_whole, ld_q0, ld_q1, ld_q2, ld_q3, ld_k0, ld_k1, ld_m0, ld_m1, ld_m2, ld_m3, ld_a0, ld_a1, ld_a2, ld_a3]
  canon_tiles w e
  · obtain rfl : h = 3 := Fin.ext (show h.val = 3 from (show h.val = _ from e0).trans (by have : (w 0).val < 1 := (w 0).isLt; omega))
    rw [eq_row w y e2]
    exact congrFun (newM3 _ _ _) _
  · obtain rfl : h = 2 := Fin.ext (show h.val = 2 from (show h.val = _ from e0).trans (by have : (w 0).val < 1 := (w 0).isLt; omega))
    rw [eq_row w y e2]
    exact congrFun (newM2 _ _ _) _
  · obtain rfl : h = 1 := Fin.ext (show h.val = 1 from (show h.val = _ from e0).trans (by have : (w 0).val < 1 := (w 0).isLt; omega))
    rw [eq_row w y e2]
    exact congrFun (newM1 _ _ _) _
  · obtain rfl : h = 0 := Fin.ext (show h.val = 0 from (show h.val = _ from e0).trans (by have : (w 0).val < 1 := (w 0).isLt; omega))
    rw [eq_row w y e2]
    exact congrFun (newM0 _ _ _) _

theorem stepL_B (t : Fin cfg0.N) (h0 : ¬t.val % 8 = 0) (h1 : ¬t.val % 8 = 7) (h : Fin 4) (y : Fin 512) :
    (lAt m c t.val t.isLt (ix3 h (0 : Fin 1) y) : EReal) = newL (hk h (kBlk m c t)) (hq h (qBlk m c t)) (hm h (mAt m c (t.val - 1) (before t))) (hm h (lAt m c (t.val - 1) (before t))) (ix3 (0 : Fin 1) (0 : Fin 1) y) := by
  unfold lAt
  rw [outsAt0_B m c t h0 h1]
  frame_out
  simp only [read_unread_whole, ld_q0, ld_q1, ld_q2, ld_q3, ld_k0, ld_k1, ld_m0, ld_m1, ld_m2, ld_m3, ld_a0, ld_a1, ld_a2, ld_a3]
  canon_tiles w e
  · obtain rfl : h = 3 := Fin.ext (show h.val = 3 from (show h.val = _ from e0).trans (by have : (w 0).val < 1 := (w 0).isLt; omega))
    rw [eq_row w y e2]
    exact congrFun (newL3 _ _ _ _) _
  · obtain rfl : h = 2 := Fin.ext (show h.val = 2 from (show h.val = _ from e0).trans (by have : (w 0).val < 1 := (w 0).isLt; omega))
    rw [eq_row w y e2]
    exact congrFun (newL2 _ _ _ _) _
  · obtain rfl : h = 1 := Fin.ext (show h.val = 1 from (show h.val = _ from e0).trans (by have : (w 0).val < 1 := (w 0).isLt; omega))
    rw [eq_row w y e2]
    exact congrFun (newL1 _ _ _ _) _
  · obtain rfl : h = 0 := Fin.ext (show h.val = 0 from (show h.val = _ from e0).trans (by have : (w 0).val < 1 := (w 0).isLt; omega))
    rw [eq_row w y e2]
    exact congrFun (newL0 _ _ _ _) _

theorem stepA_B (t : Fin cfg0.N) (h0 : ¬t.val % 8 = 0) (h1 : ¬t.val % 8 = 7) (h : Fin 4) (x : Fin 128) (y : Fin 512) :
    (aAt m c t.val t.isLt (ix3 h x y) : EReal) = newA (hk h (kBlk m c t)) (hk h (vBlk m c t)) (hq h (qBlk m c t)) (hm h (mAt m c (t.val - 1) (before t))) (ha h (aAt m c (t.val - 1) (before t))) (ix3 (0 : Fin 1) x y) := by
  unfold aAt
  rw [outsAt0_B m c t h0 h1]
  frame_out
  simp only [read_unread_whole, ld_q0, ld_q1, ld_q2, ld_q3, ld_k0, ld_k1, ld_m0, ld_m1, ld_m2, ld_m3, ld_a0, ld_a1, ld_a2, ld_a3]
  canon_tiles w e
  · obtain rfl : h = 3 := Fin.ext (show h.val = 3 from (show h.val = _ from e0).trans (by have : (w 0).val < 1 := (w 0).isLt; omega))
    rw [eq_col w x y e1 e2]
    exact congrFun (newA3 _ _ _ _ _) _
  · obtain rfl : h = 2 := Fin.ext (show h.val = 2 from (show h.val = _ from e0).trans (by have : (w 0).val < 1 := (w 0).isLt; omega))
    rw [eq_col w x y e1 e2]
    exact congrFun (newA2 _ _ _ _ _) _
  · obtain rfl : h = 1 := Fin.ext (show h.val = 1 from (show h.val = _ from e0).trans (by have : (w 0).val < 1 := (w 0).isLt; omega))
    rw [eq_col w x y e1 e2]
    exact congrFun (newA1 _ _ _ _ _) _
  · obtain rfl : h = 0 := Fin.ext (show h.val = 0 from (show h.val = _ from e0).trans (by have : (w 0).val < 1 := (w 0).isLt; omega))
    rw [eq_col w x y e1 e2]
    exact congrFun (newA0 _ _ _ _ _) _

theorem stepM_C (t : Fin cfg0.N) (h0 : ¬t.val % 8 = 0) (h1 : t.val % 8 = 7) (h : Fin 4) (y : Fin 512) :
    (mAt m c t.val t.isLt (ix3 h (0 : Fin 1) y) : EReal) = newM (hk h (kBlk m c t)) (hq h (qBlk m c t)) (hm h (mAt m c (t.val - 1) (before t))) (ix3 (0 : Fin 1) (0 : Fin 1) y) := by
  unfold mAt
  rw [outsAt0_C m c t h0 h1]
  frame_out
  simp only [read_unread_whole, ld_q0, ld_q1, ld_q2, ld_q3, ld_k0, ld_k1, ld_m0, ld_m1, ld_m2, ld_m3, ld_a0, ld_a1, ld_a2, ld_a3]
  canon_tiles w e
  · obtain rfl : h = 3 := Fin.ext (show h.val = 3 from (show h.val = _ from e0).trans (by have : (w 0).val < 1 := (w 0).isLt; omega))
    rw [eq_row w y e2]
    exact congrFun (newM3 _ _ _) _
  · obtain rfl : h = 2 := Fin.ext (show h.val = 2 from (show h.val = _ from e0).trans (by have : (w 0).val < 1 := (w 0).isLt; omega))
    rw [eq_row w y e2]
    exact congrFun (newM2 _ _ _) _
  · obtain rfl : h = 1 := Fin.ext (show h.val = 1 from (show h.val = _ from e0).trans (by have : (w 0).val < 1 := (w 0).isLt; omega))
    rw [eq_row w y e2]
    exact congrFun (newM1 _ _ _) _
  · obtain rfl : h = 0 := Fin.ext (show h.val = 0 from (show h.val = _ from e0).trans (by have : (w 0).val < 1 := (w 0).isLt; omega))
    rw [eq_row w y e2]
    exact congrFun (newM0 _ _ _) _

theorem stepL_C (t : Fin cfg0.N) (h0 : ¬t.val % 8 = 0) (h1 : t.val % 8 = 7) (h : Fin 4) (y : Fin 512) :
    (lAt m c t.val t.isLt (ix3 h (0 : Fin 1) y) : EReal) = newL (hk h (kBlk m c t)) (hq h (qBlk m c t)) (hm h (mAt m c (t.val - 1) (before t))) (hm h (lAt m c (t.val - 1) (before t))) (ix3 (0 : Fin 1) (0 : Fin 1) y) := by
  unfold lAt
  rw [outsAt0_C m c t h0 h1]
  frame_out
  simp only [read_unread_whole, ld_q0, ld_q1, ld_q2, ld_q3, ld_k0, ld_k1, ld_m0, ld_m1, ld_m2, ld_m3, ld_a0, ld_a1, ld_a2, ld_a3]
  canon_tiles w e
  · obtain rfl : h = 3 := Fin.ext (show h.val = 3 from (show h.val = _ from e0).trans (by have : (w 0).val < 1 := (w 0).isLt; omega))
    rw [eq_row w y e2]
    exact congrFun (newL3 _ _ _ _) _
  · obtain rfl : h = 2 := Fin.ext (show h.val = 2 from (show h.val = _ from e0).trans (by have : (w 0).val < 1 := (w 0).isLt; omega))
    rw [eq_row w y e2]
    exact congrFun (newL2 _ _ _ _) _
  · obtain rfl : h = 1 := Fin.ext (show h.val = 1 from (show h.val = _ from e0).trans (by have : (w 0).val < 1 := (w 0).isLt; omega))
    rw [eq_row w y e2]
    exact congrFun (newL1 _ _ _ _) _
  · obtain rfl : h = 0 := Fin.ext (show h.val = 0 from (show h.val = _ from e0).trans (by have : (w 0).val < 1 := (w 0).isLt; omega))
    rw [eq_row w y e2]
    exact congrFun (newL0 _ _ _ _) _

theorem stepA_C (t : Fin cfg0.N) (h0 : ¬t.val % 8 = 0) (h1 : t.val % 8 = 7) (h : Fin 4) (x : Fin 128) (y : Fin 512) :
    (aAt m c t.val t.isLt (ix3 h x y) : EReal) = newA (hk h (kBlk m c t)) (hk h (vBlk m c t)) (hq h (qBlk m c t)) (hm h (mAt m c (t.val - 1) (before t))) (ha h (aAt m c (t.val - 1) (before t))) (ix3 (0 : Fin 1) x y) := by
  unfold aAt
  rw [outsAt0_C m c t h0 h1]
  frame_out
  simp only [read_unread_whole, ld_q0, ld_q1, ld_q2, ld_q3, ld_k0, ld_k1, ld_m0, ld_m1, ld_m2, ld_m3, ld_a0, ld_a1, ld_a2, ld_a3]
  canon_tiles w e
  · obtain rfl : h = 3 := Fin.ext (show h.val = 3 from (show h.val = _ from e0).trans (by have : (w 0).val < 1 := (w 0).isLt; omega))
    rw [eq_col w x y e1 e2]
    exact congrFun (newA3 _ _ _ _ _) _
  · obtain rfl : h = 2 := Fin.ext (show h.val = 2 from (show h.val = _ from e0).trans (by have : (w 0).val < 1 := (w 0).isLt; omega))
    rw [eq_col w x y e1 e2]
    exact congrFun (newA2 _ _ _ _ _) _
  · obtain rfl : h = 1 := Fin.ext (show h.val = 1 from (show h.val = _ from e0).trans (by have : (w 0).val < 1 := (w 0).isLt; omega))
    rw [eq_col w x y e1 e2]
    exact congrFun (newA1 _ _ _ _ _) _
  · obtain rfl : h = 0 := Fin.ext (show h.val = 0 from (show h.val = _ from e0).trans (by have : (w 0).val < 1 := (w 0).isLt; omega))
    rw [eq_col w x y e1 e2]
    exact congrFun (newA0 _ _ _ _ _) _

theorem eq_tile (w : S512x128.Idx) (y : Fin 512) (x : Fin 128) (h0 : y.val = (w 0).val) (h1 : x.val = (w 1).val) : w = ix2 y x := by
  ext a; fin_cases a
  · exact h0.symm
  · exact h1.symm

theorem ld_z0 (X : FVec Ideal S4 .f32) (inb) (j : (⟨1, ![1]⟩ : Shape).Idx) : View.ld (Val := Elt Ideal) (e' := .f32) X (Rect.unit (s := S4) ![0] ![1] inb) j = X (ix1 (0 : Fin 4)) := by
  have hl : (j 0).val < 1 := (j 0).isLt
  refine View.ld_unit_apply_of (Val := Elt Ideal) (e := .f32) X _ _ _ _ _ fun a => ?_
  fin_cases a
  exact (congrArg (0 + ·) (Nat.lt_one_iff.mp hl)).symm
theorem ld_z1 (X : FVec Ideal S4 .f32) (inb) (j : (⟨1, ![1]⟩ : Shape).Idx) : View.ld (Val := Elt Ideal) (e' := .f32) X (Rect.unit (s := S4) ![1] ![1] inb) j = X (ix1 (1 : Fin 4)) := by
  have hl : (j 0).val < 1 := (j 0).isLt
  refine View.ld_unit_apply_of (Val := Elt Ideal) (e := .f32) X _ _ _ _ _ fun a => ?_
  fin_cases a
  exact (congrArg (1 + ·) (Nat.lt_one_iff.mp hl)).symm
theorem ld_z2 (X : FVec Ideal S4 .f32) (inb) (j : (⟨1, ![1]⟩ : Shape).Idx) : View.ld (Val := Elt Ideal) (e' := .f32) X (Rect.unit (s := S4) ![2] ![1] inb) j = X (ix1 (2 : Fin 4)) := by
  have hl : (j 0).val < 1 := (j 0).isLt
  refine View.ld_unit_apply_of (Val := Elt Ideal) (e := .f32) X _ _ _ _ _ fun a => ?_
  fin_cases a
  exact (congrArg (2 + ·) (Nat.lt_one_iff.mp hl)).symm
theorem ld_z3 (X : FVec Ideal S4 .f32) (inb) (j : (⟨1, ![1]⟩ : Shape).Idx) : View.ld (Val := Elt Ideal) (e' := .f32) X (Rect.unit (s := S4) ![3] ![1] inb) j = X (ix1 (3 : Fin 4)) := by
  have hl : (j 0).val < 1 := (j 0).isLt
  refine View.ld_unit_apply_of (Val := Elt Ideal) (e := .f32) X _ _ _ _ _ fun a => ?_
  fin_cases a
  exact (congrArg (3 + ·) (Nat.lt_one_iff.mp hl)).symm

/-- Head `h`'s maxima, sums and sums of values after point `t`, over those before it. -/
abbrev mNew (t : Fin cfg0.N) (M : FVec Ideal S4x1x512 .f32) (h : Fin 4) : FVec Ideal S1x1x512 .f32 := newM (hk h (kBlk m c t)) (hq h (qBlk m c t)) (hm h M)
abbrev lNew (t : Fin cfg0.N) (M L : FVec Ideal S4x1x512 .f32) (h : Fin 4) : FVec Ideal S1x1x512 .f32 := newL (hk h (kBlk m c t)) (hq h (qBlk m c t)) (hm h M) (hm h L)
abbrev aNew (t : Fin cfg0.N) (M : FVec Ideal S4x1x512 .f32) (A : FVec Ideal S4x128x512 .f32) (h : Fin 4) : FVec Ideal S1x128x512 .f32 :=
  newA (hk h (kBlk m c t)) (hk h (vBlk m c t)) (hq h (qBlk m c t)) (hm h M) (ha h A)
abbrev mLast (t : Fin cfg0.N) (h : Fin 4) := mNew m c t (mAt m c (t.val - 1) (before t)) h
abbrev lLast (t : Fin cfg0.N) (h : Fin 4) := lNew m c t (mAt m c (t.val - 1) (before t)) (lAt m c (t.val - 1) (before t)) h
abbrev aLast (t : Fin cfg0.N) (h : Fin 4) := aNew m c t (mAt m c (t.val - 1) (before t)) (aAt m c (t.val - 1) (before t)) h

theorem lastO (t : Fin cfg0.N) (h0 : ¬t.val % 8 = 0) (h1 : t.val % 8 = 7) (h : Fin 4) (y : Fin 512) (x : Fin 128) :
    ((outsAt0 m c t.val t.isLt).2.1 (ix2 y (⟨h.val * 128 + x.val, by omega⟩ : Fin 512)) : EReal) = finO (mLast m c t h) (lLast m c t h) (aLast m c t h) (zBlk m c t (ix1 h)) (ix2 y x) := by
  rw [outsAt0_C m c t h0 h1]
  frame_out
  simp (disch := decide) only [↓skip_m, ↓skip_a, ↓hit_m, ↓hit_a]
  simp only [read_unread_whole, ld_q0, ld_q1, ld_q2, ld_q3, ld_k0, ld_k1, ld_m0, ld_m1, ld_m2, ld_m3, ld_a0, ld_a1, ld_a2, ld_a3,
    newM0, newM1, newM2, newM3, newL0, newL1, newL2, newL3, newA0, newA1, newA2, newA3]
  canon_tiles w e
  · have e : h.val * 128 + x.val = 384 + (w 1).val := e1
    obtain rfl : h = 3 := Fin.ext (show h.val = 3 by omega)
    rw [eq_tile w y x e0 (by omega)]
    refine (congrFun (finO3 _ _ _ _) _).trans ?_
    exact congrArg (fun z : EReal => finO (mLast m c t 3) (lLast m c t 3) (aLast m c t 3) z (ix2 y x)) (ld_z3 _ _ _)
  · have e : h.val * 128 + x.val = 256 + (w 1).val := e1
    obtain rfl : h = 2 := Fin.ext (show h.val = 2 by omega)
    rw [eq_tile w y x e0 (by omega)]
    refine (congrFun (finO2 _ _ _ _) _).trans ?_
    exact congrArg (fun z : EReal => finO (mLast m c t 2) (lLast m c t 2) (aLast m c t 2) z (ix2 y x)) (ld_z2 _ _ _)
  · have e : h.val * 128 + x.val = 128 + (w 1).val := e1
    obtain rfl : h = 1 := Fin.ext (show h.val = 1 by omega)
    rw [eq_tile w y x e0 (by omega)]
    refine (congrFun (finO1 _ _ _ _) _).trans ?_
    exact congrArg (fun z : EReal => finO (mLast m c t 1) (lLast m c t 1) (aLast m c t 1) z (ix2 y x)) (ld_z1 _ _ _)
  · have e : h.val * 128 + x.val = (w 1).val := e1
    obtain rfl : h = 0 := Fin.ext (show h.val = 0 by omega)
    rw [eq_tile w y x e0 (by omega)]
    refine (congrFun (finO0 _ _ _ _) _).trans ?_
    exact congrArg (fun z : EReal => finO (mLast m c t 0) (lLast m c t 0) (aLast m c t 0) z (ix2 y x)) (ld_z0 _ _ _)

theorem lastBr (t : Fin cfg0.N) (h0 : ¬t.val % 8 = 0) (h1 : t.val % 8 = 7) (h : Fin 4) (y : Fin 512) (x : Fin 128) :
    ((outsAt0 m c t.val t.isLt).1 (ix2 y (⟨h.val * 128 + x.val, by omega⟩ : Fin 512)) : EReal) = finBr (hq h (gBlk m c t)) (mLast m c t h) (lLast m c t h) (aLast m c t h) (zBlk m c t (ix1 h)) (ix2 y x) := by
  rw [outsAt0_C m c t h0 h1]
  frame_out
  simp (disch := decide) only [↓skip_m, ↓skip_a, ↓hit_m, ↓hit_a]
  simp only [read_unread_whole, ld_q0, ld_q1, ld_q2, ld_q3, ld_k0, ld_k1, ld_m0, ld_m1, ld_m2, ld_m3, ld_a0, ld_a1, ld_a2, ld_a3,
    newM0, newM1, newM2, newM3, newL0, newL1, newL2, newL3, newA0, newA1, newA2, newA3]
  canon_tiles w e
  · have e : h.val * 128 + x.val = 384 + (w 1).val := e1
    obtain rfl : h = 3 := Fin.ext (show h.val = 3 by omega)
    rw [eq_tile w y x e0 (by omega)]
    refine (congrFun (finBr3 _ _ _ _ _) _).trans ?_
    exact congrArg (fun z : EReal => finBr (hq 3 (gBlk m c t)) (mLast m c t 3) (lLast m c t 3) (aLast m c t 3) z (ix2 y x)) (ld_z3 _ _ _)
  · have e : h.val * 128 + x.val = 256 + (w 1).val := e1
    obtain rfl : h = 2 := Fin.ext (show h.val = 2 by omega)
    rw [eq_tile w y x e0 (by omega)]
    refine (congrFun (finBr2 _ _ _ _ _) _).trans ?_
    exact congrArg (fun z : EReal => finBr (hq 2 (gBlk m c t)) (mLast m c t 2) (lLast m c t 2) (aLast m c t 2) z (ix2 y x)) (ld_z2 _ _ _)
  · have e : h.val * 128 + x.val = 128 + (w 1).val := e1
    obtain rfl : h = 1 := Fin.ext (show h.val = 1 by omega)
    rw [eq_tile w y x e0 (by omega)]
    refine (congrFun (finBr1 _ _ _ _ _) _).trans ?_
    exact congrArg (fun z : EReal => finBr (hq 1 (gBlk m c t)) (mLast m c t 1) (lLast m c t 1) (aLast m c t 1) z (ix2 y x)) (ld_z1 _ _ _)
  · have e : h.val * 128 + x.val = (w 1).val := e1
    obtain rfl : h = 0 := Fin.ext (show h.val = 0 by omega)
    rw [eq_tile w y x e0 (by omega)]
    refine (congrFun (finBr0 _ _ _ _ _) _).trans ?_
    exact congrArg (fun z : EReal => finBr (hq 0 (gBlk m c t)) (mLast m c t 0) (lLast m c t 0) (aLast m c t 0) z (ix2 y x)) (ld_z0 _ _ _)

theorem lastL (t : Fin cfg0.N) (h0 : ¬t.val % 8 = 0) (h1 : t.val % 8 = 7) (h : Fin 4) (y : Fin 512) :
    ((outsAt0 m c t.val t.isLt).2.2.1 (ix3 h (0 : Fin 1) y) : EReal) = finL (mLast m c t h) (lLast m c t h) (zBlk m c t (ix1 h)) (ix3 (0 : Fin 1) (0 : Fin 1) y) := by
  rw [outsAt0_C m c t h0 h1]
  frame_out
  simp (disch := decide) only [↓skip_m, ↓skip_a, ↓hit_m, ↓hit_a]
  simp only [read_unread_whole, ld_q0, ld_q1, ld_q2, ld_q3, ld_k0, ld_k1, ld_m0, ld_m1, ld_m2, ld_m3, ld_a0, ld_a1, ld_a2, ld_a3,
    newM0, newM1, newM2, newM3, newL0, newL1, newL2, newL3, newA0, newA1, newA2, newA3]
  canon_tiles w e
  · obtain rfl : h = 3 := Fin.ext (show h.val = 3 from (show h.val = _ from e0).trans (by have : (w 0).val < 1 := (w 0).isLt; omega))
    rw [eq_row w y e2]
    refine (congrFun (finL3 _ _ _) _).trans ?_
    exact congrArg (fun z : EReal => finL (mLast m c t 3) (lLast m c t 3) z (ix3 (0 : Fin 1) (0 : Fin 1) y)) (ld_z3 _ _ _)
  · obtain rfl : h = 2 := Fin.ext (show h.val = 2 from (show h.val = _ from e0).trans (by have : (w 0).val < 1 := (w 0).isLt; omega))
    rw [eq_row w y e2]
    refine (congrFun (finL2 _ _ _) _).trans ?_
    exact congrArg (fun z : EReal => finL (mLast m c t 2) (lLast m c t 2) z (ix3 (0 : Fin 1) (0 : Fin 1) y)) (ld_z2 _ _ _)
  · obtain rfl : h = 1 := Fin.ext (show h.val = 1 from (show h.val = _ from e0).trans (by have : (w 0).val < 1 := (w 0).isLt; omega))
    rw [eq_row w y e2]
    refine (congrFun (finL1 _ _ _) _).trans ?_
    exact congrArg (fun z : EReal => finL (mLast m c t 1) (lLast m c t 1) z (ix3 (0 : Fin 1) (0 : Fin 1) y)) (ld_z1 _ _ _)
  · obtain rfl : h = 0 := Fin.ext (show h.val = 0 from (show h.val = _ from e0).trans (by have : (w 0).val < 1 := (w 0).isLt; omega))
    rw [eq_row w y e2]
    refine (congrFun (finL0 _ _ _) _).trans ?_
    exact congrArg (fun z : EReal => finL (mLast m c t 0) (lLast m c t 0) z (ix3 (0 : Fin 1) (0 : Fin 1) y)) (ld_z0 _ _ _)

/-! ## The blocks, at coordinates -/

theorem idx0 : ∀ t : Fin cfg0.N, win0_0.index t = ![0] := by decide +kernel
theorem idx1 : ∀ t : Fin cfg0.N, win0_1.index t = ![t.val / 8, 0] := by decide +kernel
theorem idx2 : ∀ t : Fin cfg0.N, win0_2.index t = ![t.val / 8, 9] := by decide +kernel
theorem idx3 : ∀ t : Fin cfg0.N, win0_3.index t = ![t.val % 8, 0] := by decide +kernel
theorem idx4 : ∀ t : Fin cfg0.N, win0_4.index t = ![t.val % 8, 1] := by decide +kernel
theorem idx5 : ∀ t : Fin cfg0.N, win0_5.index t = ![t.val / 8, 0] := by decide +kernel
theorem idx6 : ∀ t : Fin cfg0.N, win0_6.index t = ![t.val / 8, 0] := by decide +kernel
theorem idx7 : ∀ t : Fin cfg0.N, win0_7.index t = ![0, 0, t.val / 8] := by decide +kernel

theorem lt128 (t : Fin cfg0.N) : t.val < 128 := Nat.lt_of_lt_of_eq t.isLt N_0

abbrev argQ : FVec Ideal S8192x512 .bf16 := m ((c.tc : Thread nD τ).loc main_arg0)
abbrev argKV : FVec Ideal S8192x512 .bf16 := m ((c.tc : Thread nD τ).loc main_arg1)
abbrev argU : FVec Ideal S8192x7168 .bf16 := m ((c.tc : Thread nD τ).loc main_arg2)
abbrev argZ : FVec Ideal S4 .f32 := m ((c.tc : Thread nD τ).loc main_arg3)

section blocks
variable (t : Fin cfg0.N)

theorem zBlk_apply (h : Fin 4) : (zBlk m c t (ix1 h) : EReal) = argZ m c (ix1 h) := by
  blk_ext [iblk, V_main_arg3, idx0 t]

theorem qBlk_apply (y x : Fin 512) :
    (qBlk m c t (ix2 y x) : EReal) = argQ m c (ix2 (⟨t.val / 8 * 512 + y.val, by have := lt128 t; omega⟩ : Fin 8192) x) := by
  blk_ext [iblk, V_main_arg0, idx1 t]

theorem gBlk_apply (y x : Fin 512) :
    (gBlk m c t (ix2 y x) : EReal)
      = argU m c (ix2 (⟨t.val / 8 * 512 + y.val, by have := lt128 t; omega⟩ : Fin 8192) (⟨9 * 512 + x.val, by omega⟩ : Fin 7168)) := by
  blk_ext [iblk, V_main_arg2, idx2 t]

theorem kBlk_apply (κ : Fin 1024) (x : Fin 256) :
    (kBlk m c t (ix2 κ x) : EReal) = argKV m c (ix2 (⟨t.val % 8 * 1024 + κ.val, by omega⟩ : Fin 8192) (⟨x.val, by omega⟩ : Fin 512)) := by
  blk_ext [iblk, V_main_arg1, idx3 t]

theorem vBlk_apply (κ : Fin 1024) (x : Fin 256) :
    (vBlk m c t (ix2 κ x) : EReal) = argKV m c (ix2 (⟨t.val % 8 * 1024 + κ.val, by omega⟩ : Fin 8192) (⟨256 + x.val, by omega⟩ : Fin 512)) := by
  blk_ext [iblk, V_main_arg1, idx4 t]

end blocks

/-! ## Over the real numbers -/

section real
variable (hQ : Reals (s := ⟨2, ![8192, 512]⟩) (argQ m c)) (hKV : Reals (s := ⟨2, ![8192, 512]⟩) (argKV m c))

include hQ in
theorem q_val (t : Fin cfg0.N) (h : Fin 4) (y : Fin 512) (x : Fin 128) :
    (hq h (qBlk m c t) (ix2 y x) : EReal) = ((qh (argQ m c) (h.val / 2) (h.val % 2) (t.val / 8 * 512 + y.val) x.val : ℝ) : EReal) := by
  refine (qBlk_apply m c t y (⟨h.val * 128 + x.val, by omega⟩ : Fin 512)).trans ((rd_eq hQ _ _).trans ?_)
  unfold qh
  rw [show h.val / 2 * 256 + h.val % 2 * 128 + x.val = h.val * 128 + x.val by omega]

include hKV in
theorem k_val (t : Fin cfg0.N) (h : Fin 4) (κ : Fin 1024) (x : Fin 128) :
    (hk h (kBlk m c t) (ix2 κ x) : EReal) = ((kh (argKV m c) (h.val / 2) (t.val % 8 * 1024 + κ.val) x.val : ℝ) : EReal) :=
  (kBlk_apply m c t κ (⟨h.val / 2 * 128 + x.val, by omega⟩ : Fin 256)).trans (rd_eq hKV _ _)

include hKV in
theorem v_val (t : Fin cfg0.N) (h : Fin 4) (κ : Fin 1024) (x : Fin 128) :
    (hk h (vBlk m c t) (ix2 κ x) : EReal) = ((vh (argKV m c) (h.val / 2) (t.val % 8 * 1024 + κ.val) x.val : ℝ) : EReal) :=
  (vBlk_apply m c t κ (⟨h.val / 2 * 128 + x.val, by omega⟩ : Fin 256)).trans (rd_eq hKV _ _)

include hQ hKV

theorem score_val (t : Fin cfg0.N) (h : Fin 4) (κ : Fin 1024) (y : Fin 512) :
    (k0_pay40 (F := Ideal) (hk h (kBlk m c t)) (hq h (qBlk m c t)) (ix2 κ y) : EReal)
      = ((raw (argQ m c) (argKV m c) h.val (t.val / 8 * 512 + y.val) (t.val % 8 * 1024 + κ.val) : ℝ) : EReal) := by
  rw [pay40_apply]
  simp only [q_val m c hQ, k_val m c hKV, ← EReal.coe_mul]
  rw [← coe_sum]
  rfl

/-- What a row's maximum, sum and sums of values are over the first `n` keys. -/
abbrev RowOf (h : Fin 4) (r n : ℕ) (M L : EReal) (A : Fin 128 → EReal) : Prop :=
  Row (raw (argQ m c) (argKV m c) h.val r) (fun x κ => vh (argKV m c) (h.val / 2) κ x.val) n M L A

theorem row_next (t : Fin cfg0.N) (h : Fin 4) (y : Fin 512) (M L : FVec Ideal S4x1x512 .f32) (A : FVec Ideal S4x128x512 .f32)
    (hr : RowOf m c h (t.val / 8 * 512 + y.val) (t.val % 8 * 1024) (M (ix3 h (0 : Fin 1) y)) (L (ix3 h (0 : Fin 1) y)) (fun x => A (ix3 h x y))) :
    RowOf m c h (t.val / 8 * 512 + y.val) ((t.val % 8 + 1) * 1024) (mNew m c t M h (ix3 (0 : Fin 1) (0 : Fin 1) y))
      (lNew m c t M L h (ix3 (0 : Fin 1) (0 : Fin 1) y)) (fun x => aNew m c t M A h (ix3 (0 : Fin 1) x y)) := by
  rw [show (t.val % 8 + 1) * 1024 = t.val % 8 * 1024 + 1024 by omega]
  exact row_step (fun κ y => ⟨_, score_val m c hQ hKV t h κ y⟩) (fun κ => score_val m c hQ hKV t h κ y) (fun κ x => v_val m c hKV t h κ x) hr

omit hQ hKV in
theorem row_init (h : Fin 4) (r : ℕ) (y : Fin 512) :
    RowOf m c h r 0 (k0_pay37 (F := Ideal) (ix3 h (0 : Fin 1) y)) (k0_pay38 (F := Ideal) (ix3 h (0 : Fin 1) y)) (fun x => k0_pay39 (F := Ideal) (ix3 h x y)) := by
  have z : Ideal.ofBits .f32 0x00000000#32 = 0 := by simp [Ideal.ofBits, Ideal.ieee]
  refine ⟨(-(11368684 * 2 ^ 43) : ℝ), ?_, ?_, fun x => ?_⟩
  · exact (show (k0_pay37 (F := Ideal) (ix3 h (0 : Fin 1) y) : EReal) = Ideal.ofBits .f32 0xE0AD78EC#32 from rfl).trans ofBits_init
  · rw [upto_zero]
    exact (show (k0_pay38 (F := Ideal) (ix3 h (0 : Fin 1) y) : EReal) = Ideal.ofBits .f32 0x00000000#32 from rfl).trans z
  · rw [upto_zero]
    exact (show (k0_pay39 (F := Ideal) (ix3 h x y) : EReal) = Ideal.ofBits .f32 0x00000000#32 from rfl).trans z

theorem rowAt : ∀ (n : ℕ) (hn : n < cfg0.N) (h : Fin 4) (y : Fin 512),
    RowOf m c h (n / 8 * 512 + y.val) ((n % 8 + 1) * 1024) (mAt m c n hn (ix3 h (0 : Fin 1) y)) (lAt m c n hn (ix3 h (0 : Fin 1) y)) (fun x => aAt m c n hn (ix3 h x y)) := by
  intro n
  induction n using Nat.strong_induction_on with
  | _ n ih =>
    intro hn h y
    by_cases h0 : n % 8 = 0
    · have r := row_next m c hQ hKV ⟨n, hn⟩ h y k0_pay37 k0_pay38 k0_pay39 (by
        rw [show (⟨n, hn⟩ : Fin cfg0.N).val % 8 * 1024 = 0 from by show n % 8 * 1024 = 0; omega]
        exact row_init m c h _ y)
      rw [stepM_A m c ⟨n, hn⟩ h0 h y, stepL_A m c ⟨n, hn⟩ h0 h y, show (fun x => aAt m c n hn (ix3 h x y)) = _ from funext fun x => stepA_A m c ⟨n, hn⟩ h0 h x y]
      exact r
    · have p := ih (n - 1) (by omega) (before ⟨n, hn⟩) h y
      rw [show (n - 1) / 8 = n / 8 by omega, show (n - 1) % 8 + 1 = n % 8 by omega] at p
      have r := row_next m c hQ hKV ⟨n, hn⟩ h y _ _ _ p
      by_cases h1 : n % 8 = 7
      · rw [stepM_C m c ⟨n, hn⟩ h0 h1 h y, stepL_C m c ⟨n, hn⟩ h0 h1 h y, show (fun x => aAt m c n hn (ix3 h x y)) = _ from funext fun x => stepA_C m c ⟨n, hn⟩ h0 h1 h x y]
        exact r
      · rw [stepM_B m c ⟨n, hn⟩ h0 h1 h y, stepL_B m c ⟨n, hn⟩ h0 h1 h y, show (fun x => aAt m c n hn (ix3 h x y)) = _ from funext fun x => stepA_B m c ⟨n, hn⟩ h0 h1 h x y]
        exact r

theorem rowLast (t : Fin cfg0.N) (h1 : t.val % 8 = 7) (h : Fin 4) (y : Fin 512) :
    RowOf m c h (t.val / 8 * 512 + y.val) 8192 (mLast m c t h (ix3 (0 : Fin 1) (0 : Fin 1) y)) (lLast m c t h (ix3 (0 : Fin 1) (0 : Fin 1) y))
      (fun x => aLast m c t h (ix3 (0 : Fin 1) x y)) := by
  have p := rowAt m c hQ hKV (t.val - 1) (before t) h y
  rw [show (t.val - 1) / 8 = t.val / 8 by omega, show (t.val - 1) % 8 + 1 = t.val % 8 by omega] at p
  have r := row_next m c hQ hKV t h y _ _ _ p
  rwa [show (t.val % 8 + 1) * 1024 = 8192 by omega] at r

variable (hz : ∀ i, (argZ m c i : EReal) ≠ ⊤)
include hz

theorem valO (t : Fin cfg0.N) (h1 : t.val % 8 = 7) (h : Fin 4) (y : Fin 512) (x : Fin 128) (i : S8192x512.Idx)
    (i0 : (i 0).val = t.val / 8 * 512 + y.val) (i1 : (i 1).val = h.val * 128 + x.val) :
    (finO (mLast m c t h) (lLast m c t h) (aLast m c t h) (zBlk m c t (ix1 h)) (ix2 y x) : EReal) = outO (argQ m c) (argKV m c) (argZ m c) i := by
  have e : (⟨(i 1).val / 128, by have : (i 1).val < 512 := (i 1).isLt; omega⟩ : Fin 4) = h := Fin.ext (by show (i 1).val / 128 = h.val; omega)
  have e' : (i 1).val % 128 = x.val := by omega
  rw [fin_O (by rw [zBlk_apply]; exact hz _) (rowLast m c hQ hKV t h1 h y) x, zBlk_apply]
  unfold outO
  rw [e, e', i0]
  rfl

theorem valBr (t : Fin cfg0.N) (h1 : t.val % 8 = 7) (h : Fin 4) (y : Fin 512) (x : Fin 128) (i : S8192x512.Idx)
    (i0 : (i 0).val = t.val / 8 * 512 + y.val) (i1 : (i 1).val = h.val * 128 + x.val) :
    (finBr (hq h (gBlk m c t)) (mLast m c t h) (lLast m c t h) (aLast m c t h) (zBlk m c t (ix1 h)) (ix2 y x) : EReal)
      = outBr (argQ m c) (argKV m c) (argU m c) (argZ m c) i := by
  have g : (hq h (gBlk m c t) (ix2 y x) : EReal) = gate (argU m c) i := by
    refine (gBlk_apply m c t y (⟨h.val * 128 + x.val, by omega⟩ : Fin 512)).trans ?_
    unfold gate
    congr 1
    ext a; fin_cases a
    · exact i0.symm
    · show 9 * 512 + (h.val * 128 + x.val) = 4608 + (i 1).val
      omega
  rw [finBr_apply, valO m c hQ hKV hz t h1 h y x i i0 i1, g]
  rfl

theorem valL (t : Fin cfg0.N) (h1 : t.val % 8 = 7) (h : Fin 4) (y : Fin 512) (i : S4x1x8192.Idx)
    (i0 : (i 0).val = h.val) (i2 : (i 2).val = t.val / 8 * 512 + y.val) :
    (finL (mLast m c t h) (lLast m c t h) (zBlk m c t (ix1 h)) (ix3 (0 : Fin 1) (0 : Fin 1) y) : EReal) = outL (argQ m c) (argKV m c) (argZ m c) i := by
  have e : (⟨(i 0).val, (i 0).isLt⟩ : Fin 4) = h := Fin.ext i0
  rw [fin_L (by rw [zBlk_apply]; exact hz _) (rowLast m c hQ hKV t h1 h y), zBlk_apply]
  unfold outL
  rw [e, i2]
  rfl

theorem arrO : (dats (F := Ideal) m 0 c).arrAt 6 cfg0.N = outO (argQ m c) (argKV m c) (argZ m c) := by
  refine (dats m 0 c).arrAt_eq_of_covers 6 _ (by decide +kernel) fun t hf y => ?_
  blk_simp
  rw [after0_6]
  have h1 : t.val % 8 = 7 := (flush0_6 t).mp hf
  obtain ⟨r, h, x, rfl⟩ : ∃ (r : Fin 512) (h : Fin 4) (x : Fin 128), y = ix2 r (⟨h.val * 128 + x.val, by omega⟩ : Fin 512) :=
    ⟨y 0, ⟨(y 1).val / 128, by have : (y 1).val < 512 := (y 1).isLt; omega⟩, ⟨(y 1).val % 128, by omega⟩, by
      ext a; fin_cases a
      · rfl
      · show (y 1).val = (y 1).val / 128 * 128 + (y 1).val % 128
        omega⟩
  refine (lastO m c t (by omega) h1 h r x).trans (valO m c hQ hKV hz t h1 h r x _ ?_ ?_)
  · blk_simp [idx6 t]
  · blk_simp [idx6 t]

theorem arrBr : (dats (F := Ideal) m 0 c).arrAt 5 cfg0.N = outBr (argQ m c) (argKV m c) (argU m c) (argZ m c) := by
  refine (dats m 0 c).arrAt_eq_of_covers 5 _ (by decide +kernel) fun t hf y => ?_
  blk_simp
  rw [after0_5]
  have h1 : t.val % 8 = 7 := (flush0_5 t).mp hf
  obtain ⟨r, h, x, rfl⟩ : ∃ (r : Fin 512) (h : Fin 4) (x : Fin 128), y = ix2 r (⟨h.val * 128 + x.val, by omega⟩ : Fin 512) :=
    ⟨y 0, ⟨(y 1).val / 128, by have : (y 1).val < 512 := (y 1).isLt; omega⟩, ⟨(y 1).val % 128, by omega⟩, by
      ext a; fin_cases a
      · rfl
      · show (y 1).val = (y 1).val / 128 * 128 + (y 1).val % 128
        omega⟩
  refine (lastBr m c t (by omega) h1 h r x).trans (valBr m c hQ hKV hz t h1 h r x _ ?_ ?_)
  · blk_simp [idx5 t]
  · blk_simp [idx5 t]

theorem arrL : (dats (F := Ideal) m 0 c).arrAt 7 cfg0.N = outL (argQ m c) (argKV m c) (argZ m c) := by
  refine (dats m 0 c).arrAt_eq_of_covers 7 _ (by decide +kernel) fun t hf y => ?_
  blk_simp
  rw [after0_7]
  have h1 : t.val % 8 = 7 := (flush0_7 t).mp hf
  obtain ⟨h, r, rfl⟩ : ∃ (h : Fin 4) (r : Fin 512), y = ix3 h (0 : Fin 1) r := ⟨y 0, y 2, by
    ext a; fin_cases a
    · rfl
    · exact Nat.lt_one_iff.mp (y 1).isLt
    · rfl⟩
  refine (lastL m c t (by omega) h1 h r).trans (valL m c hQ hKV hz t h1 h r _ ?_ ?_)
  · blk_simp [idx7 t]
  · blk_simp [idx7 t]

end real

theorem run (m : (ℓ : Loc nD τ sig) → Buf (Elt Ideal) ℓ) (ρ : Dev nD → PrngReg)
    (hq : ∀ c, Reals (s := ⟨2, ![8192, 512]⟩) (argQ m c)) (hkv : ∀ c, Reals (s := ⟨2, ![8192, 512]⟩) (argKV m c)) (hz : ∀ c i, (argZ m c i : EReal) ≠ ⊤) :
    θ_run (defs (F := Ideal)) (onTc (τ := τ) (main (F := Ideal))) ⟨m, fun _ => 0, ρ⟩ fun r => ∀ c : Dev nD,
      r.2.mem ((c.tc : Thread nD τ).loc main_v0_0) = outBr (argQ m c) (argKV m c) (argU m c) (argZ m c)
      ∧ r.2.mem ((c.tc : Thread nD τ).loc main_v0_1) = outO (argQ m c) (argKV m c) (argZ m c)
      ∧ r.2.mem ((c.tc : Thread nD τ).loc main_v0_2) = outL (argQ m c) (argKV m c) (argZ m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun _ h c => ⟨(h c).1.trans (arrBr m c (hq c) (hkv c) (hz c)), (h c).2.1.trans (arrO m c (hq c) (hkv c) (hz c)),
    (h c).2.2.1.trans (arrL m c (hq c) (hkv c) (hz c)), (h c).2.2.2⟩) (Cert.FwdIdeal.Value.run_blocks (F := Ideal) m ρ)

end Cert.FwdIdeal.Val

end
-- ==== Proof.GwgmValue.lean ====
/- The merge gates' weight gradient: kernel and reference leave the same array. -/
module

public import proofs.«01_k».proof.Proof.Gen.GwgmIdeal.Value
public import proofs.«01_k».proof.Proof.Gen.GwgmRefIdeal.Run
public import Idealize.ShloMosaic.Lib.Pointwise
public import Idealize.ShloMosaic.Lib.Pipeline.ValueKit
public import Idealize.ShloMosaic.Lib.Pipeline.ReadBack

@[expose] public section

set_option maxRecDepth 16384

noncomputable section

namespace Cert.GwgmIdeal.Val

open Idealize.ShloMosaic Idealize.ShloMosaic.TcCoe Idealize.SL.Sem
open Cert.GwgmIdeal Cert.GwgmIdeal.Gen

/-- Shard `n`, row `r`, column `x` of the gradient: column `r` of `A` against column `x` of shard `n`'s columns of `B`. -/
def prod (A : FVec Ideal S8192x2048 .bf16) (B : FVec Ideal S8192x8192 .bf16) : FVec Ideal S4x2048x2048 .f32 := fun i =>
  ∑ k : Fin 8192, (A (ix2 k (⟨(i 1).val, (i 1).isLt⟩ : Fin 2048)) : EReal)
    * B (ix2 k (⟨(i 0).val * 2048 + (i 2).val, by have : (i 0).val < 4 := (i 0).isLt; have : (i 2).val < 2048 := (i 2).isLt; omega⟩ : Fin 8192))

theorem idx0 : ∀ t : Fin cfg0.N, win0_0.index t = ![t.val % 8, t.val / 16 % 2] := by decide +kernel
theorem idx1 : ∀ t : Fin cfg0.N, win0_1.index t = ![t.val % 8, t.val / 32 * 2 + t.val / 8 % 2] := by decide +kernel
theorem idx2 : ∀ t : Fin cfg0.N, win0_2.index t = ![t.val / 32, t.val / 16 % 2, t.val / 8 % 2] := by decide +kernel

theorem pay2 (a : FVec Ideal S1024x1024 .bf16) (b : FVec Ideal S1024x1024 .bf16) (r : Fin 1024) (x : Fin 1024) :
    (k0_pay2 (F := Ideal) a b (ix2 r x) : EReal) = ∑ k : Fin 1024, (a (ix2 k r) : EReal) * b (ix2 k x) := by
  pointwise [k0_pay2, k0_pay1]

theorem pay3 (a : FVec Ideal S1024x1024 .bf16) (b : FVec Ideal S1024x1024 .bf16) (acc : FVec Ideal S1024x1024 .f32) (r : Fin 1024) (x : Fin 1024) :
    (k0_pay3 (F := Ideal) a b acc (ix2 r x) : EReal) = acc (ix2 r x) + ∑ k : Fin 1024, (a (ix2 k r) : EReal) * b (ix2 k x) := by
  pointwise [k0_pay3, k0_pay1]

theorem pay4 (acc : FVec Ideal S1024x1024 .f32) (r : Fin 1024) (x : Fin 1024) :
    (k0_pay4 (F := Ideal) acc (ix3 (0 : Fin 1) r x) : EReal) = acc (ix2 r x) := by
  pointwise [k0_pay4]

variable (m : (ℓ : Loc nD τ sig) → Buf (Elt Ideal) ℓ) (c : Dev nD)

/-- The blocks point `t` reads. -/
abbrev aBlk (t : Fin cfg0.N) : FVec Ideal S1024x1024 .bf16 := iblk m c 0 t
abbrev bBlk (t : Fin cfg0.N) : FVec Ideal S1024x1024 .bf16 := iblk m c 1 t

/-- What point `t` adds at row `r`, column `x` of the sum. -/
def part (r : Fin 1024) (x : Fin 1024) (t : Fin cfg0.N) : EReal := ∑ k : Fin 1024, (aBlk m c t (ix2 k r) : EReal) * bBlk m c t (ix2 k x)

theorem first (t : Fin cfg0.N) (h : t.val % 8 = 0) (r : Fin 1024) (x : Fin 1024) :
    ((outsAt0 m c t.val t.isLt).2 (ix2 r x) : EReal) = part m c r x t := by
  rw [outsAt0_A m c t h (by omega) (by omega)]
  frame_out
  exact pay2 _ _ r x

theorem next (t : Fin cfg0.N) (h : ¬t.val % 8 = 0) (r : Fin 1024) (x : Fin 1024) :
    ((outsAt0 m c t.val t.isLt).2 (ix2 r x) : EReal)
      = (outsAt0 m c (t.val - 1) (Nat.lt_of_le_of_lt (Nat.sub_le _ _) t.isLt)).2 (ix2 r x) + part m c r x t := by
  by_cases hl : t.val % 8 = 7
  · rw [outsAt0_C m c t h (by omega) hl]
    frame_out
    simp only [read_unread_whole]
    exact pay3 _ _ _ r x
  · rw [outsAt0_B m c t h (by omega) hl]
    frame_out
    simp only [read_unread_whole]
    exact pay3 _ _ _ r x

theorem total (t : Fin cfg0.N) (h : t.val % 8 = 7) (r : Fin 1024) (x : Fin 1024) :
    ((outsAt0 m c t.val t.isLt).2 (ix2 r x) : EReal)
      = ∑ s : Fin 8, part m c r x ⟨8 * (t.val / 8) + s.val, Pipeline.run_point_lt_of_flush t h s⟩ := by
  rw [Pipeline.eq_sum_fin_of_reset_step_of_flush (fun n h => ((outsAt0 m c n h).2 (ix2 r x) : EReal)) 8 0 (part m c r x)
    (fun t h => by rw [zero_add]; exact first m c t h r x) (fun t h => next m c t h r x) t h, zero_add]

theorem last (t : Fin cfg0.N) (h : t.val % 8 = 7) (r : Fin 1024) (x : Fin 1024) :
    ((outsAt0 m c t.val t.isLt).1 (ix3 (0 : Fin 1) r x) : EReal) = (outsAt0 m c t.val t.isLt).2 (ix2 r x) := by
  rw [outsAt0_C m c t (by omega) (by omega) h]
  frame_out
  exact pay4 _ r x

theorem arr :
    (dats (F := Ideal) m 0 c).arrAt 2 cfg0.N
      = prod (m ((c.tc : Thread nD τ).loc main_arg0)) (m ((c.tc : Thread nD τ).loc main_arg1)) := by
  refine (dats m 0 c).arrAt_eq_of_covers 2 _ (by decide +kernel) fun t hf y => ?_
  blk_simp
  rw [after0_2]
  obtain ⟨r, x, rfl⟩ : ∃ (r : Fin 1024) (x : Fin 1024), y = ix3 (0 : Fin 1) r x := ⟨y 1, y 2, by
    ext a; fin_cases a
    · exact Nat.lt_one_iff.mp (y 0).isLt
    · rfl
    · rfl⟩
  have h : t.val % 8 = 7 := (flush0_2 t).mp hf
  refine (last m c t h r x).trans ((total m c t h r x).trans ?_)
  unfold prod part
  refine Fin.sum_mul_add_congr fun s k hk => ?_
  congr 1 <;> blk_ext [iblk, V_main_arg0, V_main_arg1, idx0, idx1, idx2]

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun _ h c => ⟨(h c).1.trans (arr m c), (h c).2⟩) (Cert.GwgmIdeal.Value.run_blocks (F := Ideal) m ρ)

end Cert.GwgmIdeal.Val

namespace Cert.GwgmRefIdeal.Val

open Idealize.ShloMosaic Idealize.ShloMosaic.TcCoe Idealize.SL.Sem
open Cert.GwgmRefIdeal Cert.GwgmRefIdeal.Gen

theorem ref (A : FVec Ideal S8192x2048 .bf16) (B : FVec Ideal S8192x8192 .bf16) :
    transpose S4x2048x2048 [1, 0, 2] (shapeCast _ (transpose S2048x8192 [1, 0] (Host.dotGeneral dot_S8192x8192_S8192x2048_S8192x2048_0_0_1_1_n_n none (extf .f32 B bitsLt_bf16_f32) (extf .f32 A bitsLt_bf16_f32)) transposes_S8192x2048_S2048x8192_1_0) shapeCasts_S2048x8192_S2048x4x2048) transposes_S2048x4x2048_S4x2048x2048_1_0_2 = Cert.GwgmIdeal.Val.prod A B := by
  funext i
  obtain ⟨n, r, x, rfl⟩ : ∃ (n : Fin 4) (r : Fin 2048) (x : Fin 2048), i = ix3 n r x := ⟨i 0, i 1, i 2, by ext a; fin_cases a <;> rfl⟩
  pointwise [Cert.GwgmIdeal.Val.prod]
  exact Finset.sum_congr rfl fun k _ => mul_comm _ _

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v9) = Cert.GwgmIdeal.Val.prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun _ h c => ⟨(h c).1.trans (ref _ _), (h c).2⟩) (Cert.GwgmRefIdeal.Value.run (F := Ideal) m ρ)

end Cert.GwgmRefIdeal.Val

end
-- ==== Proof.DzValue.lean ====
/- The gradient that reaches the merged branches through the output projection: kernel and reference leave the same array. -/
module

public import proofs.«01_k».proof.Proof.Gen.DzIdeal.Value
public import proofs.«01_k».proof.Proof.Gen.DzRefIdeal.Run
public import Idealize.ShloMosaic.Lib.Pointwise
public import Idealize.ShloMosaic.Lib.Pipeline.ValueKit
public import Idealize.ShloMosaic.Lib.Pipeline.ReadBack

@[expose] public section

set_option maxRecDepth 16384

noncomputable section

namespace Cert.DzIdeal.Val

open Idealize.ShloMosaic Idealize.ShloMosaic.TcCoe Idealize.SL.Sem
open Cert.DzIdeal Cert.DzIdeal.Gen

/-- Row `r`, column `x` of the gradient: row `r` of `A` against row `x` of the weight, the shards stacked. -/
def prod (A : FVec Ideal S8192x2048 .bf16) (B : FVec Ideal S4x512x2048 .bf16) : FVec Ideal S8192x2048 .bf16 := fun i =>
  ∑ k : Fin 2048, (A (ix2 (⟨(i 0).val, (i 0).isLt⟩ : Fin 8192) k) : EReal)
    * B (ix3 (⟨(i 1).val / 512, by have : (i 1).val < 2048 := (i 1).isLt; omega⟩ : Fin 4) (⟨(i 1).val % 512, by omega⟩ : Fin 512) k)

theorem idx0 : ∀ t : Fin cfg0.N, win0_0.index t = ![t.val / 4, 0] := by decide +kernel
theorem idx1 : ∀ t : Fin cfg0.N, win0_1.index t = ![t.val % 4, 0, 0] := by decide +kernel
theorem idx2 : ∀ t : Fin cfg0.N, win0_2.index t = ![t.val / 4, t.val % 4] := by decide +kernel

theorem pay (a : FVec Ideal S1024x2048 .bf16) (b : FVec Ideal S1x512x2048 .bf16) (r : Fin 1024) (x : Fin 512) :
    (k0_pay1 (F := Ideal) a b (ix2 r x) : EReal) = ∑ k : Fin 2048, (a (ix2 r k) : EReal) * b (ix3 (0 : Fin 1) x k) := by
  pointwise [k0_pay1]

theorem arr (m : (ℓ : Loc nD τ sig) → Buf (Elt Ideal) ℓ) (c : Dev nD) :
    (dats (F := Ideal) m 0 c).arrAt 2 cfg0.N
      = prod (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  obtain ⟨r, x, rfl⟩ : ∃ (r : Fin 1024) (x : Fin 512), y = ix2 r x := ⟨y 0, y 1, by ext a; fin_cases a <;> rfl⟩
  refine (pay _ _ r x).trans ?_
  unfold prod
  refine Finset.sum_congr rfl fun k _ => ?_
  congr 1 <;> blk_ext [iblk, V_main_arg0, V_main_arg1, idx0 t, idx1 t, idx2 t]

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun _ h c => ⟨(h c).1.trans (arr m c), (h c).2⟩) (Cert.DzIdeal.Value.run_blocks (F := Ideal) m ρ)

end Cert.DzIdeal.Val

namespace Cert.DzRefIdeal.Val

open Idealize.ShloMosaic Idealize.ShloMosaic.TcCoe Idealize.SL.Sem
open Cert.DzRefIdeal Cert.DzRefIdeal.Gen

theorem ref (A : FVec Ideal S8192x2048 .bf16) (B : FVec Ideal S4x512x2048 .bf16) :
    truncf .bf16 (Host.dotGeneral dot_S8192x2048_S2048x2048_S8192x2048_1_1_0_0_n_n none (extf .f32 A bitsLt_bf16_f32) (shapeCast _ (extf .f32 B bitsLt_bf16_f32) shapeCasts_S4x512x2048_S2048x2048)) bitsLt_bf16_f32 = Cert.DzIdeal.Val.prod A B := by
  funext i
  obtain ⟨r, x, rfl⟩ : ∃ (r : Fin 8192) (x : Fin 2048), i = ix2 r x := ⟨i 0, i 1, by ext a; fin_cases a <;> rfl⟩
  pointwise [Cert.DzIdeal.Val.prod]

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v6) = Cert.DzIdeal.Val.prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun _ h c => ⟨(h c).1.trans (ref _ _), (h c).2⟩) (Cert.DzRefIdeal.Value.run (F := Ideal) m ρ)

end Cert.DzRefIdeal.Val

end
-- ==== Proof.Dh1Value.lean ====
/- The gradient that reaches the normalized input through the merge gates: kernel and reference leave the same array. -/
module

public import proofs.«01_k».proof.Proof.Gen.Dh1Ideal.Value
public import proofs.«01_k».proof.Proof.Gen.Dh1RefIdeal.Run
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Dh1Ideal.Val

open Idealize.ShloMosaic Idealize.ShloMosaic.TcCoe Idealize.SL.Sem
open Cert.Dh1Ideal Cert.Dh1Ideal.Gen

/-- Row `r`, column `x` of the gradient: row `r` of `A` against row `x` of the weight, the shards side by side. -/
def prod (A : FVec Ideal S8192x8192 .bf16) (B : FVec Ideal S4x2048x2048 .bf16) : FVec Ideal S8192x2048 .f32 := fun i =>
  ∑ k : Fin 8192, (A (ix2 (⟨(i 0).val, (i 0).isLt⟩ : Fin 8192) k) : EReal)
    * B (ix3 (⟨k.val / 2048, by omega⟩ : Fin 4) (⟨(i 1).val, (i 1).isLt⟩ : Fin 2048) (⟨k.val % 2048, by omega⟩ : Fin 2048))

theorem idx0 : ∀ t : Fin cfg0.N, win0_0.index t = ![t.val / 8, t.val % 4] := by decide +kernel
theorem idx1 : ∀ t : Fin cfg0.N, win0_1.index t = ![t.val % 4, t.val / 4 % 2, 0] := by decide +kernel
theorem idx2 : ∀ t : Fin cfg0.N, win0_2.index t = ![t.val / 8, t.val / 4 % 2] := by decide +kernel

theorem pay2 (a : FVec Ideal S1024x2048 .bf16) (b : FVec Ideal S1x1024x2048 .bf16) (r : Fin 1024) (x : Fin 1024) :
    (k0_pay2 (F := Ideal) a b (ix2 r x) : EReal) = ∑ k : Fin 2048, (a (ix2 r k) : EReal) * b (ix3 (0 : Fin 1) x k) := by
  pointwise [k0_pay2, k0_pay1]

theorem pay3 (a : FVec Ideal S1024x2048 .bf16) (b : FVec Ideal S1x1024x2048 .bf16) (acc : FVec Ideal S1024x1024 .f32) (r : Fin 1024) (x : Fin 1024) :
    (k0_pay3 (F := Ideal) a b acc (ix2 r x) : EReal) = acc (ix2 r x) + ∑ k : Fin 2048, (a (ix2 r k) : EReal) * b (ix3 (0 : Fin 1) x k) := by
  pointwise [k0_pay3, k0_pay1]

variable (m : (ℓ : Loc nD τ sig) → Buf (Elt Ideal) ℓ) (c : Dev nD)

/-- The blocks point `t` reads. -/
abbrev aBlk (t : Fin cfg0.N) : FVec Ideal S1024x2048 .bf16 := iblk m c 0 t
abbrev bBlk (t : Fin cfg0.N) : FVec Ideal S1x1024x2048 .bf16 := iblk m c 1 t

/-- What point `t` adds at row `r`, column `x` of the sum. -/
def part (r : Fin 1024) (x : Fin 1024) (t : Fin cfg0.N) : EReal := ∑ k : Fin 2048, (aBlk m c t (ix2 r k) : EReal) * bBlk m c t (ix3 (0 : Fin 1) x k)

theorem first (t : Fin cfg0.N) (h : t.val % 4 = 0) (r : Fin 1024) (x : Fin 1024) :
    ((outsAt0 m c t.val t.isLt).2 (ix2 r x) : EReal) = part m c r x t := by
  rw [outsAt0_A m c t h (by omega) (by omega)]
  frame_out
  exact pay2 _ _ r x

theorem next (t : Fin cfg0.N) (h : ¬t.val % 4 = 0) (r : Fin 1024) (x : Fin 1024) :
    ((outsAt0 m c t.val t.isLt).2 (ix2 r x) : EReal)
      = (outsAt0 m c (t.val - 1) (Nat.lt_of_le_of_lt (Nat.sub_le _ _) t.isLt)).2 (ix2 r x) + part m c r x t := by
  by_cases hl : t.val % 4 = 3
  · rw [outsAt0_C m c t h (by omega) hl]
    frame_out
    simp only [read_unread_whole]
    exact pay3 _ _ _ r x
  · rw [outsAt0_B m c t h (by omega) hl]
    frame_out
    simp only [read_unread_whole]
    exact pay3 _ _ _ r x

theorem total (t : Fin cfg0.N) (h : t.val % 4 = 3) (r : Fin 1024) (x : Fin 1024) :
    ((outsAt0 m c t.val t.isLt).2 (ix2 r x) : EReal)
      = ∑ s : Fin 4, part m c r x ⟨4 * (t.val / 4) + s.val, Pipeline.run_point_lt_of_flush t h s⟩ := by
  rw [Pipeline.eq_sum_fin_of_reset_step_of_flush (fun n h => ((outsAt0 m c n h).2 (ix2 r x) : EReal)) 4 0 (part m c r x)
    (fun t h => by rw [zero_add]; exact first m c t h r x) (fun t h => next m c t h r x) t h, zero_add]

theorem last (t : Fin cfg0.N) (h : t.val % 4 = 3) (r : Fin 1024) (x : Fin 1024) :
    ((outsAt0 m c t.val t.isLt).1 (ix2 r x) : EReal) = (outsAt0 m c t.val t.isLt).2 (ix2 r x) := by
  rw [outsAt0_C m c t (by omega) (by omega) h]
  frame_out

theorem arr :
    (dats (F := Ideal) m 0 c).arrAt 2 cfg0.N
      = prod (m ((c.tc : Thread nD τ).loc main_arg0)) (m ((c.tc : Thread nD τ).loc main_arg1)) := by
  refine (dats m 0 c).arrAt_eq_of_covers 2 _ (by decide +kernel) fun t hf y => ?_
  blk_simp
  rw [after0_2]
  obtain ⟨r, x, rfl⟩ : ∃ (r : Fin 1024) (x : Fin 1024), y = ix2 r x := ⟨y 0, y 1, by ext a; fin_cases a <;> rfl⟩
  have h : t.val % 4 = 3 := (flush0_2 t).mp hf
  refine (last m c t h r x).trans ((total m c t h r x).trans ?_)
  unfold prod part
  refine Fin.sum_mul_add_congr fun s k hk => ?_
  congr 1 <;> blk_ext [iblk, V_main_arg0, V_main_arg1, idx0, idx1, idx2]

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun _ h c => ⟨(h c).1.trans (arr m c), (h c).2⟩) (Cert.Dh1Ideal.Value.run_blocks (F := Ideal) m ρ)

end Cert.Dh1Ideal.Val

namespace Cert.Dh1RefIdeal.Val

open Idealize.ShloMosaic Idealize.ShloMosaic.TcCoe Idealize.SL.Sem
open Cert.Dh1RefIdeal Cert.Dh1RefIdeal.Gen

theorem ref (A : FVec Ideal S8192x8192 .bf16) (B : FVec Ideal S4x2048x2048 .bf16) :
    Host.dotGeneral dot_S8192x8192_S2048x8192_S8192x2048_1_1_0_0_n_n none (extf .f32 A bitsLt_bf16_f32) (shapeCast _ (transpose S2048x4x2048 [1, 0, 2] (extf .f32 B bitsLt_bf16_f32) transposes_S4x2048x2048_S2048x4x2048_1_0_2) shapeCasts_S2048x4x2048_S2048x8192) = Cert.Dh1Ideal.Val.prod A B := by
  funext i
  obtain ⟨r, x, rfl⟩ : ∃ (r : Fin 8192) (x : Fin 2048), i = ix2 r x := ⟨i 0, i 1, by ext a; fin_cases a <;> rfl⟩
  pointwise [Cert.Dh1Ideal.Val.prod]

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v6) = Cert.Dh1Ideal.Val.prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun _ h c => ⟨(h c).1.trans (ref _ _), (h c).2⟩) (Cert.Dh1RefIdeal.Value.run (F := Ideal) m ρ)

end Cert.Dh1RefIdeal.Val

end
-- ==== Proof.GwinValue.lean ====
/- The input projection's weight gradient: kernel and reference leave the same array. -/
module

public import proofs.«01_k».proof.Proof.Gen.GwinIdeal.Value
public import proofs.«01_k».proof.Proof.Gen.GwinRefIdeal.Run
public import Idealize.ShloMosaic.Lib.Pointwise
public import Idealize.ShloMosaic.Lib.Pipeline.ValueKit
public import Idealize.ShloMosaic.Lib.Pipeline.ReadBack

@[expose] public section

set_option maxRecDepth 16384

noncomputable section

namespace Cert.GwinIdeal.Val

open Idealize.ShloMosaic Idealize.ShloMosaic.TcCoe Idealize.SL.Sem
open Cert.GwinIdeal Cert.GwinIdeal.Gen

/-- Shard `n`, row `r`, column `x` of the gradient: column `r` of `A` against column `x` of shard `n`'s columns of `B`. -/
def prod (A : FVec Ideal S8192x2048 .bf16) (B : FVec Ideal S8192x7168 .bf16) : FVec Ideal S4x2048x1792 .f32 := fun i =>
  ∑ k : Fin 8192, (A (ix2 k (⟨(i 1).val, (i 1).isLt⟩ : Fin 2048)) : EReal)
    * B (ix2 k (⟨(i 0).val * 1792 + (i 2).val, by have : (i 0).val < 4 := (i 0).isLt; have : (i 2).val < 1792 := (i 2).isLt; omega⟩ : Fin 7168))

theorem idx0 : ∀ t : Fin cfg0.N, win0_0.index t = ![t.val % 8, t.val / 8 % 2] := by decide +kernel
theorem idx1 : ∀ t : Fin cfg0.N, win0_1.index t = ![t.val % 8, t.val / 16] := by decide +kernel
theorem idx2 : ∀ t : Fin cfg0.N, win0_2.index t = ![t.val / 16, t.val / 8 % 2, 0] := by decide +kernel

theorem pay2 (a : FVec Ideal S1024x1024 .bf16) (b : FVec Ideal S1024x1792 .bf16) (r : Fin 1024) (x : Fin 1792) :
    (k0_pay2 (F := Ideal) a b (ix2 r x) : EReal) = ∑ k : Fin 1024, (a (ix2 k r) : EReal) * b (ix2 k x) := by
  pointwise [k0_pay2, k0_pay1]

theorem pay3 (a : FVec Ideal S1024x1024 .bf16) (b : FVec Ideal S1024x1792 .bf16) (acc : FVec Ideal S1024x1792 .f32) (r : Fin 1024) (x : Fin 1792) :
    (k0_pay3 (F := Ideal) a b acc (ix2 r x) : EReal) = acc (ix2 r x) + ∑ k : Fin 1024, (a (ix2 k r) : EReal) * b (ix2 k x) := by
  pointwise [k0_pay3, k0_pay1]

theorem pay4 (acc : FVec Ideal S1024x1792 .f32) (r : Fin 1024) (x : Fin 1792) :
    (k0_pay4 (F := Ideal) acc (ix3 (0 : Fin 1) r x) : EReal) = acc (ix2 r x) := by
  pointwise [k0_pay4]

variable (m : (ℓ : Loc nD τ sig) → Buf (Elt Ideal) ℓ) (c : Dev nD)

/-- The blocks point `t` reads. -/
abbrev aBlk (t : Fin cfg0.N) : FVec Ideal S1024x1024 .bf16 := iblk m c 0 t
abbrev bBlk (t : Fin cfg0.N) : FVec Ideal S1024x1792 .bf16 := iblk m c 1 t

/-- What point `t` adds at row `r`, column `x` of the sum. -/
def part (r : Fin 1024) (x : Fin 1792) (t : Fin cfg0.N) : EReal := ∑ k : Fin 1024, (aBlk m c t (ix2 k r) : EReal) * bBlk m c t (ix2 k x)

theorem first (t : Fin cfg0.N) (h : t.val % 8 = 0) (r : Fin 1024) (x : Fin 1792) :
    ((outsAt0 m c t.val t.isLt).2 (ix2 r x) : EReal) = part m c r x t := by
  rw [outsAt0_A m c t h (by omega) (by omega)]
  frame_out
  exact pay2 _ _ r x

theorem next (t : Fin cfg0.N) (h : ¬t.val % 8 = 0) (r : Fin 1024) (x : Fin 1792) :
    ((outsAt0 m c t.val t.isLt).2 (ix2 r x) : EReal)
      = (outsAt0 m c (t.val - 1) (Nat.lt_of_le_of_lt (Nat.sub_le _ _) t.isLt)).2 (ix2 r x) + part m c r x t := by
  by_cases hl : t.val % 8 = 7
  · rw [outsAt0_C m c t h (by omega) hl]
    frame_out
    simp only [read_unread_whole]
    exact pay3 _ _ _ r x
  · rw [outsAt0_B m c t h (by omega) hl]
    frame_out
    simp only [read_unread_whole]
    exact pay3 _ _ _ r x

theorem total (t : Fin cfg0.N) (h : t.val % 8 = 7) (r : Fin 1024) (x : Fin 1792) :
    ((outsAt0 m c t.val t.isLt).2 (ix2 r x) : EReal)
      = ∑ s : Fin 8, part m c r x ⟨8 * (t.val / 8) + s.val, Pipeline.run_point_lt_of_flush t h s⟩ := by
  rw [Pipeline.eq_sum_fin_of_reset_step_of_flush (fun n h => ((outsAt0 m c n h).2 (ix2 r x) : EReal)) 8 0 (part m c r x)
    (fun t h => by rw [zero_add]; exact first m c t h r x) (fun t h => next m c t h r x) t h, zero_add]

theorem last (t : Fin cfg0.N) (h : t.val % 8 = 7) (r : Fin 1024) (x : Fin 1792) :
    ((outsAt0 m c t.val t.isLt).1 (ix3 (0 : Fin 1) r x) : EReal) = (outsAt0 m c t.val t.isLt).2 (ix2 r x) := by
  rw [outsAt0_C m c t (by omega) (by omega) h]
  frame_out
  exact pay4 _ r x

theorem arr :
    (dats (F := Ideal) m 0 c).arrAt 2 cfg0.N
      = prod (m ((c.tc : Thread nD τ).loc main_arg0)) (m ((c.tc : Thread nD τ).loc main_arg1)) := by
  refine (dats m 0 c).arrAt_eq_of_covers 2 _ (by decide +kernel) fun t hf y => ?_
  blk_simp
  rw [after0_2]
  obtain ⟨r, x, rfl⟩ : ∃ (r : Fin 1024) (x : Fin 1792), y = ix3 (0 : Fin 1) r x := ⟨y 1, y 2, by
    ext a; fin_cases a
    · exact Nat.lt_one_iff.mp (y 0).isLt
    · rfl
    · rfl⟩
  have h : t.val % 8 = 7 := (flush0_2 t).mp hf
  refine (last m c t h r x).trans ((total m c t h r x).trans ?_)
  unfold prod part
  refine Fin.sum_mul_add_congr fun s k hk => ?_
  congr 1 <;> blk_ext [iblk, V_main_arg0, V_main_arg1, idx0, idx1, idx2]

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun _ h c => ⟨(h c).1.trans (arr m c), (h c).2⟩) (Cert.GwinIdeal.Value.run_blocks (F := Ideal) m ρ)

end Cert.GwinIdeal.Val

namespace Cert.GwinRefIdeal.Val

open Idealize.ShloMosaic Idealize.ShloMosaic.TcCoe Idealize.SL.Sem
open Cert.GwinRefIdeal Cert.GwinRefIdeal.Gen

theorem ref (A : FVec Ideal S8192x2048 .bf16) (B : FVec Ideal S8192x7168 .bf16) :
    transpose S4x2048x1792 [1, 0, 2] (shapeCast _ (transpose S2048x7168 [1, 0] (Host.dotGeneral dot_S8192x7168_S8192x2048_S7168x2048_0_0_1_1_n_n none (extf .f32 B bitsLt_bf16_f32) (extf .f32 A bitsLt_bf16_f32)) transposes_S7168x2048_S2048x7168_1_0) shapeCasts_S2048x7168_S2048x4x1792) transposes_S2048x4x1792_S4x2048x1792_1_0_2 = Cert.GwinIdeal.Val.prod A B := by
  funext i
  obtain ⟨n, r, x, rfl⟩ : ∃ (n : Fin 4) (r : Fin 2048) (x : Fin 1792), i = ix3 n r x := ⟨i 0, i 1, i 2, by ext a; fin_cases a <;> rfl⟩
  pointwise [Cert.GwinIdeal.Val.prod]
  exact Finset.sum_congr rfl fun k _ => mul_comm _ _

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v9) = Cert.GwinIdeal.Val.prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun _ h c => ⟨(h c).1.trans (ref _ _), (h c).2⟩) (Cert.GwinRefIdeal.Value.run (F := Ideal) m ρ)

end Cert.GwinRefIdeal.Val

end
-- ==== Proof.Dh2Value.lean ====
/- The gradient that reaches the normalized input through the input projection: kernel and reference leave the same array. -/
module

public import proofs.«01_k».proof.Proof.Gen.Dh2Ideal.Value
public import proofs.«01_k».proof.Proof.Gen.Dh2RefIdeal.Run
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Dh2Ideal.Val

open Idealize.ShloMosaic Idealize.ShloMosaic.TcCoe Idealize.SL.Sem
open Cert.Dh2Ideal Cert.Dh2Ideal.Gen

/-- Row `r`, column `x` of the gradient: row `r` of `A` against row `x` of the weight, the shards side by side. -/
def prod (A : FVec Ideal S8192x7168 .bf16) (B : FVec Ideal S4x2048x1792 .bf16) : FVec Ideal S8192x2048 .f32 := fun i =>
  ∑ k : Fin 7168, (A (ix2 (⟨(i 0).val, (i 0).isLt⟩ : Fin 8192) k) : EReal)
    * B (ix3 (⟨k.val / 1792, by omega⟩ : Fin 4) (⟨(i 1).val, (i 1).isLt⟩ : Fin 2048) (⟨k.val % 1792, by omega⟩ : Fin 1792))

theorem idx0 : ∀ t : Fin cfg0.N, win0_0.index t = ![t.val / 8, t.val % 4] := by decide +kernel
theorem idx1 : ∀ t : Fin cfg0.N, win0_1.index t = ![t.val % 4, t.val / 4 % 2, 0] := by decide +kernel
theorem idx2 : ∀ t : Fin cfg0.N, win0_2.index t = ![t.val / 8, t.val / 4 % 2] := by decide +kernel

theorem pay2 (a : FVec Ideal S1024x1792 .bf16) (b : FVec Ideal S1x1024x1792 .bf16) (r : Fin 1024) (x : Fin 1024) :
    (k0_pay2 (F := Ideal) a b (ix2 r x) : EReal) = ∑ k : Fin 1792, (a (ix2 r k) : EReal) * b (ix3 (0 : Fin 1) x k) := by
  pointwise [k0_pay2, k0_pay1]

theorem pay3 (a : FVec Ideal S1024x1792 .bf16) (b : FVec Ideal S1x1024x1792 .bf16) (acc : FVec Ideal S1024x1024 .f32) (r : Fin 1024) (x : Fin 1024) :
    (k0_pay3 (F := Ideal) a b acc (ix2 r x) : EReal) = acc (ix2 r x) + ∑ k : Fin 1792, (a (ix2 r k) : EReal) * b (ix3 (0 : Fin 1) x k) := by
  pointwise [k0_pay3, k0_pay1]

variable (m : (ℓ : Loc nD τ sig) → Buf (Elt Ideal) ℓ) (c : Dev nD)

/-- The blocks point `t` reads. -/
abbrev aBlk (t : Fin cfg0.N) : FVec Ideal S1024x1792 .bf16 := iblk m c 0 t
abbrev bBlk (t : Fin cfg0.N) : FVec Ideal S1x1024x1792 .bf16 := iblk m c 1 t

/-- What point `t` adds at row `r`, column `x` of the sum. -/
def part (r : Fin 1024) (x : Fin 1024) (t : Fin cfg0.N) : EReal := ∑ k : Fin 1792, (aBlk m c t (ix2 r k) : EReal) * bBlk m c t (ix3 (0 : Fin 1) x k)

theorem first (t : Fin cfg0.N) (h : t.val % 4 = 0) (r : Fin 1024) (x : Fin 1024) :
    ((outsAt0 m c t.val t.isLt).2 (ix2 r x) : EReal) = part m c r x t := by
  rw [outsAt0_A m c t h (by omega) (by omega)]
  frame_out
  exact pay2 _ _ r x

theorem next (t : Fin cfg0.N) (h : ¬t.val % 4 = 0) (r : Fin 1024) (x : Fin 1024) :
    ((outsAt0 m c t.val t.isLt).2 (ix2 r x) : EReal)
      = (outsAt0 m c (t.val - 1) (Nat.lt_of_le_of_lt (Nat.sub_le _ _) t.isLt)).2 (ix2 r x) + part m c r x t := by
  by_cases hl : t.val % 4 = 3
  · rw [outsAt0_C m c t h (by omega) hl]
    frame_out
    simp only [read_unread_whole]
    exact pay3 _ _ _ r x
  · rw [outsAt0_B m c t h (by omega) hl]
    frame_out
    simp only [read_unread_whole]
    exact pay3 _ _ _ r x

theorem total (t : Fin cfg0.N) (h : t.val % 4 = 3) (r : Fin 1024) (x : Fin 1024) :
    ((outsAt0 m c t.val t.isLt).2 (ix2 r x) : EReal)
      = ∑ s : Fin 4, part m c r x ⟨4 * (t.val / 4) + s.val, Pipeline.run_point_lt_of_flush t h s⟩ := by
  rw [Pipeline.eq_sum_fin_of_reset_step_of_flush (fun n h => ((outsAt0 m c n h).2 (ix2 r x) : EReal)) 4 0 (part m c r x)
    (fun t h => by rw [zero_add]; exact first m c t h r x) (fun t h => next m c t h r x) t h, zero_add]

theorem last (t : Fin cfg0.N) (h : t.val % 4 = 3) (r : Fin 1024) (x : Fin 1024) :
    ((outsAt0 m c t.val t.isLt).1 (ix2 r x) : EReal) = (outsAt0 m c t.val t.isLt).2 (ix2 r x) := by
  rw [outsAt0_C m c t (by omega) (by omega) h]
  frame_out

theorem arr :
    (dats (F := Ideal) m 0 c).arrAt 2 cfg0.N
      = prod (m ((c.tc : Thread nD τ).loc main_arg0)) (m ((c.tc : Thread nD τ).loc main_arg1)) := by
  refine (dats m 0 c).arrAt_eq_of_covers 2 _ (by decide +kernel) fun t hf y => ?_
  blk_simp
  rw [after0_2]
  obtain ⟨r, x, rfl⟩ : ∃ (r : Fin 1024) (x : Fin 1024), y = ix2 r x := ⟨y 0, y 1, by ext a; fin_cases a <;> rfl⟩
  have h : t.val % 4 = 3 := (flush0_2 t).mp hf
  refine (last m c t h r x).trans ((total m c t h r x).trans ?_)
  unfold prod part
  refine Fin.sum_mul_add_congr fun s k hk => ?_
  congr 1 <;> blk_ext [iblk, V_main_arg0, V_main_arg1, idx0, idx1, idx2]

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun _ h c => ⟨(h c).1.trans (arr m c), (h c).2⟩) (Cert.Dh2Ideal.Value.run_blocks (F := Ideal) m ρ)

end Cert.Dh2Ideal.Val

namespace Cert.Dh2RefIdeal.Val

open Idealize.ShloMosaic Idealize.ShloMosaic.TcCoe Idealize.SL.Sem
open Cert.Dh2RefIdeal Cert.Dh2RefIdeal.Gen

theorem ref (A : FVec Ideal S8192x7168 .bf16) (B : FVec Ideal S4x2048x1792 .bf16) :
    Host.dotGeneral dot_S8192x7168_S2048x7168_S8192x2048_1_1_0_0_n_n none (extf .f32 A bitsLt_bf16_f32) (shapeCast _ (transpose S2048x4x1792 [1, 0, 2] (extf .f32 B bitsLt_bf16_f32) transposes_S4x2048x1792_S2048x4x1792_1_0_2) shapeCasts_S2048x4x1792_S2048x7168) = Cert.Dh2Ideal.Val.prod A B := by
  funext i
  obtain ⟨r, x, rfl⟩ : ∃ (r : Fin 8192) (x : Fin 2048), i = ix2 r x := ⟨i 0, i 1, by ext a; fin_cases a <;> rfl⟩
  pointwise [Cert.Dh2Ideal.Val.prod]

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v6) = Cert.Dh2Ideal.Val.prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun _ h c => ⟨(h c).1.trans (ref _ _), (h c).2⟩) (Cert.Dh2RefIdeal.Value.run (F := Ideal) m ρ)

end Cert.Dh2RefIdeal.Val

end
-- ==== Proof.GwoutValue.lean ====
/- The output projection's weight gradient: kernel and reference leave the same array. -/
module

public import proofs.«01_k».proof.Proof.Gen.GwoutIdeal.Value
public import proofs.«01_k».proof.Proof.Gen.GwoutRefIdeal.Run
public import Idealize.ShloMosaic.Lib.Pointwise
public import Idealize.ShloMosaic.Lib.Pipeline.ValueKit
public import Idealize.ShloMosaic.Lib.Pipeline.ReadBack

@[expose] public section

set_option maxRecDepth 16384

noncomputable section

namespace Cert.GwoutIdeal.Val

open Idealize.ShloMosaic Idealize.ShloMosaic.TcCoe Idealize.SL.Sem
open Cert.GwoutIdeal Cert.GwoutIdeal.Gen

/-- Shard `n`, row `r`, column `x` of the gradient: column `r` of shard `n`'s columns of `A` against column `x` of `B`. -/
def prod (A : FVec Ideal S8192x2048 .bf16) (B : FVec Ideal S8192x2048 .bf16) : FVec Ideal S4x512x2048 .f32 := fun i =>
  ∑ k : Fin 8192, (A (ix2 k (⟨(i 0).val * 512 + (i 1).val, by have : (i 0).val < 4 := (i 0).isLt; have : (i 1).val < 512 := (i 1).isLt; omega⟩ : Fin 2048)) : EReal)
    * B (ix2 k (⟨(i 2).val, (i 2).isLt⟩ : Fin 2048))

theorem idx0 : ∀ t : Fin cfg0.N, win0_0.index t = ![t.val % 4, t.val / 8] := by decide +kernel
theorem idx1 : ∀ t : Fin cfg0.N, win0_1.index t = ![t.val % 4, t.val / 4 % 2] := by decide +kernel
theorem idx2 : ∀ t : Fin cfg0.N, win0_2.index t = ![t.val / 8, 0, t.val / 4 % 2] := by decide +kernel

theorem pay2 (a : FVec Ideal S2048x512 .bf16) (b : FVec Ideal S2048x1024 .bf16) (r : Fin 512) (x : Fin 1024) :
    (k0_pay2 (F := Ideal) a b (ix2 r x) : EReal) = ∑ k : Fin 2048, (a (ix2 k r) : EReal) * b (ix2 k x) := by
  pointwise [k0_pay2, k0_pay1]

theorem pay3 (a : FVec Ideal S2048x512 .bf16) (b : FVec Ideal S2048x1024 .bf16) (acc : FVec Ideal S512x1024 .f32) (r : Fin 512) (x : Fin 1024) :
    (k0_pay3 (F := Ideal) a b acc (ix2 r x) : EReal) = acc (ix2 r x) + ∑ k : Fin 2048, (a (ix2 k r) : EReal) * b (ix2 k x) := by
  pointwise [k0_pay3, k0_pay1]

theorem pay4 (acc : FVec Ideal S512x1024 .f32) (r : Fin 512) (x : Fin 1024) :
    (k0_pay4 (F := Ideal) acc (ix3 (0 : Fin 1) r x) : EReal) = acc (ix2 r x) := by
  pointwise [k0_pay4]

variable (m : (ℓ : Loc nD τ sig) → Buf (Elt Ideal) ℓ) (c : Dev nD)

/-- The blocks point `t` reads. -/
abbrev aBlk (t : Fin cfg0.N) : FVec Ideal S2048x512 .bf16 := iblk m c 0 t
abbrev bBlk (t : Fin cfg0.N) : FVec Ideal S2048x1024 .bf16 := iblk m c 1 t

/-- What point `t` adds at row `r`, column `x` of the sum. -/
def part (r : Fin 512) (x : Fin 1024) (t : Fin cfg0.N) : EReal := ∑ k : Fin 2048, (aBlk m c t (ix2 k r) : EReal) * bBlk m c t (ix2 k x)

theorem first (t : Fin cfg0.N) (h : t.val % 4 = 0) (r : Fin 512) (x : Fin 1024) :
    ((outsAt0 m c t.val t.isLt).2 (ix2 r x) : EReal) = part m c r x t := by
  rw [outsAt0_A m c t h (by omega) (by omega)]
  frame_out
  exact pay2 _ _ r x

theorem next (t : Fin cfg0.N) (h : ¬t.val % 4 = 0) (r : Fin 512) (x : Fin 1024) :
    ((outsAt0 m c t.val t.isLt).2 (ix2 r x) : EReal)
      = (outsAt0 m c (t.val - 1) (Nat.lt_of_le_of_lt (Nat.sub_le _ _) t.isLt)).2 (ix2 r x) + part m c r x t := by
  by_cases hl : t.val % 4 = 3
  · rw [outsAt0_C m c t h (by omega) hl]
    frame_out
    simp only [read_unread_whole]
    exact pay3 _ _ _ r x
  · rw [outsAt0_B m c t h (by omega) hl]
    frame_out
    simp only [read_unread_whole]
    exact pay3 _ _ _ r x

theorem total (t : Fin cfg0.N) (h : t.val % 4 = 3) (r : Fin 512) (x : Fin 1024) :
    ((outsAt0 m c t.val t.isLt).2 (ix2 r x) : EReal)
      = ∑ s : Fin 4, part m c r x ⟨4 * (t.val / 4) + s.val, Pipeline.run_point_lt_of_flush t h s⟩ := by
  rw [Pipeline.eq_sum_fin_of_reset_step_of_flush (fun n h => ((outsAt0 m c n h).2 (ix2 r x) : EReal)) 4 0 (part m c r x)
    (fun t h => by rw [zero_add]; exact first m c t h r x) (fun t h => next m c t h r x) t h, zero_add]

theorem last (t : Fin cfg0.N) (h : t.val % 4 = 3) (r : Fin 512) (x : Fin 1024) :
    ((outsAt0 m c t.val t.isLt).1 (ix3 (0 : Fin 1) r x) : EReal) = (outsAt0 m c t.val t.isLt).2 (ix2 r x) := by
  rw [outsAt0_C m c t (by omega) (by omega) h]
  frame_out
  exact pay4 _ r x

theorem arr :
    (dats (F := Ideal) m 0 c).arrAt 2 cfg0.N
      = prod (m ((c.tc : Thread nD τ).loc main_arg0)) (m ((c.tc : Thread nD τ).loc main_arg1)) := by
  refine (dats m 0 c).arrAt_eq_of_covers 2 _ (by decide +kernel) fun t hf y => ?_
  blk_simp
  rw [after0_2]
  obtain ⟨r, x, rfl⟩ : ∃ (r : Fin 512) (x : Fin 1024), y = ix3 (0 : Fin 1) r x := ⟨y 1, y 2, by
    ext a; fin_cases a
    · exact Nat.lt_one_iff.mp (y 0).isLt
    · rfl
    · rfl⟩
  have h : t.val % 4 = 3 := (flush0_2 t).mp hf
  refine (last m c t h r x).trans ((total m c t h r x).trans ?_)
  unfold prod part
  refine Fin.sum_mul_add_congr fun s k hk => ?_
  congr 1 <;> blk_ext [iblk, V_main_arg0, V_main_arg1, idx0, idx1, idx2]

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun _ h c => ⟨(h c).1.trans (arr m c), (h c).2⟩) (Cert.GwoutIdeal.Value.run_blocks (F := Ideal) m ρ)

end Cert.GwoutIdeal.Val

namespace Cert.GwoutRefIdeal.Val

open Idealize.ShloMosaic Idealize.ShloMosaic.TcCoe Idealize.SL.Sem
open Cert.GwoutRefIdeal Cert.GwoutRefIdeal.Gen

theorem ref (A : FVec Ideal S8192x2048 .bf16) (B : FVec Ideal S8192x2048 .bf16) :
    shapeCast _ (transpose S2048x2048 [1, 0] (Host.dotGeneral dot_S8192x2048_S8192x2048_S2048x2048_0_0_1_1_n_n none (extf .f32 B bitsLt_bf16_f32) (extf .f32 A bitsLt_bf16_f32)) transposes_S2048x2048_S2048x2048_1_0) shapeCasts_S2048x2048_S4x512x2048 = Cert.GwoutIdeal.Val.prod A B := by
  funext i
  obtain ⟨n, r, x, rfl⟩ : ∃ (n : Fin 4) (r : Fin 512) (x : Fin 2048), i = ix3 n r x := ⟨i 0, i 1, i 2, by ext a; fin_cases a <;> rfl⟩
  pointwise [Cert.GwoutIdeal.Val.prod]
  exact Finset.sum_congr rfl fun k _ => mul_comm _ _

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v7) = Cert.GwoutIdeal.Val.prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun _ h c => ⟨(h c).1.trans (ref _ _), (h c).2⟩) (Cert.GwoutRefIdeal.Value.run (F := Ideal) m ρ)

end Cert.GwoutRefIdeal.Val

end
-- ==== Proof.DbrValue.lean ====
/- The gradient that reaches the branches through their projections: kernel and reference leave the same array. -/
module

public import proofs.«01_k».proof.Proof.Gen.DbrIdeal.Value
public import proofs.«01_k».proof.Proof.Gen.DbrRefIdeal.Run
public import Idealize.ShloMosaic.Lib.Pointwise
public import Idealize.ShloMosaic.Lib.Pipeline.ValueKit
public import Idealize.ShloMosaic.Lib.Pipeline.ReadBack

@[expose] public section

set_option maxRecDepth 16384

noncomputable section

namespace Cert.DbrIdeal.Val

open Idealize.ShloMosaic Idealize.ShloMosaic.TcCoe Idealize.SL.Sem
open Cert.DbrIdeal Cert.DbrIdeal.Gen

/-- Row `r`, column `x` of the gradient: branch `x / 512`'s columns of row `r` of `A` against the branch's row of its weight,
    the shards side by side. -/
def prod (A : FVec Ideal S8192x8192 .bf16) (B : FVec Ideal S4x4x512x512 .bf16) : FVec Ideal S8192x2048 .bf16 := fun i =>
  ∑ k : Fin 2048, (A (ix2 (⟨(i 0).val, (i 0).isLt⟩ : Fin 8192) (⟨(i 1).val / 512 * 2048 + k.val, by have : (i 1).val < 2048 := (i 1).isLt; omega⟩ : Fin 8192)) : EReal)
    * B (ix4 (⟨k.val / 512, by omega⟩ : Fin 4) (⟨(i 1).val / 512, by have : (i 1).val < 2048 := (i 1).isLt; omega⟩ : Fin 4) (⟨(i 1).val % 512, by omega⟩ : Fin 512) (⟨k.val % 512, by omega⟩ : Fin 512))

theorem idx0 : ∀ t : Fin cfg0.N, win0_0.index t = ![t.val / 4, t.val % 4] := by decide +kernel
theorem idx1 : ∀ t : Fin cfg0.N, win0_1.index t = ![0, t.val % 4, 0, 0] := by decide +kernel
theorem idx2 : ∀ t : Fin cfg0.N, win0_2.index t = ![t.val / 4, t.val % 4] := by decide +kernel

theorem pay (a : FVec Ideal S1024x2048 .bf16) (b0 b1 b2 b3 : FVec Ideal S1x1x512x512 .bf16) (r : Fin 1024) (x : Fin 512) :
    (k0_pay1 (F := Ideal) a b0 b1 b2 b3 (ix2 r x) : EReal)
      = ∑ k : Fin 512, (a (ix2 r (⟨k.val, by omega⟩ : Fin 2048)) : EReal) * b0 (ix4 (0 : Fin 1) (0 : Fin 1) x k)
        + ∑ k : Fin 512, (a (ix2 r (⟨512 + k.val, by omega⟩ : Fin 2048)) : EReal) * b1 (ix4 (0 : Fin 1) (0 : Fin 1) x k)
        + ∑ k : Fin 512, (a (ix2 r (⟨1024 + k.val, by omega⟩ : Fin 2048)) : EReal) * b2 (ix4 (0 : Fin 1) (0 : Fin 1) x k)
        + ∑ k : Fin 512, (a (ix2 r (⟨1536 + k.val, by omega⟩ : Fin 2048)) : EReal) * b3 (ix4 (0 : Fin 1) (0 : Fin 1) x k) := by
  pointwise [k0_pay1]

theorem slice0 (b : FVec Ideal S4x1x512x512 .bf16) (x k : Fin 512) :
    (View.ld (Val := Elt Ideal) (e' := .bf16) b r0_1 (ix4 (0 : Fin 1) (0 : Fin 1) x k) : EReal) = b (ix4 (0 : Fin 4) (0 : Fin 1) x k) := by
  refine View.ld_unit_apply_of _ _ _ _ _ _ fun a => ?_
  fin_cases a
  · rfl
  · rfl
  · exact (Nat.zero_add _).symm
  · exact (Nat.zero_add _).symm

theorem slice1 (b : FVec Ideal S4x1x512x512 .bf16) (x k : Fin 512) :
    (View.ld (Val := Elt Ideal) (e' := .bf16) b r0_2 (ix4 (0 : Fin 1) (0 : Fin 1) x k) : EReal) = b (ix4 (1 : Fin 4) (0 : Fin 1) x k) := by
  refine View.ld_unit_apply_of _ _ _ _ _ _ fun a => ?_
  fin_cases a
  · rfl
  · rfl
  · exact (Nat.zero_add _).symm
  · exact (Nat.zero_add _).symm

theorem slice2 (b : FVec Ideal S4x1x512x512 .bf16) (x k : Fin 512) :
    (View.ld (Val := Elt Ideal) (e' := .bf16) b r0_3 (ix4 (0 : Fin 1) (0 : Fin 1) x k) : EReal) = b (ix4 (2 : Fin 4) (0 : Fin 1) x k) := by
  refine View.ld_unit_apply_of _ _ _ _ _ _ fun a => ?_
  fin_cases a
  · rfl
  · rfl
  · exact (Nat.zero_add _).symm
  · exact (Nat.zero_add _).symm

theorem slice3 (b : FVec Ideal S4x1x512x512 .bf16) (x k : Fin 512) :
    (View.ld (Val := Elt Ideal) (e' := .bf16) b r0_4 (ix4 (0 : Fin 1) (0 : Fin 1) x k) : EReal) = b (ix4 (3 : Fin 4) (0 : Fin 1) x k) := by
  refine View.ld_unit_apply_of _ _ _ _ _ _ fun a => ?_
  fin_cases a
  · rfl
  · rfl
  · exact (Nat.zero_add _).symm
  · exact (Nat.zero_add _).symm

set_option maxHeartbeats 1000000 in
theorem arr (m : (ℓ : Loc nD τ sig) → Buf (Elt Ideal) ℓ) (c : Dev nD) :
    (dats (F := Ideal) m 0 c).arrAt 2 cfg0.N
      = prod (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  obtain ⟨r, x, rfl⟩ : ∃ (r : Fin 1024) (x : Fin 512), y = ix2 r x := ⟨y 0, y 1, by ext a; fin_cases a <;> rfl⟩
  refine (pay _ _ _ _ _ r x).trans ?_
  unfold prod
  refine Eq.trans ?_ (Fin.sum_mul_add_fin 4 512 _)
  rw [Fin.sum_univ_four]
  congr 1
  · congr 1
    · congr 1
      · refine Finset.sum_congr rfl fun k _ => ?_
        rw [slice0]
        congr 1 <;> blk_ext [iblk, V_main_arg0, V_main_arg1, idx0 t, idx1 t, idx2 t]
      · refine Finset.sum_congr rfl fun k _ => ?_
        rw [slice1]
        congr 1 <;> blk_ext [iblk, V_main_arg0, V_main_arg1, idx0 t, idx1 t, idx2 t]
    · refine Finset.sum_congr rfl fun k _ => ?_
      rw [slice2]
      congr 1 <;> blk_ext [iblk, V_main_arg0, V_main_arg1, idx0 t, idx1 t, idx2 t]
  · refine Finset.sum_congr rfl fun k _ => ?_
    rw [slice3]
    congr 1 <;> blk_ext [iblk, V_main_arg0, V_main_arg1, idx0 t, idx1 t, idx2 t]

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun _ h c => ⟨(h c).1.trans (arr m c), (h c).2⟩) (Cert.DbrIdeal.Value.run_blocks (F := Ideal) m ρ)

end Cert.DbrIdeal.Val

namespace Cert.DbrRefIdeal.Val

open Idealize.ShloMosaic Idealize.ShloMosaic.TcCoe Idealize.SL.Sem
open Cert.DbrRefIdeal Cert.DbrRefIdeal.Gen

theorem ref (A : FVec Ideal S8192x8192 .bf16) (B : FVec Ideal S4x4x512x512 .bf16) :
    truncf .bf16 (shapeCast _ (transpose S8192x4x512 [1, 0, 2] (Host.dotGeneral dot_S4x2048x8192_S4x512x2048_S4x8192x512_1_2_2_1_0_0 none (transpose S4x2048x8192 [1, 2, 0] (shapeCast _ (extf .f32 A bitsLt_bf16_f32) shapeCasts_S8192x8192_S8192x4x2048) transposes_S8192x4x2048_S4x2048x8192_1_2_0) (shapeCast _ (transpose S4x512x4x512 [1, 2, 0, 3] (extf .f32 B bitsLt_bf16_f32) transposes_S4x4x512x512_S4x512x4x512_1_2_0_3) shapeCasts_S4x512x4x512_S4x512x2048)) transposes_S4x8192x512_S8192x4x512_1_0_2) shapeCasts_S8192x4x512_S8192x2048) bitsLt_bf16_f32 = Cert.DbrIdeal.Val.prod A B := by
  funext i
  obtain ⟨r, x, rfl⟩ : ∃ (r : Fin 8192) (x : Fin 2048), i = ix2 r x := ⟨i 0, i 1, by ext a; fin_cases a <;> rfl⟩
  pointwise [Cert.DbrIdeal.Val.prod]

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v14) = Cert.DbrIdeal.Val.prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun _ h c => ⟨(h c).1.trans (ref _ _), (h c).2⟩) (Cert.DbrRefIdeal.Value.run (F := Ideal) m ρ)

end Cert.DbrRefIdeal.Val

end
-- ==== Proof.GwbValue.lean ====
/- The branch projections' weight gradient: kernel and reference leave the same array. -/
module

public import proofs.«01_k».proof.Proof.Gen.GwbIdeal.Value
public import proofs.«01_k».proof.Proof.Gen.GwbRefIdeal.Run
public import Idealize.ShloMosaic.Lib.Pointwise
public import Idealize.ShloMosaic.Lib.Pipeline.ValueKit
public import Idealize.ShloMosaic.Lib.Pipeline.ReadBack

@[expose] public section

set_option maxRecDepth 16384

noncomputable section

namespace Cert.GwbIdeal.Val

open Idealize.ShloMosaic Idealize.ShloMosaic.TcCoe Idealize.SL.Sem
open Cert.GwbIdeal Cert.GwbIdeal.Gen

/-- Shard `n`, branch `p`, row `r`, column `x` of the gradient: column `r` of branch `p`'s columns of `A` against column `x` of
    shard `n` of branch `p`'s columns of `B`. -/
def prod (A : FVec Ideal S8192x2048 .bf16) (B : FVec Ideal S8192x8192 .bf16) : FVec Ideal S4x4x512x512 .f32 := fun i =>
  ∑ k : Fin 8192, (A (ix2 k (⟨(i 1).val * 512 + (i 2).val, by have : (i 1).val < 4 := (i 1).isLt; have : (i 2).val < 512 := (i 2).isLt; omega⟩ : Fin 2048)) : EReal)
    * B (ix2 k (⟨(i 1).val * 2048 + ((i 0).val * 512 + (i 3).val), by have : (i 0).val < 4 := (i 0).isLt; have : (i 1).val < 4 := (i 1).isLt; have : (i 3).val < 512 := (i 3).isLt; omega⟩ : Fin 8192))

theorem idx0 : ∀ t : Fin cfg0.N, win0_0.index t = ![t.val % 4, t.val / 4 % 4] := by decide +kernel
theorem idx1 : ∀ t : Fin cfg0.N, win0_1.index t = ![t.val % 4, t.val / 4 % 4 * 4 + t.val / 16] := by decide +kernel
theorem idx2 : ∀ t : Fin cfg0.N, win0_2.index t = ![t.val / 16, t.val / 4 % 4, 0, 0] := by decide +kernel

theorem pay2 (a : FVec Ideal S2048x512 .bf16) (b : FVec Ideal S2048x512 .bf16) (r : Fin 512) (x : Fin 512) :
    (k0_pay2 (F := Ideal) a b (ix2 r x) : EReal) = ∑ k : Fin 2048, (a (ix2 k r) : EReal) * b (ix2 k x) := by
  pointwise [k0_pay2, k0_pay1]

theorem pay3 (a : FVec Ideal S2048x512 .bf16) (b : FVec Ideal S2048x512 .bf16) (acc : FVec Ideal S512x512 .f32) (r : Fin 512) (x : Fin 512) :
    (k0_pay3 (F := Ideal) a b acc (ix2 r x) : EReal) = acc (ix2 r x) + ∑ k : Fin 2048, (a (ix2 k r) : EReal) * b (ix2 k x) := by
  pointwise [k0_pay3, k0_pay1]

theorem pay4 (acc : FVec Ideal S512x512 .f32) (r : Fin 512) (x : Fin 512) :
    (k0_pay4 (F := Ideal) acc (ix4 (0 : Fin 1) (0 : Fin 1) r x) : EReal) = acc (ix2 r x) := by
  pointwise [k0_pay4]

variable (m : (ℓ : Loc nD τ sig) → Buf (Elt Ideal) ℓ) (c : Dev nD)

/-- The blocks point `t` reads. -/
abbrev aBlk (t : Fin cfg0.N) : FVec Ideal S2048x512 .bf16 := iblk m c 0 t
abbrev bBlk (t : Fin cfg0.N) : FVec Ideal S2048x512 .bf16 := iblk m c 1 t

/-- What point `t` adds at row `r`, column `x` of the sum. -/
def part (r : Fin 512) (x : Fin 512) (t : Fin cfg0.N) : EReal := ∑ k : Fin 2048, (aBlk m c t (ix2 k r) : EReal) * bBlk m c t (ix2 k x)

theorem first (t : Fin cfg0.N) (h : t.val % 4 = 0) (r : Fin 512) (x : Fin 512) :
    ((outsAt0 m c t.val t.isLt).2 (ix2 r x) : EReal) = part m c r x t := by
  rw [outsAt0_A m c t h (by omega) (by omega)]
  frame_out
  exact pay2 _ _ r x

theorem next (t : Fin cfg0.N) (h : ¬t.val % 4 = 0) (r : Fin 512) (x : Fin 512) :
    ((outsAt0 m c t.val t.isLt).2 (ix2 r x) : EReal)
      = (outsAt0 m c (t.val - 1) (Nat.lt_of_le_of_lt (Nat.sub_le _ _) t.isLt)).2 (ix2 r x) + part m c r x t := by
  by_cases hl : t.val % 4 = 3
  · rw [outsAt0_C m c t h (by omega) hl]
    frame_out
    simp only [read_unread_whole]
    exact pay3 _ _ _ r x
  · rw [outsAt0_B m c t h (by omega) hl]
    frame_out
    simp only [read_unread_whole]
    exact pay3 _ _ _ r x

theorem total (t : Fin cfg0.N) (h : t.val % 4 = 3) (r : Fin 512) (x : Fin 512) :
    ((outsAt0 m c t.val t.isLt).2 (ix2 r x) : EReal)
      = ∑ s : Fin 4, part m c r x ⟨4 * (t.val / 4) + s.val, Pipeline.run_point_lt_of_flush t h s⟩ := by
  rw [Pipeline.eq_sum_fin_of_reset_step_of_flush (fun n h => ((outsAt0 m c n h).2 (ix2 r x) : EReal)) 4 0 (part m c r x)
    (fun t h => by rw [zero_add]; exact first m c t h r x) (fun t h => next m c t h r x) t h, zero_add]

theorem last (t : Fin cfg0.N) (h : t.val % 4 = 3) (r : Fin 512) (x : Fin 512) :
    ((outsAt0 m c t.val t.isLt).1 (ix4 (0 : Fin 1) (0 : Fin 1) r x) : EReal) = (outsAt0 m c t.val t.isLt).2 (ix2 r x) := by
  rw [outsAt0_C m c t (by omega) (by omega) h]
  frame_out
  exact pay4 _ r x

theorem arr :
    (dats (F := Ideal) m 0 c).arrAt 2 cfg0.N
      = prod (m ((c.tc : Thread nD τ).loc main_arg0)) (m ((c.tc : Thread nD τ).loc main_arg1)) := by
  refine (dats m 0 c).arrAt_eq_of_covers 2 _ (by decide +kernel) fun t hf y => ?_
  blk_simp
  rw [after0_2]
  obtain ⟨r, x, rfl⟩ : ∃ (r : Fin 512) (x : Fin 512), y = ix4 (0 : Fin 1) (0 : Fin 1) r x := ⟨y 2, y 3, by
    ext a; fin_cases a
    · exact Nat.lt_one_iff.mp (y 0).isLt
    · exact Nat.lt_one_iff.mp (y 1).isLt
    · rfl
    · rfl⟩
  have h : t.val % 4 = 3 := (flush0_2 t).mp hf
  refine (last m c t h r x).trans ((total m c t h r x).trans ?_)
  unfold prod part
  refine Fin.sum_mul_add_congr fun s k hk => ?_
  congr 1 <;> blk_ext [iblk, V_main_arg0, V_main_arg1, idx0, idx1, idx2]

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun _ h c => ⟨(h c).1.trans (arr m c), (h c).2⟩) (Cert.GwbIdeal.Value.run_blocks (F := Ideal) m ρ)

end Cert.GwbIdeal.Val

namespace Cert.GwbRefIdeal.Val

open Idealize.ShloMosaic Idealize.ShloMosaic.TcCoe Idealize.SL.Sem
open Cert.GwbRefIdeal Cert.GwbRefIdeal.Gen

theorem ref (A : FVec Ideal S8192x2048 .bf16) (B : FVec Ideal S8192x8192 .bf16) :
    transpose S4x4x512x512 [2, 0, 1, 3] (shapeCast _ (transpose S4x512x2048 [0, 2, 1] (Host.dotGeneral dot_S4x2048x8192_S8192x4x512_S4x2048x512_2_0_1_2_0_1 none (transpose S4x2048x8192 [1, 2, 0] (shapeCast _ (extf .f32 B bitsLt_bf16_f32) shapeCasts_S8192x8192_S8192x4x2048) transposes_S8192x4x2048_S4x2048x8192_1_2_0) (shapeCast _ (extf .f32 A bitsLt_bf16_f32) shapeCasts_S8192x2048_S8192x4x512)) transposes_S4x2048x512_S4x512x2048_0_2_1) shapeCasts_S4x512x2048_S4x512x4x512) transposes_S4x512x4x512_S4x4x512x512_2_0_1_3 = Cert.GwbIdeal.Val.prod A B := by
  funext i
  obtain ⟨n, p, r, x, rfl⟩ : ∃ (n : Fin 4) (p : Fin 4) (r : Fin 512) (x : Fin 512), i = ix4 n p r x := ⟨i 0, i 1, i 2, i 3, by ext a; fin_cases a <;> rfl⟩
  pointwise [Cert.GwbIdeal.Val.prod]
  exact Finset.sum_congr rfl fun k _ => mul_comm _ _

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v14) = Cert.GwbIdeal.Val.prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun _ h c => ⟨(h c).1.trans (ref _ _), (h c).2⟩) (Cert.GwbRefIdeal.Value.run (F := Ideal) m ρ)

end Cert.GwbRefIdeal.Val

end
-- ==== Proof.Products.lean ====
/- The claims about the backward matrix products: each runs and leaves its arguments unchanged, and kernel and reference end
   with the same array. -/
module

public import proofs.«01_k».proof.Defs
public import proofs.«01_k».proof.Proof.Gen.Gwgm.Frame
public import proofs.«01_k».proof.Proof.GwgmValue
public import proofs.«01_k».proof.Proof.Gen.Dz.Frame
public import proofs.«01_k».proof.Proof.DzValue
public import proofs.«01_k».proof.Proof.Gen.Dh1.Frame
public import proofs.«01_k».proof.Proof.Dh1Value
public import proofs.«01_k».proof.Proof.Gen.Gwin.Frame
public import proofs.«01_k».proof.Proof.GwinValue
public import proofs.«01_k».proof.Proof.Gen.Dh2.Frame
public import proofs.«01_k».proof.Proof.Dh2Value
public import proofs.«01_k».proof.Proof.Gen.Gwout.Frame
public import proofs.«01_k».proof.Proof.GwoutValue
public import proofs.«01_k».proof.Proof.Gen.Dbr.Frame
public import proofs.«01_k».proof.Proof.DbrValue
public import proofs.«01_k».proof.Proof.Gen.Gwb.Frame
public import proofs.«01_k».proof.Proof.GwbValue
public import Idealize.ShloMosaic.Lib.Quiescent
public import Idealize.ShloMosaic.Adequacy
public import Idealize.ShloMosaic.Init

@[expose] public section

noncomputable section

namespace Cert.Proof

open Idealize.ShloMosaic Idealize.SL.Sem

/-! ## `Gwgm` -/

theorem frame_Gwgm : Cert.quiescent_Gwgm (hGwgm := Cert.Gwgm.Gen.facts) := fun m ρ _ => Cert.Gwgm.Gen.frame m ρ

theorem frame_GwgmIdeal : Cert.quiescent_GwgmIdeal (hGwgmIdeal := Cert.GwgmIdeal.Gen.facts) := fun m ρ _ => Cert.GwgmIdeal.Gen.frame m ρ

theorem frame_GwgmRefIdeal : Cert.quiescent_GwgmRefIdeal (hGwgmRefIdeal := Cert.GwgmRefIdeal.Gen.facts) := fun m ρ _ =>
  (θ_run Cert.GwgmRefIdeal.defs _ _).mono (fun r h => ⟨fun c => (h c).2, sem_eq_zero_of_no_sems (by decide) r.2⟩)
    (Cert.GwgmRefIdeal.Value.run (F := Ideal) m ρ)

theorem algebraic_Gwgm : Cert.algebraic_GwgmIdeal_GwgmRefIdeal (hGwgmIdeal := Cert.GwgmIdeal.Gen.facts) (hGwgmRefIdeal := Cert.GwgmRefIdeal.Gen.facts) := by
  intro m ρ m' ρ' _ hagree
  refine ⟨_, Cert.GwgmIdeal.Val.run m ρ, (θ_run _ _ _).mono (fun r h c => ⟨?_, (h c).2⟩) (Cert.GwgmRefIdeal.Val.run m' ρ')⟩
  obtain ⟨a0, a1⟩ := hagree c
  rw [(h c).1, a0, a1]

/-! ## `Dz` -/

theorem frame_Dz : Cert.quiescent_Dz (hDz := Cert.Dz.Gen.facts) := fun m ρ _ => Cert.Dz.Gen.frame m ρ

theorem frame_DzIdeal : Cert.quiescent_DzIdeal (hDzIdeal := Cert.DzIdeal.Gen.facts) := fun m ρ _ => Cert.DzIdeal.Gen.frame m ρ

theorem frame_DzRefIdeal : Cert.quiescent_DzRefIdeal (hDzRefIdeal := Cert.DzRefIdeal.Gen.facts) := fun m ρ _ =>
  (θ_run Cert.DzRefIdeal.defs _ _).mono (fun r h => ⟨fun c => (h c).2, sem_eq_zero_of_no_sems (by decide) r.2⟩)
    (Cert.DzRefIdeal.Value.run (F := Ideal) m ρ)

theorem algebraic_Dz : Cert.algebraic_DzIdeal_DzRefIdeal (hDzIdeal := Cert.DzIdeal.Gen.facts) (hDzRefIdeal := Cert.DzRefIdeal.Gen.facts) := by
  intro m ρ m' ρ' _ hagree
  refine ⟨_, Cert.DzIdeal.Val.run m ρ, (θ_run _ _ _).mono (fun r h c => ⟨?_, (h c).2⟩) (Cert.DzRefIdeal.Val.run m' ρ')⟩
  obtain ⟨a0, a1⟩ := hagree c
  rw [(h c).1, a0, a1]

/-! ## `Dh1` -/

theorem frame_Dh1 : Cert.quiescent_Dh1 (hDh1 := Cert.Dh1.Gen.facts) := fun m ρ _ => Cert.Dh1.Gen.frame m ρ

theorem frame_Dh1Ideal : Cert.quiescent_Dh1Ideal (hDh1Ideal := Cert.Dh1Ideal.Gen.facts) := fun m ρ _ => Cert.Dh1Ideal.Gen.frame m ρ

theorem frame_Dh1RefIdeal : Cert.quiescent_Dh1RefIdeal (hDh1RefIdeal := Cert.Dh1RefIdeal.Gen.facts) := fun m ρ _ =>
  (θ_run Cert.Dh1RefIdeal.defs _ _).mono (fun r h => ⟨fun c => (h c).2, sem_eq_zero_of_no_sems (by decide) r.2⟩)
    (Cert.Dh1RefIdeal.Value.run (F := Ideal) m ρ)

theorem algebraic_Dh1 : Cert.algebraic_Dh1Ideal_Dh1RefIdeal (hDh1Ideal := Cert.Dh1Ideal.Gen.facts) (hDh1RefIdeal := Cert.Dh1RefIdeal.Gen.facts) := by
  intro m ρ m' ρ' _ hagree
  refine ⟨_, Cert.Dh1Ideal.Val.run m ρ, (θ_run _ _ _).mono (fun r h c => ⟨?_, (h c).2⟩) (Cert.Dh1RefIdeal.Val.run m' ρ')⟩
  obtain ⟨a0, a1⟩ := hagree c
  rw [(h c).1, a0, a1]

/-! ## `Gwin` -/

theorem frame_Gwin : Cert.quiescent_Gwin (hGwin := Cert.Gwin.Gen.facts) := fun m ρ _ => Cert.Gwin.Gen.frame m ρ

theorem frame_GwinIdeal : Cert.quiescent_GwinIdeal (hGwinIdeal := Cert.GwinIdeal.Gen.facts) := fun m ρ _ => Cert.GwinIdeal.Gen.frame m ρ

theorem frame_GwinRefIdeal : Cert.quiescent_GwinRefIdeal (hGwinRefIdeal := Cert.GwinRefIdeal.Gen.facts) := fun m ρ _ =>
  (θ_run Cert.GwinRefIdeal.defs _ _).mono (fun r h => ⟨fun c => (h c).2, sem_eq_zero_of_no_sems (by decide) r.2⟩)
    (Cert.GwinRefIdeal.Value.run (F := Ideal) m ρ)

theorem algebraic_Gwin : Cert.algebraic_GwinIdeal_GwinRefIdeal (hGwinIdeal := Cert.GwinIdeal.Gen.facts) (hGwinRefIdeal := Cert.GwinRefIdeal.Gen.facts) := by
  intro m ρ m' ρ' _ hagree
  refine ⟨_, Cert.GwinIdeal.Val.run m ρ, (θ_run _ _ _).mono (fun r h c => ⟨?_, (h c).2⟩) (Cert.GwinRefIdeal.Val.run m' ρ')⟩
  obtain ⟨a0, a1⟩ := hagree c
  rw [(h c).1, a0, a1]

/-! ## `Dh2` -/

theorem frame_Dh2 : Cert.quiescent_Dh2 (hDh2 := Cert.Dh2.Gen.facts) := fun m ρ _ => Cert.Dh2.Gen.frame m ρ

theorem frame_Dh2Ideal : Cert.quiescent_Dh2Ideal (hDh2Ideal := Cert.Dh2Ideal.Gen.facts) := fun m ρ _ => Cert.Dh2Ideal.Gen.frame m ρ

theorem frame_Dh2RefIdeal : Cert.quiescent_Dh2RefIdeal (hDh2RefIdeal := Cert.Dh2RefIdeal.Gen.facts) := fun m ρ _ =>
  (θ_run Cert.Dh2RefIdeal.defs _ _).mono (fun r h => ⟨fun c => (h c).2, sem_eq_zero_of_no_sems (by decide) r.2⟩)
    (Cert.Dh2RefIdeal.Value.run (F := Ideal) m ρ)

theorem algebraic_Dh2 : Cert.algebraic_Dh2Ideal_Dh2RefIdeal (hDh2Ideal := Cert.Dh2Ideal.Gen.facts) (hDh2RefIdeal := Cert.Dh2RefIdeal.Gen.facts) := by
  intro m ρ m' ρ' _ hagree
  refine ⟨_, Cert.Dh2Ideal.Val.run m ρ, (θ_run _ _ _).mono (fun r h c => ⟨?_, (h c).2⟩) (Cert.Dh2RefIdeal.Val.run m' ρ')⟩
  obtain ⟨a0, a1⟩ := hagree c
  rw [(h c).1, a0, a1]

/-! ## `Gwout` -/

theorem frame_Gwout : Cert.quiescent_Gwout (hGwout := Cert.Gwout.Gen.facts) := fun m ρ _ => Cert.Gwout.Gen.frame m ρ

theorem frame_GwoutIdeal : Cert.quiescent_GwoutIdeal (hGwoutIdeal := Cert.GwoutIdeal.Gen.facts) := fun m ρ _ => Cert.GwoutIdeal.Gen.frame m ρ

theorem frame_GwoutRefIdeal : Cert.quiescent_GwoutRefIdeal (hGwoutRefIdeal := Cert.GwoutRefIdeal.Gen.facts) := fun m ρ _ =>
  (θ_run Cert.GwoutRefIdeal.defs _ _).mono (fun r h => ⟨fun c => (h c).2, sem_eq_zero_of_no_sems (by decide) r.2⟩)
    (Cert.GwoutRefIdeal.Value.run (F := Ideal) m ρ)

theorem algebraic_Gwout : Cert.algebraic_GwoutIdeal_GwoutRefIdeal (hGwoutIdeal := Cert.GwoutIdeal.Gen.facts) (hGwoutRefIdeal := Cert.GwoutRefIdeal.Gen.facts) := by
  intro m ρ m' ρ' _ hagree
  refine ⟨_, Cert.GwoutIdeal.Val.run m ρ, (θ_run _ _ _).mono (fun r h c => ⟨?_, (h c).2⟩) (Cert.GwoutRefIdeal.Val.run m' ρ')⟩
  obtain ⟨a0, a1⟩ := hagree c
  rw [(h c).1, a0, a1]

/-! ## `Dbr` -/

theorem frame_Dbr : Cert.quiescent_Dbr (hDbr := Cert.Dbr.Gen.facts) := fun m ρ _ => Cert.Dbr.Gen.frame m ρ

theorem frame_DbrIdeal : Cert.quiescent_DbrIdeal (hDbrIdeal := Cert.DbrIdeal.Gen.facts) := fun m ρ _ => Cert.DbrIdeal.Gen.frame m ρ

theorem frame_DbrRefIdeal : Cert.quiescent_DbrRefIdeal (hDbrRefIdeal := Cert.DbrRefIdeal.Gen.facts) := fun m ρ _ =>
  (θ_run Cert.DbrRefIdeal.defs _ _).mono (fun r h => ⟨fun c => (h c).2, sem_eq_zero_of_no_sems (by decide) r.2⟩)
    (Cert.DbrRefIdeal.Value.run (F := Ideal) m ρ)

theorem algebraic_Dbr : Cert.algebraic_DbrIdeal_DbrRefIdeal (hDbrIdeal := Cert.DbrIdeal.Gen.facts) (hDbrRefIdeal := Cert.DbrRefIdeal.Gen.facts) := by
  intro m ρ m' ρ' _ hagree
  refine ⟨_, Cert.DbrIdeal.Val.run m ρ, (θ_run _ _ _).mono (fun r h c => ⟨?_, (h c).2⟩) (Cert.DbrRefIdeal.Val.run m' ρ')⟩
  obtain ⟨a0, a1⟩ := hagree c
  rw [(h c).1, a0, a1]

/-! ## `Gwb` -/

theorem frame_Gwb : Cert.quiescent_Gwb (hGwb := Cert.Gwb.Gen.facts) := fun m ρ _ => Cert.Gwb.Gen.frame m ρ

theorem frame_GwbIdeal : Cert.quiescent_GwbIdeal (hGwbIdeal := Cert.GwbIdeal.Gen.facts) := fun m ρ _ => Cert.GwbIdeal.Gen.frame m ρ

theorem frame_GwbRefIdeal : Cert.quiescent_GwbRefIdeal (hGwbRefIdeal := Cert.GwbRefIdeal.Gen.facts) := fun m ρ _ =>
  (θ_run Cert.GwbRefIdeal.defs _ _).mono (fun r h => ⟨fun c => (h c).2, sem_eq_zero_of_no_sems (by decide) r.2⟩)
    (Cert.GwbRefIdeal.Value.run (F := Ideal) m ρ)

theorem algebraic_Gwb : Cert.algebraic_GwbIdeal_GwbRefIdeal (hGwbIdeal := Cert.GwbIdeal.Gen.facts) (hGwbRefIdeal := Cert.GwbRefIdeal.Gen.facts) := by
  intro m ρ m' ρ' _ hagree
  refine ⟨_, Cert.GwbIdeal.Val.run m ρ, (θ_run _ _ _).mono (fun r h c => ⟨?_, (h c).2⟩) (Cert.GwbRefIdeal.Val.run m' ρ')⟩
  obtain ⟨a0, a1⟩ := hagree c
  rw [(h c).1, a0, a1]

end Cert.Proof

end
-- ==== Proof.OutBwdValue.lean ====
/- The gradients that leave the residual sum: of the output projection and of its gate: kernel and reference leave the same arrays. -/
module

public import proofs.«01_k».proof.Proof.Gen.OutBwdIdeal.Value
public import proofs.«01_k».proof.Proof.Gen.OutBwdRefIdeal.Run
public import Idealize.ShloMosaic.Lib.Pointwise
public import Idealize.ShloMosaic.Lib.Pipeline.ValueKit
public import Idealize.ShloMosaic.Lib.Pipeline.ReadBack

@[expose] public section

set_option maxRecDepth 16384

noncomputable section

namespace Cert.OutBwdIdeal.Val

open Idealize.ShloMosaic Idealize.ShloMosaic.TcCoe Idealize.SL.Sem
open Cert.OutBwdIdeal Cert.OutBwdIdeal.Gen

/-- Row `r`, column `x` of the gradient that enters the output projection: the incoming gradient times the column's gate. -/
def dout (D : FVec Ideal S8192x2048 .f32) (G : FVec Ideal S1x2048 .f32) : FVec Ideal S8192x2048 .bf16 := fun i =>
  (D i : EReal) * G (ix2 (0 : Fin 1) (⟨(i 1).val, (i 1).isLt⟩ : Fin 2048))

/-- Column `x` of the gate's gradient: the incoming gradient's column against the product's. -/
def dgate (D : FVec Ideal S8192x2048 .f32) (O : FVec Ideal S8192x2048 .bf16) : FVec Ideal S1x2048 .f32 := fun i =>
  ∑ k : Fin 8192, (D (ix2 k (⟨(i 1).val, (i 1).isLt⟩ : Fin 2048)) : EReal) * O (ix2 k (⟨(i 1).val, (i 1).isLt⟩ : Fin 2048))

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![0, 0] := by decide +kernel
theorem idx3 : ∀ t : Fin cfg0.N, win0_3.index t = ![t.val, 0] := by decide +kernel
theorem idx4 : ∀ t : Fin cfg0.N, win0_4.index t = ![0, 0] := by decide +kernel

theorem pay1 (x : Fin 2048) : (k0_pay1 (F := Ideal) (ix2 (0 : Fin 1) x) : EReal) = 0 := by
  pointwise [k0_pay1]

theorem pay2 (d : FVec Ideal S256x2048 .f32) (g : FVec Ideal S1x2048 .f32) (r : Fin 256) (x : Fin 2048) :
    (k0_pay2 (F := Ideal) d g (ix2 r x) : EReal) = d (ix2 r x) * g (ix2 (0 : Fin 1) x) := by
  pointwise [k0_pay2]

theorem pay3 (d : FVec Ideal S256x2048 .f32) (acc : FVec Ideal S1x2048 .f32) (o : FVec Ideal S256x2048 .bf16) (x : Fin 2048) :
    (k0_pay3 (F := Ideal) d acc o (ix2 (0 : Fin 1) x) : EReal) = acc (ix2 (0 : Fin 1) x) + ∑ k : Fin 256, (d (ix2 k x) : EReal) * o (ix2 k x) := by
  pointwise [k0_pay3]

variable (m : (ℓ : Loc nD τ sig) → Buf (Elt Ideal) ℓ) (c : Dev nD)

/-- The blocks point `t` reads. -/
abbrev dBlk (t : Fin cfg0.N) : FVec Ideal S256x2048 .f32 := iblk m c 0 t
abbrev oBlk (t : Fin cfg0.N) : FVec Ideal S256x2048 .bf16 := iblk m c 1 t

/-- What point `t` adds at column `x` of the sum. -/
def part (x : Fin 2048) (t : Fin cfg0.N) : EReal := ∑ k : Fin 256, (dBlk m c t (ix2 k x) : EReal) * oBlk m c t (ix2 k x)

theorem first (t : Fin cfg0.N) (h : t.val % 32 = 0) (x : Fin 2048) :
    ((outsAt0 m c t.val t.isLt).2 (ix2 (0 : Fin 1) x) : EReal) = 0 + part m c x t := by
  rw [outsAt0_A m c t h]
  frame_out
  refine (pay3 _ _ _ x).trans ?_
  rw [pay1]
  rfl

theorem next (t : Fin cfg0.N) (h : ¬t.val % 32 = 0) (x : Fin 2048) :
    ((outsAt0 m c t.val t.isLt).2 (ix2 (0 : Fin 1) x) : EReal)
      = (outsAt0 m c (t.val - 1) (Nat.lt_of_le_of_lt (Nat.sub_le _ _) t.isLt)).2 (ix2 (0 : Fin 1) x) + part m c x t := by
  rw [outsAt0_B m c t h]
  frame_out
  exact pay3 _ _ _ x

theorem rows (t : Fin cfg0.N) (r : Fin 256) (x : Fin 2048) :
    ((outsAt0 m c t.val t.isLt).1 (ix2 r x) : EReal)
      = dBlk m c t (ix2 r x) * (iblk m c 2 t : FVec Ideal S1x2048 .f32) (ix2 (0 : Fin 1) x) := by
  by_cases h : t.val % 32 = 0
  · rw [outsAt0_A m c t h]
    frame_out
    exact pay2 _ _ r x
  · rw [outsAt0_B m c t h]
    frame_out
    exact pay2 _ _ r x

theorem total (t : Fin cfg0.N) (h : t.val % 32 = 31) (x : Fin 2048) :
    ((outsAt0 m c t.val t.isLt).2 (ix2 (0 : Fin 1) x) : EReal)
      = ∑ s : Fin 32, part m c x ⟨32 * (t.val / 32) + s.val, Pipeline.run_point_lt_of_flush t h s⟩ := by
  rw [Pipeline.eq_sum_fin_of_reset_step_of_flush (fun n h => ((outsAt0 m c n h).2 (ix2 (0 : Fin 1) x) : EReal)) 32 0 (part m c x)
    (fun t h => first m c t h x) (fun t h => next m c t h x) t h, zero_add]

theorem arr3 :
    (dats (F := Ideal) m 0 c).arrAt 3 cfg0.N
      = dout (m ((c.tc : Thread nD τ).loc main_arg0)) (m ((c.tc : Thread nD τ).loc main_arg2)) := by
  refine (dats m 0 c).arrAt_eq_of_covers 3 _ (by decide +kernel) fun t hf y => ?_
  blk_simp
  rw [after0_3]
  obtain ⟨r, x, rfl⟩ : ∃ (r : Fin 256) (x : Fin 2048), y = ix2 r x := ⟨y 0, y 1, by ext a; fin_cases a <;> rfl⟩
  refine (rows m c t r x).trans ?_
  unfold dout
  refine congrArg₂ (· * ·) ?_ ?_
  · blk_ext [iblk, V_main_arg0, idx0 t, idx3 t]
  · blk_ext [iblk, V_main_arg2, idx2 t, idx3 t]

theorem arr4 :
    (dats (F := Ideal) m 0 c).arrAt 4 cfg0.N
      = dgate (m ((c.tc : Thread nD τ).loc main_arg0)) (m ((c.tc : Thread nD τ).loc main_arg1)) := by
  refine (dats m 0 c).arrAt_eq_of_covers 4 _ (by decide +kernel) fun t hf y => ?_
  blk_simp
  rw [after0_4]
  obtain ⟨x, rfl⟩ : ∃ (x : Fin 2048), y = ix2 (0 : Fin 1) x := ⟨y 1, by
    ext a; fin_cases a
    · exact Nat.lt_one_iff.mp (y 0).isLt
    · rfl⟩
  have h : t.val % 32 = 31 := (flush0_4 t).mp hf
  refine (total m c t h x).trans ?_
  unfold dgate part
  refine Fin.sum_mul_add_congr fun s k hk => ?_
  have : t.val < 32 := lt_of_lt_of_eq t.isLt (show cfg0.N = 32 from N_0)
  refine congrArg₂ (· * ·) ?_ ?_
  · blk_ext [iblk, V_main_arg0, idx0, idx4]
  · blk_ext [iblk, V_main_arg1, idx1, idx4]

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0_0) = dout (m ((c.tc : Thread nD τ).loc main_arg0)) (m ((c.tc : Thread nD τ).loc main_arg2))
      ∧ r.2.mem ((c.tc : Thread nD τ).loc main_v0_1) = dgate (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun _ h c => ⟨(h c).1.trans (arr3 m c), (h c).2.1.trans (arr4 m c), (h c).2.2⟩) (Cert.OutBwdIdeal.Value.run_blocks (F := Ideal) m ρ)

end Cert.OutBwdIdeal.Val

namespace Cert.OutBwdRefIdeal.Val

open Idealize.ShloMosaic Idealize.ShloMosaic.TcCoe Idealize.SL.Sem
open Cert.OutBwdRefIdeal Cert.OutBwdRefIdeal.Gen

theorem refOut (D : FVec Ideal S8192x2048 .f32) (G : FVec Ideal S1x2048 .f32) :
    truncf .bf16 (mulf (broadcastInDim S8192x2048 ![0, 1] bcast_S1x2048_S8192x2048_0_1 G) D) bitsLt_bf16_f32 = Cert.OutBwdIdeal.Val.dout D G := by
  funext i
  obtain ⟨r, x, rfl⟩ : ∃ (r : Fin 8192) (x : Fin 2048), i = ix2 r x := ⟨i 0, i 1, by ext a; fin_cases a <;> rfl⟩
  pointwise [Cert.OutBwdIdeal.Val.dout]
  exact mul_comm _ _

theorem refGate (D : FVec Ideal S8192x2048 .f32) (O : FVec Ideal S8192x2048 .bf16) :
    shapeCast _ (Host.reduceAdd (mulf D (extf .f32 O bitsLt_bf16_f32)) (constant S_ .f32 0x00000000#32) reducesTo_S8192x2048_S2048_d0 h_S_) shapeCasts_S2048_S1x2048 = Cert.OutBwdIdeal.Val.dgate D O := by
  funext i
  obtain ⟨x, rfl⟩ : ∃ (x : Fin 2048), i = ix2 (0 : Fin 1) x := ⟨i 1, by
    ext a; fin_cases a
    · exact Nat.lt_one_iff.mp (i 0).isLt
    · rfl⟩
  pointwise [Cert.OutBwdIdeal.Val.dgate]

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v8) = Cert.OutBwdIdeal.Val.dout (m ((c.tc : Thread nD τ).loc main_arg0)) (m ((c.tc : Thread nD τ).loc main_arg2))
      ∧ r.2.mem ((c.tc : Thread nD τ).loc main_v7) = Cert.OutBwdIdeal.Val.dgate (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun _ h c => ⟨(h c).1.trans (refOut _ _), (h c).2.1.trans (refGate _ _), (h c).2.2⟩) (Cert.OutBwdRefIdeal.Value.run (F := Ideal) m ρ)

end Cert.OutBwdRefIdeal.Val

end
-- ==== Proof.MergeBwdValue.lean ====
/- The gradients of the merge gates' logits and of the branch projections: kernel and reference leave the same arrays. -/
module

public import proofs.«01_k».proof.Proof.Gen.MergeBwdIdeal.Value
public import proofs.«01_k».proof.Proof.Gen.MergeBwdRefIdeal.Run
public import Idealize.ShloMosaic.Lib.Pointwise
public import Idealize.ShloMosaic.Lib.Pipeline.ValueKit
public import Idealize.ShloMosaic.Lib.Pipeline.ReadBack

@[expose] public section

set_option maxRecDepth 16384

noncomputable section

namespace Cert.MergeBwdIdeal.Val

open Idealize.ShloMosaic Idealize.ShloMosaic.TcCoe Idealize.SL.Sem
open Cert.MergeBwdIdeal Cert.MergeBwdIdeal.Gen

/-- The logistic function of a logit. -/
def sg (x : EReal) : EReal := Ideal.div 1 (1 + Ideal.exp (-x))

/-- Row `r`, column `x` of the gradient of the gates' logits: the merged gradient at column `x % 2048`, times the branch's projection,
    times the slope of the gate. -/
def dgates (Z : FVec Ideal S8192x2048 .bf16) (L : FVec Ideal S8192x8192 .f32) (J : FVec Ideal S8192x8192 .bf16) :
    FVec Ideal S8192x8192 .bf16 := fun i =>
  (Z (ix2 (⟨(i 0).val, (i 0).isLt⟩ : Fin 8192) (⟨(i 1).val % 2048, by omega⟩ : Fin 2048)) : EReal) * J i * (sg (L i) * (1 - sg (L i)))

/-- Row `r`, column `x` of the gradient of the projections: the merged gradient at column `x % 2048`, times the gate. -/
def dproj (Z : FVec Ideal S8192x2048 .bf16) (L : FVec Ideal S8192x8192 .f32) : FVec Ideal S8192x8192 .bf16 := fun i =>
  (Z (ix2 (⟨(i 0).val, (i 0).isLt⟩ : Fin 8192) (⟨(i 1).val % 2048, by omega⟩ : Fin 2048)) : EReal) * sg (L i)

theorem idx0 : ∀ t : Fin cfg0.N, win0_0.index t = ![t.val / 16, t.val / 4 % 4] := by decide +kernel
theorem idx1 : ∀ t : Fin cfg0.N, win0_1.index t = ![t.val / 16, t.val % 4 * 4 + t.val / 4 % 4] := by decide +kernel
theorem idx2 : ∀ t : Fin cfg0.N, win0_2.index t = ![t.val / 16, t.val % 4 * 4 + t.val / 4 % 4] := by decide +kernel
theorem idx3 : ∀ t : Fin cfg0.N, win0_3.index t = ![t.val / 16, t.val % 4 * 4 + t.val / 4 % 4] := by decide +kernel
theorem idx4 : ∀ t : Fin cfg0.N, win0_4.index t = ![t.val / 16, t.val % 4 * 4 + t.val / 4 % 4] := by decide +kernel

/-- The gates as the program makes them from their logits before the call. -/
def gates (L : FVec Ideal S8192x8192 .f32) : FVec Ideal S8192x8192 .bf16 :=
  truncf .bf16 (Host.divf (broadcastInDim S8192x8192 ![] bcast_S_S8192x8192 (constant S_ .f32 0x3F800000#32))
    (addf (broadcastInDim S8192x8192 ![] bcast_S_S8192x8192 (constant S_ .f32 0x3F800000#32)) (Host.exp (Host.negf L)))) bitsLt_bf16_f32

theorem gates_apply (L : FVec Ideal S8192x8192 .f32) (r x : Fin 8192) : (gates L (ix2 r x) : EReal) = sg (L (ix2 r x)) := by
  pointwise [gates, sg]

theorem V_gates (m : (ℓ : Loc nD τ sig) → Buf (Elt Ideal) ℓ) (c : Dev nD) :
    V m c main_v6 = gates (m ((c.tc : Thread nD τ).loc main_arg1)) := by
  unfold V
  simp only [hostOps0, List.flatten_cons, List.flatten_nil, List.append_nil, List.cons_append, List.nil_append]
  after_results_simp
  rfl

theorem pay3 (d s j : FVec Ideal S512x512 .bf16) (r x : Fin 512) :
    (k0_pay3 (F := Ideal) d s j (ix2 r x) : EReal) = d (ix2 r x) * j (ix2 r x) * (s (ix2 r x) * (1 - (s (ix2 r x) : EReal))) := by
  rw [← mul_assoc]
  pointwise [k0_pay3, k0_pay2, k0_pay1]

theorem pay4 (d s : FVec Ideal S512x512 .bf16) (r x : Fin 512) :
    (k0_pay4 (F := Ideal) d s (ix2 r x) : EReal) = d (ix2 r x) * s (ix2 r x) := by
  pointwise [k0_pay4, k0_pay2, k0_pay1]

/-- The gates point `t` reads. -/
theorem sBlk (m : (ℓ : Loc nD τ sig) → Buf (Elt Ideal) ℓ) (c : Dev nD) (t : Fin cfg0.N) (r x : Fin 512) :
    ((iblk m c 1 t : FVec Ideal S512x512 .bf16) (ix2 r x) : EReal)
      = sg (m ((c.tc : Thread nD τ).loc main_arg1) (ix2 (⟨t.val / 16 * 512 + r.val, by have := t.isLt; have : cfg0.N = 256 := N_0; omega⟩ : Fin 8192)
          (⟨(t.val % 4 * 4 + t.val / 4 % 4) * 512 + x.val, by omega⟩ : Fin 8192))) := by
  rw [← gates_apply]
  blk_ext [iblk, V_gates, idx1 t]

theorem arr3 (m : (ℓ : Loc nD τ sig) → Buf (Elt Ideal) ℓ) (c : Dev nD) :
    (dats (F := Ideal) m 0 c).arrAt 3 cfg0.N
      = dgates (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]
  frame_out
  obtain ⟨r, x, rfl⟩ : ∃ (r x : Fin 512), y = ix2 r x := ⟨y 0, y 1, by ext a; fin_cases a <;> rfl⟩
  refine (pay3 _ _ _ r x).trans ?_
  rw [sBlk m c t r x]
  unfold dgates
  refine congrArg₂ (· * ·) (congrArg₂ (· * ·) ?_ ?_) (congrArg (fun v : EReal => sg v * (1 - sg v)) ?_)
  · blk_ext [iblk, V_main_arg0, idx0 t, idx3 t]
  · blk_ext [iblk, V_main_arg2, idx2 t, idx3 t]
  · blk_ext [idx3 t]

theorem arr4 (m : (ℓ : Loc nD τ sig) → Buf (Elt Ideal) ℓ) (c : Dev nD) :
    (dats (F := Ideal) m 0 c).arrAt 4 cfg0.N
      = dproj (m ((c.tc : Thread nD τ).loc main_arg0)) (m ((c.tc : Thread nD τ).loc main_arg1)) := by
  refine (dats m 0 c).arrAt_eq_of_covers 4 _ (by decide +kernel) fun t hf y => ?_
  blk_simp
  rw [after0_4]
  frame_out
  obtain ⟨r, x, rfl⟩ : ∃ (r x : Fin 512), y = ix2 r x := ⟨y 0, y 1, by ext a; fin_cases a <;> rfl⟩
  refine (pay4 _ _ r x).trans ?_
  rw [sBlk m c t r x]
  unfold dproj
  refine congrArg₂ (· * ·) ?_ (congrArg sg ?_)
  · blk_ext [iblk, V_main_arg0, idx0 t, idx4 t]
  · blk_ext [idx4 t]

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v7_0) = dgates (m ((c.tc : Thread nD τ).loc main_arg0)) (m ((c.tc : Thread nD τ).loc main_arg1)) (m ((c.tc : Thread nD τ).loc main_arg2))
      ∧ r.2.mem ((c.tc : Thread nD τ).loc main_v7_1) = dproj (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun _ h c => ⟨(h c).1.trans (arr3 m c), (h c).2.1.trans (arr4 m c), (h c).2.2⟩) (Cert.MergeBwdIdeal.Value.run_blocks (F := Ideal) m ρ)

end Cert.MergeBwdIdeal.Val

namespace Cert.MergeBwdRefIdeal.Val

open Idealize.ShloMosaic Idealize.ShloMosaic.TcCoe Idealize.SL.Sem
open Cert.MergeBwdRefIdeal Cert.MergeBwdRefIdeal.Gen

theorem refGates (Z : FVec Ideal S8192x2048 .bf16) (L : FVec Ideal S8192x8192 .f32) (J : FVec Ideal S8192x8192 .bf16) :
    truncf .bf16 (shapeCast _ (mulf (mulf (broadcastInDim S8192x4x2048 ![0, 2] bcast_S8192x2048_S8192x4x2048_0_2 (extf .f32 Z bitsLt_bf16_f32)) (shapeCast _ (extf .f32 J bitsLt_bf16_f32) shapeCasts_S8192x8192_S8192x4x2048)) (mulf (Host.divf (broadcastInDim S8192x4x2048 ![] bcast_S_S8192x4x2048 (constant S_ .f32 0x3F800000#32)) (addf (broadcastInDim S8192x4x2048 ![] bcast_S_S8192x4x2048 (constant S_ .f32 0x3F800000#32)) (Host.exp (Host.negf (shapeCast _ L shapeCasts_S8192x8192_S8192x4x2048))))) (subf (broadcastInDim S8192x4x2048 ![] bcast_S_S8192x4x2048 (constant S_ .f32 0x3F800000#32)) (Host.divf (broadcastInDim S8192x4x2048 ![] bcast_S_S8192x4x2048 (constant S_ .f32 0x3F800000#32)) (addf (broadcastInDim S8192x4x2048 ![] bcast_S_S8192x4x2048 (constant S_ .f32 0x3F800000#32)) (Host.exp (Host.negf (shapeCast _ L shapeCasts_S8192x8192_S8192x4x2048)))))))) shapeCasts_S8192x4x2048_S8192x8192) bitsLt_bf16_f32 = Cert.MergeBwdIdeal.Val.dgates Z L J := by
  funext i
  obtain ⟨r, x, rfl⟩ : ∃ (r x : Fin 8192), i = ix2 r x := ⟨i 0, i 1, by ext a; fin_cases a <;> rfl⟩
  pointwise [Cert.MergeBwdIdeal.Val.dgates, Cert.MergeBwdIdeal.Val.sg]

theorem refProj (Z : FVec Ideal S8192x2048 .bf16) (L : FVec Ideal S8192x8192 .f32) :
    truncf .bf16 (shapeCast _ (mulf (Host.divf (broadcastInDim S8192x4x2048 ![] bcast_S_S8192x4x2048 (constant S_ .f32 0x3F800000#32)) (addf (broadcastInDim S8192x4x2048 ![] bcast_S_S8192x4x2048 (constant S_ .f32 0x3F800000#32)) (Host.exp (Host.negf (shapeCast _ L shapeCasts_S8192x8192_S8192x4x2048))))) (broadcastInDim S8192x4x2048 ![0, 2] bcast_S8192x2048_S8192x4x2048_0_2 (extf .f32 Z bitsLt_bf16_f32))) shapeCasts_S8192x4x2048_S8192x8192) bitsLt_bf16_f32 = Cert.MergeBwdIdeal.Val.dproj Z L := by
  funext i
  obtain ⟨r, x, rfl⟩ : ∃ (r x : Fin 8192), i = ix2 r x := ⟨i 0, i 1, by ext a; fin_cases a <;> rfl⟩
  pointwise [Cert.MergeBwdIdeal.Val.dproj, Cert.MergeBwdIdeal.Val.sg]
  exact mul_comm _ _

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v21) = Cert.MergeBwdIdeal.Val.dgates (m ((c.tc : Thread nD τ).loc main_arg0)) (m ((c.tc : Thread nD τ).loc main_arg1)) (m ((c.tc : Thread nD τ).loc main_arg2))
      ∧ r.2.mem ((c.tc : Thread nD τ).loc main_v22) = Cert.MergeBwdIdeal.Val.dproj (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun _ h c => ⟨(h c).1.trans (refGates _ _ _), (h c).2.1.trans (refProj _ _), (h c).2.2⟩) (Cert.MergeBwdRefIdeal.Value.run (F := Ideal) m ρ)

end Cert.MergeBwdRefIdeal.Val

end
-- ==== Proof.InValue.lean ====
/- The fused input projections: kernel and reference leave the same array. -/
module

public import proofs.«01_k».proof.Proof.Gen.InIdeal.Value
public import proofs.«01_k».proof.Proof.Gen.InRefIdeal.Run
public import Idealize.ShloMosaic.Lib.Pointwise
public import Idealize.ShloMosaic.Lib.Pipeline.ValueKit
public import Idealize.ShloMosaic.Lib.Pipeline.ReadBack

@[expose] public section

set_option maxRecDepth 16384

noncomputable section

namespace Cert.InIdeal.Val

open Idealize.ShloMosaic Idealize.ShloMosaic.TcCoe Idealize.SL.Sem
open Cert.InIdeal Cert.InIdeal.Gen

/-- Row `r`, column `x` of the product: row `r` of `A` against column `x` of the weight, the shards side by side. -/
def prod (A : FVec Ideal S8192x2048 .bf16) (B : FVec Ideal S4x2048x1792 .bf16) : FVec Ideal S8192x7168 .bf16 := fun i =>
  ∑ k : Fin 2048, (A (ix2 (⟨(i 0).val, (i 0).isLt⟩ : Fin 8192) k) : EReal)
    * B (ix3 (⟨(i 1).val / 1792, by have : (i 1).val < 7168 := (i 1).isLt; omega⟩ : Fin 4) k (⟨(i 1).val % 1792, by omega⟩ : Fin 1792))

theorem idx0 : ∀ t : Fin cfg0.N, win0_0.index t = ![t.val / 4, 0] := by decide +kernel
theorem idx1 : ∀ t : Fin cfg0.N, win0_1.index t = ![t.val % 4, 0, 0] := by decide +kernel
theorem idx2 : ∀ t : Fin cfg0.N, win0_2.index t = ![t.val / 4, t.val % 4] := by decide +kernel

theorem pay (a : FVec Ideal S1024x2048 .bf16) (b : FVec Ideal S1x2048x1792 .bf16) (r : Fin 1024) (x : Fin 1792) :
    (k0_pay1 (F := Ideal) a b (ix2 r x) : EReal) = ∑ k : Fin 2048, (a (ix2 r k) : EReal) * b (ix3 (0 : Fin 1) k x) := by
  pointwise [k0_pay1]

theorem arr (m : (ℓ : Loc nD τ sig) → Buf (Elt Ideal) ℓ) (c : Dev nD) :
    (dats (F := Ideal) m 0 c).arrAt 2 cfg0.N
      = prod (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  obtain ⟨r, x, rfl⟩ : ∃ (r : Fin 1024) (x : Fin 1792), y = ix2 r x := ⟨y 0, y 1, by ext a; fin_cases a <;> rfl⟩
  refine (pay _ _ r x).trans ?_
  unfold prod
  refine Finset.sum_congr rfl fun k _ => ?_
  congr 1 <;> blk_ext [iblk, V_main_arg0, V_main_arg1, idx0 t, idx1 t, idx2 t]

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun _ h c => ⟨(h c).1.trans (arr m c), (h c).2⟩) (Cert.InIdeal.Value.run_blocks (F := Ideal) m ρ)

end Cert.InIdeal.Val

namespace Cert.InRefIdeal.Val

open Idealize.ShloMosaic Idealize.ShloMosaic.TcCoe Idealize.SL.Sem
open Cert.InRefIdeal Cert.InRefIdeal.Gen

theorem ref (A : FVec Ideal S8192x2048 .bf16) (B : FVec Ideal S4x2048x1792 .bf16) :
    truncf .bf16 (Host.dotGeneral dot_S8192x2048_S2048x7168_S8192x7168_1_0_0_1_n_n none (extf .f32 A bitsLt_bf16_f32) (shapeCast _ (transpose S2048x4x1792 [1, 0, 2] (extf .f32 B bitsLt_bf16_f32) transposes_S4x2048x1792_S2048x4x1792_1_0_2) shapeCasts_S2048x4x1792_S2048x7168)) bitsLt_bf16_f32 = Cert.InIdeal.Val.prod A B := by
  funext i
  obtain ⟨r, x, rfl⟩ : ∃ (r : Fin 8192) (x : Fin 7168), i = ix2 r x := ⟨i 0, i 1, by ext a; fin_cases a <;> rfl⟩
  pointwise [Cert.InIdeal.Val.prod]

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v5) = Cert.InIdeal.Val.prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun _ h c => ⟨(h c).1.trans (ref _ _), (h c).2⟩) (Cert.InRefIdeal.Value.run (F := Ideal) m ρ)

end Cert.InRefIdeal.Val

end
-- ==== Proof.OutValue.lean ====
/- The output projection and the residual sum: kernel and reference leave the same arrays. -/
module

public import proofs.«01_k».proof.Proof.Gen.OutIdeal.Value
public import proofs.«01_k».proof.Proof.Gen.OutRefIdeal.Run
public import Idealize.ShloMosaic.Lib.Pointwise
public import Idealize.ShloMosaic.Lib.Pipeline.ValueKit
public import Idealize.ShloMosaic.Lib.Pipeline.ReadBack

@[expose] public section

set_option maxRecDepth 16384

noncomputable section

namespace Cert.OutIdeal.Val

open Idealize.ShloMosaic Idealize.ShloMosaic.TcCoe Idealize.SL.Sem
open Cert.OutIdeal Cert.OutIdeal.Gen

/-- Row `r`, column `x` of the product: row `r` of `A` against column `x` of the weight, the shards stacked. -/
def prod (A : FVec Ideal S8192x2048 .bf16) (B : FVec Ideal S4x512x2048 .bf16) : FVec Ideal S8192x2048 .bf16 := fun i =>
  ∑ k : Fin 2048, (A (ix2 (⟨(i 0).val, (i 0).isLt⟩ : Fin 8192) k) : EReal)
    * B (ix3 (⟨k.val / 512, by omega⟩ : Fin 4) (⟨k.val % 512, by omega⟩ : Fin 512) (⟨(i 1).val, (i 1).isLt⟩ : Fin 2048))

/-- The layer's output: its input and the gated product. -/
def resid (A : FVec Ideal S8192x2048 .bf16) (B : FVec Ideal S4x512x2048 .bf16) (X : FVec Ideal S8192x2048 .f32)
    (G : FVec Ideal S1x2048 .f32) : FVec Ideal S8192x2048 .f32 := fun i =>
  (X i : EReal) + G (ix2 (0 : Fin 1) (⟨(i 1).val, (i 1).isLt⟩ : Fin 2048)) * prod A B i

theorem idx0 : ∀ t : Fin cfg0.N, win0_0.index t = ![t.val / 2, 0] := by decide +kernel
theorem idx1 : ∀ t : Fin cfg0.N, win0_1.index t = ![0, 0, t.val % 2] := by decide +kernel
theorem idx2 : ∀ t : Fin cfg0.N, win0_2.index t = ![t.val / 2, t.val % 2] := by decide +kernel
theorem idx3 : ∀ t : Fin cfg0.N, win0_3.index t = ![0, t.val % 2] := by decide +kernel
theorem idx4 : ∀ t : Fin cfg0.N, win0_4.index t = ![t.val / 2, t.val % 2] := by decide +kernel
theorem idx5 : ∀ t : Fin cfg0.N, win0_5.index t = ![t.val / 2, t.val % 2] := by decide +kernel

/-- A block of the product, from a block of rows of `A` and the four shards' rows of a block of columns of the weight. -/
def four (a : FVec Ideal S1024x2048 .bf16) (b0 b1 b2 b3 : FVec Ideal S1x512x1024 .bf16) (r x : Fin 1024) : EReal :=
  ∑ k : Fin 512, (a (ix2 r (⟨k.val, by omega⟩ : Fin 2048)) : EReal) * b0 (ix3 (0 : Fin 1) k x)
    + ∑ k : Fin 512, (a (ix2 r (⟨512 + k.val, by omega⟩ : Fin 2048)) : EReal) * b1 (ix3 (0 : Fin 1) k x)
    + ∑ k : Fin 512, (a (ix2 r (⟨1024 + k.val, by omega⟩ : Fin 2048)) : EReal) * b2 (ix3 (0 : Fin 1) k x)
    + ∑ k : Fin 512, (a (ix2 r (⟨1536 + k.val, by omega⟩ : Fin 2048)) : EReal) * b3 (ix3 (0 : Fin 1) k x)

theorem pay1 (a : FVec Ideal S1024x2048 .bf16) (b0 b1 b2 b3 : FVec Ideal S1x512x1024 .bf16) (r x : Fin 1024) :
    (k0_pay1 (F := Ideal) a b0 b1 b2 b3 (ix2 r x) : EReal) = four a b0 b1 b2 b3 r x := by
  pointwise [k0_pay1, four]

theorem pay2 (a : FVec Ideal S1024x2048 .bf16) (b0 b1 b2 b3 : FVec Ideal S1x512x1024 .bf16) (v : FVec Ideal S1024x1024 .f32)
    (g : FVec Ideal S1x1024 .f32) (r x : Fin 1024) :
    (k0_pay2 (F := Ideal) a b0 b1 b2 b3 v g (ix2 r x) : EReal)
      = v (ix2 r x) + g (ix2 (0 : Fin 1) x) * k0_pay1 (F := Ideal) a b0 b1 b2 b3 (ix2 r x) := by
  pointwise [k0_pay2]

theorem pay3 (a : FVec Ideal S1024x2048 .bf16) (b0 b1 b2 b3 : FVec Ideal S1x512x1024 .bf16) (r x : Fin 1024) :
    (k0_pay3 (F := Ideal) a b0 b1 b2 b3 (ix2 r x) : EReal) = k0_pay1 (F := Ideal) a b0 b1 b2 b3 (ix2 r x) := by
  pointwise [k0_pay3]

theorem slice0 (b : FVec Ideal S4x512x1024 .bf16) (k : Fin 512) (x : Fin 1024) :
    (View.ld (Val := Elt Ideal) (e' := .bf16) b r0_1 (ix3 (0 : Fin 1) k x) : EReal) = b (ix3 (0 : Fin 4) k x) := by
  refine View.ld_unit_apply_of _ _ _ _ _ _ fun a => ?_
  fin_cases a
  · rfl
  · exact (Nat.zero_add _).symm
  · exact (Nat.zero_add _).symm

theorem slice1 (b : FVec Ideal S4x512x1024 .bf16) (k : Fin 512) (x : Fin 1024) :
    (View.ld (Val := Elt Ideal) (e' := .bf16) b r0_2 (ix3 (0 : Fin 1) k x) : EReal) = b (ix3 (1 : Fin 4) k x) := by
  refine View.ld_unit_apply_of _ _ _ _ _ _ fun a => ?_
  fin_cases a
  · rfl
  · exact (Nat.zero_add _).symm
  · exact (Nat.zero_add _).symm

theorem slice2 (b : FVec Ideal S4x512x1024 .bf16) (k : Fin 512) (x : Fin 1024) :
    (View.ld (Val := Elt Ideal) (e' := .bf16) b r0_3 (ix3 (0 : Fin 1) k x) : EReal) = b (ix3 (2 : Fin 4) k x) := by
  refine View.ld_unit_apply_of _ _ _ _ _ _ fun a => ?_
  fin_cases a
  · rfl
  · exact (Nat.zero_add _).symm
  · exact (Nat.zero_add _).symm

theorem slice3 (b : FVec Ideal S4x512x1024 .bf16) (k : Fin 512) (x : Fin 1024) :
    (View.ld (Val := Elt Ideal) (e' := .bf16) b r0_4 (ix3 (0 : Fin 1) k x) : EReal) = b (ix3 (3 : Fin 4) k x) := by
  refine View.ld_unit_apply_of _ _ _ _ _ _ fun a => ?_
  fin_cases a
  · rfl
  · exact (Nat.zero_add _).symm
  · exact (Nat.zero_add _).symm

variable (m : (ℓ : Loc nD τ sig) → Buf (Elt Ideal) ℓ) (c : Dev nD)

set_option maxHeartbeats 1000000 in
theorem arr5 :
    (dats (F := Ideal) m 0 c).arrAt 5 cfg0.N
      = prod (m ((c.tc : Thread nD τ).loc main_arg0)) (m ((c.tc : Thread nD τ).loc main_arg1)) := by
  refine (dats m 0 c).arrAt_eq_of_covers 5 _ (by decide +kernel) fun t hf y => ?_
  blk_simp
  rw [after0_5]
  frame_out
  obtain ⟨r, x, rfl⟩ : ∃ (r : Fin 1024) (x : Fin 1024), y = ix2 r x := ⟨y 0, y 1, by ext a; fin_cases a <;> rfl⟩
  refine (pay3 _ _ _ _ _ r x).trans ((pay1 _ _ _ _ _ r x).trans ?_)
  unfold prod four
  refine Eq.trans ?_ (Fin.sum_mul_add_fin 4 512 _)
  rw [Fin.sum_univ_four]
  congr 1
  · congr 1
    · congr 1
      · refine Finset.sum_congr rfl fun k _ => ?_
        rw [slice0]
        congr 1 <;> blk_ext [iblk, V_main_arg0, V_main_arg1, idx0 t, idx1 t, idx5 t]
      · refine Finset.sum_congr rfl fun k _ => ?_
        rw [slice1]
        congr 1 <;> blk_ext [iblk, V_main_arg0, V_main_arg1, idx0 t, idx1 t, idx5 t]
    · refine Finset.sum_congr rfl fun k _ => ?_
      rw [slice2]
      congr 1 <;> blk_ext [iblk, V_main_arg0, V_main_arg1, idx0 t, idx1 t, idx5 t]
  · refine Finset.sum_congr rfl fun k _ => ?_
    rw [slice3]
    congr 1 <;> blk_ext [iblk, V_main_arg0, V_main_arg1, idx0 t, idx1 t, idx5 t]

set_option maxHeartbeats 1000000 in
theorem arr4 :
    (dats (F := Ideal) m 0 c).arrAt 4 cfg0.N
      = resid (m ((c.tc : Thread nD τ).loc main_arg0)) (m ((c.tc : Thread nD τ).loc main_arg1))
          (m ((c.tc : Thread nD τ).loc main_arg2)) (m ((c.tc : Thread nD τ).loc main_arg3)) := by
  refine (dats m 0 c).arrAt_eq_of_covers 4 _ (by decide +kernel) fun t hf y => ?_
  blk_simp
  rw [after0_4]
  frame_out
  obtain ⟨r, x, rfl⟩ : ∃ (r : Fin 1024) (x : Fin 1024), y = ix2 r x := ⟨y 0, y 1, by ext a; fin_cases a <;> rfl⟩
  refine (pay2 _ _ _ _ _ _ _ r x).trans ?_
  rw [pay1]
  unfold resid
  refine congrArg₂ (· + ·) ?_ (congrArg₂ (· * ·) ?_ ?_)
  · blk_ext [iblk, V_main_arg2, idx2 t, idx4 t]
  · blk_ext [iblk, V_main_arg3, idx3 t, idx4 t]
  · unfold prod four
    refine Eq.trans ?_ (Fin.sum_mul_add_fin 4 512 _)
    rw [Fin.sum_univ_four]
    congr 1
    · congr 1
      · congr 1
        · refine Finset.sum_congr rfl fun k _ => ?_
          rw [slice0]
          congr 1 <;> blk_ext [iblk, V_main_arg0, V_main_arg1, idx0 t, idx1 t, idx4 t]
        · refine Finset.sum_congr rfl fun k _ => ?_
          rw [slice1]
          congr 1 <;> blk_ext [iblk, V_main_arg0, V_main_arg1, idx0 t, idx1 t, idx4 t]
      · refine Finset.sum_congr rfl fun k _ => ?_
        rw [slice2]
        congr 1 <;> blk_ext [iblk, V_main_arg0, V_main_arg1, idx0 t, idx1 t, idx4 t]
    · refine Finset.sum_congr rfl fun k _ => ?_
      rw [slice3]
      congr 1 <;> blk_ext [iblk, V_main_arg0, V_main_arg1, idx0 t, idx1 t, idx4 t]

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0_0) = resid (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v0_1) = prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun _ h c => ⟨(h c).1.trans (arr4 m c), (h c).2.1.trans (arr5 m c), (h c).2.2⟩) (Cert.OutIdeal.Value.run_blocks (F := Ideal) m ρ)

end Cert.OutIdeal.Val

namespace Cert.OutRefIdeal.Val

open Idealize.ShloMosaic Idealize.ShloMosaic.TcCoe Idealize.SL.Sem
open Cert.OutRefIdeal Cert.OutRefIdeal.Gen

theorem refResid (A : FVec Ideal S8192x2048 .bf16) (B : FVec Ideal S4x512x2048 .bf16) (X : FVec Ideal S8192x2048 .f32) (G : FVec Ideal S1x2048 .f32) :
    addf X (mulf (broadcastInDim S8192x2048 ![0, 1] bcast_S1x2048_S8192x2048_0_1 G) (Host.dotGeneral dot_S8192x2048_S2048x2048_S8192x2048_1_0_0_1_n_n none (extf .f32 A bitsLt_bf16_f32) (shapeCast _ (extf .f32 B bitsLt_bf16_f32) shapeCasts_S4x512x2048_S2048x2048))) = Cert.OutIdeal.Val.resid A B X G := by
  funext i
  obtain ⟨r, x, rfl⟩ : ∃ (r : Fin 8192) (x : Fin 2048), i = ix2 r x := ⟨i 0, i 1, by ext a; fin_cases a <;> rfl⟩
  pointwise [Cert.OutIdeal.Val.resid, Cert.OutIdeal.Val.prod]

theorem ref (A : FVec Ideal S8192x2048 .bf16) (B : FVec Ideal S4x512x2048 .bf16) :
    truncf .bf16 (Host.dotGeneral dot_S8192x2048_S2048x2048_S8192x2048_1_0_0_1_n_n none (extf .f32 A bitsLt_bf16_f32) (shapeCast _ (extf .f32 B bitsLt_bf16_f32) shapeCasts_S4x512x2048_S2048x2048)) bitsLt_bf16_f32 = Cert.OutIdeal.Val.prod A B := by
  funext i
  obtain ⟨r, x, rfl⟩ : ∃ (r : Fin 8192) (x : Fin 2048), i = ix2 r x := ⟨i 0, i 1, by ext a; fin_cases a <;> rfl⟩
  pointwise [Cert.OutIdeal.Val.prod]

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v6) = Cert.OutIdeal.Val.resid (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v7) = Cert.OutIdeal.Val.prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun _ h c => ⟨(h c).1.trans (refResid _ _ _ _), (h c).2.1.trans (ref _ _), (h c).2.2⟩) (Cert.OutRefIdeal.Value.run (F := Ideal) m ρ)

end Cert.OutRefIdeal.Val

end
-- ==== Proof.MergeValue.lean ====
/- The merge of the branches: its gates, its projections and their gated sum: kernel and reference leave the same arrays. -/
module

public import proofs.«01_k».proof.Proof.Gen.MergeIdeal.Value
public import proofs.«01_k».proof.Proof.Gen.MergeRefIdeal.Run
public import Idealize.ShloMosaic.Lib.Pointwise
public import Idealize.ShloMosaic.Lib.Pipeline.ValueKit
public import Idealize.ShloMosaic.Lib.Pipeline.ReadBack

@[expose] public section

set_option maxRecDepth 16384

noncomputable section

namespace Cert.MergeIdeal.Val

open Idealize.ShloMosaic Idealize.ShloMosaic.TcCoe Idealize.SL.Sem
open Cert.MergeIdeal Cert.MergeIdeal.Gen

/-- The logistic function of a logit. -/
def sg (x : EReal) : EReal := Ideal.div 1 (1 + Ideal.exp (-x))

/-- The logit of branch `n`'s gate at row `r`, column `x`. -/
def logit (H : FVec Ideal S8192x2048 .bf16) (W : FVec Ideal S4x2048x2048 .bf16) (r : Fin 8192) (n : Fin 4) (x : Fin 2048) : EReal :=
  ∑ k : Fin 2048, (H (ix2 r k) : EReal) * W (ix3 n k x)

/-- Branch `n`'s projection at row `r`, column `x`: the branch's columns of row `r` of `R` against its weight, the shards side by side. -/
def projAt (R : FVec Ideal S8192x2048 .bf16) (B : FVec Ideal S4x4x512x512 .bf16) (r : Fin 8192) (n : Fin 4) (x : Fin 2048) : EReal :=
  ∑ k : Fin 512, (R (ix2 r (⟨n.val * 512 + k.val, by omega⟩ : Fin 2048)) : EReal)
    * B (ix4 (⟨x.val / 512, by omega⟩ : Fin 4) n k (⟨x.val % 512, by omega⟩ : Fin 512))

/-- The gates, the branches side by side. -/
def gates (H : FVec Ideal S8192x2048 .bf16) (W : FVec Ideal S4x2048x2048 .bf16) : FVec Ideal S8192x8192 .bf16 := fun i =>
  sg (logit H W (⟨(i 0).val, (i 0).isLt⟩ : Fin 8192) (⟨(i 1).val / 2048, by have : (i 1).val < 8192 := (i 1).isLt; omega⟩ : Fin 4) (⟨(i 1).val % 2048, by omega⟩ : Fin 2048))

/-- The projections, the branches side by side. -/
def proj (R : FVec Ideal S8192x2048 .bf16) (B : FVec Ideal S4x4x512x512 .bf16) : FVec Ideal S8192x8192 .bf16 := fun i =>
  projAt R B (⟨(i 0).val, (i 0).isLt⟩ : Fin 8192) (⟨(i 1).val / 2048, by have : (i 1).val < 8192 := (i 1).isLt; omega⟩ : Fin 4) (⟨(i 1).val % 2048, by omega⟩ : Fin 2048)

/-- The merged branches: at each row and column the sum over the branches of gate times projection. -/
def merged (H : FVec Ideal S8192x2048 .bf16) (W : FVec Ideal S4x2048x2048 .bf16) (R : FVec Ideal S8192x2048 .bf16)
    (B : FVec Ideal S4x4x512x512 .bf16) : FVec Ideal S8192x2048 .bf16 := fun i =>
  ∑ n : Fin 4, sg (logit H W (⟨(i 0).val, (i 0).isLt⟩ : Fin 8192) n (⟨(i 1).val, (i 1).isLt⟩ : Fin 2048))
    * projAt R B (⟨(i 0).val, (i 0).isLt⟩ : Fin 8192) n (⟨(i 1).val, (i 1).isLt⟩ : Fin 2048)

theorem idx0 : ∀ t : Fin cfg0.N, win0_0.index t = ![t.val / 16, 0] := by decide +kernel
theorem idx1 : ∀ t : Fin cfg0.N, win0_1.index t = ![t.val % 4, 0, t.val / 4 % 4] := by decide +kernel
theorem idx2 : ∀ t : Fin cfg0.N, win0_2.index t = ![t.val / 16, t.val % 4] := by decide +kernel
theorem idx3 : ∀ t : Fin cfg0.N, win0_3.index t = ![t.val / 4 % 4, t.val % 4, 0, 0] := by decide +kernel
theorem idx4 : ∀ t : Fin cfg0.N, win0_4.index t = ![t.val / 16, t.val % 4 * 4 + t.val / 4 % 4] := by decide +kernel
theorem idx5 : ∀ t : Fin cfg0.N, win0_5.index t = ![t.val / 16, t.val % 4 * 4 + t.val / 4 % 4] := by decide +kernel
theorem idx6 : ∀ t : Fin cfg0.N, win0_6.index t = ![t.val / 16, t.val / 4 % 4] := by decide +kernel

theorem pay2 (a : FVec Ideal S1024x2048 .bf16) (w : FVec Ideal S1x2048x512 .bf16) (r : Fin 1024) (x : Fin 512) :
    (k0_pay2 (F := Ideal) a w (ix2 r x) : EReal) = sg (∑ k : Fin 2048, (a (ix2 r k) : EReal) * w (ix3 (0 : Fin 1) k x)) := by
  pointwise [k0_pay2, sg]
  rw [zero_sub]

theorem pay3 (b : FVec Ideal S1024x512 .bf16) (w : FVec Ideal S1x1x512x512 .bf16) (r : Fin 1024) (x : Fin 512) :
    (k0_pay3 (F := Ideal) b w (ix2 r x) : EReal) = ∑ k : Fin 512, (b (ix2 r k) : EReal) * w (ix4 (0 : Fin 1) (0 : Fin 1) k x) := by
  pointwise [k0_pay3]

theorem pay4 (a : FVec Ideal S1024x2048 .bf16) (w : FVec Ideal S1x2048x512 .bf16) (r : Fin 1024) (x : Fin 512) :
    (k0_pay4 (F := Ideal) a w (ix2 r x) : EReal) = k0_pay2 (F := Ideal) a w (ix2 r x) := by
  pointwise [k0_pay4]

theorem pay5 (b : FVec Ideal S1024x512 .bf16) (w : FVec Ideal S1x1x512x512 .bf16) (r : Fin 1024) (x : Fin 512) :
    (k0_pay5 (F := Ideal) b w (ix2 r x) : EReal) = k0_pay3 (F := Ideal) b w (ix2 r x) := by
  pointwise [k0_pay5]

theorem pay6 (a : FVec Ideal S1024x2048 .bf16) (w : FVec Ideal S1x2048x512 .bf16) (b : FVec Ideal S1024x512 .bf16)
    (v : FVec Ideal S1x1x512x512 .bf16) (r : Fin 1024) (x : Fin 512) :
    (k0_pay6 (F := Ideal) a w b v (ix2 r x) : EReal) = k0_pay2 (F := Ideal) a w (ix2 r x) * k0_pay3 (F := Ideal) b v (ix2 r x) := by
  pointwise [k0_pay6]

theorem pay7 (a : FVec Ideal S1024x2048 .bf16) (w : FVec Ideal S1x2048x512 .bf16) (b : FVec Ideal S1024x512 .bf16)
    (v : FVec Ideal S1x1x512x512 .bf16) (acc : FVec Ideal S1024x512 .f32) (r : Fin 1024) (x : Fin 512) :
    (k0_pay7 (F := Ideal) a w b v acc (ix2 r x) : EReal)
      = acc (ix2 r x) + k0_pay2 (F := Ideal) a w (ix2 r x) * k0_pay3 (F := Ideal) b v (ix2 r x) := by
  pointwise [k0_pay7]

theorem pay1 (acc : FVec Ideal S1024x512 .f32) (r : Fin 1024) (x : Fin 512) :
    (k0_pay1 (F := Ideal) acc (ix2 r x) : EReal) = acc (ix2 r x) := by
  pointwise [k0_pay1]

variable (m : (ℓ : Loc nD τ sig) → Buf (Elt Ideal) ℓ) (c : Dev nD)

/-- The gate and the projection point `t` computes at row `r`, column `x` of its block. -/
def gBlk (r : Fin 1024) (x : Fin 512) (t : Fin cfg0.N) : EReal := k0_pay2 (F := Ideal) (iblk m c 0 t) (iblk m c 1 t) (ix2 r x)
def pBlk (r : Fin 1024) (x : Fin 512) (t : Fin cfg0.N) : EReal := k0_pay3 (F := Ideal) (iblk m c 2 t) (iblk m c 3 t) (ix2 r x)

/-- What point `t` adds at row `r`, column `x` of the merged branches. -/
def part (r : Fin 1024) (x : Fin 512) (t : Fin cfg0.N) : EReal := gBlk m c r x t * pBlk m c r x t

/-- What every point leaves: its gates, its projections, and the running sum, started anew at the first of a run of four. -/
theorem outs (t : Fin cfg0.N) (r : Fin 1024) (x : Fin 512) :
    ((outsAt0 m c t.val t.isLt).1 (ix2 r x) : EReal) = gBlk m c r x t
      ∧ ((outsAt0 m c t.val t.isLt).2.1 (ix2 r x) : EReal) = pBlk m c r x t := by
  by_cases h : t.val % 4 = 0
  · rw [outsAt0_A m c t h (by omega) (by omega)]
    refine ⟨?_, ?_⟩
    · frame_out
      exact pay4 _ _ r x
    · frame_out
      exact pay5 _ _ r x
  · by_cases hl : t.val % 4 = 3
    · rw [outsAt0_C m c t h (by omega) hl]
      refine ⟨?_, ?_⟩
      · frame_out
        exact pay4 _ _ r x
      · frame_out
        exact pay5 _ _ r x
    · rw [outsAt0_B m c t h (by omega) hl]
      refine ⟨?_, ?_⟩
      · frame_out
        exact pay4 _ _ r x
      · frame_out
        exact pay5 _ _ r x

theorem first (t : Fin cfg0.N) (h : t.val % 4 = 0) (r : Fin 1024) (x : Fin 512) :
    ((outsAt0 m c t.val t.isLt).2.2.2 (ix2 r x) : EReal) = part m c r x t := by
  rw [outsAt0_A m c t h (by omega) (by omega)]
  frame_out
  exact pay6 _ _ _ _ r x

theorem next (t : Fin cfg0.N) (h : ¬t.val % 4 = 0) (r : Fin 1024) (x : Fin 512) :
    ((outsAt0 m c t.val t.isLt).2.2.2 (ix2 r x) : EReal)
      = (outsAt0 m c (t.val - 1) (Nat.lt_of_le_of_lt (Nat.sub_le _ _) t.isLt)).2.2.2 (ix2 r x) + part m c r x t := by
  by_cases hl : t.val % 4 = 3
  · rw [outsAt0_C m c t h (by omega) hl]
    frame_out
    simp only [read_unread_whole]
    exact pay7 _ _ _ _ _ r x
  · rw [outsAt0_B m c t h (by omega) hl]
    frame_out
    simp only [read_unread_whole]
    exact pay7 _ _ _ _ _ r x

theorem total (t : Fin cfg0.N) (h : t.val % 4 = 3) (r : Fin 1024) (x : Fin 512) :
    ((outsAt0 m c t.val t.isLt).2.2.2 (ix2 r x) : EReal)
      = ∑ s : Fin 4, part m c r x ⟨4 * (t.val / 4) + s.val, Pipeline.run_point_lt_of_flush t h s⟩ := by
  rw [Pipeline.eq_sum_fin_of_reset_step_of_flush (fun n h => ((outsAt0 m c n h).2.2.2 (ix2 r x) : EReal)) 4 0 (part m c r x)
    (fun t h => by rw [zero_add]; exact first m c t h r x) (fun t h => next m c t h r x) t h, zero_add]

theorem last (t : Fin cfg0.N) (h : t.val % 4 = 3) (r : Fin 1024) (x : Fin 512) :
    ((outsAt0 m c t.val t.isLt).2.2.1 (ix2 r x) : EReal) = (outsAt0 m c t.val t.isLt).2.2.2 (ix2 r x) := by
  rw [outsAt0_C m c t (by omega) (by omega) h]
  frame_out
  exact pay1 _ r x

/-- The gate point `t` computes is the gate of its rows, its branch and its columns. -/
theorem gBlk_eq (t : Fin cfg0.N) (r : Fin 1024) (x : Fin 512) (R : Fin 8192) (n : Fin 4) (X : Fin 2048)
    (hR : R.val = t.val / 16 * 1024 + r.val) (hn : n.val = t.val % 4) (hX : X.val = t.val / 4 % 4 * 512 + x.val) :
    gBlk m c r x t = sg (logit (m ((c.tc : Thread nD τ).loc main_arg0)) (m ((c.tc : Thread nD τ).loc main_arg1)) R n X) := by
  obtain ⟨R, bR⟩ := R
  obtain ⟨n, bn⟩ := n
  obtain ⟨X, bX⟩ := X
  dsimp only at hR hn hX
  subst hR hn hX
  refine (pay2 _ _ r x).trans ?_
  unfold logit
  refine congrArg sg (Finset.sum_congr rfl fun k _ => congrArg₂ (· * ·) ?_ ?_)
  · blk_ext [iblk, V_main_arg0, idx0 t]
  · blk_ext [iblk, V_main_arg1, idx1 t]

/-- The projection point `t` computes is the projection of its rows, its branch and its columns. -/
theorem pBlk_eq (t : Fin cfg0.N) (r : Fin 1024) (x : Fin 512) (R : Fin 8192) (n : Fin 4) (X : Fin 2048)
    (hR : R.val = t.val / 16 * 1024 + r.val) (hn : n.val = t.val % 4) (hX : X.val = t.val / 4 % 4 * 512 + x.val) :
    pBlk m c r x t = projAt (m ((c.tc : Thread nD τ).loc main_arg2)) (m ((c.tc : Thread nD τ).loc main_arg3)) R n X := by
  obtain ⟨R, bR⟩ := R
  obtain ⟨n, bn⟩ := n
  obtain ⟨X, bX⟩ := X
  dsimp only at hR hn hX
  subst hR hn hX
  refine (pay3 _ _ r x).trans ?_
  unfold projAt
  refine Finset.sum_congr rfl fun k _ => congrArg₂ (· * ·) ?_ ?_
  · blk_ext [iblk, V_main_arg2, idx2 t]
  · blk_ext [iblk, V_main_arg3, idx3 t]

theorem arr4 :
    (dats (F := Ideal) m 0 c).arrAt 4 cfg0.N
      = gates (m ((c.tc : Thread nD τ).loc main_arg0)) (m ((c.tc : Thread nD τ).loc main_arg1)) := by
  refine (dats m 0 c).arrAt_eq_of_covers 4 _ (by decide +kernel) fun t hf y => ?_
  blk_simp
  rw [after0_4]
  obtain ⟨r, x, rfl⟩ : ∃ (r : Fin 1024) (x : Fin 512), y = ix2 r x := ⟨y 0, y 1, by ext a; fin_cases a <;> rfl⟩
  refine (outs m c t r x).1.trans ?_
  refine gBlk_eq m c t r x _ _ _ ?_ ?_ ?_
  · blk_simp [idx4 t]
    try (dsimp only; omega)
  · blk_simp [idx4 t]
    try (dsimp only; omega)
  · blk_simp [idx4 t]
    try (dsimp only; omega)

theorem arr5 :
    (dats (F := Ideal) m 0 c).arrAt 5 cfg0.N
      = proj (m ((c.tc : Thread nD τ).loc main_arg2)) (m ((c.tc : Thread nD τ).loc main_arg3)) := by
  refine (dats m 0 c).arrAt_eq_of_covers 5 _ (by decide +kernel) fun t hf y => ?_
  blk_simp
  rw [after0_5]
  obtain ⟨r, x, rfl⟩ : ∃ (r : Fin 1024) (x : Fin 512), y = ix2 r x := ⟨y 0, y 1, by ext a; fin_cases a <;> rfl⟩
  refine (outs m c t r x).2.trans ?_
  refine pBlk_eq m c t r x _ _ _ ?_ ?_ ?_
  · blk_simp [idx5 t]
    try (dsimp only; omega)
  · blk_simp [idx5 t]
    try (dsimp only; omega)
  · blk_simp [idx5 t]
    try (dsimp only; omega)

theorem arr6 :
    (dats (F := Ideal) m 0 c).arrAt 6 cfg0.N
      = merged (m ((c.tc : Thread nD τ).loc main_arg0)) (m ((c.tc : Thread nD τ).loc main_arg1))
          (m ((c.tc : Thread nD τ).loc main_arg2)) (m ((c.tc : Thread nD τ).loc main_arg3)) := by
  refine (dats m 0 c).arrAt_eq_of_covers 6 _ (by decide +kernel) fun t hf y => ?_
  blk_simp
  rw [after0_6]
  obtain ⟨r, x, rfl⟩ : ∃ (r : Fin 1024) (x : Fin 512), y = ix2 r x := ⟨y 0, y 1, by ext a; fin_cases a <;> rfl⟩
  have h : t.val % 4 = 3 := (flush0_6 t).mp hf
  refine (last m c t h r x).trans ((total m c t h r x).trans ?_)
  unfold merged part
  refine Finset.sum_congr rfl fun s _ => congrArg₂ (· * ·) (gBlk_eq m c _ r x _ _ _ ?_ ?_ ?_) (pBlk_eq m c _ r x _ _ _ ?_ ?_ ?_)
  · blk_simp [idx6 t]
    try (dsimp only; omega)
  · dsimp only; omega
  · blk_simp [idx6 t]
    try (dsimp only; omega)
  · blk_simp [idx6 t]
    try (dsimp only; omega)
  · dsimp only; omega
  · blk_simp [idx6 t]
    try (dsimp only; omega)

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0_0) = gates (m ((c.tc : Thread nD τ).loc main_arg0)) (m ((c.tc : Thread nD τ).loc main_arg1))
      ∧ r.2.mem ((c.tc : Thread nD τ).loc main_v0_1) = proj (m ((c.tc : Thread nD τ).loc main_arg2)) (m ((c.tc : Thread nD τ).loc main_arg3))
      ∧ r.2.mem ((c.tc : Thread nD τ).loc main_v0_2) = merged (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun _ h c => ⟨(h c).1.trans (arr4 m c), (h c).2.1.trans (arr5 m c), (h c).2.2.1.trans (arr6 m c), (h c).2.2.2⟩) (Cert.MergeIdeal.Value.run_blocks (F := Ideal) m ρ)

end Cert.MergeIdeal.Val

namespace Cert.MergeRefIdeal.Val

open Idealize.ShloMosaic Idealize.ShloMosaic.TcCoe Idealize.SL.Sem
open Cert.MergeRefIdeal Cert.MergeRefIdeal.Gen

theorem refGates (H : FVec Ideal S8192x2048 .bf16) (W : FVec Ideal S4x2048x2048 .bf16) :
    truncf .bf16 (Host.divf (broadcastInDim S8192x8192 ![] bcast_S_S8192x8192 (constant S_ .f32 0x3F800000#32)) (addf (broadcastInDim S8192x8192 ![] bcast_S_S8192x8192 (constant S_ .f32 0x3F800000#32)) (Host.exp (Host.negf (Host.dotGeneral dot_S8192x2048_S2048x8192_S8192x8192_1_0_0_1_n_n none (extf .f32 H bitsLt_bf16_f32) (shapeCast _ (transpose S2048x4x2048 [1, 0, 2] (extf .f32 W bitsLt_bf16_f32) transposes_S4x2048x2048_S2048x4x2048_1_0_2) shapeCasts_S2048x4x2048_S2048x8192)))))) bitsLt_bf16_f32 = Cert.MergeIdeal.Val.gates H W := by
  funext i
  obtain ⟨r, x, rfl⟩ : ∃ (r x : Fin 8192), i = ix2 r x := ⟨i 0, i 1, by ext a; fin_cases a <;> rfl⟩
  pointwise [Cert.MergeIdeal.Val.gates, Cert.MergeIdeal.Val.logit, Cert.MergeIdeal.Val.sg]

theorem refProj (R : FVec Ideal S8192x2048 .bf16) (B : FVec Ideal S4x4x512x512 .bf16) :
    truncf .bf16 (shapeCast _ (transpose S8192x4x2048 [2, 0, 1] (Host.dotGeneral dot_S4x512x2048_S8192x4x512_S4x2048x8192_1_2_2_0_0_1 none (shapeCast _ (transpose S4x512x4x512 [1, 2, 0, 3] (extf .f32 B bitsLt_bf16_f32) transposes_S4x4x512x512_S4x512x4x512_1_2_0_3) shapeCasts_S4x512x4x512_S4x512x2048) (shapeCast _ (extf .f32 R bitsLt_bf16_f32) shapeCasts_S8192x2048_S8192x4x512)) transposes_S4x2048x8192_S8192x4x2048_2_0_1) shapeCasts_S8192x4x2048_S8192x8192) bitsLt_bf16_f32 = Cert.MergeIdeal.Val.proj R B := by
  funext i
  obtain ⟨r, x, rfl⟩ : ∃ (r x : Fin 8192), i = ix2 r x := ⟨i 0, i 1, by ext a; fin_cases a <;> rfl⟩
  pointwise [Cert.MergeIdeal.Val.proj, Cert.MergeIdeal.Val.projAt]
  exact Finset.sum_congr rfl fun k _ => mul_comm _ _

theorem refMerged (H : FVec Ideal S8192x2048 .bf16) (W : FVec Ideal S4x2048x2048 .bf16) (R : FVec Ideal S8192x2048 .bf16) (B : FVec Ideal S4x4x512x512 .bf16) :
    truncf .bf16 (Host.reduceAdd (mulf (Host.divf (broadcastInDim S8192x4x2048 ![] bcast_S_S8192x4x2048 (constant S_ .f32 0x3F800000#32)) (addf (broadcastInDim S8192x4x2048 ![] bcast_S_S8192x4x2048 (constant S_ .f32 0x3F800000#32)) (Host.exp (Host.negf (shapeCast _ (Host.dotGeneral dot_S8192x2048_S2048x8192_S8192x8192_1_0_0_1_n_n none (extf .f32 H bitsLt_bf16_f32) (shapeCast _ (transpose S2048x4x2048 [1, 0, 2] (extf .f32 W bitsLt_bf16_f32) transposes_S4x2048x2048_S2048x4x2048_1_0_2) shapeCasts_S2048x4x2048_S2048x8192)) shapeCasts_S8192x8192_S8192x4x2048))))) (shapeCast _ (shapeCast _ (transpose S8192x4x2048 [2, 0, 1] (Host.dotGeneral dot_S4x512x2048_S8192x4x512_S4x2048x8192_1_2_2_0_0_1 none (shapeCast _ (transpose S4x512x4x512 [1, 2, 0, 3] (extf .f32 B bitsLt_bf16_f32) transposes_S4x4x512x512_S4x512x4x512_1_2_0_3) shapeCasts_S4x512x4x512_S4x512x2048) (shapeCast _ (extf .f32 R bitsLt_bf16_f32) shapeCasts_S8192x2048_S8192x4x512)) transposes_S4x2048x8192_S8192x4x2048_2_0_1) shapeCasts_S8192x4x2048_S8192x8192) shapeCasts_S8192x8192_S8192x4x2048)) (constant S_ .f32 0x00000000#32) reducesTo_S8192x4x2048_S8192x2048_d1 h_S_) bitsLt_bf16_f32 = Cert.MergeIdeal.Val.merged H W R B := by
  funext i
  obtain ⟨r, x, rfl⟩ : ∃ (r : Fin 8192) (x : Fin 2048), i = ix2 r x := ⟨i 0, i 1, by ext a; fin_cases a <;> rfl⟩
  pointwise [Cert.MergeIdeal.Val.merged, Cert.MergeIdeal.Val.logit, Cert.MergeIdeal.Val.projAt, Cert.MergeIdeal.Val.sg]
  exact Finset.sum_congr rfl fun n _ => congrArg₂ (· * ·) rfl (Finset.sum_congr rfl fun k _ => mul_comm _ _)

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v19) = Cert.MergeIdeal.Val.gates (m ((c.tc : Thread nD τ).loc main_arg0)) (m ((c.tc : Thread nD τ).loc main_arg1))
      ∧ r.2.mem ((c.tc : Thread nD τ).loc main_v20) = Cert.MergeIdeal.Val.proj (m ((c.tc : Thread nD τ).loc main_arg2)) (m ((c.tc : Thread nD τ).loc main_arg3))
      ∧ r.2.mem ((c.tc : Thread nD τ).loc main_v31) = Cert.MergeIdeal.Val.merged (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun _ h c => ⟨(h c).1.trans (refGates _ _), (h c).2.1.trans (refProj _ _), (h c).2.2.1.trans (refMerged _ _ _ _), (h c).2.2.2⟩) (Cert.MergeRefIdeal.Value.run (F := Ideal) m ρ)

end Cert.MergeRefIdeal.Val

end
-- ==== Proof.Calls.lean ====
/- The claims about the other calls: each runs and leaves its arguments unchanged, and kernel and reference end with the same
   arrays. -/
module

public import proofs.«01_k».proof.Defs
public import proofs.«01_k».proof.Proof.Gen.OutBwd.Frame
public import proofs.«01_k».proof.Proof.OutBwdValue
public import proofs.«01_k».proof.Proof.Gen.MergeBwd.Frame
public import proofs.«01_k».proof.Proof.MergeBwdValue
public import proofs.«01_k».proof.Proof.Gen.In.Frame
public import proofs.«01_k».proof.Proof.InValue
public import proofs.«01_k».proof.Proof.Gen.Out.Frame
public import proofs.«01_k».proof.Proof.OutValue
public import proofs.«01_k».proof.Proof.Gen.Merge.Frame
public import proofs.«01_k».proof.Proof.MergeValue
public import Idealize.ShloMosaic.Lib.Quiescent
public import Idealize.ShloMosaic.Adequacy
public import Idealize.ShloMosaic.Init

@[expose] public section

noncomputable section

namespace Cert.Proof

open Idealize.ShloMosaic Idealize.SL.Sem

/-! ## `OutBwd` -/

theorem frame_OutBwd : Cert.quiescent_OutBwd (hOutBwd := Cert.OutBwd.Gen.facts) := fun m ρ _ => Cert.OutBwd.Gen.frame m ρ

theorem frame_OutBwdIdeal : Cert.quiescent_OutBwdIdeal (hOutBwdIdeal := Cert.OutBwdIdeal.Gen.facts) := fun m ρ _ => Cert.OutBwdIdeal.Gen.frame m ρ

theorem frame_OutBwdRefIdeal : Cert.quiescent_OutBwdRefIdeal (hOutBwdRefIdeal := Cert.OutBwdRefIdeal.Gen.facts) := fun m ρ _ =>
  (θ_run Cert.OutBwdRefIdeal.defs _ _).mono (fun r h => ⟨fun c => (h c).2.2, sem_eq_zero_of_no_sems (by decide) r.2⟩)
    (Cert.OutBwdRefIdeal.Value.run (F := Ideal) m ρ)

theorem algebraic_OutBwd : Cert.algebraic_OutBwdIdeal_OutBwdRefIdeal (hOutBwdIdeal := Cert.OutBwdIdeal.Gen.facts) (hOutBwdRefIdeal := Cert.OutBwdRefIdeal.Gen.facts) := by
  intro m ρ m' ρ' _ hagree
  refine ⟨_, _, Cert.OutBwdIdeal.Val.run m ρ, (θ_run _ _ _).mono (fun r h c => ⟨?_, ?_, (h c).2.2⟩) (Cert.OutBwdRefIdeal.Val.run m' ρ')⟩
  · obtain ⟨a0, _, a2⟩ := hagree c
    rw [(h c).1, a0, a2]
  · obtain ⟨a0, a1, _⟩ := hagree c
    rw [(h c).2.1, a0, a1]

/-! ## `MergeBwd` -/

theorem frame_MergeBwd : Cert.quiescent_MergeBwd (hMergeBwd := Cert.MergeBwd.Gen.facts) := fun m ρ _ => Cert.MergeBwd.Gen.frame m ρ

theorem frame_MergeBwdIdeal : Cert.quiescent_MergeBwdIdeal (hMergeBwdIdeal := Cert.MergeBwdIdeal.Gen.facts) := fun m ρ _ => Cert.MergeBwdIdeal.Gen.frame m ρ

theorem frame_MergeBwdRefIdeal : Cert.quiescent_MergeBwdRefIdeal (hMergeBwdRefIdeal := Cert.MergeBwdRefIdeal.Gen.facts) := fun m ρ _ =>
  (θ_run Cert.MergeBwdRefIdeal.defs _ _).mono (fun r h => ⟨fun c => (h c).2.2, sem_eq_zero_of_no_sems (by decide) r.2⟩)
    (Cert.MergeBwdRefIdeal.Value.run (F := Ideal) m ρ)

theorem algebraic_MergeBwd : Cert.algebraic_MergeBwdIdeal_MergeBwdRefIdeal (hMergeBwdIdeal := Cert.MergeBwdIdeal.Gen.facts) (hMergeBwdRefIdeal := Cert.MergeBwdRefIdeal.Gen.facts) := by
  intro m ρ m' ρ' _ hagree
  refine ⟨_, _, Cert.MergeBwdIdeal.Val.run m ρ, (θ_run _ _ _).mono (fun r h c => ⟨?_, ?_, (h c).2.2⟩) (Cert.MergeBwdRefIdeal.Val.run m' ρ')⟩
  · obtain ⟨a0, a1, a2⟩ := hagree c
    rw [(h c).1, a0, a1, a2]
  · obtain ⟨a0, a1, _⟩ := hagree c
    rw [(h c).2.1, a0, a1]

/-! ## `In` -/

theorem frame_In : Cert.quiescent_In (hIn := Cert.In.Gen.facts) := fun m ρ _ => Cert.In.Gen.frame m ρ

theorem frame_InIdeal : Cert.quiescent_InIdeal (hInIdeal := Cert.InIdeal.Gen.facts) := fun m ρ _ => Cert.InIdeal.Gen.frame m ρ

theorem frame_InRefIdeal : Cert.quiescent_InRefIdeal (hInRefIdeal := Cert.InRefIdeal.Gen.facts) := fun m ρ _ =>
  (θ_run Cert.InRefIdeal.defs _ _).mono (fun r h => ⟨fun c => (h c).2, sem_eq_zero_of_no_sems (by decide) r.2⟩)
    (Cert.InRefIdeal.Value.run (F := Ideal) m ρ)

theorem algebraic_In : Cert.algebraic_InIdeal_InRefIdeal (hInIdeal := Cert.InIdeal.Gen.facts) (hInRefIdeal := Cert.InRefIdeal.Gen.facts) := by
  intro m ρ m' ρ' _ hagree
  refine ⟨_, Cert.InIdeal.Val.run m ρ, (θ_run _ _ _).mono (fun r h c => ⟨?_, (h c).2⟩) (Cert.InRefIdeal.Val.run m' ρ')⟩
  obtain ⟨a0, a1⟩ := hagree c
  rw [(h c).1, a0, a1]

/-! ## `Out` -/

theorem frame_Out : Cert.quiescent_Out (hOut := Cert.Out.Gen.facts) := fun m ρ _ => Cert.Out.Gen.frame m ρ

theorem frame_OutIdeal : Cert.quiescent_OutIdeal (hOutIdeal := Cert.OutIdeal.Gen.facts) := fun m ρ _ => Cert.OutIdeal.Gen.frame m ρ

theorem frame_OutRefIdeal : Cert.quiescent_OutRefIdeal (hOutRefIdeal := Cert.OutRefIdeal.Gen.facts) := fun m ρ _ =>
  (θ_run Cert.OutRefIdeal.defs _ _).mono (fun r h => ⟨fun c => (h c).2.2, sem_eq_zero_of_no_sems (by decide) r.2⟩)
    (Cert.OutRefIdeal.Value.run (F := Ideal) m ρ)

theorem algebraic_Out : Cert.algebraic_OutIdeal_OutRefIdeal (hOutIdeal := Cert.OutIdeal.Gen.facts) (hOutRefIdeal := Cert.OutRefIdeal.Gen.facts) := by
  intro m ρ m' ρ' _ hagree
  refine ⟨_, _, Cert.OutIdeal.Val.run m ρ, (θ_run _ _ _).mono (fun r h c => ⟨?_, ?_, (h c).2.2⟩) (Cert.OutRefIdeal.Val.run m' ρ')⟩
  · obtain ⟨a0, a1, a2, a3⟩ := hagree c
    rw [(h c).1, a0, a1, a2, a3]
  · obtain ⟨a0, a1, _, _⟩ := hagree c
    rw [(h c).2.1, a0, a1]

/-! ## `Merge` -/

theorem frame_Merge : Cert.quiescent_Merge (hMerge := Cert.Merge.Gen.facts) := fun m ρ _ => Cert.Merge.Gen.frame m ρ

theorem frame_MergeIdeal : Cert.quiescent_MergeIdeal (hMergeIdeal := Cert.MergeIdeal.Gen.facts) := fun m ρ _ => Cert.MergeIdeal.Gen.frame m ρ

theorem frame_MergeRefIdeal : Cert.quiescent_MergeRefIdeal (hMergeRefIdeal := Cert.MergeRefIdeal.Gen.facts) := fun m ρ _ =>
  (θ_run Cert.MergeRefIdeal.defs _ _).mono (fun r h => ⟨fun c => (h c).2.2.2, sem_eq_zero_of_no_sems (by decide) r.2⟩)
    (Cert.MergeRefIdeal.Value.run (F := Ideal) m ρ)

theorem algebraic_Merge : Cert.algebraic_MergeIdeal_MergeRefIdeal (hMergeIdeal := Cert.MergeIdeal.Gen.facts) (hMergeRefIdeal := Cert.MergeRefIdeal.Gen.facts) := by
  intro m ρ m' ρ' _ hagree
  refine ⟨_, _, _, Cert.MergeIdeal.Val.run m ρ, (θ_run _ _ _).mono (fun r h c => ⟨?_, ?_, ?_, (h c).2.2.2⟩) (Cert.MergeRefIdeal.Val.run m' ρ')⟩
  · obtain ⟨a0, a1, _, _⟩ := hagree c
    rw [(h c).1, a0, a1]
  · obtain ⟨_, _, a2, a3⟩ := hagree c
    rw [(h c).2.1, a2, a3]
  · obtain ⟨a0, a1, a2, a3⟩ := hagree c
    rw [(h c).2.2.1, a0, a1, a2, a3]

end Cert.Proof

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.ReferenceIdeal
public import proofs.«01_k».proof.Proof.Gen.ReferenceIdeal.Run
public import proofs.«01_k».proof.Proof.Track
public import proofs.«01_k».proof.Proof.TrackBits
public import proofs.«01_k».proof.Proof.Tie
public import proofs.«01_k».proof.Proof.Gen.Fwd
public import proofs.«01_k».proof.Proof.Gen.Fwd.Frame
public import proofs.«01_k».proof.Proof.FwdValue
public import proofs.«01_k».proof.Proof.Gen.FwdIdeal.Value
public import proofs.«01_k».proof.Proof.Gen.FwdRefIdeal.Run
public import proofs.«01_k».proof.Proof.Gen.GwgmIdeal.Value
public import proofs.«01_k».proof.Proof.Gen.Gwgm
public import proofs.«01_k».proof.Proof.Gen.Gwgm.Frame
public import proofs.«01_k».proof.Proof.Gen.GwgmRefIdeal.Run
public import proofs.«01_k».proof.Proof.Gen.DzIdeal.Value
public import proofs.«01_k».proof.Proof.Gen.Dz
public import proofs.«01_k».proof.Proof.Gen.Dz.Frame
public import proofs.«01_k».proof.Proof.Gen.DzRefIdeal.Run
public import proofs.«01_k».proof.Proof.Gen.Dh1Ideal.Value
public import proofs.«01_k».proof.Proof.Gen.Dh1
public import proofs.«01_k».proof.Proof.Gen.Dh1.Frame
public import proofs.«01_k».proof.Proof.Gen.Dh1RefIdeal.Run
public import proofs.«01_k».proof.Proof.Gen.GwinIdeal.Value
public import proofs.«01_k».proof.Proof.Gen.Gwin
public import proofs.«01_k».proof.Proof.Gen.Gwin.Frame
public import proofs.«01_k».proof.Proof.Gen.GwinRefIdeal.Run
public import proofs.«01_k».proof.Proof.Gen.Dh2Ideal.Value
public import proofs.«01_k».proof.Proof.Gen.Dh2
public import proofs.«01_k».proof.Proof.Gen.Dh2.Frame
public import proofs.«01_k».proof.Proof.Gen.Dh2RefIdeal.Run
public import proofs.«01_k».proof.Proof.Gen.GwoutIdeal.Value
public import proofs.«01_k».proof.Proof.Gen.Gwout
public import proofs.«01_k».proof.Proof.Gen.Gwout.Frame
public import proofs.«01_k».proof.Proof.Gen.GwoutRefIdeal.Run
public import proofs.«01_k».proof.Proof.Gen.DbrIdeal.Value
public import proofs.«01_k».proof.Proof.Gen.Dbr
public import proofs.«01_k».proof.Proof.Gen.Dbr.Frame
public import proofs.«01_k».proof.Proof.Gen.DbrRefIdeal.Run
public import proofs.«01_k».proof.Proof.Gen.GwbIdeal.Value
public import proofs.«01_k».proof.Proof.Gen.Gwb
public import proofs.«01_k».proof.Proof.Gen.Gwb.Frame
public import proofs.«01_k».proof.Proof.Gen.GwbRefIdeal.Run
public import proofs.«01_k».proof.Proof.Gen.OutBwd
public import proofs.«01_k».proof.Proof.Gen.OutBwd.Frame
public import proofs.«01_k».proof.Proof.Gen.OutBwdIdeal.Value
public import proofs.«01_k».proof.Proof.Gen.OutBwdRefIdeal.Run
public import proofs.«01_k».proof.Proof.Gen.MergeBwd
public import proofs.«01_k».proof.Proof.Gen.MergeBwd.Frame
public import proofs.«01_k».proof.Proof.Gen.MergeBwdIdeal.Value
public import proofs.«01_k».proof.Proof.Gen.MergeBwdRefIdeal.Run
public import proofs.«01_k».proof.Proof.Gen.In
public import proofs.«01_k».proof.Proof.Gen.In.Frame
public import proofs.«01_k».proof.Proof.Gen.InIdeal.Value
public import proofs.«01_k».proof.Proof.Gen.InRefIdeal.Run
public import proofs.«01_k».proof.Proof.Gen.Out
public import proofs.«01_k».proof.Proof.Gen.Out.Frame
public import proofs.«01_k».proof.Proof.Gen.OutIdeal.Value
public import proofs.«01_k».proof.Proof.Gen.OutRefIdeal.Run
public import proofs.«01_k».proof.Proof.Gen.Merge
public import proofs.«01_k».proof.Proof.Gen.Merge.Frame
public import proofs.«01_k».proof.Proof.Gen.MergeIdeal.Value
public import proofs.«01_k».proof.Proof.Gen.MergeRefIdeal.Run
public import proofs.«01_k».proof.Proof.Products
public import proofs.«01_k».proof.Proof.Calls
public import Idealize.ShloMosaic.Lib.Quiescent
public import Idealize.ShloMosaic.Adequacy
public import Idealize.ShloMosaic.Init

@[expose] public section

noncomputable section

namespace Cert.Proof

open Idealize.ShloMosaic Idealize.SL.Sem

/-- The side conditions of the precondition's program. -/
theorem pre_facts : Cert.Pre_finite.Facts where
  bitsLt_bf16_f32 := by decide
  bcast_S_S8192x512 := by decide
  bcast_S_S32768x512 := by decide

theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono
    (fun r h => ⟨fun c => (h c).2.2.2, sem_eq_zero_of_no_sems (by decide) r.2⟩)
    (Cert.ReferenceIdeal.Value.run (F := Ideal) m ρ)

theorem algebraic : Cert.algebraic_KernelIdeal_ReferenceIdeal_pre_finite (hKernelIdeal := Cert.KernelIdeal.Gen.facts)
    (hReferenceIdeal := Cert.ReferenceIdeal.Gen.facts) (hPre_finite := pre_facts) := by
  intro m ρ m' ρ' hpre hagree
  haveI := pre_facts
  have hR := fun c => Cert.Attn.reals_of_fn _ _ _ (hpre c)
  refine ⟨_, _, _, Cert.kernel_run m ρ hR, ?_⟩
  refine (θ_run _ _ _).mono (fun r h c => ?_) (Cert.ReferenceIdeal.Value.run (F := Ideal) m' ρ')
  obtain ⟨e0, e1, e2, e3⟩ := h c
  obtain ⟨a0, a1, a2⟩ := hagree c
  obtain ⟨r0, r1, r2⟩ := hR c
  refine ⟨?_, ?_, ?_, e3⟩
  · rw [e0, Cert.ReferenceIdeal.Val.res_q, a0, a1, a2]
    exact Cert.ReferenceIdeal.Val.eq_Q r0 r1 r2
  · rw [e1, Cert.ReferenceIdeal.Val.res_k, a0, a1, a2]
    exact Cert.ReferenceIdeal.Val.eq_K r0 r1 r2
  · rw [e2, Cert.ReferenceIdeal.Val.res_v, a0, a1, a2]
    exact Cert.ReferenceIdeal.Val.eq_V r0 r1 r2

/-! ## `Fwd` -/

theorem pre_attn_facts : Cert.Pre_attn_finite.Facts where
  bitsLt_bf16_f32 := by decide
  bcast_S_S8192x512 := by decide
  bcast_S_S4 := by decide

section pre
variable [Cert.Pre_attn_finite.Facts]

/-- What the precondition of the forward call says: q and kv are real, and no sink is ⊤. -/
theorem attn_reals (q kv : FVec Ideal Cert.Pre_attn_finite.S8192x512 .bf16) (u : FVec Ideal Cert.Pre_attn_finite.S8192x7168 .bf16)
    (z : FVec Ideal Cert.Pre_attn_finite.S4 .f32)
    (h : (Cert.Pre_attn_finite.fn (F := Ideal) q kv u z).1 = (fun _ => 1#1) ∧ (Cert.Pre_attn_finite.fn (F := Ideal) q kv u z).2.1 = (fun _ => 1#1)
      ∧ (Cert.Pre_attn_finite.fn (F := Ideal) q kv u z).2.2 = (fun _ => 1#1)) :
    Cert.Attn.Reals (s := ⟨2, ![8192, 512]⟩) q ∧ Cert.Attn.Reals (s := ⟨2, ![8192, 512]⟩) kv ∧ ∀ i, (z i : EReal) ≠ ⊤ := by
  obtain ⟨h1, h2, h3⟩ := h
  refine ⟨fun i => Cert.Attn.real_of_lt ?_, fun i => Cert.Attn.real_of_lt ?_, fun i hi => ?_⟩
  · have := congrFun h1 i
    rw [← Cert.Attn.ofBits_top]; exact this
  · have := congrFun h2 i
    rw [← Cert.Attn.ofBits_top]; exact this
  · have h4 : Ideal.cmp .olt (z i : EReal) ⊤ = 1#1 := by
      have := congrFun h3 i
      rw [← Cert.Attn.ofBits_top]; exact this
    rw [hi] at h4
    simp [Ideal.cmp] at h4

end pre

theorem frame_Fwd : Cert.quiescent_Fwd (hFwd := Cert.Fwd.Gen.facts) := fun m ρ _ => Cert.Fwd.Gen.frame m ρ

theorem frame_FwdIdeal : Cert.quiescent_FwdIdeal (hFwdIdeal := Cert.FwdIdeal.Gen.facts) := fun m ρ _ => Cert.FwdIdeal.Gen.frame m ρ

theorem frame_FwdRefIdeal : Cert.quiescent_FwdRefIdeal (hFwdRefIdeal := Cert.FwdRefIdeal.Gen.facts) := fun m ρ _ =>
  (θ_run Cert.FwdRefIdeal.defs _ _).mono (fun r h => ⟨fun c => (h c).2.2.2, sem_eq_zero_of_no_sems (by decide) r.2⟩)
    (Cert.FwdRefIdeal.Value.run (F := Ideal) m ρ)

theorem algebraic_Fwd : Cert.algebraic_FwdIdeal_FwdRefIdeal_pre_attn_finite (hFwdIdeal := Cert.FwdIdeal.Gen.facts)
    (hFwdRefIdeal := Cert.FwdRefIdeal.Gen.facts) (hPre_attn_finite := pre_attn_facts) := by
  intro m ρ m' ρ' hpre hagree
  haveI := pre_attn_facts
  have hR := fun c => attn_reals _ _ _ _ (hpre c)
  refine ⟨_, _, _, Cert.FwdIdeal.Val.run m ρ (fun c => (hR c).1) (fun c => (hR c).2.1) (fun c => (hR c).2.2), ?_⟩
  refine (θ_run _ _ _).mono (fun r h c => ⟨?_, ?_, ?_, (h c).2.2.2⟩) (Cert.FwdRefIdeal.Val.run m' ρ' (fun c => ?_) (fun c => ?_) (fun c => ?_))
  · obtain ⟨a0, a1, a2, a3⟩ := hagree c
    rw [(h c).1, Cert.FwdRefIdeal.Val.argQ, a0, Cert.FwdRefIdeal.Val.argKV, a1, Cert.FwdRefIdeal.Val.argU, a2, Cert.FwdRefIdeal.Val.argZ, a3]
  · obtain ⟨a0, a1, _, a3⟩ := hagree c
    rw [(h c).2.1, Cert.FwdRefIdeal.Val.argQ, a0, Cert.FwdRefIdeal.Val.argKV, a1, Cert.FwdRefIdeal.Val.argZ, a3]
  · obtain ⟨a0, a1, _, a3⟩ := hagree c
    rw [(h c).2.2.1, Cert.FwdRefIdeal.Val.argQ, a0, Cert.FwdRefIdeal.Val.argKV, a1, Cert.FwdRefIdeal.Val.argZ, a3]
  · rw [Cert.FwdRefIdeal.Val.argQ, (hagree c).1]
    exact (hR c).1
  · rw [Cert.FwdRefIdeal.Val.argKV, (hagree c).2.1]
    exact (hR c).2.1
  · rw [Cert.FwdRefIdeal.Val.argZ, (hagree c).2.2.2]
    exact (hR c).2.2

theorem claim : Cert.Claim := ⟨Cert.Kernel.Gen.facts, Cert.KernelIdeal.Gen.facts, Cert.ReferenceIdeal.Gen.facts, Cert.Gwgm.Gen.facts, Cert.GwgmIdeal.Gen.facts, Cert.GwgmRefIdeal.Gen.facts,
  Cert.Dz.Gen.facts, Cert.DzIdeal.Gen.facts, Cert.DzRefIdeal.Gen.facts, Cert.Dh1.Gen.facts, Cert.Dh1Ideal.Gen.facts, Cert.Dh1RefIdeal.Gen.facts,
  Cert.Gwin.Gen.facts, Cert.GwinIdeal.Gen.facts, Cert.GwinRefIdeal.Gen.facts, Cert.Dh2.Gen.facts, Cert.Dh2Ideal.Gen.facts, Cert.Dh2RefIdeal.Gen.facts,
  Cert.Gwout.Gen.facts, Cert.GwoutIdeal.Gen.facts, Cert.GwoutRefIdeal.Gen.facts, Cert.Dbr.Gen.facts, Cert.DbrIdeal.Gen.facts, Cert.DbrRefIdeal.Gen.facts,
  Cert.Gwb.Gen.facts, Cert.GwbIdeal.Gen.facts, Cert.GwbRefIdeal.Gen.facts,
  Cert.OutBwd.Gen.facts, Cert.OutBwdIdeal.Gen.facts, Cert.OutBwdRefIdeal.Gen.facts,
  Cert.MergeBwd.Gen.facts, Cert.MergeBwdIdeal.Gen.facts, Cert.MergeBwdRefIdeal.Gen.facts,
  Cert.In.Gen.facts, Cert.InIdeal.Gen.facts, Cert.InRefIdeal.Gen.facts,
  Cert.Out.Gen.facts, Cert.OutIdeal.Gen.facts, Cert.OutRefIdeal.Gen.facts,
  Cert.Merge.Gen.facts, Cert.MergeIdeal.Gen.facts, Cert.MergeRefIdeal.Gen.facts,
  Cert.Fwd.Gen.facts, Cert.FwdIdeal.Gen.facts, Cert.FwdRefIdeal.Gen.facts,
  pre_facts, pre_attn_facts,
  fun m ρ _ => Cert.Kernel.Bwd.frame m ρ, fun m ρ _ => Cert.KernelIdeal.Bwd.frame m ρ, fun m ρ _ => Cert.KernelIdeal.Bwd.frame m ρ,
  fun m ρ _ => reference_frame m ρ, fun m ρ _ => reference_frame m ρ,
  frame_Gwgm, frame_GwgmIdeal, frame_GwgmRefIdeal,
  frame_Dz, frame_DzIdeal, frame_DzRefIdeal,
  frame_Dh1, frame_Dh1Ideal, frame_Dh1RefIdeal,
  frame_Gwin, frame_GwinIdeal, frame_GwinRefIdeal,
  frame_Dh2, frame_Dh2Ideal, frame_Dh2RefIdeal,
  frame_Gwout, frame_GwoutIdeal, frame_GwoutRefIdeal,
  frame_Dbr, frame_DbrIdeal, frame_DbrRefIdeal,
  frame_Gwb, frame_GwbIdeal, frame_GwbRefIdeal,
  frame_OutBwd, frame_OutBwdIdeal, frame_OutBwdRefIdeal,
  frame_MergeBwd, frame_MergeBwdIdeal, frame_MergeBwdRefIdeal,
  frame_In, frame_InIdeal, frame_InRefIdeal,
  frame_Out, frame_OutIdeal, frame_OutRefIdeal,
  frame_Merge, frame_MergeIdeal, frame_MergeRefIdeal,
  frame_Fwd, frame_FwdIdeal, fun m ρ _ => frame_FwdIdeal m ρ trivial, frame_FwdRefIdeal, fun m ρ _ => frame_FwdRefIdeal m ρ trivial,
  ⟨IdealRules.named_const.statement _ "scale_log2e" .f32 0x3E0293EE#32 _ rfl, IdealRules.named_const.statement _ "log2e" .f32 0x3FB8AA3B#32 _ rfl⟩,
  algebraic,
  trivial, algebraic_Gwgm, trivial, algebraic_Dz,
  trivial, algebraic_Dh1, trivial, algebraic_Gwin,
  trivial, algebraic_Dh2, trivial, algebraic_Gwout,
  trivial, algebraic_Dbr, trivial, algebraic_Gwb,
  trivial, algebraic_OutBwd,
  trivial, algebraic_MergeBwd,
  trivial, algebraic_In,
  trivial, algebraic_Out,
  trivial, algebraic_Merge,
  IdealRules.named_const.statement _ "scale_log2e" .f32 0x3E0293EE#32 _ rfl, algebraic_Fwd⟩

end Cert.Proof

end
